-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwReferenceIdeal (m : (ℓ : Loc Cert.KvDwReferenceIdeal.nD Cert.KvDwReferenceIdeal.τ Cert.KvDwReferenceIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxReferenceIdeal (m : (ℓ : Loc Cert.KvDxReferenceIdeal.nD Cert.KvDxReferenceIdeal.τ Cert.KvDxReferenceIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxReferenceIdeal (m : (ℓ : Loc Cert.GluDxReferenceIdeal.nD Cert.GluDxReferenceIdeal.τ Cert.GluDxReferenceIdeal.sig) → Buf (Elt Ideal) ℓ) : Prop :=
  True

def Pre_InU (m : (ℓ : Loc Cert.InU.nD Cert.InU.τ Cert.InU.sig) → Buf (Elt Bits) ℓ) : Prop :=
  True

def Pre_InUIdeal (m : (ℓ : Loc Cert.InUIdeal.nD Cert.InUIdeal.τ Cert.InUIdeal.sig) → Buf (Elt Ideal) ℓ) : Prop :=
  True

def Pre_InUReferenceIdeal (m : (ℓ : Loc Cert.InUReferenceIdeal.nD Cert.InUReferenceIdeal.τ Cert.InUReferenceIdeal.sig) → Buf (Elt Ideal) ℓ) : Prop :=
  True

def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_InZReferenceIdeal (m : (ℓ : Loc Cert.InZReferenceIdeal.nD Cert.InZReferenceIdeal.τ Cert.InZReferenceIdeal.sig) → Buf (Elt Ideal) ℓ) : Prop :=
  True

def Pre_InQ (m : (ℓ : Loc Cert.InQ.nD Cert.InQ.τ Cert.InQ.sig) → Buf (Elt Bits) ℓ) : Prop :=
  True

def Pre_InQIdeal (m : (ℓ : Loc Cert.InQIdeal.nD Cert.InQIdeal.τ Cert.InQIdeal.sig) → Buf (Elt Ideal) ℓ) : Prop :=
  True

def Pre_InQReferenceIdeal (m : (ℓ : Loc Cert.InQReferenceIdeal.nD Cert.InQReferenceIdeal.τ Cert.InQReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_InDxAfter (m : (ℓ : Loc Cert.InDxAfter.nD Cert.InDxAfter.τ Cert.InDxAfter.sig) → Buf (Elt Bits) ℓ) : Prop :=
  True

def Pre_InDxAfterIdeal (m : (ℓ : Loc Cert.InDxAfterIdeal.nD Cert.InDxAfterIdeal.τ Cert.InDxAfterIdeal.sig) → Buf (Elt Ideal) ℓ) : Prop :=
  True

def Pre_InDxAfterReferenceIdeal (m : (ℓ : Loc Cert.InDxAfterReferenceIdeal.nD Cert.InDxAfterReferenceIdeal.τ Cert.InDxAfterReferenceIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_finite_attend [hPre_finite_attend : Cert.Pre_finite_attend.Facts] (m : (ℓ : Loc Cert.AttendIdeal.nD Cert.AttendIdeal.τ Cert.AttendIdeal.sig) → Buf (Elt Ideal) ℓ) : Prop :=
  ∀ c : Dev Cert.AttendIdeal.nD,
    (Cert.Pre_finite_attend.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4))) = (fun _ => 1#1)

def Pre_AttendReferenceIdeal (m : (ℓ : Loc Cert.AttendReferenceIdeal.nD Cert.AttendReferenceIdeal.τ Cert.AttendReferenceIdeal.sig) → Buf (Elt Ideal) ℓ) : Prop :=
  True

def Pre_AttendReferenceIdeal_finite_attend [hPre_finite_attend : Cert.Pre_finite_attend.Facts] (m : (ℓ : Loc Cert.AttendReferenceIdeal.nD Cert.AttendReferenceIdeal.τ Cert.AttendReferenceIdeal.sig) → Buf (Elt Ideal) ℓ) : Prop :=
  ∀ c : Dev Cert.AttendReferenceIdeal.nD,
    (Cert.Pre_finite_attend.fn (F := Ideal) (m ((c.tc : Thread Cert.AttendReferenceIdeal.nD Cert.AttendReferenceIdeal.τ).loc Cert.AttendReferenceIdeal.main_arg0)) (m ((c.tc : Thread Cert.AttendReferenceIdeal.nD Cert.AttendReferenceIdeal.τ).loc Cert.AttendReferenceIdeal.main_arg1)) (m ((c.tc : Thread Cert.AttendReferenceIdeal.nD Cert.AttendReferenceIdeal.τ).loc Cert.AttendReferenceIdeal.main_arg2)) (m ((c.tc : Thread Cert.AttendReferenceIdeal.nD Cert.AttendReferenceIdeal.τ).loc Cert.AttendReferenceIdeal.main_arg3)) (m ((c.tc : Thread Cert.AttendReferenceIdeal.nD Cert.AttendReferenceIdeal.τ).loc Cert.AttendReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwReferenceIdeal [hKvDwReferenceIdeal : Cert.KvDwReferenceIdeal.Facts] : Prop :=
  ∀ (m : (ℓ : Loc Cert.KvDwReferenceIdeal.nD Cert.KvDwReferenceIdeal.τ Cert.KvDwReferenceIdeal.sig) → Buf (Elt Ideal) ℓ) (g : Dev Cert.KvDwReferenceIdeal.nD → PrngReg), Pre_KvDwReferenceIdeal m →
    θ_run (Cert.KvDwReferenceIdeal.defs (F := Ideal)) (onTc (τ := Cert.KvDwReferenceIdeal.τ) (Cert.KvDwReferenceIdeal.main (F := Ideal))) ⟨m, fun _ => 0, g⟩ (fun r => (∀ c : Dev Cert.KvDwReferenceIdeal.nD,
      r.2.mem ((c.tc : Thread Cert.KvDwReferenceIdeal.nD Cert.KvDwReferenceIdeal.τ).loc Cert.KvDwReferenceIdeal.main_arg0) = m ((c.tc : Thread Cert.KvDwReferenceIdeal.nD Cert.KvDwReferenceIdeal.τ).loc Cert.KvDwReferenceIdeal.main_arg0)
      ∧ r.2.mem ((c.tc : Thread Cert.KvDwReferenceIdeal.nD Cert.KvDwReferenceIdeal.τ).loc Cert.KvDwReferenceIdeal.main_arg1) = m ((c.tc : Thread Cert.KvDwReferenceIdeal.nD Cert.KvDwReferenceIdeal.τ).loc Cert.KvDwReferenceIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1)
      ∧ r.2.mem ((c.tc : Thread Cert.KvDx.nD Cert.KvDx.τ).loc Cert.KvDx.main_arg2) = m ((c.tc : Thread Cert.KvDx.nD Cert.KvDx.τ).loc Cert.KvDx.main_arg2))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
      ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2))
      ∧ r.2.sem = fun _ => 0)

def quiescent_KvDxReferenceIdeal [hKvDxReferenceIdeal : Cert.KvDxReferenceIdeal.Facts] : Prop :=
  ∀ (m : (ℓ : Loc Cert.KvDxReferenceIdeal.nD Cert.KvDxReferenceIdeal.τ Cert.KvDxReferenceIdeal.sig) → Buf (Elt Ideal) ℓ) (g : Dev Cert.KvDxReferenceIdeal.nD → PrngReg), Pre_KvDxReferenceIdeal m →
    θ_run (Cert.KvDxReferenceIdeal.defs (F := Ideal)) (onTc (τ := Cert.KvDxReferenceIdeal.τ) (Cert.KvDxReferenceIdeal.main (F := Ideal))) ⟨m, fun _ => 0, g⟩ (fun r => (∀ c : Dev Cert.KvDxReferenceIdeal.nD,
      r.2.mem ((c.tc : Thread Cert.KvDxReferenceIdeal.nD Cert.KvDxReferenceIdeal.τ).loc Cert.KvDxReferenceIdeal.main_arg0) = m ((c.tc : Thread Cert.KvDxReferenceIdeal.nD Cert.KvDxReferenceIdeal.τ).loc Cert.KvDxReferenceIdeal.main_arg0)
      ∧ r.2.mem ((c.tc : Thread Cert.KvDxReferenceIdeal.nD Cert.KvDxReferenceIdeal.τ).loc Cert.KvDxReferenceIdeal.main_arg1) = m ((c.tc : Thread Cert.KvDxReferenceIdeal.nD Cert.KvDxReferenceIdeal.τ).loc Cert.KvDxReferenceIdeal.main_arg1)
      ∧ r.2.mem ((c.tc : Thread Cert.KvDxReferenceIdeal.nD Cert.KvDxReferenceIdeal.τ).loc Cert.KvDxReferenceIdeal.main_arg2) = m ((c.tc : Thread Cert.KvDxReferenceIdeal.nD Cert.KvDxReferenceIdeal.τ).loc Cert.KvDxReferenceIdeal.main_arg2))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1)
      ∧ r.2.mem ((c.tc : Thread Cert.GluDx.nD Cert.GluDx.τ).loc Cert.GluDx.main_arg2) = m ((c.tc : Thread Cert.GluDx.nD Cert.GluDx.τ).loc Cert.GluDx.main_arg2)
      ∧ r.2.mem ((c.tc : Thread Cert.GluDx.nD Cert.GluDx.τ).loc Cert.GluDx.main_arg3) = m ((c.tc : Thread Cert.GluDx.nD Cert.GluDx.τ).loc Cert.GluDx.main_arg3))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
      ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2)
      ∧ r.2.mem ((c.tc : Thread Cert.GluDxIdeal.nD Cert.GluDxIdeal.τ).loc Cert.GluDxIdeal.main_arg3) = m ((c.tc : Thread Cert.GluDxIdeal.nD Cert.GluDxIdeal.τ).loc Cert.GluDxIdeal.main_arg3))
      ∧ r.2.sem = fun _ => 0)

def quiescent_GluDxReferenceIdeal [hGluDxReferenceIdeal : Cert.GluDxReferenceIdeal.Facts] : Prop :=
  ∀ (m : (ℓ : Loc Cert.GluDxReferenceIdeal.nD Cert.GluDxReferenceIdeal.τ Cert.GluDxReferenceIdeal.sig) → Buf (Elt Ideal) ℓ) (g : Dev Cert.GluDxReferenceIdeal.nD → PrngReg), Pre_GluDxReferenceIdeal m →
    θ_run (Cert.GluDxReferenceIdeal.defs (F := Ideal)) (onTc (τ := Cert.GluDxReferenceIdeal.τ) (Cert.GluDxReferenceIdeal.main (F := Ideal))) ⟨m, fun _ => 0, g⟩ (fun r => (∀ c : Dev Cert.GluDxReferenceIdeal.nD,
      r.2.mem ((c.tc : Thread Cert.GluDxReferenceIdeal.nD Cert.GluDxReferenceIdeal.τ).loc Cert.GluDxReferenceIdeal.main_arg0) = m ((c.tc : Thread Cert.GluDxReferenceIdeal.nD Cert.GluDxReferenceIdeal.τ).loc Cert.GluDxReferenceIdeal.main_arg0)
      ∧ r.2.mem ((c.tc : Thread Cert.GluDxReferenceIdeal.nD Cert.GluDxReferenceIdeal.τ).loc Cert.GluDxReferenceIdeal.main_arg1) = m ((c.tc : Thread Cert.GluDxReferenceIdeal.nD Cert.GluDxReferenceIdeal.τ).loc Cert.GluDxReferenceIdeal.main_arg1)
      ∧ r.2.mem ((c.tc : Thread Cert.GluDxReferenceIdeal.nD Cert.GluDxReferenceIdeal.τ).loc Cert.GluDxReferenceIdeal.main_arg2) = m ((c.tc : Thread Cert.GluDxReferenceIdeal.nD Cert.GluDxReferenceIdeal.τ).loc Cert.GluDxReferenceIdeal.main_arg2)
      ∧ r.2.mem ((c.tc : Thread Cert.GluDxReferenceIdeal.nD Cert.GluDxReferenceIdeal.τ).loc Cert.GluDxReferenceIdeal.main_arg3) = m ((c.tc : Thread Cert.GluDxReferenceIdeal.nD Cert.GluDxReferenceIdeal.τ).loc Cert.GluDxReferenceIdeal.main_arg3))
      ∧ r.2.sem = fun _ => 0)

def quiescent_InU [hInU : Cert.InU.Facts] : Prop :=
  ∀ (m : (ℓ : Loc Cert.InU.nD Cert.InU.τ Cert.InU.sig) → Buf (Elt Bits) ℓ) (g : Dev Cert.InU.nD → PrngReg), Pre_InU m →
    θ_run (Cert.InU.defs (F := Bits)) (onTc (τ := Cert.InU.τ) (Cert.InU.main (F := Bits))) ⟨m, fun _ => 0, g⟩ (fun r => (∀ c : Dev Cert.InU.nD,
      r.2.mem ((c.tc : Thread Cert.InU.nD Cert.InU.τ).loc Cert.InU.main_arg0) = m ((c.tc : Thread Cert.InU.nD Cert.InU.τ).loc Cert.InU.main_arg0)
      ∧ r.2.mem ((c.tc : Thread Cert.InU.nD Cert.InU.τ).loc Cert.InU.main_arg1) = m ((c.tc : Thread Cert.InU.nD Cert.InU.τ).loc Cert.InU.main_arg1))
      ∧ r.2.sem = fun _ => 0)

def quiescent_InUIdeal [hInUIdeal : Cert.InUIdeal.Facts] : Prop :=
  ∀ (m : (ℓ : Loc Cert.InUIdeal.nD Cert.InUIdeal.τ Cert.InUIdeal.sig) → Buf (Elt Ideal) ℓ) (g : Dev Cert.InUIdeal.nD → PrngReg), Pre_InUIdeal m →
    θ_run (Cert.InUIdeal.defs (F := Ideal)) (onTc (τ := Cert.InUIdeal.τ) (Cert.InUIdeal.main (F := Ideal))) ⟨m, fun _ => 0, g⟩ (fun r => (∀ c : Dev Cert.InUIdeal.nD,
      r.2.mem ((c.tc : Thread Cert.InUIdeal.nD Cert.InUIdeal.τ).loc Cert.InUIdeal.main_arg0) = m ((c.tc : Thread Cert.InUIdeal.nD Cert.InUIdeal.τ).loc Cert.InUIdeal.main_arg0)
      ∧ r.2.mem ((c.tc : Thread Cert.InUIdeal.nD Cert.InUIdeal.τ).loc Cert.InUIdeal.main_arg1) = m ((c.tc : Thread Cert.InUIdeal.nD Cert.InUIdeal.τ).loc Cert.InUIdeal.main_arg1))
      ∧ r.2.sem = fun _ => 0)

def quiescent_InUReferenceIdeal [hInUReferenceIdeal : Cert.InUReferenceIdeal.Facts] : Prop :=
  ∀ (m : (ℓ : Loc Cert.InUReferenceIdeal.nD Cert.InUReferenceIdeal.τ Cert.InUReferenceIdeal.sig) → Buf (Elt Ideal) ℓ) (g : Dev Cert.InUReferenceIdeal.nD → PrngReg), Pre_InUReferenceIdeal m →
    θ_run (Cert.InUReferenceIdeal.defs (F := Ideal)) (onTc (τ := Cert.InUReferenceIdeal.τ) (Cert.InUReferenceIdeal.main (F := Ideal))) ⟨m, fun _ => 0, g⟩ (fun r => (∀ c : Dev Cert.InUReferenceIdeal.nD,
      r.2.mem ((c.tc : Thread Cert.InUReferenceIdeal.nD Cert.InUReferenceIdeal.τ).loc Cert.InUReferenceIdeal.main_arg0) = m ((c.tc : Thread Cert.InUReferenceIdeal.nD Cert.InUReferenceIdeal.τ).loc Cert.InUReferenceIdeal.main_arg0)
      ∧ r.2.mem ((c.tc : Thread Cert.InUReferenceIdeal.nD Cert.InUReferenceIdeal.τ).loc Cert.InUReferenceIdeal.main_arg1) = m ((c.tc : Thread Cert.InUReferenceIdeal.nD Cert.InUReferenceIdeal.τ).loc Cert.InUReferenceIdeal.main_arg1))
      ∧ r.2.sem = fun _ => 0)

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ r.2.sem = fun _ => 0)

def quiescent_InZReferenceIdeal [hInZReferenceIdeal : Cert.InZReferenceIdeal.Facts] : Prop :=
  ∀ (m : (ℓ : Loc Cert.InZReferenceIdeal.nD Cert.InZReferenceIdeal.τ Cert.InZReferenceIdeal.sig) → Buf (Elt Ideal) ℓ) (g : Dev Cert.InZReferenceIdeal.nD → PrngReg), Pre_InZReferenceIdeal m →
    θ_run (Cert.InZReferenceIdeal.defs (F := Ideal)) (onTc (τ := Cert.InZReferenceIdeal.τ) (Cert.InZReferenceIdeal.main (F := Ideal))) ⟨m, fun _ => 0, g⟩ (fun r => (∀ c : Dev Cert.InZReferenceIdeal.nD,
      r.2.mem ((c.tc : Thread Cert.InZReferenceIdeal.nD Cert.InZReferenceIdeal.τ).loc Cert.InZReferenceIdeal.main_arg0) = m ((c.tc : Thread Cert.InZReferenceIdeal.nD Cert.InZReferenceIdeal.τ).loc Cert.InZReferenceIdeal.main_arg0)
      ∧ r.2.mem ((c.tc : Thread Cert.InZReferenceIdeal.nD Cert.InZReferenceIdeal.τ).loc Cert.InZReferenceIdeal.main_arg1) = m ((c.tc : Thread Cert.InZReferenceIdeal.nD Cert.InZReferenceIdeal.τ).loc Cert.InZReferenceIdeal.main_arg1))
      ∧ r.2.sem = fun _ => 0)

def quiescent_InQ [hInQ : Cert.InQ.Facts] : Prop :=
  ∀ (m : (ℓ : Loc Cert.InQ.nD Cert.InQ.τ Cert.InQ.sig) → Buf (Elt Bits) ℓ) (g : Dev Cert.InQ.nD → PrngReg), Pre_InQ m →
    θ_run (Cert.InQ.defs (F := Bits)) (onTc (τ := Cert.InQ.τ) (Cert.InQ.main (F := Bits))) ⟨m, fun _ => 0, g⟩ (fun r => (∀ c : Dev Cert.InQ.nD,
      r.2.mem ((c.tc : Thread Cert.InQ.nD Cert.InQ.τ).loc Cert.InQ.main_arg0) = m ((c.tc : Thread Cert.InQ.nD Cert.InQ.τ).loc Cert.InQ.main_arg0)
      ∧ r.2.mem ((c.tc : Thread Cert.InQ.nD Cert.InQ.τ).loc Cert.InQ.main_arg1) = m ((c.tc : Thread Cert.InQ.nD Cert.InQ.τ).loc Cert.InQ.main_arg1))
      ∧ r.2.sem = fun _ => 0)

def quiescent_InQIdeal [hInQIdeal : Cert.InQIdeal.Facts] : Prop :=
  ∀ (m : (ℓ : Loc Cert.InQIdeal.nD Cert.InQIdeal.τ Cert.InQIdeal.sig) → Buf (Elt Ideal) ℓ) (g : Dev Cert.InQIdeal.nD → PrngReg), Pre_InQIdeal m →
    θ_run (Cert.InQIdeal.defs (F := Ideal)) (onTc (τ := Cert.InQIdeal.τ) (Cert.InQIdeal.main (F := Ideal))) ⟨m, fun _ => 0, g⟩ (fun r => (∀ c : Dev Cert.InQIdeal.nD,
      r.2.mem ((c.tc : Thread Cert.InQIdeal.nD Cert.InQIdeal.τ).loc Cert.InQIdeal.main_arg0) = m ((c.tc : Thread Cert.InQIdeal.nD Cert.InQIdeal.τ).loc Cert.InQIdeal.main_arg0)
      ∧ r.2.mem ((c.tc : Thread Cert.InQIdeal.nD Cert.InQIdeal.τ).loc Cert.InQIdeal.main_arg1) = m ((c.tc : Thread Cert.InQIdeal.nD Cert.InQIdeal.τ).loc Cert.InQIdeal.main_arg1))
      ∧ r.2.sem = fun _ => 0)

def quiescent_InQReferenceIdeal [hInQReferenceIdeal : Cert.InQReferenceIdeal.Facts] : Prop :=
  ∀ (m : (ℓ : Loc Cert.InQReferenceIdeal.nD Cert.InQReferenceIdeal.τ Cert.InQReferenceIdeal.sig) → Buf (Elt Ideal) ℓ) (g : Dev Cert.InQReferenceIdeal.nD → PrngReg), Pre_InQReferenceIdeal m →
    θ_run (Cert.InQReferenceIdeal.defs (F := Ideal)) (onTc (τ := Cert.InQReferenceIdeal.τ) (Cert.InQReferenceIdeal.main (F := Ideal))) ⟨m, fun _ => 0, g⟩ (fun r => (∀ c : Dev Cert.InQReferenceIdeal.nD,
      r.2.mem ((c.tc : Thread Cert.InQReferenceIdeal.nD Cert.InQReferenceIdeal.τ).loc Cert.InQReferenceIdeal.main_arg0) = m ((c.tc : Thread Cert.InQReferenceIdeal.nD Cert.InQReferenceIdeal.τ).loc Cert.InQReferenceIdeal.main_arg0)
      ∧ r.2.mem ((c.tc : Thread Cert.InQReferenceIdeal.nD Cert.InQReferenceIdeal.τ).loc Cert.InQReferenceIdeal.main_arg1) = m ((c.tc : Thread Cert.InQReferenceIdeal.nD Cert.InQReferenceIdeal.τ).loc Cert.InQReferenceIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1))
      ∧ r.2.sem = fun _ => 0)

def quiescent_InDxAfter [hInDxAfter : Cert.InDxAfter.Facts] : Prop :=
  ∀ (m : (ℓ : Loc Cert.InDxAfter.nD Cert.InDxAfter.τ Cert.InDxAfter.sig) → Buf (Elt Bits) ℓ) (g : Dev Cert.InDxAfter.nD → PrngReg), Pre_InDxAfter m →
    θ_run (Cert.InDxAfter.defs (F := Bits)) (onTc (τ := Cert.InDxAfter.τ) (Cert.InDxAfter.main (F := Bits))) ⟨m, fun _ => 0, g⟩ (fun r => (∀ c : Dev Cert.InDxAfter.nD,
      r.2.mem ((c.tc : Thread Cert.InDxAfter.nD Cert.InDxAfter.τ).loc Cert.InDxAfter.main_arg0) = m ((c.tc : Thread Cert.InDxAfter.nD Cert.InDxAfter.τ).loc Cert.InDxAfter.main_arg0)
      ∧ r.2.mem ((c.tc : Thread Cert.InDxAfter.nD Cert.InDxAfter.τ).loc Cert.InDxAfter.main_arg1) = m ((c.tc : Thread Cert.InDxAfter.nD Cert.InDxAfter.τ).loc Cert.InDxAfter.main_arg1)
      ∧ r.2.mem ((c.tc : Thread Cert.InDxAfter.nD Cert.InDxAfter.τ).loc Cert.InDxAfter.main_arg2) = m ((c.tc : Thread Cert.InDxAfter.nD Cert.InDxAfter.τ).loc Cert.InDxAfter.main_arg2))
      ∧ r.2.sem = fun _ => 0)

def quiescent_InDxAfterIdeal [hInDxAfterIdeal : Cert.InDxAfterIdeal.Facts] : Prop :=
  ∀ (m : (ℓ : Loc Cert.InDxAfterIdeal.nD Cert.InDxAfterIdeal.τ Cert.InDxAfterIdeal.sig) → Buf (Elt Ideal) ℓ) (g : Dev Cert.InDxAfterIdeal.nD → PrngReg), Pre_InDxAfterIdeal m →
    θ_run (Cert.InDxAfterIdeal.defs (F := Ideal)) (onTc (τ := Cert.InDxAfterIdeal.τ) (Cert.InDxAfterIdeal.main (F := Ideal))) ⟨m, fun _ => 0, g⟩ (fun r => (∀ c : Dev Cert.InDxAfterIdeal.nD,
      r.2.mem ((c.tc : Thread Cert.InDxAfterIdeal.nD Cert.InDxAfterIdeal.τ).loc Cert.InDxAfterIdeal.main_arg0) = m ((c.tc : Thread Cert.InDxAfterIdeal.nD Cert.InDxAfterIdeal.τ).loc Cert.InDxAfterIdeal.main_arg0)
      ∧ r.2.mem ((c.tc : Thread Cert.InDxAfterIdeal.nD Cert.InDxAfterIdeal.τ).loc Cert.InDxAfterIdeal.main_arg1) = m ((c.tc : Thread Cert.InDxAfterIdeal.nD Cert.InDxAfterIdeal.τ).loc Cert.InDxAfterIdeal.main_arg1)
      ∧ r.2.mem ((c.tc : Thread Cert.InDxAfterIdeal.nD Cert.InDxAfterIdeal.τ).loc Cert.InDxAfterIdeal.main_arg2) = m ((c.tc : Thread Cert.InDxAfterIdeal.nD Cert.InDxAfterIdeal.τ).loc Cert.InDxAfterIdeal.main_arg2))
      ∧ r.2.sem = fun _ => 0)

def quiescent_InDxAfterReferenceIdeal [hInDxAfterReferenceIdeal : Cert.InDxAfterReferenceIdeal.Facts] : Prop :=
  ∀ (m : (ℓ : Loc Cert.InDxAfterReferenceIdeal.nD Cert.InDxAfterReferenceIdeal.τ Cert.InDxAfterReferenceIdeal.sig) → Buf (Elt Ideal) ℓ) (g : Dev Cert.InDxAfterReferenceIdeal.nD → PrngReg), Pre_InDxAfterReferenceIdeal m →
    θ_run (Cert.InDxAfterReferenceIdeal.defs (F := Ideal)) (onTc (τ := Cert.InDxAfterReferenceIdeal.τ) (Cert.InDxAfterReferenceIdeal.main (F := Ideal))) ⟨m, fun _ => 0, g⟩ (fun r => (∀ c : Dev Cert.InDxAfterReferenceIdeal.nD,
      r.2.mem ((c.tc : Thread Cert.InDxAfterReferenceIdeal.nD Cert.InDxAfterReferenceIdeal.τ).loc Cert.InDxAfterReferenceIdeal.main_arg0) = m ((c.tc : Thread Cert.InDxAfterReferenceIdeal.nD Cert.InDxAfterReferenceIdeal.τ).loc Cert.InDxAfterReferenceIdeal.main_arg0)
      ∧ r.2.mem ((c.tc : Thread Cert.InDxAfterReferenceIdeal.nD Cert.InDxAfterReferenceIdeal.τ).loc Cert.InDxAfterReferenceIdeal.main_arg1) = m ((c.tc : Thread Cert.InDxAfterReferenceIdeal.nD Cert.InDxAfterReferenceIdeal.τ).loc Cert.InDxAfterReferenceIdeal.main_arg1)
      ∧ r.2.mem ((c.tc : Thread Cert.InDxAfterReferenceIdeal.nD Cert.InDxAfterReferenceIdeal.τ).loc Cert.InDxAfterReferenceIdeal.main_arg2) = m ((c.tc : Thread Cert.InDxAfterReferenceIdeal.nD Cert.InDxAfterReferenceIdeal.τ).loc Cert.InDxAfterReferenceIdeal.main_arg2))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3)
      ∧ r.2.mem ((c.tc : Thread Cert.Attend.nD Cert.Attend.τ).loc Cert.Attend.main_arg4) = m ((c.tc : Thread Cert.Attend.nD Cert.Attend.τ).loc Cert.Attend.main_arg4))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ r.2.sem = fun _ => 0)

def quiescent_AttendIdeal_pre_finite_attend [hAttendIdeal : Cert.AttendIdeal.Facts] [hPre_finite_attend : Cert.Pre_finite_attend.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_finite_attend m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3)
      ∧ r.2.mem ((c.tc : Thread Cert.AttendReferenceIdeal.nD Cert.AttendReferenceIdeal.τ).loc Cert.AttendReferenceIdeal.main_arg4) = m ((c.tc : Thread Cert.AttendReferenceIdeal.nD Cert.AttendReferenceIdeal.τ).loc Cert.AttendReferenceIdeal.main_arg4))
      ∧ r.2.sem = fun _ => 0)

def quiescent_AttendReferenceIdeal_pre_finite_attend [hAttendReferenceIdeal : Cert.AttendReferenceIdeal.Facts] [hPre_finite_attend : Cert.Pre_finite_attend.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal_finite_attend m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3)
      ∧ r.2.mem ((c.tc : Thread Cert.AttendReferenceIdeal.nD Cert.AttendReferenceIdeal.τ).loc Cert.AttendReferenceIdeal.main_arg4) = m ((c.tc : Thread Cert.AttendReferenceIdeal.nD Cert.AttendReferenceIdeal.τ).loc Cert.AttendReferenceIdeal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)) (v3 : (c : Dev Cert.KernelIdeal.nD) → Buf (Elt Ideal) ((c.tc : Thread Cert.KernelIdeal.nD Cert.KernelIdeal.τ).loc Cert.KernelIdeal.main_v58_3)) (v4 : (c : Dev Cert.KernelIdeal.nD) → Buf (Elt Ideal) ((c.tc : Thread Cert.KernelIdeal.nD Cert.KernelIdeal.τ).loc Cert.KernelIdeal.main_v58_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_v58_3) = v3 c
          ∧ r.2.mem ((c.tc : Thread Cert.KernelIdeal.nD Cert.KernelIdeal.τ).loc Cert.KernelIdeal.main_v58_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v94) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v4) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v3) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v6) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v5) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1))

def preserves_KvDw_KvDwIdeal : Prop :=
  True

def algebraic_KvDwIdeal_KvDwReferenceIdeal [hKvDwIdeal : Cert.KvDwIdeal.Facts] [hKvDwReferenceIdeal : Cert.KvDwReferenceIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwReferenceIdeal.nD Cert.KvDwReferenceIdeal.τ Cert.KvDwReferenceIdeal.sig) → Buf (Elt Ideal) ℓ) (g' : Dev Cert.KvDwReferenceIdeal.nD → PrngReg), Pre_KvDwIdeal m →
    (∀ c : Dev Cert.KvDwIdeal.nD,
      m' ((c.tc : Thread Cert.KvDwReferenceIdeal.nD Cert.KvDwReferenceIdeal.τ).loc Cert.KvDwReferenceIdeal.main_arg0) = m ((c.tc : Thread Cert.KvDwIdeal.nD Cert.KvDwIdeal.τ).loc Cert.KvDwIdeal.main_arg0)
      ∧ m' ((c.tc : Thread Cert.KvDwReferenceIdeal.nD Cert.KvDwReferenceIdeal.τ).loc Cert.KvDwReferenceIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v2)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v2) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwReferenceIdeal.defs (F := Ideal)) (onTc (τ := Cert.KvDwReferenceIdeal.τ) (Cert.KvDwReferenceIdeal.main (F := Ideal))) ⟨m', fun _ => 0, g'⟩ (fun r => ∀ c : Dev Cert.KvDwReferenceIdeal.nD,
          r.2.mem ((c.tc : Thread Cert.KvDwReferenceIdeal.nD Cert.KvDwReferenceIdeal.τ).loc Cert.KvDwReferenceIdeal.main_v5) = v0 c
          ∧ r.2.mem ((c.tc : Thread Cert.KvDwReferenceIdeal.nD Cert.KvDwReferenceIdeal.τ).loc Cert.KvDwReferenceIdeal.main_arg0) = m' ((c.tc : Thread Cert.KvDwReferenceIdeal.nD Cert.KvDwReferenceIdeal.τ).loc Cert.KvDwReferenceIdeal.main_arg0)
          ∧ r.2.mem ((c.tc : Thread Cert.KvDwReferenceIdeal.nD Cert.KvDwReferenceIdeal.τ).loc Cert.KvDwReferenceIdeal.main_arg1) = m' ((c.tc : Thread Cert.KvDwReferenceIdeal.nD Cert.KvDwReferenceIdeal.τ).loc Cert.KvDwReferenceIdeal.main_arg1))

def preserves_KvDx_KvDxIdeal : Prop :=
  True

def algebraic_KvDxIdeal_KvDxReferenceIdeal [hKvDxIdeal : Cert.KvDxIdeal.Facts] [hKvDxReferenceIdeal : Cert.KvDxReferenceIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxReferenceIdeal.nD Cert.KvDxReferenceIdeal.τ Cert.KvDxReferenceIdeal.sig) → Buf (Elt Ideal) ℓ) (g' : Dev Cert.KvDxReferenceIdeal.nD → PrngReg), Pre_KvDxIdeal m →
    (∀ c : Dev Cert.KvDxIdeal.nD,
      m' ((c.tc : Thread Cert.KvDxReferenceIdeal.nD Cert.KvDxReferenceIdeal.τ).loc Cert.KvDxReferenceIdeal.main_arg0) = m ((c.tc : Thread Cert.KvDxIdeal.nD Cert.KvDxIdeal.τ).loc Cert.KvDxIdeal.main_arg0)
      ∧ m' ((c.tc : Thread Cert.KvDxReferenceIdeal.nD Cert.KvDxReferenceIdeal.τ).loc Cert.KvDxReferenceIdeal.main_arg1) = m ((c.tc : Thread Cert.KvDxIdeal.nD Cert.KvDxIdeal.τ).loc Cert.KvDxIdeal.main_arg1)
      ∧ m' ((c.tc : Thread Cert.KvDxReferenceIdeal.nD Cert.KvDxReferenceIdeal.τ).loc Cert.KvDxReferenceIdeal.main_arg2) = m ((c.tc : Thread Cert.KvDxIdeal.nD Cert.KvDxIdeal.τ).loc Cert.KvDxIdeal.main_arg2)) →
    ∃ (v0 : (c : Dev Cert.KvDxIdeal.nD) → Buf (Elt Ideal) ((c.tc : Thread Cert.KvDxIdeal.nD Cert.KvDxIdeal.τ).loc Cert.KvDxIdeal.main_v3)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v3) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
          ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2))
      ∧ θ_run (Cert.KvDxReferenceIdeal.defs (F := Ideal)) (onTc (τ := Cert.KvDxReferenceIdeal.τ) (Cert.KvDxReferenceIdeal.main (F := Ideal))) ⟨m', fun _ => 0, g'⟩ (fun r => ∀ c : Dev Cert.KvDxReferenceIdeal.nD,
          r.2.mem ((c.tc : Thread Cert.KvDxReferenceIdeal.nD Cert.KvDxReferenceIdeal.τ).loc Cert.KvDxReferenceIdeal.main_v6) = v0 c
          ∧ r.2.mem ((c.tc : Thread Cert.KvDxReferenceIdeal.nD Cert.KvDxReferenceIdeal.τ).loc Cert.KvDxReferenceIdeal.main_arg0) = m' ((c.tc : Thread Cert.KvDxReferenceIdeal.nD Cert.KvDxReferenceIdeal.τ).loc Cert.KvDxReferenceIdeal.main_arg0)
          ∧ r.2.mem ((c.tc : Thread Cert.KvDxReferenceIdeal.nD Cert.KvDxReferenceIdeal.τ).loc Cert.KvDxReferenceIdeal.main_arg1) = m' ((c.tc : Thread Cert.KvDxReferenceIdeal.nD Cert.KvDxReferenceIdeal.τ).loc Cert.KvDxReferenceIdeal.main_arg1)
          ∧ r.2.mem ((c.tc : Thread Cert.KvDxReferenceIdeal.nD Cert.KvDxReferenceIdeal.τ).loc Cert.KvDxReferenceIdeal.main_arg2) = m' ((c.tc : Thread Cert.KvDxReferenceIdeal.nD Cert.KvDxReferenceIdeal.τ).loc Cert.KvDxReferenceIdeal.main_arg2))

def preserves_GluDx_GluDxIdeal : Prop :=
  True

def algebraic_GluDxIdeal_GluDxReferenceIdeal [hGluDxIdeal : Cert.GluDxIdeal.Facts] [hGluDxReferenceIdeal : Cert.GluDxReferenceIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxReferenceIdeal.nD Cert.GluDxReferenceIdeal.τ Cert.GluDxReferenceIdeal.sig) → Buf (Elt Ideal) ℓ) (g' : Dev Cert.GluDxReferenceIdeal.nD → PrngReg), Pre_GluDxIdeal m →
    (∀ c : Dev Cert.GluDxIdeal.nD,
      m' ((c.tc : Thread Cert.GluDxReferenceIdeal.nD Cert.GluDxReferenceIdeal.τ).loc Cert.GluDxReferenceIdeal.main_arg0) = m ((c.tc : Thread Cert.GluDxIdeal.nD Cert.GluDxIdeal.τ).loc Cert.GluDxIdeal.main_arg0)
      ∧ m' ((c.tc : Thread Cert.GluDxReferenceIdeal.nD Cert.GluDxReferenceIdeal.τ).loc Cert.GluDxReferenceIdeal.main_arg1) = m ((c.tc : Thread Cert.GluDxIdeal.nD Cert.GluDxIdeal.τ).loc Cert.GluDxIdeal.main_arg1)
      ∧ m' ((c.tc : Thread Cert.GluDxReferenceIdeal.nD Cert.GluDxReferenceIdeal.τ).loc Cert.GluDxReferenceIdeal.main_arg2) = m ((c.tc : Thread Cert.GluDxIdeal.nD Cert.GluDxIdeal.τ).loc Cert.GluDxIdeal.main_arg2)
      ∧ m' ((c.tc : Thread Cert.GluDxReferenceIdeal.nD Cert.GluDxReferenceIdeal.τ).loc Cert.GluDxReferenceIdeal.main_arg3) = m ((c.tc : Thread Cert.GluDxIdeal.nD Cert.GluDxIdeal.τ).loc Cert.GluDxIdeal.main_arg3)) →
    ∃ (v0 : (c : Dev Cert.GluDxIdeal.nD) → Buf (Elt Ideal) ((c.tc : Thread Cert.GluDxIdeal.nD Cert.GluDxIdeal.τ).loc Cert.GluDxIdeal.main_v4)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v4) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
          ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2)
          ∧ r.2.mem ((c.tc : Thread Cert.GluDxIdeal.nD Cert.GluDxIdeal.τ).loc Cert.GluDxIdeal.main_arg3) = m ((c.tc : Thread Cert.GluDxIdeal.nD Cert.GluDxIdeal.τ).loc Cert.GluDxIdeal.main_arg3))
      ∧ θ_run (Cert.GluDxReferenceIdeal.defs (F := Ideal)) (onTc (τ := Cert.GluDxReferenceIdeal.τ) (Cert.GluDxReferenceIdeal.main (F := Ideal))) ⟨m', fun _ => 0, g'⟩ (fun r => ∀ c : Dev Cert.GluDxReferenceIdeal.nD,
          r.2.mem ((c.tc : Thread Cert.GluDxReferenceIdeal.nD Cert.GluDxReferenceIdeal.τ).loc Cert.GluDxReferenceIdeal.main_v36) = v0 c
          ∧ r.2.mem ((c.tc : Thread Cert.GluDxReferenceIdeal.nD Cert.GluDxReferenceIdeal.τ).loc Cert.GluDxReferenceIdeal.main_arg0) = m' ((c.tc : Thread Cert.GluDxReferenceIdeal.nD Cert.GluDxReferenceIdeal.τ).loc Cert.GluDxReferenceIdeal.main_arg0)
          ∧ r.2.mem ((c.tc : Thread Cert.GluDxReferenceIdeal.nD Cert.GluDxReferenceIdeal.τ).loc Cert.GluDxReferenceIdeal.main_arg1) = m' ((c.tc : Thread Cert.GluDxReferenceIdeal.nD Cert.GluDxReferenceIdeal.τ).loc Cert.GluDxReferenceIdeal.main_arg1)
          ∧ r.2.mem ((c.tc : Thread Cert.GluDxReferenceIdeal.nD Cert.GluDxReferenceIdeal.τ).loc Cert.GluDxReferenceIdeal.main_arg2) = m' ((c.tc : Thread Cert.GluDxReferenceIdeal.nD Cert.GluDxReferenceIdeal.τ).loc Cert.GluDxReferenceIdeal.main_arg2)
          ∧ r.2.mem ((c.tc : Thread Cert.GluDxReferenceIdeal.nD Cert.GluDxReferenceIdeal.τ).loc Cert.GluDxReferenceIdeal.main_arg3) = m' ((c.tc : Thread Cert.GluDxReferenceIdeal.nD Cert.GluDxReferenceIdeal.τ).loc Cert.GluDxReferenceIdeal.main_arg3))

def preserves_InU_InUIdeal : Prop :=
  True

def algebraic_InUIdeal_InUReferenceIdeal [hInUIdeal : Cert.InUIdeal.Facts] [hInUReferenceIdeal : Cert.InUReferenceIdeal.Facts] : Prop :=
  ∀ (m : (ℓ : Loc Cert.InUIdeal.nD Cert.InUIdeal.τ Cert.InUIdeal.sig) → Buf (Elt Ideal) ℓ) (g : Dev Cert.InUIdeal.nD → PrngReg)
    (m' : (ℓ : Loc Cert.InUReferenceIdeal.nD Cert.InUReferenceIdeal.τ Cert.InUReferenceIdeal.sig) → Buf (Elt Ideal) ℓ) (g' : Dev Cert.InUReferenceIdeal.nD → PrngReg), Pre_InUIdeal m →
    (∀ c : Dev Cert.InUIdeal.nD,
      m' ((c.tc : Thread Cert.InUReferenceIdeal.nD Cert.InUReferenceIdeal.τ).loc Cert.InUReferenceIdeal.main_arg0) = m ((c.tc : Thread Cert.InUIdeal.nD Cert.InUIdeal.τ).loc Cert.InUIdeal.main_arg0)
      ∧ m' ((c.tc : Thread Cert.InUReferenceIdeal.nD Cert.InUReferenceIdeal.τ).loc Cert.InUReferenceIdeal.main_arg1) = m ((c.tc : Thread Cert.InUIdeal.nD Cert.InUIdeal.τ).loc Cert.InUIdeal.main_arg1)) →
    ∃ (v0 : (c : Dev Cert.InUIdeal.nD) → Buf (Elt Ideal) ((c.tc : Thread Cert.InUIdeal.nD Cert.InUIdeal.τ).loc Cert.InUIdeal.main_v2)),
      θ_run (Cert.InUIdeal.defs (F := Ideal)) (onTc (τ := Cert.InUIdeal.τ) (Cert.InUIdeal.main (F := Ideal))) ⟨m, fun _ => 0, g⟩ (fun r => ∀ c : Dev Cert.InUIdeal.nD,
          r.2.mem ((c.tc : Thread Cert.InUIdeal.nD Cert.InUIdeal.τ).loc Cert.InUIdeal.main_v2) = v0 c
          ∧ r.2.mem ((c.tc : Thread Cert.InUIdeal.nD Cert.InUIdeal.τ).loc Cert.InUIdeal.main_arg0) = m ((c.tc : Thread Cert.InUIdeal.nD Cert.InUIdeal.τ).loc Cert.InUIdeal.main_arg0)
          ∧ r.2.mem ((c.tc : Thread Cert.InUIdeal.nD Cert.InUIdeal.τ).loc Cert.InUIdeal.main_arg1) = m ((c.tc : Thread Cert.InUIdeal.nD Cert.InUIdeal.τ).loc Cert.InUIdeal.main_arg1))
      ∧ θ_run (Cert.InUReferenceIdeal.defs (F := Ideal)) (onTc (τ := Cert.InUReferenceIdeal.τ) (Cert.InUReferenceIdeal.main (F := Ideal))) ⟨m', fun _ => 0, g'⟩ (fun r => ∀ c : Dev Cert.InUReferenceIdeal.nD,
          r.2.mem ((c.tc : Thread Cert.InUReferenceIdeal.nD Cert.InUReferenceIdeal.τ).loc Cert.InUReferenceIdeal.main_v4) = v0 c
          ∧ r.2.mem ((c.tc : Thread Cert.InUReferenceIdeal.nD Cert.InUReferenceIdeal.τ).loc Cert.InUReferenceIdeal.main_arg0) = m' ((c.tc : Thread Cert.InUReferenceIdeal.nD Cert.InUReferenceIdeal.τ).loc Cert.InUReferenceIdeal.main_arg0)
          ∧ r.2.mem ((c.tc : Thread Cert.InUReferenceIdeal.nD Cert.InUReferenceIdeal.τ).loc Cert.InUReferenceIdeal.main_arg1) = m' ((c.tc : Thread Cert.InUReferenceIdeal.nD Cert.InUReferenceIdeal.τ).loc Cert.InUReferenceIdeal.main_arg1))

def preserves_InZ_InZIdeal : Prop :=
  True

def algebraic_InZIdeal_InZReferenceIdeal [hInZIdeal : Cert.InZIdeal.Facts] [hInZReferenceIdeal : Cert.InZReferenceIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.InZReferenceIdeal.nD Cert.InZReferenceIdeal.τ Cert.InZReferenceIdeal.sig) → Buf (Elt Ideal) ℓ) (g' : Dev Cert.InZReferenceIdeal.nD → PrngReg), Pre_InZIdeal m →
    (∀ c : Dev Cert.InZIdeal.nD,
      m' ((c.tc : Thread Cert.InZReferenceIdeal.nD Cert.InZReferenceIdeal.τ).loc Cert.InZReferenceIdeal.main_arg0) = m ((c.tc : Thread Cert.InZIdeal.nD Cert.InZIdeal.τ).loc Cert.InZIdeal.main_arg0)
      ∧ m' ((c.tc : Thread Cert.InZReferenceIdeal.nD Cert.InZReferenceIdeal.τ).loc Cert.InZReferenceIdeal.main_arg1) = m ((c.tc : Thread Cert.InZIdeal.nD Cert.InZIdeal.τ).loc Cert.InZIdeal.main_arg1)) →
    ∃ (v0 : (c : Dev Cert.InZIdeal.nD) → Buf (Elt Ideal) ((c.tc : Thread Cert.InZIdeal.nD Cert.InZIdeal.τ).loc Cert.InZIdeal.main_v2)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v2) = v0 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ θ_run (Cert.InZReferenceIdeal.defs (F := Ideal)) (onTc (τ := Cert.InZReferenceIdeal.τ) (Cert.InZReferenceIdeal.main (F := Ideal))) ⟨m', fun _ => 0, g'⟩ (fun r => ∀ c : Dev Cert.InZReferenceIdeal.nD,
          r.2.mem ((c.tc : Thread Cert.InZReferenceIdeal.nD Cert.InZReferenceIdeal.τ).loc Cert.InZReferenceIdeal.main_v4) = v0 c
          ∧ r.2.mem ((c.tc : Thread Cert.InZReferenceIdeal.nD Cert.InZReferenceIdeal.τ).loc Cert.InZReferenceIdeal.main_arg0) = m' ((c.tc : Thread Cert.InZReferenceIdeal.nD Cert.InZReferenceIdeal.τ).loc Cert.InZReferenceIdeal.main_arg0)
          ∧ r.2.mem ((c.tc : Thread Cert.InZReferenceIdeal.nD Cert.InZReferenceIdeal.τ).loc Cert.InZReferenceIdeal.main_arg1) = m' ((c.tc : Thread Cert.InZReferenceIdeal.nD Cert.InZReferenceIdeal.τ).loc Cert.InZReferenceIdeal.main_arg1))

def preserves_InQ_InQIdeal : Prop :=
  True

def algebraic_InQIdeal_InQReferenceIdeal [hInQIdeal : Cert.InQIdeal.Facts] [hInQReferenceIdeal : Cert.InQReferenceIdeal.Facts] : Prop :=
  ∀ (m : (ℓ : Loc Cert.InQIdeal.nD Cert.InQIdeal.τ Cert.InQIdeal.sig) → Buf (Elt Ideal) ℓ) (g : Dev Cert.InQIdeal.nD → PrngReg)
    (m' : (ℓ : Loc Cert.InQReferenceIdeal.nD Cert.InQReferenceIdeal.τ Cert.InQReferenceIdeal.sig) → Buf (Elt Ideal) ℓ) (g' : Dev Cert.InQReferenceIdeal.nD → PrngReg), Pre_InQIdeal m →
    (∀ c : Dev Cert.InQIdeal.nD,
      m' ((c.tc : Thread Cert.InQReferenceIdeal.nD Cert.InQReferenceIdeal.τ).loc Cert.InQReferenceIdeal.main_arg0) = m ((c.tc : Thread Cert.InQIdeal.nD Cert.InQIdeal.τ).loc Cert.InQIdeal.main_arg0)
      ∧ m' ((c.tc : Thread Cert.InQReferenceIdeal.nD Cert.InQReferenceIdeal.τ).loc Cert.InQReferenceIdeal.main_arg1) = m ((c.tc : Thread Cert.InQIdeal.nD Cert.InQIdeal.τ).loc Cert.InQIdeal.main_arg1)) →
    ∃ (v0 : (c : Dev Cert.InQIdeal.nD) → Buf (Elt Ideal) ((c.tc : Thread Cert.InQIdeal.nD Cert.InQIdeal.τ).loc Cert.InQIdeal.main_v2)),
      θ_run (Cert.InQIdeal.defs (F := Ideal)) (onTc (τ := Cert.InQIdeal.τ) (Cert.InQIdeal.main (F := Ideal))) ⟨m, fun _ => 0, g⟩ (fun r => ∀ c : Dev Cert.InQIdeal.nD,
          r.2.mem ((c.tc : Thread Cert.InQIdeal.nD Cert.InQIdeal.τ).loc Cert.InQIdeal.main_v2) = v0 c
          ∧ r.2.mem ((c.tc : Thread Cert.InQIdeal.nD Cert.InQIdeal.τ).loc Cert.InQIdeal.main_arg0) = m ((c.tc : Thread Cert.InQIdeal.nD Cert.InQIdeal.τ).loc Cert.InQIdeal.main_arg0)
          ∧ r.2.mem ((c.tc : Thread Cert.InQIdeal.nD Cert.InQIdeal.τ).loc Cert.InQIdeal.main_arg1) = m ((c.tc : Thread Cert.InQIdeal.nD Cert.InQIdeal.τ).loc Cert.InQIdeal.main_arg1))
      ∧ θ_run (Cert.InQReferenceIdeal.defs (F := Ideal)) (onTc (τ := Cert.InQReferenceIdeal.τ) (Cert.InQReferenceIdeal.main (F := Ideal))) ⟨m', fun _ => 0, g'⟩ (fun r => ∀ c : Dev Cert.InQReferenceIdeal.nD,
          r.2.mem ((c.tc : Thread Cert.InQReferenceIdeal.nD Cert.InQReferenceIdeal.τ).loc Cert.InQReferenceIdeal.main_v6) = v0 c
          ∧ r.2.mem ((c.tc : Thread Cert.InQReferenceIdeal.nD Cert.InQReferenceIdeal.τ).loc Cert.InQReferenceIdeal.main_arg0) = m' ((c.tc : Thread Cert.InQReferenceIdeal.nD Cert.InQReferenceIdeal.τ).loc Cert.InQReferenceIdeal.main_arg0)
          ∧ r.2.mem ((c.tc : Thread Cert.InQReferenceIdeal.nD Cert.InQReferenceIdeal.τ).loc Cert.InQReferenceIdeal.main_arg1) = m' ((c.tc : Thread Cert.InQReferenceIdeal.nD Cert.InQReferenceIdeal.τ).loc Cert.InQReferenceIdeal.main_arg1))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v1) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v0) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v3) = v0 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1))

def preserves_InDxAfter_InDxAfterIdeal : Prop :=
  True

def algebraic_InDxAfterIdeal_InDxAfterReferenceIdeal [hInDxAfterIdeal : Cert.InDxAfterIdeal.Facts] [hInDxAfterReferenceIdeal : Cert.InDxAfterReferenceIdeal.Facts] : Prop :=
  ∀ (m : (ℓ : Loc Cert.InDxAfterIdeal.nD Cert.InDxAfterIdeal.τ Cert.InDxAfterIdeal.sig) → Buf (Elt Ideal) ℓ) (g : Dev Cert.InDxAfterIdeal.nD → PrngReg)
    (m' : (ℓ : Loc Cert.InDxAfterReferenceIdeal.nD Cert.InDxAfterReferenceIdeal.τ Cert.InDxAfterReferenceIdeal.sig) → Buf (Elt Ideal) ℓ) (g' : Dev Cert.InDxAfterReferenceIdeal.nD → PrngReg), Pre_InDxAfterIdeal m →
    (∀ c : Dev Cert.InDxAfterIdeal.nD,
      m' ((c.tc : Thread Cert.InDxAfterReferenceIdeal.nD Cert.InDxAfterReferenceIdeal.τ).loc Cert.InDxAfterReferenceIdeal.main_arg0) = m ((c.tc : Thread Cert.InDxAfterIdeal.nD Cert.InDxAfterIdeal.τ).loc Cert.InDxAfterIdeal.main_arg0)
      ∧ m' ((c.tc : Thread Cert.InDxAfterReferenceIdeal.nD Cert.InDxAfterReferenceIdeal.τ).loc Cert.InDxAfterReferenceIdeal.main_arg1) = m ((c.tc : Thread Cert.InDxAfterIdeal.nD Cert.InDxAfterIdeal.τ).loc Cert.InDxAfterIdeal.main_arg1)
      ∧ m' ((c.tc : Thread Cert.InDxAfterReferenceIdeal.nD Cert.InDxAfterReferenceIdeal.τ).loc Cert.InDxAfterReferenceIdeal.main_arg2) = m ((c.tc : Thread Cert.InDxAfterIdeal.nD Cert.InDxAfterIdeal.τ).loc Cert.InDxAfterIdeal.main_arg2)) →
    ∃ (v0 : (c : Dev Cert.InDxAfterIdeal.nD) → Buf (Elt Ideal) ((c.tc : Thread Cert.InDxAfterIdeal.nD Cert.InDxAfterIdeal.τ).loc Cert.InDxAfterIdeal.main_v2)),
      θ_run (Cert.InDxAfterIdeal.defs (F := Ideal)) (onTc (τ := Cert.InDxAfterIdeal.τ) (Cert.InDxAfterIdeal.main (F := Ideal))) ⟨m, fun _ => 0, g⟩ (fun r => ∀ c : Dev Cert.InDxAfterIdeal.nD,
          r.2.mem ((c.tc : Thread Cert.InDxAfterIdeal.nD Cert.InDxAfterIdeal.τ).loc Cert.InDxAfterIdeal.main_v2) = v0 c
          ∧ r.2.mem ((c.tc : Thread Cert.InDxAfterIdeal.nD Cert.InDxAfterIdeal.τ).loc Cert.InDxAfterIdeal.main_arg0) = m ((c.tc : Thread Cert.InDxAfterIdeal.nD Cert.InDxAfterIdeal.τ).loc Cert.InDxAfterIdeal.main_arg0)
          ∧ r.2.mem ((c.tc : Thread Cert.InDxAfterIdeal.nD Cert.InDxAfterIdeal.τ).loc Cert.InDxAfterIdeal.main_arg1) = m ((c.tc : Thread Cert.InDxAfterIdeal.nD Cert.InDxAfterIdeal.τ).loc Cert.InDxAfterIdeal.main_arg1)
          ∧ r.2.mem ((c.tc : Thread Cert.InDxAfterIdeal.nD Cert.InDxAfterIdeal.τ).loc Cert.InDxAfterIdeal.main_arg2) = m ((c.tc : Thread Cert.InDxAfterIdeal.nD Cert.InDxAfterIdeal.τ).loc Cert.InDxAfterIdeal.main_arg2))
      ∧ θ_run (Cert.InDxAfterReferenceIdeal.defs (F := Ideal)) (onTc (τ := Cert.InDxAfterReferenceIdeal.τ) (Cert.InDxAfterReferenceIdeal.main (F := Ideal))) ⟨m', fun _ => 0, g'⟩ (fun r => ∀ c : Dev Cert.InDxAfterReferenceIdeal.nD,
          r.2.mem ((c.tc : Thread Cert.InDxAfterReferenceIdeal.nD Cert.InDxAfterReferenceIdeal.τ).loc Cert.InDxAfterReferenceIdeal.main_v5) = v0 c
          ∧ r.2.mem ((c.tc : Thread Cert.InDxAfterReferenceIdeal.nD Cert.InDxAfterReferenceIdeal.τ).loc Cert.InDxAfterReferenceIdeal.main_arg0) = m' ((c.tc : Thread Cert.InDxAfterReferenceIdeal.nD Cert.InDxAfterReferenceIdeal.τ).loc Cert.InDxAfterReferenceIdeal.main_arg0)
          ∧ r.2.mem ((c.tc : Thread Cert.InDxAfterReferenceIdeal.nD Cert.InDxAfterReferenceIdeal.τ).loc Cert.InDxAfterReferenceIdeal.main_arg1) = m' ((c.tc : Thread Cert.InDxAfterReferenceIdeal.nD Cert.InDxAfterReferenceIdeal.τ).loc Cert.InDxAfterReferenceIdeal.main_arg1)
          ∧ r.2.mem ((c.tc : Thread Cert.InDxAfterReferenceIdeal.nD Cert.InDxAfterReferenceIdeal.τ).loc Cert.InDxAfterReferenceIdeal.main_arg2) = m' ((c.tc : Thread Cert.InDxAfterReferenceIdeal.nD Cert.InDxAfterReferenceIdeal.τ).loc Cert.InDxAfterReferenceIdeal.main_arg2))

def preserves_Attend_AttendIdeal : Prop :=
  IdealRules.named_const.Statement Cert.AttendIdeal.κ "mask" .f32 0xF149F2CA#32 ⊥
  ∧ IdealRules.named_const.Statement Cert.AttendIdeal.κ "log2e" .f32 0x3FB8AA3B#32 (((Real.log 2)⁻¹ : ℝ) : EReal)

def algebraic_AttendIdeal_AttendReferenceIdeal_pre_finite_attend [hAttendIdeal : Cert.AttendIdeal.Facts] [hAttendReferenceIdeal : Cert.AttendReferenceIdeal.Facts] [hPre_finite_attend : Cert.Pre_finite_attend.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal_finite_attend m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)
      ∧ m' ((c.tc : Thread Cert.AttendReferenceIdeal.nD Cert.AttendReferenceIdeal.τ).loc Cert.AttendReferenceIdeal.main_arg2) = m ((c.tc : Thread Cert.AttendIdeal.nD Cert.AttendIdeal.τ).loc Cert.AttendIdeal.main_arg2)
      ∧ m' ((c.tc : Thread Cert.AttendReferenceIdeal.nD Cert.AttendReferenceIdeal.τ).loc Cert.AttendReferenceIdeal.main_arg3) = m ((c.tc : Thread Cert.AttendIdeal.nD Cert.AttendIdeal.τ).loc Cert.AttendIdeal.main_arg3)
      ∧ m' ((c.tc : Thread Cert.AttendReferenceIdeal.nD Cert.AttendReferenceIdeal.τ).loc Cert.AttendReferenceIdeal.main_arg4) = m ((c.tc : Thread Cert.AttendIdeal.nD Cert.AttendIdeal.τ).loc Cert.AttendIdeal.main_arg4)) →
    ∃ (v0 : (c : Dev Cert.AttendIdeal.nD) → Buf (Elt Ideal) ((c.tc : Thread Cert.AttendIdeal.nD Cert.AttendIdeal.τ).loc Cert.AttendIdeal.main_v12_0)) (v1 : (c : Dev Cert.AttendIdeal.nD) → Buf (Elt Ideal) ((c.tc : Thread Cert.AttendIdeal.nD Cert.AttendIdeal.τ).loc Cert.AttendIdeal.main_v12_1)) (v2 : (c : Dev Cert.AttendIdeal.nD) → Buf (Elt Ideal) ((c.tc : Thread Cert.AttendIdeal.nD Cert.AttendIdeal.τ).loc Cert.AttendIdeal.main_v12_2)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v12_0) = v0 c
          ∧ r.2.mem ((c.tc : Thread Cert.AttendIdeal.nD Cert.AttendIdeal.τ).loc Cert.AttendIdeal.main_v12_1) = v1 c
          ∧ r.2.mem ((c.tc : Thread Cert.AttendIdeal.nD Cert.AttendIdeal.τ).loc Cert.AttendIdeal.main_v12_2) = v2 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v48) = v0 c
          ∧ r.2.mem ((c.tc : Thread Cert.AttendReferenceIdeal.nD Cert.AttendReferenceIdeal.τ).loc Cert.AttendReferenceIdeal.main_v51) = v1 c
          ∧ r.2.mem ((c.tc : Thread Cert.AttendReferenceIdeal.nD Cert.AttendReferenceIdeal.τ).loc Cert.AttendReferenceIdeal.main_v52) = v2 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1)
          ∧ r.2.mem ((c.tc : Thread Cert.AttendReferenceIdeal.nD Cert.AttendReferenceIdeal.τ).loc Cert.AttendReferenceIdeal.main_arg2) = m' ((c.tc : Thread Cert.AttendReferenceIdeal.nD Cert.AttendReferenceIdeal.τ).loc Cert.AttendReferenceIdeal.main_arg2)
          ∧ r.2.mem ((c.tc : Thread Cert.AttendReferenceIdeal.nD Cert.AttendReferenceIdeal.τ).loc Cert.AttendReferenceIdeal.main_arg3) = m' ((c.tc : Thread Cert.AttendReferenceIdeal.nD Cert.AttendReferenceIdeal.τ).loc Cert.AttendReferenceIdeal.main_arg3)
          ∧ r.2.mem ((c.tc : Thread Cert.AttendReferenceIdeal.nD Cert.AttendReferenceIdeal.τ).loc Cert.AttendReferenceIdeal.main_arg4) = m' ((c.tc : Thread Cert.AttendReferenceIdeal.nD Cert.AttendReferenceIdeal.τ).loc Cert.AttendReferenceIdeal.main_arg4))

def Claim : Prop :=
  ∃ (hKernel : Cert.Kernel.Facts) (hKernelIdeal : Cert.KernelIdeal.Facts) (hReferenceIdeal : Cert.ReferenceIdeal.Facts) (hOutDw : Cert.OutDw.Facts) (hOutDwIdeal : Cert.OutDwIdeal.Facts) (hOutDwReferenceIdeal : Cert.OutDwReferenceIdeal.Facts) (hOutDx : Cert.OutDx.Facts) (hOutDxIdeal : Cert.OutDxIdeal.Facts) (hOutDxReferenceIdeal : Cert.OutDxReferenceIdeal.Facts) (hInDw : Cert.InDw.Facts) (hInDwIdeal : Cert.InDwIdeal.Facts) (hInDwReferenceIdeal : Cert.InDwReferenceIdeal.Facts) (hInDx : Cert.InDx.Facts) (hInDxIdeal : Cert.InDxIdeal.Facts) (hInDxReferenceIdeal : Cert.InDxReferenceIdeal.Facts) (hKvDw : Cert.KvDw.Facts) (hKvDwIdeal : Cert.KvDwIdeal.Facts) (hKvDwReferenceIdeal : Cert.KvDwReferenceIdeal.Facts) (hKvDx : Cert.KvDx.Facts) (hKvDxIdeal : Cert.KvDxIdeal.Facts) (hKvDxReferenceIdeal : Cert.KvDxReferenceIdeal.Facts) (hGluDx : Cert.GluDx.Facts) (hGluDxIdeal : Cert.GluDxIdeal.Facts) (hGluDxReferenceIdeal : Cert.GluDxReferenceIdeal.Facts) (hInU : Cert.InU.Facts) (hInUIdeal : Cert.InUIdeal.Facts) (hInUReferenceIdeal : Cert.InUReferenceIdeal.Facts) (hInZ : Cert.InZ.Facts) (hInZIdeal : Cert.InZIdeal.Facts) (hInZReferenceIdeal : Cert.InZReferenceIdeal.Facts) (hInQ : Cert.InQ.Facts) (hInQIdeal : Cert.InQIdeal.Facts) (hInQReferenceIdeal : Cert.InQReferenceIdeal.Facts) (hGlu : Cert.Glu.Facts) (hGluIdeal : Cert.GluIdeal.Facts) (hGluReferenceIdeal : Cert.GluReferenceIdeal.Facts) (hOut : Cert.Out.Facts) (hOutIdeal : Cert.OutIdeal.Facts) (hOutReferenceIdeal : Cert.OutReferenceIdeal.Facts) (hKv : Cert.Kv.Facts) (hKvIdeal : Cert.KvIdeal.Facts) (hKvReferenceIdeal : Cert.KvReferenceIdeal.Facts) (hInDxAfter : Cert.InDxAfter.Facts) (hInDxAfterIdeal : Cert.InDxAfterIdeal.Facts) (hInDxAfterReferenceIdeal : Cert.InDxAfterReferenceIdeal.Facts) (hAttend : Cert.Attend.Facts) (hAttendIdeal : Cert.AttendIdeal.Facts) (hAttendReferenceIdeal : Cert.AttendReferenceIdeal.Facts) (hPre_finite : Cert.Pre_finite.Facts) (hPre_finite_attend : Cert.Pre_finite_attend.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_KvDw (hKvDw := hKvDw)
    ∧ quiescent_KvDwIdeal (hKvDwIdeal := hKvDwIdeal)
    ∧ quiescent_KvDwReferenceIdeal (hKvDwReferenceIdeal := hKvDwReferenceIdeal)
    ∧ quiescent_KvDx (hKvDx := hKvDx)
    ∧ quiescent_KvDxIdeal (hKvDxIdeal := hKvDxIdeal)
    ∧ quiescent_KvDxReferenceIdeal (hKvDxReferenceIdeal := hKvDxReferenceIdeal)
    ∧ quiescent_GluDx (hGluDx := hGluDx)
    ∧ quiescent_GluDxIdeal (hGluDxIdeal := hGluDxIdeal)
    ∧ quiescent_GluDxReferenceIdeal (hGluDxReferenceIdeal := hGluDxReferenceIdeal)
    ∧ quiescent_InU (hInU := hInU)
    ∧ quiescent_InUIdeal (hInUIdeal := hInUIdeal)
    ∧ quiescent_InUReferenceIdeal (hInUReferenceIdeal := hInUReferenceIdeal)
    ∧ quiescent_InZ (hInZ := hInZ)
    ∧ quiescent_InZIdeal (hInZIdeal := hInZIdeal)
    ∧ quiescent_InZReferenceIdeal (hInZReferenceIdeal := hInZReferenceIdeal)
    ∧ quiescent_InQ (hInQ := hInQ)
    ∧ quiescent_InQIdeal (hInQIdeal := hInQIdeal)
    ∧ quiescent_InQReferenceIdeal (hInQReferenceIdeal := hInQReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Out (hOut := hOut)
    ∧ quiescent_OutIdeal (hOutIdeal := hOutIdeal)
    ∧ quiescent_OutReferenceIdeal (hOutReferenceIdeal := hOutReferenceIdeal)
    ∧ quiescent_Kv (hKv := hKv)
    ∧ quiescent_KvIdeal (hKvIdeal := hKvIdeal)
    ∧ quiescent_KvReferenceIdeal (hKvReferenceIdeal := hKvReferenceIdeal)
    ∧ quiescent_InDxAfter (hInDxAfter := hInDxAfter)
    ∧ quiescent_InDxAfterIdeal (hInDxAfterIdeal := hInDxAfterIdeal)
    ∧ quiescent_InDxAfterReferenceIdeal (hInDxAfterReferenceIdeal := hInDxAfterReferenceIdeal)
    ∧ quiescent_Attend (hAttend := hAttend)
    ∧ quiescent_AttendIdeal (hAttendIdeal := hAttendIdeal)
    ∧ quiescent_AttendIdeal_pre_finite_attend (hAttendIdeal := hAttendIdeal) (hPre_finite_attend := hPre_finite_attend)
    ∧ quiescent_AttendReferenceIdeal (hAttendReferenceIdeal := hAttendReferenceIdeal)
    ∧ quiescent_AttendReferenceIdeal_pre_finite_attend (hAttendReferenceIdeal := hAttendReferenceIdeal) (hPre_finite_attend := hPre_finite_attend)
    ∧ preserves_Kernel_KernelIdeal
    ∧ algebraic_KernelIdeal_ReferenceIdeal_pre_finite (hKernelIdeal := hKernelIdeal) (hReferenceIdeal := hReferenceIdeal) (hPre_finite := hPre_finite)
    ∧ preserves_OutDw_OutDwIdeal
    ∧ algebraic_OutDwIdeal_OutDwReferenceIdeal (hOutDwIdeal := hOutDwIdeal) (hOutDwReferenceIdeal := hOutDwReferenceIdeal)
    ∧ preserves_OutDx_OutDxIdeal
    ∧ algebraic_OutDxIdeal_OutDxReferenceIdeal (hOutDxIdeal := hOutDxIdeal) (hOutDxReferenceIdeal := hOutDxReferenceIdeal)
    ∧ preserves_InDw_InDwIdeal
    ∧ algebraic_InDwIdeal_InDwReferenceIdeal (hInDwIdeal := hInDwIdeal) (hInDwReferenceIdeal := hInDwReferenceIdeal)
    ∧ preserves_InDx_InDxIdeal
    ∧ algebraic_InDxIdeal_InDxReferenceIdeal (hInDxIdeal := hInDxIdeal) (hInDxReferenceIdeal := hInDxReferenceIdeal)
    ∧ preserves_KvDw_KvDwIdeal
    ∧ algebraic_KvDwIdeal_KvDwReferenceIdeal (hKvDwIdeal := hKvDwIdeal) (hKvDwReferenceIdeal := hKvDwReferenceIdeal)
    ∧ preserves_KvDx_KvDxIdeal
    ∧ algebraic_KvDxIdeal_KvDxReferenceIdeal (hKvDxIdeal := hKvDxIdeal) (hKvDxReferenceIdeal := hKvDxReferenceIdeal)
    ∧ preserves_GluDx_GluDxIdeal
    ∧ algebraic_GluDxIdeal_GluDxReferenceIdeal (hGluDxIdeal := hGluDxIdeal) (hGluDxReferenceIdeal := hGluDxReferenceIdeal)
    ∧ preserves_InU_InUIdeal
    ∧ algebraic_InUIdeal_InUReferenceIdeal (hInUIdeal := hInUIdeal) (hInUReferenceIdeal := hInUReferenceIdeal)
    ∧ preserves_InZ_InZIdeal
    ∧ algebraic_InZIdeal_InZReferenceIdeal (hInZIdeal := hInZIdeal) (hInZReferenceIdeal := hInZReferenceIdeal)
    ∧ preserves_InQ_InQIdeal
    ∧ algebraic_InQIdeal_InQReferenceIdeal (hInQIdeal := hInQIdeal) (hInQReferenceIdeal := hInQReferenceIdeal)
    ∧ preserves_Glu_GluIdeal
    ∧ algebraic_GluIdeal_GluReferenceIdeal (hGluIdeal := hGluIdeal) (hGluReferenceIdeal := hGluReferenceIdeal)
    ∧ preserves_Out_OutIdeal
    ∧ algebraic_OutIdeal_OutReferenceIdeal (hOutIdeal := hOutIdeal) (hOutReferenceIdeal := hOutReferenceIdeal)
    ∧ preserves_Kv_KvIdeal
    ∧ algebraic_KvIdeal_KvReferenceIdeal (hKvIdeal := hKvIdeal) (hKvReferenceIdeal := hKvReferenceIdeal)
    ∧ preserves_InDxAfter_InDxAfterIdeal
    ∧ algebraic_InDxAfterIdeal_InDxAfterReferenceIdeal (hInDxAfterIdeal := hInDxAfterIdeal) (hInDxAfterReferenceIdeal := hInDxAfterReferenceIdeal)
    ∧ preserves_Attend_AttendIdeal
    ∧ algebraic_AttendIdeal_AttendReferenceIdeal_pre_finite_attend (hAttendIdeal := hAttendIdeal) (hAttendReferenceIdeal := hAttendReferenceIdeal) (hPre_finite_attend := hPre_finite_attend)
-- ==== Pre_finite.lean ====
abbrev S4096x2048 : Shape := ⟨2, ![4096, 2048]⟩
abbrev S16x4096 : Shape := ⟨2, ![16, 4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S4096x2048 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  main_v23

def fn {F : FTy → Type} [FloatOps F] (main_arg0 : FVec F S4096x2048 .f32) (main_arg1 : FVec F S4096x2048 .f32) (main_arg2 : FVec F S4096x2048 .f32) (main_arg3 : FVec F S16x4096 .f32) (main_arg4 : FVec F S4096x2048 .f32) (main_arg5 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Pre_finite_attend.lean ====
abbrev S4096x2048 : Shape := ⟨2, ![4096, 2048]⟩
abbrev S16x4096 : Shape := ⟨2, ![16, 4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  main_v18

def fn {F : FTy → Type} [FloatOps F] (main_arg0 : FVec F S4096x2048 .f32) (main_arg1 : FVec F S4096x2048 .f32) (main_arg2 : FVec F S4096x2048 .f32) (main_arg3 : FVec F S16x4096 .f32) (main_arg4 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_v13 main_v16
-- ==== Kernel.lean ====
abbrev S4096x2048 : Shape := ⟨2, ![4096, 2048]⟩
abbrev S16x4096 : Shape := ⟨2, ![16, 4096]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S4096x4096 : Shape := ⟨2, ![4096, 4096]⟩
abbrev S4096x16 : Shape := ⟨2, ![4096, 16]⟩
abbrev S4096x128 : Shape := ⟨2, ![4096, 128]⟩
abbrev S512x128 : Shape := ⟨2, ![512, 128]⟩
abbrev S1x1x512 : Shape := ⟨3, ![1, 1, 512]⟩
abbrev S1x4096 : Shape := ⟨2, ![1, 4096]⟩
abbrev S512x512 : Shape := ⟨2, ![512, 512]⟩
abbrev S512 : Shape := ⟨1, ![512]⟩
abbrev S512x1 : Shape := ⟨2, ![512, 1]⟩
abbrev S128x512 : Shape := ⟨2, ![128, 512]⟩
abbrev S1x512 : Shape := ⟨2, ![1, 512]⟩

abbrev nBuf : Space → Nat
  | .hbm => 82
  | .vmem => 32
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S16x4096, .f32⟩
  | .hbm, ⟨4, _⟩ => ⟨S4096x2048, .f32⟩
  | .hbm, ⟨5, _⟩ => ⟨S4096x2048, .f32⟩
  | .hbm, ⟨6, _⟩ => ⟨S4096x16x128, .f32⟩
  | .hbm, ⟨7, _⟩ => ⟨S16x4096x128, .f32⟩
  | .hbm, ⟨8, _⟩ => ⟨S4096x16x128, .f32⟩
  | .hbm, ⟨9, _⟩ => ⟨S16x4096x128, .f32⟩
  | .hbm, ⟨10, _⟩ => ⟨S16x4096x4096, .f32⟩
  | .hbm, ⟨11, _⟩ => ⟨S_, .f32⟩
  | .hbm, ⟨12, _⟩ => ⟨S16x4096x4096, .f32⟩
  | .hbm, ⟨13, _⟩ => ⟨S16x4096x4096, .f32⟩
  | .hbm, ⟨14, _⟩ => ⟨S16x4096x1, .f32⟩
  | .hbm, ⟨15, _⟩ => ⟨S16x4096x4096, .f32⟩
  | .hbm, ⟨16, _⟩ => ⟨S16x4096x4096, .f32⟩
  | .hbm, ⟨17, _⟩ => ⟨S16x1x4096, .f32⟩
  | .hbm, ⟨18, _⟩ => ⟨S16x4096x4096, .f32⟩
  | .hbm, ⟨19, _⟩ => ⟨S16x4096x4096, .f32⟩
  | .hbm, ⟨20, _⟩ => ⟨S4096, .i32⟩
  | .hbm, ⟨21, _⟩ => ⟨S1x1x4096, .i32⟩
  | .hbm, ⟨22, _⟩ => ⟨S1x4096x1, .i32⟩
  | .hbm, ⟨23, _⟩ => ⟨S1x4096x4096, .i32⟩
  | .hbm, ⟨24, _⟩ => ⟨S1x4096x4096, .i32⟩
  | .hbm, ⟨25, _⟩ => ⟨S1x4096x4096, .i1⟩
  | .hbm, ⟨26, _⟩ => ⟨S_, .f32⟩
  | .hbm, ⟨27, _⟩ => ⟨S_, .f32⟩
  | .hbm, ⟨28, _⟩ => ⟨S16x4096x4096, .i1⟩
  | .hbm, ⟨29, _⟩ => ⟨S16x4096x4096, .f32⟩
  | .hbm, ⟨30, _⟩ => ⟨S16x4096x4096, .f32⟩
  | .hbm, ⟨31, _⟩ => ⟨S_, .f32⟩
  | .hbm, ⟨32, _⟩ => ⟨S16x4096, .f32⟩
  | .hbm, ⟨33, _⟩ => ⟨S16x4096x1, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S16x4096, .f32⟩
  | .hbm, ⟨39, _⟩ => ⟨S16x4096x1, .f32⟩
  | .hbm, ⟨40, _⟩ => ⟨S16x4096x4096, .f32⟩
  | .hbm, ⟨41, _⟩ => ⟨S16x4096x4096, .f32⟩
  | .hbm, ⟨42, _⟩ => ⟨S4096x16x128, .f32⟩
  | .hbm, ⟨43, _⟩ => ⟨S16x4096x128, .f32⟩
  | .hbm, ⟨44, _⟩ => ⟨S16x4096x128, .f32⟩
  | .hbm, ⟨45, _⟩ => ⟨S4096x16x128, .f32⟩
  | .hbm, ⟨46, _⟩ => ⟨S4096x2048, .f32⟩
  | .hbm, ⟨47, _⟩ => ⟨S4096x2048, .bf16⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S16x4096x1, .f32⟩
  | .hbm, ⟨53, _⟩ => ⟨S16x4096x1, .f32⟩
  | .hbm, ⟨54, _⟩ => ⟨S16x4096, .f32⟩
  | .hbm, ⟨55, _⟩ => ⟨S16x4096, .f32⟩
  | .hbm, ⟨56, _⟩ => ⟨S16x4096, .f32⟩
  | .hbm, ⟨57, _⟩ => ⟨S16x4096, .f32⟩
  | .hbm, ⟨58, _⟩ => ⟨S_, .f32⟩
  | .hbm, ⟨59, _⟩ => ⟨S_, .f32⟩
  | .hbm, ⟨60, _⟩ => ⟨S4096x2048, .f32⟩
  | .hbm, ⟨61, _⟩ => ⟨S4096x2048, .f32⟩
  | .hbm, ⟨62, _⟩ => ⟨S4096x2048, .bf16⟩
  | .hbm, ⟨63, _⟩ => ⟨S4096x4096, .f32⟩
  | .hbm, ⟨64, _⟩ => ⟨S4096x4096, .bf16⟩
  | .hbm, ⟨65, _⟩ => ⟨S16x4096, .f32⟩
  | .hbm, ⟨66, _⟩ => ⟨S16x4096, .f32⟩
  | .hbm, ⟨67, _⟩ => ⟨S4096x16, .f32⟩
  | .hbm, ⟨68, _⟩ => ⟨S_, .i32⟩
  | .hbm, ⟨69, _⟩ => ⟨S_, .f32⟩
  | .hbm, ⟨70, _⟩ => ⟨S4096x128, .f32⟩
  | .hbm, ⟨71, _⟩ => ⟨S_, .f32⟩
  | .hbm, ⟨72, _⟩ => ⟨S4096x2048, .f32⟩
  | .hbm, ⟨73, _⟩ => ⟨S4096x4096, .f32⟩
  | .hbm, ⟨74, _⟩ => ⟨S4096x4096, .bf16⟩
  | .hbm, ⟨75, _⟩ => ⟨S4096x2048, .bf16⟩
  | .hbm, ⟨76, _⟩ => ⟨S16x1x4096, .f32⟩
  | .hbm, ⟨77, _⟩ => ⟨S4096x2048, .bf16⟩
  | .hbm, ⟨78, _⟩ => ⟨S4096x2048, .bf16⟩
  | .hbm, ⟨79, _⟩ => ⟨S4096x4096, .bf16⟩
  | .hbm, ⟨80, _⟩ => ⟨S16x1x4096, .f32⟩
  | .hbm, ⟨81, _⟩ => ⟨S16x1x4096, .f32⟩
  | .local _ .vmem, ⟨0, _⟩ => ⟨S4096x128, .bf16⟩
  | .local _ .vmem, ⟨1, _⟩ => ⟨S4096x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S1x1x4096, .f32⟩
  | .local _ .vmem, ⟨11, _⟩ => ⟨S1x1x4096, .f32⟩
  | .local _ .vmem, ⟨12, _⟩ => ⟨S512x128, .f32⟩
  | .local _ .vmem, ⟨13, _⟩ => ⟨S512x128, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S4096x128, .bf16⟩
  | .local _ .vmem, ⟨19, _⟩ => ⟨S4096x128, .bf16⟩
  | .local _ .vmem, ⟨20, _⟩ => ⟨S1x1x4096, .f32⟩
  | .local _ .vmem, ⟨21, _⟩ => ⟨S1x1x4096, .f32⟩
  | .local _ .vmem, ⟨22, _⟩ => ⟨S1x1x512, .f32⟩
  | .local _ .vmem, ⟨23, _⟩ => ⟨S1x1x512, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S4096x128, .f32⟩
  | .local _ .vmem, ⟨28, _⟩ => ⟨S1x4096, .f32⟩
  | .local _ .vmem, ⟨29, _⟩ => ⟨S1x4096, .f32⟩
  | .local _ .vmem, ⟨30, _⟩ => ⟨S512x512, .f32⟩
  | .local _ .vmem, ⟨31, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c : Ref sig .tc := ⟨.hbm, 68, rfl⟩
abbrev main_call1_v0 : Ref sig .tc := ⟨.hbm, 69, rfl⟩
abbrev main_v52 : Ref sig .tc := ⟨.hbm, 70, rfl⟩
abbrev main_cst_6 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58_0 : Ref sig .tc := ⟨.hbm, 77, rfl⟩
abbrev main_v58_1 : Ref sig .tc := ⟨.hbm, 78, rfl⟩
abbrev main_v58_2 : Ref sig .tc := ⟨.hbm, 79, rfl⟩
abbrev main_v58_3 : Ref sig .tc := ⟨.hbm, 80, rfl⟩
abbrev main_v58_4 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v30 : BitVec 32 := Scalar.muli arg1 c512_i32
  v30
def k0_off1 (i : grid0.Coords) : Fin 2 → Nat :=
  let arg1 : BitVec 32 := BitVec.ofNat 32 (i 1).val
  let c512_i32 : BitVec 32 := 512#32
  let v30 : BitVec 32 := Scalar.muli arg1 c512_i32
  let v31 : BitVec 32 := v30
  let v32 : Index := Scalar.indexCast v31
  let c0_16 : Index := 0#32
  ![v32.toNat, 0]
def k0_off2 (i : grid0.Coords) : Fin 3 → Nat :=
  let c0_18 : Index := 0#32
  let c0_19 : Index := 0#32
  let arg1 : BitVec 32 := BitVec.ofNat 32 (i 1).val
  let c512_i32 : BitVec 32 := 512#32
  let v30 : BitVec 32 := Scalar.muli arg1 c512_i32
  let v31 : BitVec 32 := v30
  let v36 : Index := Scalar.indexCast v31
  ![0, 0, v36.toNat]
def k0_off3 (i : grid0.Coords) : Fin 2 → Nat :=
  let c0_22 : Index := 0#32
  let arg1 : BitVec 32 := BitVec.ofNat 32 (i 1).val
  let c512_i32 : BitVec 32 := 512#32
  let v30 : BitVec 32 := Scalar.muli arg1 c512_i32
  let v31 : BitVec 32 := v30
  let v45 : Index := Scalar.indexCast v31
  ![0, v45.toNat]
@[reducible] def k0_t1_loop (i : grid0.Coords) : Scf.Loop 32 :=
  let arg1 : BitVec 32 := BitVec.ofNat 32 (i 1).val
  let c7_i32 : BitVec 32 := 7#32
  let v60 : BitVec 32 := Scalar.subi c7_i32 arg1
  let c1_i32 : BitVec 32 := 1#32
  let v62 : BitVec 32 := Scalar.divsi v60 c1_i32
  let v63 : BitVec 32 := Scalar.muli v62 c1_i32
  let v64 : BitVec 32 := Scalar.addi arg1 v63
  let c1_i32_29 : BitVec 32 := 1#32
  ⟨arg1, v64, c1_i32_29⟩
def k0_mult2 (i : grid0.Coords) (k0_t1 : Fin (k0_t1_loop i).trips) : BitVec 32 :=
  let arg1 : BitVec 32 := BitVec.ofNat 32 (i 1).val
  let c1_i32_29 : BitVec 32 := 1#32
  let arg23 : BitVec 32 := Scf.iv arg1 c1_i32_29 k0_t1
  let c1_i32_74 : BitVec 32 := 1#32
  let v149 : BitVec 32 := Scalar.addi arg23 c1_i32_74
  let c512_i32_75 : BitVec 32 := 512#32
  let v150 : BitVec 32 := Scalar.muli v149 c512_i32_75
  v150
def k0_off4 (i : grid0.Coords) (k0_t1 : Fin (k0_t1_loop i).trips) : Fin 2 → Nat :=
  let arg1 : BitVec 32 := BitVec.ofNat 32 (i 1).val
  let c1_i32_29 : BitVec 32 := 1#32
  let arg23 : BitVec 32 := Scf.iv arg1 c1_i32_29 k0_t1
  let c1_i32_74 : BitVec 32 := 1#32
  let v149 : BitVec 32 := Scalar.addi arg23 c1_i32_74
  let c512_i32_75 : BitVec 32 := 512#32
  let v150 : BitVec 32 := Scalar.muli v149 c512_i32_75
  let v151 : BitVec 32 := v150
  let v152 : Index := Scalar.indexCast v151
  let c0_76 : Index := 0#32
  ![v152.toNat, 0]
def k0_off5 (i : grid0.Coords) (k0_t1 : Fin (k0_t1_loop i).trips) : Fin 3 → Nat :=
  let c0_78 : Index := 0#32
  let c0_79 : Index := 0#32
  let arg1 : BitVec 32 := BitVec.ofNat 32 (i 1).val
  let c1_i32_29 : BitVec 32 := 1#32
  let arg23 : BitVec 32 := Scf.iv arg1 c1_i32_29 k0_t1
  let c1_i32_74 : BitVec 32 := 1#32
  let v149 : BitVec 32 := Scalar.addi arg23 c1_i32_74
  let c512_i32_75 : BitVec 32 := 512#32
  let v150 : BitVec 32 := Scalar.muli v149 c512_i32_75
  let v151 : BitVec 32 := v150
  let v156 : Index := Scalar.indexCast v151
  ![0, 0, v156.toNat]
def k0_off6 (i : grid0.Coords) (k0_t1 : Fin (k0_t1_loop i).trips) : Fin 2 → Nat :=
  let c0_82 : Index := 0#32
  let arg1 : BitVec 32 := BitVec.ofNat 32 (i 1).val
  let c1_i32_29 : BitVec 32 := 1#32
  let arg23 : BitVec 32 := Scf.iv arg1 c1_i32_29 k0_t1
  let c1_i32_74 : BitVec 32 := 1#32
  let v149 : BitVec 32 := Scalar.addi arg23 c1_i32_74
  let c512_i32_75 : BitVec 32 := 512#32
  let v150 : BitVec 32 := Scalar.muli v149 c512_i32_75
  let v151 : BitVec 32 := v150
  let v165 : Index := Scalar.indexCast v151
  ![0, v165.toNat]
def k0_mult3 (i : grid0.Coords) (k0_t1 : Fin (k0_t1_loop i).trips) : BitVec 32 :=
  let arg1 : BitVec 32 := BitVec.ofNat 32 (i 1).val
  let c1_i32_29 : BitVec 32 := 1#32
  let arg23 : BitVec 32 := Scf.iv arg1 c1_i32_29 k0_t1
  let c512_i32_87 : BitVec 32 := 512#32
  let v171 : BitVec 32 := Scalar.muli arg23 c512_i32_87
  v171
def k0_off7 (i : grid0.Coords) (k0_t1 : Fin (k0_t1_loop i).trips) : Fin 2 → Nat :=
  let arg1 : BitVec 32 := BitVec.ofNat 32 (i 1).val
  let c1_i32_29 : BitVec 32 := 1#32
  let arg23 : BitVec 32 := Scf.iv arg1 c1_i32_29 k0_t1
  let c512_i32_87 : BitVec 32 := 512#32
  let v171 : BitVec 32 := Scalar.muli arg23 c512_i32_87
  let v172 : BitVec 32 := v171
  let v188 : Index := Scalar.indexCast v172
  let c0_90 : Index := 0#32
  ![v188.toNat, 0]
def k0_off8 (i : grid0.Coords) (k0_t1 : Fin (k0_t1_loop i).trips) : Fin 2 → Nat :=
  let c0_103 : Index := 0#32
  let arg1 : BitVec 32 := BitVec.ofNat 32 (i 1).val
  let c1_i32_29 : BitVec 32 := 1#32
  let arg23 : BitVec 32 := Scf.iv arg1 c1_i32_29 k0_t1
  let c512_i32_87 : BitVec 32 := 512#32
  let v171 : BitVec 32 := Scalar.muli arg23 c512_i32_87
  let v172 : BitVec 32 := v171
  let v215 : Index := Scalar.indexCast v172
  ![0, v215.toNat]
@[reducible] def k0_t2_loop (i : grid0.Coords) : Scf.Loop 32 :=
  let arg1 : BitVec 32 := BitVec.ofNat 32 (i 1).val
  let c7_i32 : BitVec 32 := 7#32
  let v60 : BitVec 32 := Scalar.subi c7_i32 arg1
  let c1_i32 : BitVec 32 := 1#32
  let v62 : BitVec 32 := Scalar.divsi v60 c1_i32
  let v63 : BitVec 32 := Scalar.muli v62 c1_i32
  let v64 : BitVec 32 := Scalar.addi arg1 v63
  let v61 : BitVec 32 := Scalar.addi arg1 v60
  let c1_i32_30 : BitVec 32 := 1#32
  ⟨v64, v61, c1_i32_30⟩
def k0_mult4 (i : grid0.Coords) (k0_t2 : Fin (k0_t2_loop i).trips) : BitVec 32 :=
  let arg1 : BitVec 32 := BitVec.ofNat 32 (i 1).val
  let c7_i32 : BitVec 32 := 7#32
  let v60 : BitVec 32 := Scalar.subi c7_i32 arg1
  let c1_i32 : BitVec 32 := 1#32
  let v62 : BitVec 32 := Scalar.divsi v60 c1_i32
  let v63 : BitVec 32 := Scalar.muli v62 c1_i32
  let v64 : BitVec 32 := Scalar.addi arg1 v63
  let c1_i32_30 : BitVec 32 := 1#32
  let arg23 : BitVec 32 := Scf.iv v64 c1_i32_30 k0_t2
  let c1_i32_74 : BitVec 32 := 1#32
  let v149 : BitVec 32 := Scalar.addi arg23 c1_i32_74
  let c512_i32_75 : BitVec 32 := 512#32
  let v150 : BitVec 32 := Scalar.muli v149 c512_i32_75
  v150
def k0_off9 (i : grid0.Coords) (k0_t2 : Fin (k0_t2_loop i).trips) : Fin 2 → Nat :=
  let arg1 : BitVec 32 := BitVec.ofNat 32 (i 1).val
  let c7_i32 : BitVec 32 := 7#32
  let v60 : BitVec 32 := Scalar.subi c7_i32 arg1
  let c1_i32 : BitVec 32 := 1#32
  let v62 : BitVec 32 := Scalar.divsi v60 c1_i32
  let v63 : BitVec 32 := Scalar.muli v62 c1_i32
  let v64 : BitVec 32 := Scalar.addi arg1 v63
  let c1_i32_30 : BitVec 32 := 1#32
  let arg23 : BitVec 32 := Scf.iv v64 c1_i32_30 k0_t2
  let c1_i32_74 : BitVec 32 := 1#32
  let v149 : BitVec 32 := Scalar.addi arg23 c1_i32_74
  let c512_i32_75 : BitVec 32 := 512#32
  let v150 : BitVec 32 := Scalar.muli v149 c512_i32_75
  let v151 : BitVec 32 := v150
  let v152 : Index := Scalar.indexCast v151
  let c0_76 : Index := 0#32
  ![v152.toNat, 0]
def k0_off10 (i : grid0.Coords) (k0_t2 : Fin (k0_t2_loop i).trips) : Fin 3 → Nat :=
  let c0_78 : Index := 0#32
  let c0_79 : Index := 0#32
  let arg1 : BitVec 32 := BitVec.ofNat 32 (i 1).val
  let c7_i32 : BitVec 32 := 7#32
  let v60 : BitVec 32 := Scalar.subi c7_i32 arg1
  let c1_i32 : BitVec 32 := 1#32
  let v62 : BitVec 32 := Scalar.divsi v60 c1_i32
  let v63 : BitVec 32 := Scalar.muli v62 c1_i32
  let v64 : BitVec 32 := Scalar.addi arg1 v63
  let c1_i32_30 : BitVec 32 := 1#32
  let arg23 : BitVec 32 := Scf.iv v64 c1_i32_30 k0_t2
  let c1_i32_74 : BitVec 32 := 1#32
  let v149 : BitVec 32 := Scalar.addi arg23 c1_i32_74
  let c512_i32_75 : BitVec 32 := 512#32
  let v150 : BitVec 32 := Scalar.muli v149 c512_i32_75
  let v151 : BitVec 32 := v150
  let v156 : Index := Scalar.indexCast v151
  ![0, 0, v156.toNat]
def k0_off11 (i : grid0.Coords) (k0_t2 : Fin (k0_t2_loop i).trips) : Fin 2 → Nat :=
  let c0_82 : Index := 0#32
  let arg1 : BitVec 32 := BitVec.ofNat 32 (i 1).val
  let c7_i32 : BitVec 32 := 7#32
  let v60 : BitVec 32 := Scalar.subi c7_i32 arg1
  let c1_i32 : BitVec 32 := 1#32
  let v62 : BitVec 32 := Scalar.divsi v60 c1_i32
  let v63 : BitVec 32 := Scalar.muli v62 c1_i32
  let v64 : BitVec 32 := Scalar.addi arg1 v63
  let c1_i32_30 : BitVec 32 := 1#32
  let arg23 : BitVec 32 := Scf.iv v64 c1_i32_30 k0_t2
  let c1_i32_74 : BitVec 32 := 1#32
  let v149 : BitVec 32 := Scalar.addi arg23 c1_i32_74
  let c512_i32_75 : BitVec 32 := 512#32
  let v150 : BitVec 32 := Scalar.muli v149 c512_i32_75
  let v151 : BitVec 32 := v150
  let v165 : Index := Scalar.indexCast v151
  ![0, v165.toNat]
def k0_mult5 (i : grid0.Coords) (k0_t2 : Fin (k0_t2_loop i).trips) : BitVec 32 :=
  let arg1 : BitVec 32 := BitVec.ofNat 32 (i 1).val
  let c7_i32 : BitVec 32 := 7#32
  let v60 : BitVec 32 := Scalar.subi c7_i32 arg1
  let c1_i32 : BitVec 32 := 1#32
  let v62 : BitVec 32 := Scalar.divsi v60 c1_i32
  let v63 : BitVec 32 := Scalar.muli v62 c1_i32
  let v64 : BitVec 32 := Scalar.addi arg1 v63
  let c1_i32_30 : BitVec 32 := 1#32
  let arg23 : BitVec 32 := Scf.iv v64 c1_i32_30 k0_t2
  let c512_i32_87 : BitVec 32 := 512#32
  let v171 : BitVec 32 := Scalar.muli arg23 c512_i32_87
  v171
def k0_off12 (i : grid0.Coords) (k0_t2 : Fin (k0_t2_loop i).trips) : Fin 2 → Nat :=
  let arg1 : BitVec 32 := BitVec.ofNat 32 (i 1).val
  let c7_i32 : BitVec 32 := 7#32
  let v60 : BitVec 32 := Scalar.subi c7_i32 arg1
  let c1_i32 : BitVec 32 := 1#32
  let v62 : BitVec 32 := Scalar.divsi v60 c1_i32
  let v63 : BitVec 32 := Scalar.muli v62 c1_i32
  let v64 : BitVec 32 := Scalar.addi arg1 v63
  let c1_i32_30 : BitVec 32 := 1#32
  let arg23 : BitVec 32 := Scf.iv v64 c1_i32_30 k0_t2
  let c512_i32_87 : BitVec 32 := 512#32
  let v171 : BitVec 32 := Scalar.muli arg23 c512_i32_87
  let v172 : BitVec 32 := v171
  let v188 : Index := Scalar.indexCast v172
  let c0_90 : Index := 0#32
  ![v188.toNat, 0]
def k0_off13 (i : grid0.Coords) (k0_t2 : Fin (k0_t2_loop i).trips) : Fin 2 → Nat :=
  let c0_103 : Index := 0#32
  let arg1 : BitVec 32 := BitVec.ofNat 32 (i 1).val
  let c7_i32 : BitVec 32 := 7#32
  let v60 : BitVec 32 := Scalar.subi c7_i32 arg1
  let c1_i32 : BitVec 32 := 1#32
  let v62 : BitVec 32 := Scalar.divsi v60 c1_i32
  let v63 : BitVec 32 := Scalar.muli v62 c1_i32
  let v64 : BitVec 32 := Scalar.addi arg1 v63
  let c1_i32_30 : BitVec 32 := 1#32
  let arg23 : BitVec 32 := Scf.iv v64 c1_i32_30 k0_t2
  let c512_i32_87 : BitVec 32 := 512#32
  let v171 : BitVec 32 := Scalar.muli arg23 c512_i32_87
  let v172 : BitVec 32 := v171
  let v215 : Index := Scalar.indexCast v172
  ![0, v215.toNat]
def k0_mult6 : BitVec 32 :=
  let c3584_i32 : BitVec 32 := 3584#32
  c3584_i32
def k0_cond2 (i : grid0.Coords) : BitVec 1 :=
  let arg1 : BitVec 32 := BitVec.ofNat 32 (i 1).val
  let c7_i32_72 : BitVec 32 := 7#32
  let v146 : BitVec 1 := Scalar.cmpi .eq arg1 c7_i32_72
  let v147 : BitVec 32 := Scalar.extui v146
  let c0_i32_73 : BitVec 32 := 0#32
  let v148 : BitVec 1 := Scalar.cmpi .ne v147 c0_i32_73
  v148

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S4096x2048 : Shape := ⟨2, ![4096, 2048]⟩
abbrev S16x4096 : Shape := ⟨2, ![16, 4096]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S16x128x4096 : Shape := ⟨3, ![16, 128, 4096]⟩
abbrev S4096x4096 : Shape := ⟨2, ![4096, 4096]⟩

abbrev nBuf : Space → Nat
  | .hbm => 127
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S16x4096, .f32⟩
  | .hbm, ⟨4, _⟩ => ⟨S4096x2048, .f32⟩
  | .hbm, ⟨5, _⟩ => ⟨S4096x2048, .f32⟩
  | .hbm, ⟨6, _⟩ => ⟨S4096x16x128, .f32⟩
  | .hbm, ⟨7, _⟩ => ⟨S16x4096x128, .f32⟩
  | .hbm, ⟨8, _⟩ => ⟨S4096x16x128, .f32⟩
  | .hbm, ⟨9, _⟩ => ⟨S16x4096x128, .f32⟩
  | .hbm, ⟨10, _⟩ => ⟨S16x4096x4096, .f32⟩
  | .hbm, ⟨11, _⟩ => ⟨S_, .f32⟩
  | .hbm, ⟨12, _⟩ => ⟨S16x4096x4096, .f32⟩
  | .hbm, ⟨13, _⟩ => ⟨S16x4096x4096, .f32⟩
  | .hbm, ⟨14, _⟩ => ⟨S16x4096x1, .f32⟩
  | .hbm, ⟨15, _⟩ => ⟨S16x4096x4096, .f32⟩
  | .hbm, ⟨16, _⟩ => ⟨S16x4096x4096, .f32⟩
  | .hbm, ⟨17, _⟩ => ⟨S16x1x4096, .f32⟩
  | .hbm, ⟨18, _⟩ => ⟨S16x4096x4096, .f32⟩
  | .hbm, ⟨19, _⟩ => ⟨S16x4096x4096, .f32⟩
  | .hbm, ⟨20, _⟩ => ⟨S4096, .i32⟩
  | .hbm, ⟨21, _⟩ => ⟨S1x1x4096, .i32⟩
  | .hbm, ⟨22, _⟩ => ⟨S1x4096x1, .i32⟩
  | .hbm, ⟨23, _⟩ => ⟨S1x4096x4096, .i32⟩
  | .hbm, ⟨24, _⟩ => ⟨S1x4096x4096, .i32⟩
  | .hbm, ⟨25, _⟩ => ⟨S1x4096x4096, .i1⟩
  | .hbm, ⟨26, _⟩ => ⟨S_, .f32⟩
  | .hbm, ⟨27, _⟩ => ⟨S_, .f32⟩
  | .hbm, ⟨28, _⟩ => ⟨S16x4096x4096, .i1⟩
  | .hbm, ⟨29, _⟩ => ⟨S16x4096x4096, .f32⟩
  | .hbm, ⟨30, _⟩ => ⟨S16x4096x4096, .f32⟩
  | .hbm, ⟨31, _⟩ => ⟨S_, .f32⟩
  | .hbm, ⟨32, _⟩ => ⟨S16x4096x4096, .f32⟩
  | .hbm, ⟨33, _⟩ => ⟨S_, .f32⟩
  | .hbm, ⟨34, _⟩ => ⟨S16x4096, .f32⟩
  | .hbm, ⟨35, _⟩ => ⟨S16x4096x1, .f32⟩
  | .hbm, ⟨36, _⟩ => ⟨S16x4096x4096, .f32⟩
  | .hbm, ⟨37, _⟩ => ⟨S16x4096x4096, .i1⟩
  | .hbm, ⟨38, _⟩ => ⟨S16x4096x4096, .f32⟩
  | .hbm, ⟨39, _⟩ => ⟨S_, .f32⟩
  | .hbm, ⟨40, _⟩ => ⟨S16x4096, .f32⟩
  | .hbm, ⟨41, _⟩ => ⟨S_, .f32⟩
  | .hbm, ⟨42, _⟩ => ⟨S16x4096, .f32⟩
  | .hbm, ⟨43, _⟩ => ⟨S16x4096, .f32⟩
  | .hbm, ⟨44, _⟩ => ⟨S_, .f32⟩
  | .hbm, ⟨45, _⟩ => ⟨S16x4096, .f32⟩
  | .hbm, ⟨46, _⟩ => ⟨S16x4096, .i1⟩
  | .hbm, ⟨47, _⟩ => ⟨S_, .f32⟩
  | .hbm, ⟨48, _⟩ => ⟨S16x4096, .f32⟩
  | .hbm, ⟨49, _⟩ => ⟨S16x4096, .i1⟩
  | .hbm, ⟨50, _⟩ => ⟨S_, .f32⟩
  | .hbm, ⟨51, _⟩ => ⟨S16x4096, .f32⟩
  | .hbm, ⟨52, _⟩ => ⟨S_, .f32⟩
  | .hbm, ⟨53, _⟩ => ⟨S16x4096, .f32⟩
  | .hbm, ⟨54, _⟩ => ⟨S_, .f32⟩
  | .hbm, ⟨55, _⟩ => ⟨S16x4096, .f32⟩
  | .hbm, ⟨56, _⟩ => ⟨S16x4096, .f32⟩
  | .hbm, ⟨57, _⟩ => ⟨S16x4096, .f32⟩
  | .hbm, ⟨58, _⟩ => ⟨S16x4096x1, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S_, .f32⟩
  | .hbm, ⟨63, _⟩ => ⟨S16x4096, .f32⟩
  | .hbm, ⟨64, _⟩ => ⟨S16x4096x1, .f32⟩
  | .hbm, ⟨65, _⟩ => ⟨S16x4096x4096, .f32⟩
  | .hbm, ⟨66, _⟩ => ⟨S16x4096x4096, .f32⟩
  | .hbm, ⟨67, _⟩ => ⟨S16x4096x1, .f32⟩
  | .hbm, ⟨68, _⟩ => ⟨S_, .f32⟩
  | .hbm, ⟨69, _⟩ => ⟨S16x4096x1, .f32⟩
  | .hbm, ⟨70, _⟩ => ⟨S16x4096x1, .f32⟩
  | .hbm, ⟨71, _⟩ => ⟨S4096x16x128, .f32⟩
  | .hbm, ⟨72, _⟩ => ⟨S16x4096x128, .f32⟩
  | .hbm, ⟨73, _⟩ => ⟨S16x4096x128, .f32⟩
  | .hbm, ⟨74, _⟩ => ⟨S4096x16x128, .f32⟩
  | .hbm, ⟨75, _⟩ => ⟨S4096x2048, .f32⟩
  | .hbm, ⟨76, _⟩ => ⟨S4096x16x128, .f32⟩
  | .hbm, ⟨77, _⟩ => ⟨S16x4096x128, .f32⟩
  | .hbm, ⟨78, _⟩ => ⟨S16x128x4096, .f32⟩
  | .hbm, ⟨79, _⟩ => ⟨S16x4096x128, .f32⟩
  | .hbm, ⟨80, _⟩ => ⟨S16x4096x4096, .f32⟩
  | .hbm, ⟨81, _⟩ => ⟨S4096x16x128, .f32⟩
  | .hbm, ⟨82, _⟩ => ⟨S4096x2048, .f32⟩
  | .hbm, ⟨83, _⟩ => ⟨S16x4096x4096, .f32⟩
  | .hbm, ⟨84, _⟩ => ⟨S16x4096x4096, .f32⟩
  | .hbm, ⟨85, _⟩ => ⟨S16x4096x4096, .f32⟩
  | .hbm, ⟨86, _⟩ => ⟨S_, .f32⟩
  | .hbm, ⟨87, _⟩ => ⟨S16x4096, .f32⟩
  | .hbm, ⟨88, _⟩ => ⟨S16x4096x1, .f32⟩
  | .hbm, ⟨89, _⟩ => ⟨S16x4096x1, .f32⟩
  | .hbm, ⟨90, _⟩ => ⟨S16x4096x4096, .f32⟩
  | .hbm, ⟨91, _⟩ => ⟨S16x4096x4096, .f32⟩
  | .hbm, ⟨92, _⟩ => ⟨S_, .f32⟩
  | .hbm, ⟨93, _⟩ => ⟨S16x4096, .f32⟩
  | .hbm, ⟨94, _⟩ => ⟨S16x4096x4096, .f32⟩
  | .hbm, ⟨95, _⟩ => ⟨S16x4096x4096, .f32⟩
  | .hbm, ⟨96, _⟩ => ⟨S16x4096x4096, .f32⟩
  | .hbm, ⟨97, _⟩ => ⟨S_, .f32⟩
  | .hbm, ⟨98, _⟩ => ⟨S16x4096x4096, .f32⟩
  | .hbm, ⟨99, _⟩ => ⟨S16x4096x4096, .f32⟩
  | .hbm, ⟨100, _⟩ => ⟨S16x4096x4096, .f32⟩
  | .hbm, ⟨101, _⟩ => ⟨S_, .f32⟩
  | .hbm, ⟨102, _⟩ => ⟨S16x4096, .f32⟩
  | .hbm, ⟨103, _⟩ => ⟨S16x1x4096, .f32⟩
  | .hbm, ⟨104, _⟩ => ⟨S_, .f32⟩
  | .hbm, ⟨105, _⟩ => ⟨S16x4096, .f32⟩
  | .hbm, ⟨106, _⟩ => ⟨S_, .f32⟩
  | .hbm, ⟨107, _⟩ => ⟨S16x4096, .f32⟩
  | .hbm, ⟨108, _⟩ => ⟨S16x4096x1, .f32⟩
  | .hbm, ⟨109, _⟩ => ⟨S_, .f32⟩
  | .hbm, ⟨110, _⟩ => ⟨S16x4096, .f32⟩
  | .hbm, ⟨111, _⟩ => ⟨S_, .f32⟩
  | .hbm, ⟨112, _⟩ => ⟨S16x4096x4096, .f32⟩
  | .hbm, ⟨113, _⟩ => ⟨S16x4096x4096, .f32⟩
  | .hbm, ⟨114, _⟩ => ⟨S16x4096x128, .f32⟩
  | .hbm, ⟨115, _⟩ => ⟨S16x4096x128, .f32⟩
  | .hbm, ⟨116, _⟩ => ⟨S4096x16x128, .f32⟩
  | .hbm, ⟨117, _⟩ => ⟨S4096x2048, .f32⟩
  | .hbm, ⟨118, _⟩ => ⟨S4096x16x128, .f32⟩
  | .hbm, ⟨119, _⟩ => ⟨S4096x2048, .f32⟩
  | .hbm, ⟨120, _⟩ => ⟨S4096x2048, .bf16⟩
  | .hbm, ⟨121, _⟩ => ⟨S4096x2048, .bf16⟩
  | .hbm, ⟨122, _⟩ => ⟨S4096x4096, .f32⟩
  | .hbm, ⟨123, _⟩ => ⟨S4096x4096, .bf16⟩
  | .hbm, ⟨124, _⟩ => ⟨S16x1x4096, .f32⟩
  | .hbm, ⟨125, _⟩ => ⟨S16x1x4096, .f32⟩
  | .hbm, ⟨126, _⟩ => ⟨S16x1x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_v19_1 : Ref sig .tc := ⟨.hbm, 28, rfl⟩
abbrev main_call0_v2 : Ref sig .tc := ⟨.hbm, 29, rfl⟩
abbrev main_v19_0 : Ref sig .tc := ⟨.hbm, 30, rfl⟩
abbrev main_call0_cst : Ref sig .tc := ⟨.hbm, 31, rfl⟩
abbrev main_v19_2 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_call1_cst : Ref sig .tc := ⟨.hbm, 97, rfl⟩
abbrev main_call1_v0 : Ref sig .tc := ⟨.hbm, 98, rfl⟩
abbrev main_v72 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_cst_16 : Ref sig .tc := ⟨.hbm, 109, rfl⟩
abbrev main_v79 : Ref sig .tc := ⟨.hbm, 110, rfl⟩
abbrev main_cst_17 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDw.lean ====
abbrev S4096x2048 : Shape := ⟨2, ![4096, 2048]⟩
abbrev S4096x4096 : Shape := ⟨2, ![4096, 4096]⟩
abbrev S8x2048x512 : Shape := ⟨3, ![8, 2048, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S4096x2048, .bf16⟩
  | .hbm, ⟨3, _⟩ => ⟨S4096x4096, .bf16⟩
  | .hbm, ⟨4, _⟩ => ⟨S8x2048x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x512x512, .bf16⟩
  | .local _ .vmem, ⟨5, _⟩ => ⟨S1x512x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x8x512 : Shape := ⟨3, ![2048, 8, 512]⟩
abbrev S8x2048x512 : Shape := ⟨3, ![8, 2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x4096, .f32⟩
  | .hbm, ⟨2, _⟩ => ⟨S_, .f32⟩
  | .hbm, ⟨3, _⟩ => ⟨S2048x4096, .f32⟩
  | .hbm, ⟨4, _⟩ => ⟨S4096x4096, .f32⟩
  | .hbm, ⟨5, _⟩ => ⟨S4096x2048, .f32⟩
  | .hbm, ⟨6, _⟩ => ⟨S2048x4096, .f32⟩
  | .hbm, ⟨7, _⟩ => ⟨S2048x8x512, .f32⟩
  | .hbm, ⟨8, _⟩ => ⟨S8x2048x512, .f32⟩
  | .hbm, ⟨9, _⟩ => ⟨S8x2048x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDx.lean ====
abbrev S4096x4096 : Shape := ⟨2, ![4096, 4096]⟩
abbrev S8x2048x512 : Shape := ⟨3, ![8, 2048, 512]⟩
abbrev S4096x2048 : Shape := ⟨2, ![4096, 2048]⟩
abbrev S512x4096 : Shape := ⟨2, ![512, 4096]⟩
abbrev S8x1024x512 : Shape := ⟨3, ![8, 1024, 512]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S8x2048x512, .f32⟩
  | .hbm, ⟨2, _⟩ => ⟨S4096x4096, .bf16⟩
  | .hbm, ⟨3, _⟩ => ⟨S8x2048x512, .bf16⟩
  | .hbm, ⟨4, _⟩ => ⟨S4096x2048, .bf16⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S8x1024x512, .bf16⟩
  | .local _ .vmem, ⟨4, _⟩ => ⟨S512x1024, .bf16⟩
  | .local _ .vmem, ⟨5, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S4096x4096 : Shape := ⟨2, ![4096, 4096]⟩
abbrev S8x2048x512 : Shape := ⟨3, ![8, 2048, 512]⟩
abbrev S2048x8x512 : Shape := ⟨3, ![2048, 8, 512]⟩
abbrev S2048x4096 : Shape := ⟨2, ![2048, 4096]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S8x2048x512, .f32⟩
  | .hbm, ⟨2, _⟩ => ⟨S2048x8x512, .f32⟩
  | .hbm, ⟨3, _⟩ => ⟨S2048x4096, .f32⟩
  | .hbm, ⟨4, _⟩ => ⟨S_, .f32⟩
  | .hbm, ⟨5, _⟩ => ⟨S4096x2048, .f32⟩
  | .hbm, ⟨6, _⟩ => ⟨S4096x4096, .f32⟩
  | .hbm, ⟨7, _⟩ => ⟨S4096x2048, .f32⟩
  | .hbm, ⟨8, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KvDw.lean ====
abbrev S4096x4096 : Shape := ⟨2, ![4096, 4096]⟩
abbrev S4096x2048 : Shape := ⟨2, ![4096, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x4096, .bf16⟩
  | .hbm, ⟨3, _⟩ => ⟨S4096x2048, .bf16⟩
  | .hbm, ⟨4, _⟩ => ⟨S4096x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvDwReferenceIdeal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S_, .f32⟩
  | .hbm, ⟨3, _⟩ => ⟨S2048x4096, .f32⟩
  | .hbm, ⟨4, _⟩ => ⟨S4096x4096, .f32⟩
  | .hbm, ⟨5, _⟩ => ⟨S4096x2048, .f32⟩
  | .hbm, ⟨6, _⟩ => ⟨S2048x4096, .f32⟩
  | .hbm, ⟨7, _⟩ => ⟨S4096x2048, .f32⟩
  | .hbm, ⟨8, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KvDx.lean ====
abbrev S4096x4096 : Shape := ⟨2, ![4096, 4096]⟩
abbrev S4112x2048 : Shape := ⟨2, ![4112, 2048]⟩
abbrev S4096x2048 : Shape := ⟨2, ![4096, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4112x2048, .f32⟩
  | .hbm, ⟨2, _⟩ => ⟨S4096x2048, .f32⟩
  | .hbm, ⟨3, _⟩ => ⟨S4096x4096, .bf16⟩
  | .hbm, ⟨4, _⟩ => ⟨S4112x2048, .bf16⟩
  | .hbm, ⟨5, _⟩ => ⟨S4096x2048, .bf16⟩
  | .hbm, ⟨6, _⟩ => ⟨S4096x2048, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KvDxReferenceIdeal.lean ====
abbrev S4096x4096 : Shape := ⟨2, ![4096, 4096]⟩
abbrev S4112x2048 : Shape := ⟨2, ![4112, 2048]⟩
abbrev S4096x2048 : Shape := ⟨2, ![4096, 2048]⟩
abbrev S2048x4096 : Shape := ⟨2, ![2048, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4112x2048, .f32⟩
  | .hbm, ⟨2, _⟩ => ⟨S4096x2048, .f32⟩
  | .hbm, ⟨3, _⟩ => ⟨S4096x2048, .f32⟩
  | .hbm, ⟨4, _⟩ => ⟨S2048x4096, .f32⟩
  | .hbm, ⟨5, _⟩ => ⟨S_, .f32⟩
  | .hbm, ⟨6, _⟩ => ⟨S4096x2048, .f32⟩
  | .hbm, ⟨7, _⟩ => ⟨S4096x4096, .f32⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== GluDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 9
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S2048x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GluDxReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== InU.lean ====
abbrev S4096x2048 : Shape := ⟨2, ![4096, 2048]⟩
abbrev S8x2048x512 : Shape := ⟨3, ![8, 2048, 512]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S8x2048x512, .f32⟩
  | .hbm, ⟨2, _⟩ => ⟨S4096x2048, .bf16⟩
  | .hbm, ⟨3, _⟩ => ⟨S8x2048x512, .bf16⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .bf16⟩
  | .local _ .vmem, ⟨5, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InUReferenceIdeal.lean ====
abbrev S4096x2048 : Shape := ⟨2, ![4096, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x2048x512, .f32⟩
  | .hbm, ⟨2, _⟩ => ⟨S2048x8x512, .f32⟩
  | .hbm, ⟨3, _⟩ => ⟨S2048x4096, .f32⟩
  | .hbm, ⟨4, _⟩ => ⟨S4096x4096, .f32⟩
  | .hbm, ⟨5, _⟩ => ⟨S4096x2048, .f32⟩
  | .hbm, ⟨6, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InZ.lean ====
abbrev S4096x2048 : Shape := ⟨2, ![4096, 2048]⟩
abbrev S8x2048x512 : Shape := ⟨3, ![8, 2048, 512]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S8x2048x512, .f32⟩
  | .hbm, ⟨2, _⟩ => ⟨S4096x2048, .bf16⟩
  | .hbm, ⟨3, _⟩ => ⟨S8x2048x512, .bf16⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .bf16⟩
  | .local _ .vmem, ⟨5, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![v0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InZReferenceIdeal.lean ====
abbrev S4096x2048 : Shape := ⟨2, ![4096, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x2048x512, .f32⟩
  | .hbm, ⟨2, _⟩ => ⟨S2048x8x512, .f32⟩
  | .hbm, ⟨3, _⟩ => ⟨S2048x4096, .f32⟩
  | .hbm, ⟨4, _⟩ => ⟨S4096x4096, .f32⟩
  | .hbm, ⟨5, _⟩ => ⟨S4096x2048, .f32⟩
  | .hbm, ⟨6, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InQ.lean ====
abbrev S4096x2048 : Shape := ⟨2, ![4096, 2048]⟩
abbrev S8x2048x512 : Shape := ⟨3, ![8, 2048, 512]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S8x2048x512, .f32⟩
  | .hbm, ⟨2, _⟩ => ⟨S4096x2048, .bf16⟩
  | .hbm, ⟨3, _⟩ => ⟨S8x2048x512, .bf16⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .bf16⟩
  | .local _ .vmem, ⟨5, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQReferenceIdeal.lean ====
abbrev S4096x2048 : Shape := ⟨2, ![4096, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x2048x512, .f32⟩
  | .hbm, ⟨2, _⟩ => ⟨S2048x8x512, .f32⟩
  | .hbm, ⟨3, _⟩ => ⟨S2048x4096, .f32⟩
  | .hbm, ⟨4, _⟩ => ⟨S4096x4096, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Glu.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluReferenceIdeal.lean ====
abbrev S4096x2048 : Shape := ⟨2, ![4096, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutReferenceIdeal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kv.lean ====
abbrev S4096x2048 : Shape := ⟨2, ![4096, 2048]⟩
abbrev S4112x2048 : Shape := ⟨2, ![4112, 2048]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4112x2048, .f32⟩
  | .hbm, ⟨2, _⟩ => ⟨S4096x2048, .bf16⟩
  | .hbm, ⟨3, _⟩ => ⟨S4112x2048, .bf16⟩
  | .hbm, ⟨4, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvReferenceIdeal.lean ====
abbrev S4096x2048 : Shape := ⟨2, ![4096, 2048]⟩
abbrev S4112x2048 : Shape := ⟨2, ![4112, 2048]⟩
abbrev S2048x4112 : Shape := ⟨2, ![2048, 4112]⟩
abbrev S4096x4112 : Shape := ⟨2, ![4096, 4112]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4112x2048, .f32⟩
  | .hbm, ⟨2, _⟩ => ⟨S2048x4112, .f32⟩
  | .hbm, ⟨3, _⟩ => ⟨S4096x4112, .f32⟩
  | .hbm, ⟨4, _⟩ => ⟨S4096x4096, .f32⟩
  | .hbm, ⟨5, _⟩ => ⟨S4096x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InDxAfter.lean ====
abbrev S4096x4096 : Shape := ⟨2, ![4096, 4096]⟩
abbrev S8x2048x512 : Shape := ⟨3, ![8, 2048, 512]⟩
abbrev S8x128 : Shape := ⟨2, ![8, 128]⟩
abbrev S4096x2048 : Shape := ⟨2, ![4096, 2048]⟩
abbrev S512x4096 : Shape := ⟨2, ![512, 4096]⟩
abbrev S8x1024x512 : Shape := ⟨3, ![8, 1024, 512]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S8x2048x512, .f32⟩
  | .hbm, ⟨2, _⟩ => ⟨S8x128, .f32⟩
  | .hbm, ⟨3, _⟩ => ⟨S4096x4096, .bf16⟩
  | .hbm, ⟨4, _⟩ => ⟨S8x2048x512, .bf16⟩
  | .hbm, ⟨5, _⟩ => ⟨S4096x2048, .bf16⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S8x1024x512, .bf16⟩
  | .local _ .vmem, ⟨4, _⟩ => ⟨S8x128, .f32⟩
  | .local _ .vmem, ⟨5, _⟩ => ⟨S512x1024, .bf16⟩
  | .local _ .vmem, ⟨6, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDxAfterReferenceIdeal.lean ====
abbrev S4096x4096 : Shape := ⟨2, ![4096, 4096]⟩
abbrev S8x2048x512 : Shape := ⟨3, ![8, 2048, 512]⟩
abbrev S8x128 : Shape := ⟨2, ![8, 128]⟩
abbrev S2048x8x512 : Shape := ⟨3, ![2048, 8, 512]⟩
abbrev S2048x4096 : Shape := ⟨2, ![2048, 4096]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S8x2048x512, .f32⟩
  | .hbm, ⟨2, _⟩ => ⟨S8x128, .f32⟩
  | .hbm, ⟨3, _⟩ => ⟨S2048x8x512, .f32⟩
  | .hbm, ⟨4, _⟩ => ⟨S2048x4096, .f32⟩
  | .hbm, ⟨5, _⟩ => ⟨S_, .f32⟩
  | .hbm, ⟨6, _⟩ => ⟨S4096x2048, .f32⟩
  | .hbm, ⟨7, _⟩ => ⟨S4096x4096, .f32⟩
  | .hbm, ⟨8, _⟩ => ⟨S4096x2048, .f32⟩
  | .hbm, ⟨9, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Attend.lean ====
abbrev S4096x2048 : Shape := ⟨2, ![4096, 2048]⟩
abbrev S16x4096 : Shape := ⟨2, ![16, 4096]⟩
abbrev S_ : Shape := ⟨0, ![]⟩
abbrev S4096x4096 : Shape := ⟨2, ![4096, 4096]⟩
abbrev S16x1x4096 : Shape := ⟨3, ![16, 1, 4096]⟩
abbrev S512x128 : Shape := ⟨2, ![512, 128]⟩
abbrev S4096x128 : Shape := ⟨2, ![4096, 128]⟩
abbrev S1x1x4096 : Shape := ⟨3, ![1, 1, 4096]⟩
abbrev S1x1x512 : Shape := ⟨3, ![1, 1, 512]⟩
abbrev S512x256 : Shape := ⟨2, ![512, 256]⟩
abbrev S4096x256 : Shape := ⟨2, ![4096, 256]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S128x512 : Shape := ⟨2, ![128, 512]⟩

abbrev nBuf : Space → Nat
  | .hbm => 23
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S16x4096, .f32⟩
  | .hbm, ⟨4, _⟩ => ⟨S4096x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .bf16⟩
  | .hbm, ⟨14, _⟩ => ⟨S4096x4096, .f32⟩
  | .hbm, ⟨15, _⟩ => ⟨S4096x4096, .bf16⟩
  | .hbm, ⟨16, _⟩ => ⟨S16x4096, .f32⟩
  | .hbm, ⟨17, _⟩ => ⟨S16x4096, .f32⟩
  | .hbm, ⟨18, _⟩ => ⟨S16x1x4096, .f32⟩
  | .hbm, ⟨19, _⟩ => ⟨S4096x2048, .bf16⟩
  | .hbm, ⟨20, _⟩ => ⟨S4096x2048, .bf16⟩
  | .hbm, ⟨21, _⟩ => ⟨S4096x2048, .bf16⟩
  | .hbm, ⟨22, _⟩ => ⟨S16x1x4096, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x1x4096, .f32⟩
  | .local _ .vmem, ⟨7, _⟩ => ⟨S1x1x4096, .f32⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S1x1x512, .f32⟩
  | .local _ .vmem, ⟨15, _⟩ => ⟨S1x1x512, .f32⟩
  | .local _ .vmem, ⟨16, _⟩ => ⟨S512x128, .f32⟩
  | .local _ .vmem, ⟨17, _⟩ => ⟨S512x256, .f32⟩
  | .local _ .vmem, ⟨18, _⟩ => ⟨S4096x256, .bf16⟩
  | .local _ .vmem, ⟨19, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def k0_mult1 : BitVec 32 :=
  let c0_i32_7 : BitVec 32 := 0#32
  c0_i32_7
@[reducible] def k0_t1_loop (i : grid0.Coords) : Scf.Loop 32 :=
  let c0_i32_15 : BitVec 32 := 0#32
  let arg1 : BitVec 32 := BitVec.ofNat 32 (i 1).val
  let v26 : BitVec 32 := Scalar.subi arg1 c0_i32_15
  let c1_i32 : BitVec 32 := 1#32
  let v28 : BitVec 32 := Scalar.divsi v26 c1_i32
  let v29 : BitVec 32 := Scalar.muli v28 c1_i32
  let v30 : BitVec 32 := Scalar.addi c0_i32_15 v29
  let c1_i32_16 : BitVec 32 := 1#32
  ⟨c0_i32_15, v30, c1_i32_16⟩
def k0_mult2 (i : grid0.Coords) (k0_t1 : Fin (k0_t1_loop i).trips) : BitVec 32 :=
  let c0_i32_15 : BitVec 32 := 0#32
  let c1_i32_16 : BitVec 32 := 1#32
  let arg14 : BitVec 32 := Scf.iv c0_i32_15 c1_i32_16 k0_t1
  let c1_i32_47 : BitVec 32 := 1#32
  let v96 : BitVec 32 := Scalar.addi arg14 c1_i32_47
  let c512_i32_48 : BitVec 32 := 512#32
  let v97 : BitVec 32 := Scalar.muli v96 c512_i32_48
  v97
def k0_off1 (i : grid0.Coords) (k0_t1 : Fin (k0_t1_loop i).trips) : Fin 2 → Nat :=
  let c0_i32_15 : BitVec 32 := 0#32
  let c1_i32_16 : BitVec 32 := 1#32
  let arg14 : BitVec 32 := Scf.iv c0_i32_15 c1_i32_16 k0_t1
  let c1_i32_47 : BitVec 32 := 1#32
  let v96 : BitVec 32 := Scalar.addi arg14 c1_i32_47
  let c512_i32_48 : BitVec 32 := 512#32
  let v97 : BitVec 32 := Scalar.muli v96 c512_i32_48
  let v98 : BitVec 32 := v97
  let v99 : Index := Scalar.indexCast v98
  let c0_49 : Index := 0#32
  ![v99.toNat, 0]
def k0_off2 (i : grid0.Coords) (k0_t1 : Fin (k0_t1_loop i).trips) : Fin 3 → Nat :=
  let c0_51 : Index := 0#32
  let c0_52 : Index := 0#32
  let c0_i32_15 : BitVec 32 := 0#32
  let c1_i32_16 : BitVec 32 := 1#32
  let arg14 : BitVec 32 := Scf.iv c0_i32_15 c1_i32_16 k0_t1
  let c1_i32_47 : BitVec 32 := 1#32
  let v96 : BitVec 32 := Scalar.addi arg14 c1_i32_47
  let c512_i32_48 : BitVec 32 := 512#32
  let v97 : BitVec 32 := Scalar.muli v96 c512_i32_48
  let v98 : BitVec 32 := v97
  let v103 : Index := Scalar.indexCast v98
  ![0, 0, v103.toNat]
def k0_mult3 (i : grid0.Coords) (k0_t1 : Fin (k0_t1_loop i).trips) : BitVec 32 :=
  let c0_i32_15 : BitVec 32 := 0#32
  let c1_i32_16 : BitVec 32 := 1#32
  let arg14 : BitVec 32 := Scf.iv c0_i32_15 c1_i32_16 k0_t1
  let c512_i32_58 : BitVec 32 := 512#32
  let v130 : BitVec 32 := Scalar.muli arg14 c512_i32_58
  v130
def k0_off3 (i : grid0.Coords) (k0_t1 : Fin (k0_t1_loop i).trips) : Fin 2 → Nat :=
  let c0_i32_15 : BitVec 32 := 0#32
  let c1_i32_16 : BitVec 32 := 1#32
  let arg14 : BitVec 32 := Scf.iv c0_i32_15 c1_i32_16 k0_t1
  let c512_i32_58 : BitVec 32 := 512#32
  let v130 : BitVec 32 := Scalar.muli arg14 c512_i32_58
  let v131 : BitVec 32 := v130
  let v132 : Index := Scalar.indexCast v131
  let c0_59 : Index := 0#32
  ![v132.toNat, 0]
@[reducible] def k0_t2_loop (i : grid0.Coords) : Scf.Loop 32 :=
  let c0_i32_15 : BitVec 32 := 0#32
  let arg1 : BitVec 32 := BitVec.ofNat 32 (i 1).val
  let v26 : BitVec 32 := Scalar.subi arg1 c0_i32_15
  let c1_i32 : BitVec 32 := 1#32
  let v28 : BitVec 32 := Scalar.divsi v26 c1_i32
  let v29 : BitVec 32 := Scalar.muli v28 c1_i32
  let v30 : BitVec 32 := Scalar.addi c0_i32_15 v29
  let v27 : BitVec 32 := Scalar.addi c0_i32_15 v26
  let c1_i32_17 : BitVec 32 := 1#32
  ⟨v30, v27, c1_i32_17⟩
def k0_mult4 (i : grid0.Coords) (k0_t2 : Fin (k0_t2_loop i).trips) : BitVec 32 :=
  let c0_i32_15 : BitVec 32 := 0#32
  let arg1 : BitVec 32 := BitVec.ofNat 32 (i 1).val
  let v26 : BitVec 32 := Scalar.subi arg1 c0_i32_15
  let c1_i32 : BitVec 32 := 1#32
  let v28 : BitVec 32 := Scalar.divsi v26 c1_i32
  let v29 : BitVec 32 := Scalar.muli v28 c1_i32
  let v30 : BitVec 32 := Scalar.addi c0_i32_15 v29
  let c1_i32_17 : BitVec 32 := 1#32
  let arg14 : BitVec 32 := Scf.iv v30 c1_i32_17 k0_t2
  let c1_i32_47 : BitVec 32 := 1#32
  let v96 : BitVec 32 := Scalar.addi arg14 c1_i32_47
  let c512_i32_48 : BitVec 32 := 512#32
  let v97 : BitVec 32 := Scalar.muli v96 c512_i32_48
  v97
def k0_off4 (i : grid0.Coords) (k0_t2 : Fin (k0_t2_loop i).trips) : Fin 2 → Nat :=
  let c0_i32_15 : BitVec 32 := 0#32
  let arg1 : BitVec 32 := BitVec.ofNat 32 (i 1).val
  let v26 : BitVec 32 := Scalar.subi arg1 c0_i32_15
  let c1_i32 : BitVec 32 := 1#32
  let v28 : BitVec 32 := Scalar.divsi v26 c1_i32
  let v29 : BitVec 32 := Scalar.muli v28 c1_i32
  let v30 : BitVec 32 := Scalar.addi c0_i32_15 v29
  let c1_i32_17 : BitVec 32 := 1#32
  let arg14 : BitVec 32 := Scf.iv v30 c1_i32_17 k0_t2
  let c1_i32_47 : BitVec 32 := 1#32
  let v96 : BitVec 32 := Scalar.addi arg14 c1_i32_47
  let c512_i32_48 : BitVec 32 := 512#32
  let v97 : BitVec 32 := Scalar.muli v96 c512_i32_48
  let v98 : BitVec 32 := v97
  let v99 : Index := Scalar.indexCast v98
  let c0_49 : Index := 0#32
  ![v99.toNat, 0]
def k0_off5 (i : grid0.Coords) (k0_t2 : Fin (k0_t2_loop i).trips) : Fin 3 → Nat :=
  let c0_51 : Index := 0#32
  let c0_52 : Index := 0#32
  let c0_i32_15 : BitVec 32 := 0#32
  let arg1 : BitVec 32 := BitVec.ofNat 32 (i 1).val
  let v26 : BitVec 32 := Scalar.subi arg1 c0_i32_15
  let c1_i32 : BitVec 32 := 1#32
  let v28 : BitVec 32 := Scalar.divsi v26 c1_i32
  let v29 : BitVec 32 := Scalar.muli v28 c1_i32
  let v30 : BitVec 32 := Scalar.addi c0_i32_15 v29
  let c1_i32_17 : BitVec 32 := 1#32
  let arg14 : BitVec 32 := Scf.iv v30 c1_i32_17 k0_t2
  let c1_i32_47 : BitVec 32 := 1#32
  let v96 : BitVec 32 := Scalar.addi arg14 c1_i32_47
  let c512_i32_48 : BitVec 32 := 512#32
  let v97 : BitVec 32 := Scalar.muli v96 c512_i32_48
  let v98 : BitVec 32 := v97
  let v103 : Index := Scalar.indexCast v98
  ![0, 0, v103.toNat]
def k0_mult5 (i : grid0.Coords) (k0_t2 : Fin (k0_t2_loop i).trips) : BitVec 32 :=
  let c0_i32_15 : BitVec 32 := 0#32
  let arg1 : BitVec 32 := BitVec.ofNat 32 (i 1).val
  let v26 : BitVec 32 := Scalar.subi arg1 c0_i32_15
  let c1_i32 : BitVec 32 := 1#32
  let v28 : BitVec 32 := Scalar.divsi v26 c1_i32
  let v29 : BitVec 32 := Scalar.muli v28 c1_i32
  let v30 : BitVec 32 := Scalar.addi c0_i32_15 v29
  let c1_i32_17 : BitVec 32 := 1#32
  let arg14 : BitVec 32 := Scf.iv v30 c1_i32_17 k0_t2
  let c512_i32_58 : BitVec 32 := 512#32
  let v130 : BitVec 32 := Scalar.muli arg14 c512_i32_58
  v130
def k0_off6 (i : grid0.Coords) (k0_t2 : Fin (k0_t2_loop i).trips) : Fin 2 → Nat :=
  let c0_i32_15 : BitVec 32 := 0#32
  let arg1 : BitVec 32 := BitVec.ofNat 32 (i 1).val
  let v26 : BitVec 32 := Scalar.subi arg1 c0_i32_15
  let c1_i32 : BitVec 32 := 1#32
  let v28 : BitVec 32 := Scalar.divsi v26 c1_i32
  let v29 : BitVec 32 := Scalar.muli v28 c1_i32
  let v30 : BitVec 32 := Scalar.addi c0_i32_15 v29
  let c1_i32_17 : BitVec 32 := 1#32
  let arg14 : BitVec 32 := Scf.iv v30 c1_i32_17 k0_t2
  let c512_i32_58 : BitVec 32 := 512#32
  let v130 : BitVec 32 := Scalar.muli arg14 c512_i32_58
  let v131 : BitVec 32 := v130
  let v132 : Index := Scalar.indexCast v131
  let c0_59 : Index := 0#32
  ![v132.toNat, 0]
def k0_mult6 (i : grid0.Coords) : BitVec 32 :=
  let arg1 : BitVec 32 := BitVec.ofNat 32 (i 1).val
  let c512_i32 : BitVec 32 := 512#32
  let v58 : BitVec 32 := Scalar.muli arg1 c512_i32
  v58
def k0_off7 (i : grid0.Coords) : Fin 2 → Nat :=
  let arg1 : BitVec 32 := BitVec.ofNat 32 (i 1).val
  let c512_i32 : BitVec 32 := 512#32
  let v58 : BitVec 32 := Scalar.muli arg1 c512_i32
  let v59 : BitVec 32 := v58
  let v60 : Index := Scalar.indexCast v59
  let c0_24 : Index := 0#32
  ![v60.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttendIdeal.lean ====
variable {F : FTy → Type} [FloatOps F] [Named F]
def κ : String → Option EReal := fun
  | "log2e" => some (((Real.log 2)⁻¹ : ℝ) : EReal)
  | "mask" => some ⊥
  | _ => none
-- ==== AttendReferenceIdeal.lean ====
abbrev S4096x2048 : Shape := ⟨2, ![4096, 2048]⟩
abbrev S16x4096 : Shape := ⟨2, ![16, 4096]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩

abbrev nBuf : Space → Nat
  | .hbm => 77
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S16x4096, .f32⟩
  | .hbm, ⟨4, _⟩ => ⟨S4096x2048, .f32⟩
  | .hbm, ⟨5, _⟩ => ⟨S4096x16x128, .f32⟩
  | .hbm, ⟨6, _⟩ => ⟨S16x4096x128, .f32⟩
  | .hbm, ⟨7, _⟩ => ⟨S4096x16x128, .f32⟩
  | .hbm, ⟨8, _⟩ => ⟨S16x4096x128, .f32⟩
  | .hbm, ⟨9, _⟩ => ⟨S16x4096x4096, .f32⟩
  | .hbm, ⟨10, _⟩ => ⟨S_, .f32⟩
  | .hbm, ⟨11, _⟩ => ⟨S16x4096x4096, .f32⟩
  | .hbm, ⟨12, _⟩ => ⟨S16x4096x4096, .f32⟩
  | .hbm, ⟨13, _⟩ => ⟨S16x4096x1, .f32⟩
  | .hbm, ⟨14, _⟩ => ⟨S16x4096x4096, .f32⟩
  | .hbm, ⟨15, _⟩ => ⟨S16x4096x4096, .f32⟩
  | .hbm, ⟨16, _⟩ => ⟨S16x1x4096, .f32⟩
  | .hbm, ⟨17, _⟩ => ⟨S16x4096x4096, .f32⟩
  | .hbm, ⟨18, _⟩ => ⟨S16x4096x4096, .f32⟩
  | .hbm, ⟨19, _⟩ => ⟨S4096, .i32⟩
  | .hbm, ⟨20, _⟩ => ⟨S1x1x4096, .i32⟩
  | .hbm, ⟨21, _⟩ => ⟨S1x4096x1, .i32⟩
  | .hbm, ⟨22, _⟩ => ⟨S1x4096x4096, .i32⟩
  | .hbm, ⟨23, _⟩ => ⟨S1x4096x4096, .i32⟩
  | .hbm, ⟨24, _⟩ => ⟨S1x4096x4096, .i1⟩
  | .hbm, ⟨25, _⟩ => ⟨S_, .f32⟩
  | .hbm, ⟨26, _⟩ => ⟨S_, .f32⟩
  | .hbm, ⟨27, _⟩ => ⟨S16x4096x4096, .i1⟩
  | .hbm, ⟨28, _⟩ => ⟨S16x4096x4096, .f32⟩
  | .hbm, ⟨29, _⟩ => ⟨S16x4096x4096, .f32⟩
  | .hbm, ⟨30, _⟩ => ⟨S_, .f32⟩
  | .hbm, ⟨31, _⟩ => ⟨S16x4096, .f32⟩
  | .hbm, ⟨32, _⟩ => ⟨S_, .f32⟩
  | .hbm, ⟨33, _⟩ => ⟨S16x4096, .f32⟩
  | .hbm, ⟨34, _⟩ => ⟨S16x4096, .f32⟩
  | .hbm, ⟨35, _⟩ => ⟨S16x4096x1, .f32⟩
  | .hbm, ⟨36, _⟩ => ⟨S16x4096x4096, .f32⟩
  | .hbm, ⟨37, _⟩ => ⟨S16x4096x4096, .f32⟩
  | .hbm, ⟨38, _⟩ => ⟨S16x4096x4096, .f32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S16x4096x4096, .f32⟩
  | .hbm, ⟨43, _⟩ => ⟨S16x4096x4096, .f32⟩
  | .hbm, ⟨44, _⟩ => ⟨S4096x16x128, .f32⟩
  | .hbm, ⟨45, _⟩ => ⟨S16x4096x128, .f32⟩
  | .hbm, ⟨46, _⟩ => ⟨S16x4096x128, .f32⟩
  | .hbm, ⟨47, _⟩ => ⟨S4096x16x128, .f32⟩
  | .hbm, ⟨48, _⟩ => ⟨S4096x2048, .f32⟩
  | .hbm, ⟨49, _⟩ => ⟨S_, .f32⟩
  | .hbm, ⟨50, _⟩ => ⟨S16x4096, .f32⟩
  | .hbm, ⟨51, _⟩ => ⟨S16x4096x1, .f32⟩
  | .hbm, ⟨52, _⟩ => ⟨S16x4096x4096, .f32⟩
  | .hbm, ⟨53, _⟩ => ⟨S16x4096x4096, .f32⟩
  | .hbm, ⟨54, _⟩ => ⟨S16x4096x4096, .f32⟩
  | .hbm, ⟨55, _⟩ => ⟨S_, .f32⟩
  | .hbm, ⟨56, _⟩ => ⟨S16x4096, .f32⟩
  | .hbm, ⟨57, _⟩ => ⟨S16x4096, .f32⟩
  | .hbm, ⟨58, _⟩ => ⟨S16x4096, .f32⟩
  | .hbm, ⟨59, _⟩ => ⟨S16x4096, .f32⟩
  | .hbm, ⟨60, _⟩ => ⟨S_, .f32⟩
  | .hbm, ⟨61, _⟩ => ⟨S_, .f32⟩
  | .hbm, ⟨62, _⟩ => ⟨S16x4096, .f32⟩
  | .hbm, ⟨63, _⟩ => ⟨S16x4096, .f32⟩
  | .hbm, ⟨64, _⟩ => ⟨S4096x2048, .bf16⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S4096x2048, .f32⟩
  | .hbm, ⟨69, _⟩ => ⟨S4096x2048, .f32⟩
  | .hbm, ⟨70, _⟩ => ⟨S_, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .bf16⟩
  | .hbm, ⟨76, _⟩ => ⟨S16x1x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== Proof.State.lean ====
/- What the attention's backward body holds between its statements, as vectors: the running sums of one tile of keys and
   the two running sums it shares with the other tiles of the same head. -/
module

public import proofs.«01_k».proof.Proof.Gen.KernelIdeal.Loops
public import proofs.«01_k».proof.Proof.Gen.KernelIdeal.Frame
public import Idealize.ShloMosaic.Lib.VecWindow
public import Idealize.ShloMosaic.Lib.ValueIdxCore

@[expose] public section

set_option maxRecDepth 16384

noncomputable section

namespace Cert.KernelIdeal.Bwd

open Cert.KernelIdeal Cert.KernelIdeal.Gen
open Idealize.ShloMosaic Idealize.ShloMosaic.TcCoe Idealize.ShloMosaic.ValueIdx

variable {F : FTy → Type} [FloatOps F] [Named F]

/-- Rows `512·a …` of a tall matrix. -/
def rows {e : EltTy} (x : Vec F S4096x128 e) (a : ℕ) : Vec F S512x128 e :=
  fun y => x (ix2 ⟨(512 * a + (y 0).val) % 4096, Nat.mod_lt _ (by norm_num)⟩ (y 1))

/-- Lanes `512·a …` of a long row. -/
def lanes (x : Vec F S1x4096 .f32) (a : ℕ) : Vec F S1x512 .f32 :=
  fun y => x (ix2 (y 0) ⟨(512 * a + (y 1).val) % 4096, Nat.mod_lt _ (by norm_num)⟩)

/-- The same lanes of a row kept under a unit axis. -/
def lanes3 (x : Vec F S1x1x4096 .f32) (a : ℕ) : Vec F S1x1x512 .f32 :=
  fun y => x (ix3 (y 0) (y 1) ⟨(512 * a + (y 2).val) % 4096, Nat.mod_lt _ (by norm_num)⟩)

theorem window_rows {e : EltTy} (x : Vec F S4096x128 e) (a : ℕ) (ha : a < 8) (inb : ∀ d, (![512 * a, 0] : Fin 2 → ℕ) d + S512x128.size d ≤ S4096x128.size d) :
    VecWindow.window x ![512 * a, 0] S512x128.size inb = rows x a := by
  funext y
  refine congrArg x (funext fun d => Fin.ext ?_)
  have h0 : (y 0).val < 512 := (y 0).isLt
  match d with
  | ⟨0, _⟩ => show 512 * a + 1 * (y 0).val = (512 * a + (y 0).val) % 4096; omega
  | ⟨1, _⟩ => show 0 + 1 * (y 1).val = (y 1).val; omega

theorem window_lanes (x : Vec F S1x4096 .f32) (a : ℕ) (ha : a < 8) (inb : ∀ d, (![0, 512 * a] : Fin 2 → ℕ) d + S1x512.size d ≤ S1x4096.size d) :
    VecWindow.window x ![0, 512 * a] S1x512.size inb = lanes x a := by
  funext y
  refine congrArg x (funext fun d => Fin.ext ?_)
  have h1 : (y 1).val < 512 := (y 1).isLt
  match d with
  | ⟨0, _⟩ => show 0 + 1 * (y 0).val = (y 0).val; omega
  | ⟨1, _⟩ => show 512 * a + 1 * (y 1).val = (512 * a + (y 1).val) % 4096; omega

theorem window_lanes3 (x : Vec F S1x1x4096 .f32) (a : ℕ) (ha : a < 8) (inb : ∀ d, (![0, 0, 512 * a] : Fin 3 → ℕ) d + S1x1x512.size d ≤ S1x1x4096.size d) :
    VecWindow.window x ![0, 0, 512 * a] S1x1x512.size inb = lanes3 x a := by
  funext y
  refine congrArg x (funext fun d => Fin.ext ?_)
  have h1 : (y 2).val < 512 := (y 2).isLt
  match d with
  | ⟨0, _⟩ => show 0 + 1 * (y 0).val = (y 0).val; omega
  | ⟨1, _⟩ => show 0 + 1 * (y 1).val = (y 1).val; omega
  | ⟨2, _⟩ => show 512 * a + 1 * (y 2).val = (512 * a + (y 2).val) % 4096; omega

/-- A tall matrix with one block of rows replaced. -/
def putRows (x : Vec F S4096x128 .f32) (a : ℕ) (w : Vec F S512x128 .f32) : Vec F S4096x128 .f32 :=
  VecWindow.put x ![512 * a, 0] S512x128.size w

/-- A long row with one block of lanes replaced. -/
def putLanes (x : Vec F S1x4096 .f32) (a : ℕ) (w : Vec F S1x512 .f32) : Vec F S1x4096 .f32 :=
  VecWindow.put x ![0, 512 * a] S1x512.size w

/-! ### The offsets in closed form -/

theorem off1_eq (i : grid0.Coords) : k0_off1 i = ![512 * (i 1).val, 0] := by revert i; decide +kernel
theorem off2_eq (i : grid0.Coords) : k0_off2 i = ![0, 0, 512 * (i 1).val] := by revert i; decide +kernel
theorem off3_eq (i : grid0.Coords) : k0_off3 i = ![0, 512 * (i 1).val] := by revert i; decide +kernel

theorem trips1 (i : grid0.Coords) : (k0_t1_loop i).trips = 7 - (i 1).val := by revert i; decide +kernel

theorem trips2 (i : grid0.Coords) : (k0_t2_loop i).trips = 0 := Nat.le_zero.mp (k0_t2_abs i).2.1

theorem j_lt (i : grid0.Coords) : (i 1).val < 8 := (i 1).isLt

theorem trip_lt (i : grid0.Coords) (k : Fin (k0_t1_loop i).trips) : (i 1).val + k.val < 7 := by
  have h : k.val < 7 - (i 1).val := Nat.lt_of_lt_of_eq k.isLt (trips1 i)
  omega

theorem off4_eq (i : grid0.Coords) (k : Fin (k0_t1_loop i).trips) : k0_off4 i k = ![512 * ((i 1).val + k.val + 1), 0] := by
  revert i; decide +kernel
theorem off5_eq (i : grid0.Coords) (k : Fin (k0_t1_loop i).trips) : k0_off5 i k = ![0, 0, 512 * ((i 1).val + k.val + 1)] := by
  revert i; decide +kernel
theorem off6_eq (i : grid0.Coords) (k : Fin (k0_t1_loop i).trips) : k0_off6 i k = ![0, 512 * ((i 1).val + k.val + 1)] := by
  revert i; decide +kernel
theorem off7_eq (i : grid0.Coords) (k : Fin (k0_t1_loop i).trips) : k0_off7 i k = ![512 * ((i 1).val + k.val), 0] := by
  revert i; decide +kernel
theorem off8_eq (i : grid0.Coords) (k : Fin (k0_t1_loop i).trips) : k0_off8 i k = ![0, 512 * ((i 1).val + k.val)] := by
  revert i; decide +kernel

/-! ### The state of the loop over the blocks of queries -/

variable (F) in
/-- The running sums of a tile of keys: the gradients of its keys, values and forget sums; the head's gradients of the queries and of their
    forget sums; the scores and the `dp` of the block of queries to come. -/
structure Acc where
  dk : Vec F S512x128 .f32
  dv : Vec F S512x128 .f32
  dc : Vec F S512x128 .f32
  dq : Vec F S4096x128 .f32
  dcq : Vec F S1x4096 .f32
  s : Vec F S512x512 .f32
  dp : Vec F S512x512 .f32

/-- One block of queries added, and the next block's scores prepared. -/
def trip (x0 x3 : Vec F S4096x128 .bf16) (x5 : Vec F S1x1x4096 .f32) (dl : Vec F S1x4096 .f32)
    (v4 v6 : FVec F S512x128 .bf16) (v17 : FVec F S512x128 .f32) (a : ℕ) (S : Acc F) : Acc F where
  dk := k0_pay23 S.dp (k0_pay17 v17 S.s) S.dk (rows x0 a)
  dv := k0_pay20 S.dv (k0_pay18 v17 S.s) (k0_pay19 (rows x3 a))
  dc := k0_pay49 (k0_pay26 S.dp (k0_pay17 v17 S.s)) S.dc
  dq := putRows S.dq a (k0_pay24 v4 S.dp (k0_pay17 v17 S.s) (rows S.dq a))
  dcq := putLanes S.dcq a (k0_pay25 S.dp (k0_pay17 v17 S.s) (lanes S.dcq a))
  s := k0_pay50 (k0_pay15 v4 (rows x0 (a + 1)) (lanes3 x5 (a + 1)))
  dp := k0_pay51 (k0_pay16 v6 (rows x3 (a + 1)) (lanes dl (a + 1)))

/-- The state after `n` blocks of queries, from block `a` on. -/
def st (x0 x3 : Vec F S4096x128 .bf16) (x5 : Vec F S1x1x4096 .f32) (dl : Vec F S1x4096 .f32)
    (v4 v6 : FVec F S512x128 .bf16) (v17 : FVec F S512x128 .f32) (a : ℕ) (S : Acc F) : ℕ → Acc F
  | 0 => S
  | n + 1 => trip x0 x3 x5 dl v4 v6 v17 (a + n) (st x0 x3 x5 dl v4 v6 v17 a S n)

/-! ### One grid point -/

/-- The state in which the loop over the blocks of queries starts: the tile's sums at zero, the diagonal block's masked scores. -/
def start (i : grid0.Coords) (x0 : Vec F S4096x128 .bf16) (x1 x2 : Vec F S512x128 .bf16) (x3 : Vec F S4096x128 .bf16) (x5 : Vec F S1x1x4096 .f32)
    (dq : Vec F S4096x128 .f32) (dcq dl : Vec F S1x4096 .f32) : Acc F where
  dk := k0_pay44
  dv := k0_pay45
  dc := k0_pay46
  dq := dq
  dcq := dcq
  s := k0_pay47 (k0_pay41 x1) (rows x0 (i 1).val) (lanes3 x5 (i 1).val)
  dp := k0_pay48 (k0_pay42 x2) (rows x3 (i 1).val) (lanes dl (i 1).val)

/-- The state when the loop is left. -/
def left (i : grid0.Coords) (x0 : Vec F S4096x128 .bf16) (x1 x2 : Vec F S512x128 .bf16) (x3 : Vec F S4096x128 .bf16) (x5 : Vec F S1x1x4096 .f32)
    (x6 : Vec F S512x128 .f32) (dq : Vec F S4096x128 .f32) (dcq dl : Vec F S1x4096 .f32) : Acc F :=
  st x0 x3 x5 dl (k0_pay41 x1) (k0_pay42 x2) (k0_pay43 i x6) (i 1).val (start i x0 x1 x2 x3 x5 dq dcq dl) (7 - (i 1).val)

/-- The last block of queries added: what the running sums hold when the point ends. -/
def last (i : grid0.Coords) (x0 : Vec F S4096x128 .bf16) (x1 : Vec F S512x128 .bf16) (x3 : Vec F S4096x128 .bf16) (x6 : Vec F S512x128 .f32) (S : Acc F) : Acc F where
  dk := k0_pay59 (k0_pay43 i x6) S.s S.dp S.dk (rows x0 7)
  dv := k0_pay56 (k0_pay43 i x6) S.s S.dv (rows x3 7)
  dc := k0_pay62 (k0_pay57 (k0_pay43 i x6) S.s S.dp) S.dc
  dq := putRows S.dq 7 (k0_pay60 (k0_pay41 x1) (k0_pay43 i x6) S.s S.dp (rows S.dq 7))
  dcq := putLanes S.dcq 7 (k0_pay61 (k0_pay57 (k0_pay43 i x6) S.s S.dp) (lanes S.dcq 7))
  s := S.s
  dp := S.dp

/-- What a grid point leaves, from the head's two sums as it finds them. -/
def point (i : grid0.Coords) (x0 : Vec F S4096x128 .bf16) (x1 x2 : Vec F S512x128 .bf16) (x3 : Vec F S4096x128 .bf16) (x5 : Vec F S1x1x4096 .f32)
    (x6 : Vec F S512x128 .f32) (dq : Vec F S4096x128 .f32) (dcq dl : Vec F S1x4096 .f32) : Acc F :=
  last i x0 x1 x3 x6 (left i x0 x1 x2 x3 x5 x6 dq dcq dl)

/-- The row sums of `do · o`, block by block. -/
def rowSums (x3 x4 : Vec F S4096x128 .bf16) : Vec F S1x4096 .f32 :=
  fun y => k0_pay6 (rows x3 ((y 1).val / 512)) (rows x4 ((y 1).val / 512)) (ix2 (y 0) ⟨(y 1).val % 512, Nat.mod_lt _ (by norm_num)⟩)

theorem putLanes_apply (x : Vec F S1x4096 .f32) (a : ℕ) (w : Vec F S1x512 .f32) (y : S1x4096.Idx) :
    putLanes x a w y = if (y 1).val / 512 = a then w (ix2 (y 0) ⟨(y 1).val % 512, Nat.mod_lt _ (by norm_num)⟩) else x y := by
  by_cases h : (y 1).val / 512 = a
  · rw [if_pos h]
    have hin : ∀ d, (![0, 512 * a] : Fin 2 → ℕ) d ≤ (y d).val ∧ (y d).val < (![0, 512 * a] : Fin 2 → ℕ) d + S1x512.size d := by
      intro d
      match d with
      | ⟨0, _⟩ => have h0 : (y 0).val < 1 := (y 0).isLt; exact ⟨Nat.zero_le _, by show (y 0).val < 0 + 1; omega⟩
      | ⟨1, _⟩ => have h1 : (y 1).val < 4096 := (y 1).isLt; exact ⟨by show 512 * a ≤ (y 1).val; omega, by show (y 1).val < 512 * a + 512; omega⟩
    unfold putLanes VecWindow.put
    rw [dif_pos hin]
    refine congrArg w (funext fun d => Fin.ext ?_)
    match d with
    | ⟨0, _⟩ => show (y 0).val - 0 = (y 0).val; omega
    | ⟨1, _⟩ => show (y 1).val - 512 * a = (y 1).val % 512; omega
  · rw [if_neg h]
    unfold putLanes VecWindow.put
    refine dif_neg fun hin => h ?_
    have h1 := hin 1
    have h2 : 512 * a ≤ (y 1).val ∧ (y 1).val < 512 * a + 512 := h1
    omega

/-- The state found after the loop is the state `left` states, once what it started from is read. -/
theorem left_of {X0 X3 : Vec F S4096x128 .bf16} {X5 : Vec F S1x1x4096 .f32} {DL : Vec F S1x4096 .f32} {V4 V6 : FVec F S512x128 .bf16} {V17 : FVec F S512x128 .f32}
    {Ddk Ddv Ddc : Vec F S512x128 .f32} {Ddq : Vec F S4096x128 .f32} {Ddcq : Vec F S1x4096 .f32} {Ds Ddp : Vec F S512x512 .f32} {n : ℕ}
    {bdk bdv bdc : Vec F S512x128 .f32} {bdq : Vec F S4096x128 .f32} {bdcq : Vec F S1x4096 .f32} {bs bdp : Vec F S512x512 .f32}
    (i : grid0.Coords) (x0 : Vec F S4096x128 .bf16) (x1 x2 : Vec F S512x128 .bf16) (x3 : Vec F S4096x128 .bf16) (x5 : Vec F S1x1x4096 .f32)
    (x6 : Vec F S512x128 .f32) (dq : Vec F S4096x128 .f32) (dcq dl : Vec F S1x4096 .f32)
    (hdk : bdk = (st X0 X3 X5 DL V4 V6 V17 (i 1).val ⟨Ddk, Ddv, Ddc, Ddq, Ddcq, Ds, Ddp⟩ n).dk) (hdv : bdv = (st X0 X3 X5 DL V4 V6 V17 (i 1).val ⟨Ddk, Ddv, Ddc, Ddq, Ddcq, Ds, Ddp⟩ n).dv) (hdc : bdc = (st X0 X3 X5 DL V4 V6 V17 (i 1).val ⟨Ddk, Ddv, Ddc, Ddq, Ddcq, Ds, Ddp⟩ n).dc) (hdq : bdq = (st X0 X3 X5 DL V4 V6 V17 (i 1).val ⟨Ddk, Ddv, Ddc, Ddq, Ddcq, Ds, Ddp⟩ n).dq) (hdcq : bdcq = (st X0 X3 X5 DL V4 V6 V17 (i 1).val ⟨Ddk, Ddv, Ddc, Ddq, Ddcq, Ds, Ddp⟩ n).dcq) (hs : bs = (st X0 X3 X5 DL V4 V6 V17 (i 1).val ⟨Ddk, Ddv, Ddc, Ddq, Ddcq, Ds, Ddp⟩ n).s) (hdp : bdp = (st X0 X3 X5 DL V4 V6 V17 (i 1).val ⟨Ddk, Ddv, Ddc, Ddq, Ddcq, Ds, Ddp⟩ n).dp)
    (e0 : X0 = x0) (e3 : X3 = x3) (e5 : X5 = x5) (el : DL = dl) (e4 : V4 = k0_pay41 x1) (e6 : V6 = k0_pay42 x2) (e17 : V17 = k0_pay43 i x6)
    (edk : Ddk = k0_pay44) (edv : Ddv = k0_pay45) (edc : Ddc = k0_pay46) (edq : Ddq = dq) (edcq : Ddcq = dcq)
    (es : Ds = k0_pay47 (k0_pay41 x1) (rows x0 (i 1).val) (lanes3 x5 (i 1).val)) (edp : Ddp = k0_pay48 (k0_pay42 x2) (rows x3 (i 1).val) (lanes dl (i 1).val))
    (en : n = 7 - (i 1).val) :
    bdk = (left i x0 x1 x2 x3 x5 x6 dq dcq dl).dk ∧ bdv = (left i x0 x1 x2 x3 x5 x6 dq dcq dl).dv ∧ bdc = (left i x0 x1 x2 x3 x5 x6 dq dcq dl).dc ∧ bdq = (left i x0 x1 x2 x3 x5 x6 dq dcq dl).dq ∧ bdcq = (left i x0 x1 x2 x3 x5 x6 dq dcq dl).dcq ∧ bs = (left i x0 x1 x2 x3 x5 x6 dq dcq dl).s ∧ bdp = (left i x0 x1 x2 x3 x5 x6 dq dcq dl).dp := by
  subst e0 e3 e5 el e4 e6 e17 edk edv edc edq edcq es edp en
  exact ⟨hdk, hdv, hdc, hdq, hdcq, hs, hdp⟩

end Cert.KernelIdeal.Bwd

end
-- ==== Proof.Ops.lean ====
/- The operations of the attention's backward body at the ideal values, read at an index. -/
module

public import proofs.«01_k».proof.Proof.State
public import Idealize.ShloMosaic.Lib.Pipeline.Value
public import Idealize.ShloMosaic.Lib.ValueIdx
public import Idealize.ShloMosaic.PureOps.Ideal.Laws
public import Idealize.ShloMosaic.PureOps.IdealRules
public import Idealize.ShloMosaic.Lib.WordCmp

@[expose] public section

set_option maxRecDepth 16384

noncomputable section

namespace Cert.KernelIdeal.Bwd

open Cert.KernelIdeal Cert.KernelIdeal.Gen
open Idealize.ShloMosaic Idealize.ShloMosaic.TcCoe Idealize.ShloMosaic.ValueIdx

/-! ### The products -/

theorem mm_nt (A B : FVec Ideal S512x128 .bf16) (y : S512x512.Idx) :
    matmul dot_S512x128_S512x128_S512x512_1_1_0_0_n_n none A B (constant S512x512 .f32 0x00000000#32) y
      = ∑ d : Fin 128, A (ix2 (y 0) d) * B (ix2 (y 1) d) := by
  refine (Ideal.matmul_constant_zero_apply _ none _ _ _).trans ?_
  rw [← Equiv.sum_comp (contrEquiv1 dot_S512x128_S512x128_S512x512_1_1_0_0_n_n 128 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

theorem mm_nn (A : FVec Ideal S512x512 .bf16) (B : FVec Ideal S512x128 .bf16) (y : S512x128.Idx) :
    matmul dot_S512x512_S512x128_S512x128_1_0_0_1_n_n none A B (constant S512x128 .f32 0x00000000#32) y
      = ∑ q : Fin 512, A (ix2 (y 0) q) * B (ix2 q (y 1)) := by
  refine (Ideal.matmul_constant_zero_apply _ none _ _ _).trans ?_
  rw [← Equiv.sum_comp (contrEquiv1 dot_S512x512_S512x128_S512x128_1_0_0_1_n_n 512 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

theorem mm_tn (A : FVec Ideal S512x512 .bf16) (B : FVec Ideal S512x128 .bf16) (y : S512x128.Idx) :
    matmul dot_S512x512_S512x128_S512x128_0_0_1_1_n_n none A B (constant S512x128 .f32 0x00000000#32) y
      = ∑ r : Fin 512, A (ix2 r (y 0)) * B (ix2 r (y 1)) := by
  refine (Ideal.matmul_constant_zero_apply _ none _ _ _).trans ?_
  rw [← Equiv.sum_comp (contrEquiv1 dot_S512x512_S512x128_S512x128_0_0_1_1_n_n 512 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

/-! ### Rows spread over lanes, sums along an axis -/

/-- A row sum spread over the lanes. -/
theorem spread (x : FVec Ideal S512x128 .f32) (y : S512x128.Idx) :
    broadcastTo S512x128 (shapeCast S512x1 (shapeCast S512x1 (multiReduction .add [1] S512 x 0x00000000#32 reduces_S512x128_S512 (.inl rfl) rfl)
      shapeCasts_S512_S512x1) shapeCasts_S512x1_S512x1) broadcasts_S512x1_S512x128 y = ∑ l : Fin 128, x (ix2 (y 0) l) := by
  rw [broadcastTo_apply _ broadcasts_S512x1_S512x128 y (ix2 (y 0) 0) (fun a => by match a with | ⟨0, _⟩ => rfl | ⟨1, _⟩ => rfl), shapeCast_self,
    shapeCast_apply _ shapeCasts_S512_S512x1 (ix2 (y 0) 0) (ix1 (y 0)) (by
      rw [Shape.rowMajor_val_one, Shape.rowMajor_val_two]; show (y 0).val = (y 0).val * 1 + 0; omega)]
  refine (Ideal.multiReduction_add_single _ _ _ _ _ _).trans ?_
  refine Finset.sum_congr rfl fun l _ => congrArg x (funext fun a => ?_)
  match a with | ⟨0, _⟩ => rfl | ⟨1, _⟩ => rfl

/-- The row of a tile's row sums. -/
theorem toRow (x : FVec Ideal S512x128 .f32) (y : S1x512.Idx) :
    extractStridedSlice S1x512 ![0, 0] (transpose S128x512 [1, 0] x transposes_S512x128_p1_0_S128x512) slices_S128x512_o0_0_S1x512 y = x (ix2 (y 1) 0) := by
  rw [extractStridedSlice_apply _ _ slices_S128x512_o0_0_S1x512 y (ix2 0 (y 1)) (fun a => by
      match a with
      | ⟨0, _⟩ => have h : (y 0).val < 1 := (y 0).isLt; show 0 = 0 + (y 0).val; omega
      | ⟨1, _⟩ => show (y 1).val = 0 + (y 1).val; omega),
    transpose_apply _ _ transposes_S512x128_p1_0_S128x512 (ix2 0 (y 1)) (ix2 (y 1) 0) (fun b => by match b with | ⟨0, _⟩ => rfl | ⟨1, _⟩ => rfl)]

/-- A column sum kept as a row. -/
theorem colSum (x : FVec Ideal S512x512 .f32) (y : S1x512.Idx) :
    shapeCast S1x512 (multiReduction .add [0] S512 x 0x00000000#32 reduces_S512x512_S512 (.inl rfl) rfl) shapeCasts_S512_S1x512 y
      = ∑ r : Fin 512, x (ix2 r (y 1)) := by
  rw [shapeCast_apply _ shapeCasts_S512_S1x512 y (ix1 (y 1)) (by
      have h : (y 0).val < 1 := (y 0).isLt
      rw [Shape.rowMajor_val_one, Shape.rowMajor_val_two]; show (y 1).val = (y 0).val * 512 + (y 1).val; omega)]
  refine (Ideal.multiReduction_add_single _ _ _ _ _ _).trans ?_
  refine Finset.sum_congr rfl fun l _ => congrArg x (funext fun a => ?_)
  match a with | ⟨0, _⟩ => rfl | ⟨1, _⟩ => rfl

/-- The row sums of a tile as a row. -/
theorem rowSum (x : FVec Ideal S512x128 .f32) (y : S1x512.Idx) : k0_pay65 x y = ∑ l : Fin 128, x (ix2 (y 1) l) := by
  show shapeCast S1x512 (multiReduction .add [0] S512 (transpose S128x512 [1, 0] x transposes_S512x128_p1_0_S128x512) 0x00000000#32 reduces_S128x512_S512 (.inl rfl) rfl) shapeCasts_S512_S1x512 y = _
  rw [shapeCast_apply _ shapeCasts_S512_S1x512 y (ix1 (y 1)) (by
      have h : (y 0).val < 1 := (y 0).isLt
      rw [Shape.rowMajor_val_one, Shape.rowMajor_val_two]; show (y 1).val = (y 0).val * 512 + (y 1).val; omega)]
  refine (Ideal.multiReduction_add_single _ _ _ _ _ _).trans ?_
  refine Finset.sum_congr rfl fun l _ => ?_
  exact transpose_apply _ _ transposes_S512x128_p1_0_S128x512 _ (ix2 (y 1) l) (fun b => by match b with | ⟨0, _⟩ => rfl | ⟨1, _⟩ => rfl)

/-- A row spread over the tile's rows. -/
theorem overRows (x : FVec Ideal S1x512 .f32) (y : S512x512.Idx) : broadcastTo S512x512 x broadcasts_S1x512_S512x512 y = x (ix2 0 (y 1)) :=
  broadcastTo_apply _ broadcasts_S1x512_S512x512 y _ (fun a => by match a with | ⟨0, _⟩ => rfl | ⟨1, _⟩ => rfl)

/-! ### The four lane groups -/

theorem group {α : Type} (k : ℕ) (hk : k < 4) (x : S512x512.Idx → α) (h : S512x512.Slices ![0, 128 * k] S512x128) (y : S512x128.Idx) :
    extractStridedSlice S512x128 ![0, 128 * k] x h y = x (ix2 (y 0) ⟨128 * k + (y 1).val, by have := idx2_lt1 y; omega⟩) :=
  extractStridedSlice_apply _ _ h y _ (fun a => by
    match a with
    | ⟨0, _⟩ => show (y 0).val = 0 + (y 0).val; omega
    | ⟨1, _⟩ => rfl)

/-- Four lane groups put side by side. -/
theorem beside {α : Type} (f0 f1 f2 f3 : S512x128.Idx → α) (y : S512x512.Idx) :
    concatenate S512x512 1 [⟨S512x128, f0⟩, ⟨S512x128, f1⟩, ⟨S512x128, f2⟩, ⟨S512x128, f3⟩] concatenates_S512x128_S512x128_S512x128_S512x128_S512x512_d1 y
      = (![f0, f1, f2, f3] ⟨(y 1).val / 128, by have := idx2_lt1 y; omega⟩) (ix2 (y 0) ⟨(y 1).val % 128, Nat.mod_lt _ (by norm_num)⟩) := by
  have h1 : (y 1).val < 512 := (y 1).isLt
  have hoff : ∀ b : Fin S512x128.rank, b.cast (rfl : S512x128.rank = S512x512.rank) ≠ 1 →
      ((ix2 (y 0) ⟨(y 1).val % 128, Nat.mod_lt _ (by norm_num)⟩ : S512x128.Idx) b).val = (y (b.cast rfl)).val := by
    intro b hb
    match b with
    | ⟨0, _⟩ => rfl
    | ⟨1, _⟩ => exact absurd rfl hb
  have four : (y 1).val / 128 = 0 ∨ (y 1).val / 128 = 1 ∨ (y 1).val / 128 = 2 ∨ (y 1).val / 128 = 3 := by omega
  rcases four with e | e | e | e
  · rw [show (⟨(y 1).val / 128, by omega⟩ : Fin 4) = 0 from Fin.ext e]
    exact concatenate_apply_piece (1 : Fin S512x512.rank) [⟨S512x128, f0⟩, ⟨S512x128, f1⟩, ⟨S512x128, f2⟩, ⟨S512x128, f3⟩]
      concatenates_S512x128_S512x128_S512x128_S512x128_S512x512_d1 y 0 (by simp) S512x128 f0 rfl rfl 0 rfl
      (ix2 (y 0) ⟨(y 1).val % 128, Nat.mod_lt _ (by norm_num)⟩) hoff (show 0 + (y 1).val % 128 = (y 1).val by omega)
  · rw [show (⟨(y 1).val / 128, by omega⟩ : Fin 4) = 1 from Fin.ext e]
    exact concatenate_apply_piece (1 : Fin S512x512.rank) [⟨S512x128, f0⟩, ⟨S512x128, f1⟩, ⟨S512x128, f2⟩, ⟨S512x128, f3⟩]
      concatenates_S512x128_S512x128_S512x128_S512x128_S512x512_d1 y 1 (by simp) S512x128 f1 rfl rfl 128 rfl
      (ix2 (y 0) ⟨(y 1).val % 128, Nat.mod_lt _ (by norm_num)⟩) hoff (show 128 + (y 1).val % 128 = (y 1).val by omega)
  · rw [show (⟨(y 1).val / 128, by omega⟩ : Fin 4) = 2 from Fin.ext e]
    exact concatenate_apply_piece (1 : Fin S512x512.rank) [⟨S512x128, f0⟩, ⟨S512x128, f1⟩, ⟨S512x128, f2⟩, ⟨S512x128, f3⟩]
      concatenates_S512x128_S512x128_S512x128_S512x128_S512x512_d1 y 2 (by simp) S512x128 f2 rfl rfl 256 rfl
      (ix2 (y 0) ⟨(y 1).val % 128, Nat.mod_lt _ (by norm_num)⟩) hoff (show 256 + (y 1).val % 128 = (y 1).val by omega)
  · rw [show (⟨(y 1).val / 128, by omega⟩ : Fin 4) = 3 from Fin.ext e]
    exact concatenate_apply_piece (1 : Fin S512x512.rank) [⟨S512x128, f0⟩, ⟨S512x128, f1⟩, ⟨S512x128, f2⟩, ⟨S512x128, f3⟩]
      concatenates_S512x128_S512x128_S512x128_S512x128_S512x512_d1 y 3 (by simp) S512x128 f3 rfl rfl 384 rfl
      (ix2 (y 0) ⟨(y 1).val % 128, Nat.mod_lt _ (by norm_num)⟩) hoff (show 384 + (y 1).val % 128 = (y 1).val by omega)

/-- The base-2 exponentials of the scores less the key's forget sum. -/
theorem exps (v17 : FVec Ideal S512x128 .f32) (s : Vec Ideal S512x512 .f32) (y : S512x512.Idx) :
    k0_pay17 v17 s y = Ideal.exp2 (s y - v17 (ix2 (y 0) ⟨(y 1).val % 128, Nat.mod_lt _ (by norm_num)⟩)) := by
  have h1 : (y 1).val < 512 := (y 1).isLt
  have key : ∀ (k : ℕ) (hk : k < 4) (h : S512x512.Slices ![0, 128 * k] S512x128) (hy : (y 1).val / 128 = k),
      exp2 (subf (extractStridedSlice S512x128 ![0, 128 * k] s h) v17) (ix2 (y 0) ⟨(y 1).val % 128, Nat.mod_lt _ (by norm_num)⟩)
        = Ideal.exp2 (s y - v17 (ix2 (y 0) ⟨(y 1).val % 128, Nat.mod_lt _ (by norm_num)⟩)) := by
    intro k hk h hy
    show Ideal.exp2 (extractStridedSlice S512x128 ![0, 128 * k] s h _ - _) = _
    rw [group k hk]
    congr 2
    refine congrArg s (funext fun a => ?_)
    match a with
    | ⟨0, _⟩ => rfl
    | ⟨1, _⟩ => exact Fin.ext (show 128 * k + (y 1).val % 128 = (y 1).val by omega)
  refine (beside (exp2 (subf (extractStridedSlice S512x128 ![0, 0] s slices_S512x512_o0_0_S512x128) v17)) (exp2 (subf (extractStridedSlice S512x128 ![0, 128] s slices_S512x512_o0_128_S512x128) v17))
    (exp2 (subf (extractStridedSlice S512x128 ![0, 256] s slices_S512x512_o0_256_S512x128) v17)) (exp2 (subf (extractStridedSlice S512x128 ![0, 384] s slices_S512x512_o0_384_S512x128) v17)) y).trans ?_
  have four : (y 1).val / 128 = 0 ∨ (y 1).val / 128 = 1 ∨ (y 1).val / 128 = 2 ∨ (y 1).val / 128 = 3 := by omega
  rcases four with e | e | e | e
  · rw [show (⟨(y 1).val / 128, by omega⟩ : Fin 4) = 0 from Fin.ext e]
    exact key 0 (by norm_num) slices_S512x512_o0_0_S512x128 e
  · rw [show (⟨(y 1).val / 128, by omega⟩ : Fin 4) = 1 from Fin.ext e]
    exact key 1 (by norm_num) slices_S512x512_o0_128_S512x128 e
  · rw [show (⟨(y 1).val / 128, by omega⟩ : Fin 4) = 2 from Fin.ext e]
    exact key 2 (by norm_num) slices_S512x512_o0_256_S512x128 e
  · rw [show (⟨(y 1).val / 128, by omega⟩ : Fin 4) = 3 from Fin.ext e]
    exact key 3 (by norm_num) slices_S512x512_o0_384_S512x128 e

/-- The four lane groups of a row added up. -/
theorem groups (x p : FVec Ideal S512x512 .f32) (y : S512x128.Idx) : k0_pay26 x p y
    = p (ix2 (y 0) ⟨128 * 0 + (y 1).val, by have := idx2_lt1 y; omega⟩) * x (ix2 (y 0) ⟨128 * 0 + (y 1).val, by have := idx2_lt1 y; omega⟩)
      + p (ix2 (y 0) ⟨128 * 1 + (y 1).val, by have := idx2_lt1 y; omega⟩) * x (ix2 (y 0) ⟨128 * 1 + (y 1).val, by have := idx2_lt1 y; omega⟩)
      + p (ix2 (y 0) ⟨128 * 2 + (y 1).val, by have := idx2_lt1 y; omega⟩) * x (ix2 (y 0) ⟨128 * 2 + (y 1).val, by have := idx2_lt1 y; omega⟩)
      + p (ix2 (y 0) ⟨128 * 3 + (y 1).val, by have := idx2_lt1 y; omega⟩) * x (ix2 (y 0) ⟨128 * 3 + (y 1).val, by have := idx2_lt1 y; omega⟩) := by
  show extractStridedSlice S512x128 ![0, 0] (k0_pay21 x p) slices_S512x512_o0_0_S512x128 y + extractStridedSlice S512x128 ![0, 128] (k0_pay21 x p) slices_S512x512_o0_128_S512x128 y
      + extractStridedSlice S512x128 ![0, 256] (k0_pay21 x p) slices_S512x512_o0_256_S512x128 y
      + extractStridedSlice S512x128 ![0, 384] (k0_pay21 x p) slices_S512x512_o0_384_S512x128 y = _
  rw [group 0 (by norm_num) (k0_pay21 x p) slices_S512x512_o0_0_S512x128, group 1 (by norm_num) (k0_pay21 x p) slices_S512x512_o0_128_S512x128,
    group 2 (by norm_num) (k0_pay21 x p) slices_S512x512_o0_256_S512x128, group 3 (by norm_num) (k0_pay21 x p) slices_S512x512_o0_384_S512x128]
  rfl

/-! ### The stored values -/

theorem prods (p dp : FVec Ideal S512x512 .f32) (y : S512x512.Idx) : k0_pay22 dp p y = p y * dp y := rfl

theorem k0_pay20_at (dv : Vec Ideal S512x128 .f32) (v17 : FVec Ideal S512x128 .f32) (s : Vec Ideal S512x512 .f32) (x : Vec Ideal S512x128 .bf16) (y : S512x128.Idx) :
    k0_pay20 dv (k0_pay18 v17 s) (k0_pay19 x) y = dv y + ∑ q : Fin 512, k0_pay17 v17 s (ix2 (y 0) q) * x (ix2 q (y 1)) := by
  unfold k0_pay20 k0_pay19
  simp only [shapeCast_self]
  show dv y + _ = _
  rw [mm_nn]; rfl

theorem k0_pay23_at (dp : Vec Ideal S512x512 .f32) (p : FVec Ideal S512x512 .f32) (dk : Vec Ideal S512x128 .f32) (x : Vec Ideal S512x128 .bf16) (y : S512x128.Idx) :
    k0_pay23 dp p dk x y = dk y + ∑ q : Fin 512, p (ix2 (y 0) q) * dp (ix2 (y 0) q) * x (ix2 q (y 1)) := by
  unfold k0_pay23
  simp only [shapeCast_self]
  show dk y + _ = _
  rw [mm_nn]; rfl

theorem k0_pay24_at (kb : FVec Ideal S512x128 .bf16) (dp : Vec Ideal S512x512 .f32) (p : FVec Ideal S512x512 .f32) (dq : Vec Ideal S512x128 .f32) (y : S512x128.Idx) :
    k0_pay24 kb dp p dq y = dq y + ∑ r : Fin 512, p (ix2 r (y 0)) * dp (ix2 r (y 0)) * kb (ix2 r (y 1)) := by
  unfold k0_pay24
  simp only [shapeCast_self]
  show dq y + _ = _
  rw [mm_tn]; rfl

theorem k0_pay25_at (dp : Vec Ideal S512x512 .f32) (p : FVec Ideal S512x512 .f32) (d : Vec Ideal S1x512 .f32) (y : S1x512.Idx) :
    k0_pay25 dp p d y = d y + ∑ r : Fin 512, p (ix2 r (y 1)) * dp (ix2 r (y 1)) := by
  unfold k0_pay25
  simp only [shapeCast_self]
  show d y + _ = _
  rw [colSum]; rfl

theorem k0_pay15_at (kb x : Vec Ideal S512x128 .bf16) (e : Vec Ideal S1x1x512 .f32) (y : S512x512.Idx) :
    k0_pay50 (k0_pay15 kb x e) y = (∑ d : Fin 128, kb (ix2 (y 0) d) * x (ix2 (y 1) d)) - e (ix3 0 0 (y 1)) := by
  unfold k0_pay50 k0_pay15
  simp only [shapeCast_self]
  show _ - _ = _
  rw [mm_nt, overRows, shapeCast_apply _ shapeCasts_S1x1x512_S1x512 (ix2 0 (y 1)) (ix3 0 0 (y 1)) (by
    rw [Shape.rowMajor_val_three, Shape.rowMajor_val_two]; rfl)]

theorem k0_pay16_at (vb x : Vec Ideal S512x128 .bf16) (e : Vec Ideal S1x512 .f32) (y : S512x512.Idx) :
    k0_pay51 (k0_pay16 vb x e) y = (∑ d : Fin 128, vb (ix2 (y 0) d) * x (ix2 (y 1) d)) - e (ix2 0 (y 1)) := by
  unfold k0_pay51 k0_pay16
  simp only [shapeCast_self]
  show _ - _ = _
  rw [mm_nt, overRows]

theorem k0_pay48_at (vb x : Vec Ideal S512x128 .bf16) (e : Vec Ideal S1x512 .f32) (y : S512x512.Idx) :
    k0_pay48 vb x e y = (∑ d : Fin 128, vb (ix2 (y 0) d) * x (ix2 (y 1) d)) - e (ix2 0 (y 1)) := k0_pay16_at vb x e y

/-- The diagonal block's scores: `-∞` above the diagonal. -/
theorem k0_pay47_at (kb x : Vec Ideal S512x128 .bf16) (e : Vec Ideal S1x1x512 .f32) (y : S512x512.Idx) :
    k0_pay47 kb x e y = if (y 0).val ≤ (y 1).val then (∑ d : Fin 128, kb (ix2 (y 0) d) * x (ix2 (y 1) d)) - e (ix3 0 0 (y 1)) else ⊥ := by
  have h0 : (y 0).val < 512 := (y 0).isLt
  have h1 : (y 1).val < 512 := (y 1).isLt
  have e0 := k0_pay15_at kb x e y
  unfold k0_pay50 k0_pay15 at e0
  simp only [shapeCast_self] at e0
  unfold k0_pay47
  simp only [shapeCast_self]
  rw [select_apply]
  have hc : cmpi .sle (iota .tc S512x512 32 [0] iota_S512x512_d0_w32) (iota .tc S512x512 32 [1] iota_S512x512_d1_w32) y
      = if (y 0).val ≤ (y 1).val then 1#1 else 0#1 := by
    show IntOp.cmpi .sle (iota .tc S512x512 32 [0] iota_S512x512_d0_w32 y) (iota .tc S512x512 32 [1] iota_S512x512_d1_w32 y) = _
    rw [iota_single_apply, iota_single_apply, WordCmp.cmpi_sle_eq, WordCmp.toInt_ofNat_of_lt (by norm_num; omega), WordCmp.toInt_ofNat_of_lt (by norm_num; omega)]
    by_cases h : (y 0).val ≤ (y 1).val
    · rw [if_pos h, decide_eq_true (by exact_mod_cast h)]; rfl
    · rw [if_neg h, decide_eq_false (by exact_mod_cast h)]; rfl
  rw [hc]
  split_ifs with h
  · rw [select_one]; exact e0
  · rw [select_zero]; exact IdealRules.named_const.ideal_named_scalar _ _ _ _ rfl

/-- The head's column of the forget sums, spread over the lanes. -/
theorem k0_pay43_at (i : grid0.Coords) (x : Vec Ideal S512x128 .f32) (y : S512x128.Idx) :
    k0_pay43 i x y = x (ix2 (y 0) ⟨(i 0).val, by have : (i 0).val < 16 := (i 0).isLt; omega⟩) := by
  have hi : (i 0).val < 16 := (i 0).isLt
  unfold k0_pay43
  rw [spread]
  refine (Finset.sum_eq_single (⟨(i 0).val, by omega⟩ : Fin 128) (fun l _ hl => ?_) (fun h => absurd (Finset.mem_univ _) h)).trans ?_
  · rw [select_apply, show cmpi .eq (iota .tc S512x128 32 [1] iota_S512x128_d1_w32) (broadcast S512x128 (BitVec.ofNat 32 (i 0).val)) (ix2 (y 0) l) = 0#1 from ?_, select_zero]
    · exact Ideal.ofBits_zero_f32
    · show IntOp.cmpi .eq (iota .tc S512x128 32 [1] iota_S512x128_d1_w32 (ix2 (y 0) l)) (BitVec.ofNat 32 (i 0).val) = _
      rw [iota_single_apply]
      have hl' : l.val ≠ (i 0).val := fun h => hl (Fin.ext h)
      have hll := l.isLt
      rw [show IntOp.cmpi .eq (BitVec.ofNat 32 l.val) (BitVec.ofNat 32 (i 0).val) = BitVec.ofBool (BitVec.ofNat 32 l.val == BitVec.ofNat 32 (i 0).val) from rfl]
      rw [beq_eq_false_iff_ne.mpr (fun h => hl' ((WordCmp.ofNat_eq_ofNat_iff (by omega) (by omega)).mp h))]; rfl
  · rw [select_apply, show cmpi .eq (iota .tc S512x128 32 [1] iota_S512x128_d1_w32) (broadcast S512x128 (BitVec.ofNat 32 (i 0).val)) (ix2 (y 0) ⟨(i 0).val, by omega⟩) = 1#1 from ?_, select_one]
    · simp only [shapeCast_self]
    · show IntOp.cmpi .eq (iota .tc S512x128 32 [1] iota_S512x128_d1_w32 (ix2 (y 0) ⟨(i 0).val, by omega⟩)) (BitVec.ofNat 32 (i 0).val) = _
      rw [iota_single_apply]
      rw [show IntOp.cmpi .eq (BitVec.ofNat 32 (i 0).val) (BitVec.ofNat 32 (i 0).val) = BitVec.ofBool (BitVec.ofNat 32 (i 0).val == BitVec.ofNat 32 (i 0).val) from rfl, beq_self_eq_true]; rfl

/-- The row sums of `do · o` of a block. -/
theorem k0_pay6_at (x o : Vec Ideal S512x128 .bf16) (y : S1x512.Idx) : k0_pay6 x o y = ∑ d : Fin 128, x (ix2 (y 1) d) * o (ix2 (y 1) d) := by
  unfold k0_pay6
  simp only [shapeCast_self]
  rw [toRow]
  have := spread (mulf (extf .f32 x bitsLt_bf16_f32) (extf .f32 o bitsLt_bf16_f32)) (ix2 (y 1) 0)
  simp only [shapeCast_self] at this
  exact this

theorem k0_pay2_at (x : Vec Ideal S4096x128 .f32) (y : S4096x128.Idx) : k0_pay2 x y = x y * Ideal.ofBits .f32 0x3DB504F3#32 := rfl
theorem k0_pay63_at (x : Vec Ideal S512x128 .f32) (y : S512x128.Idx) : k0_pay63 x y = x y * ((Real.log 2 : ℝ) : EReal) := by
  show x y * (Named.named κ "ln2" 0x3F317218#32 : Ideal .f32) = _
  rw [IdealRules.named_const.ideal_named_scalar _ _ _ _ rfl]
theorem k0_pay64_at (x : Vec Ideal S512x128 .f32) (y : S512x128.Idx) : k0_pay64 x y = x y := rfl
theorem k0_pay1_at (x : FVec Ideal S1x512 .f32) (y : S1x1x512.Idx) : k0_pay1 x y = x (ix2 0 (y 2)) :=
  shapeCast_apply _ shapeCasts_S1x512_S1x1x512 y (ix2 0 (y 2)) (by
    have h0 : (y 0).val < 1 := (y 0).isLt
    have h1 : (y 1).val < 1 := (y 1).isLt
    rw [Shape.rowMajor_val_three, Shape.rowMajor_val_two]; show 0 * 512 + (y 2).val = ((y 0).val * 1 + (y 1).val) * 512 + (y 2).val; omega)
theorem k0_pay3_at (x : Vec Ideal S1x4096 .f32) (y : S1x1x4096.Idx) : k0_pay3 x y = x (ix2 0 (y 2)) :=
  shapeCast_apply _ shapeCasts_S1x4096_S1x1x4096 y (ix2 0 (y 2)) (by
    have h0 : (y 0).val < 1 := (y 0).isLt
    have h1 : (y 1).val < 1 := (y 1).isLt
    rw [Shape.rowMajor_val_three, Shape.rowMajor_val_two]; show 0 * 4096 + (y 2).val = ((y 0).val * 1 + (y 1).val) * 4096 + (y 2).val; omega)
theorem zero_at4 (y : S4096x128.Idx) : k0_pay4 (F := Ideal) y = 0 := by unfold k0_pay4; simp only [shapeCast_self]; exact Ideal.ofBits_zero_f32
theorem zero_at5 (y : S1x4096.Idx) : k0_pay5 (F := Ideal) y = 0 := by unfold k0_pay5; simp only [shapeCast_self]; exact Ideal.ofBits_zero_f32
theorem zero_at44 (y : S512x128.Idx) : k0_pay44 (F := Ideal) y = 0 := by unfold k0_pay44; simp only [shapeCast_self]; exact Ideal.ofBits_zero_f32
theorem zero_at45 (y : S512x128.Idx) : k0_pay45 (F := Ideal) y = 0 := zero_at44 y
theorem zero_at46 (y : S512x128.Idx) : k0_pay46 (F := Ideal) y = 0 := zero_at44 y
theorem k0_pay41_eq (x : Vec Ideal S512x128 .bf16) : k0_pay41 x = x := by unfold k0_pay41; rw [shapeCast_self]
theorem k0_pay42_eq (x : Vec Ideal S512x128 .bf16) : k0_pay42 x = x := by unfold k0_pay42; rw [shapeCast_self]
theorem k0_pay49_at (g dc : Vec Ideal S512x128 .f32) (y : S512x128.Idx) : k0_pay49 g dc y = dc y + g y := by unfold k0_pay49; simp only [shapeCast_self]; rfl

theorem putRows_apply (x : Vec Ideal S4096x128 .f32) (a : ℕ) (w : Vec Ideal S512x128 .f32) (y : S4096x128.Idx) :
    putRows x a w y = if (y 0).val / 512 = a then w (ix2 ⟨(y 0).val % 512, Nat.mod_lt _ (by norm_num)⟩ (y 1)) else x y := by
  by_cases h : (y 0).val / 512 = a
  · rw [if_pos h]
    have hin : ∀ d, (![512 * a, 0] : Fin 2 → ℕ) d ≤ (y d).val ∧ (y d).val < (![512 * a, 0] : Fin 2 → ℕ) d + S512x128.size d := by
      intro d
      match d with
      | ⟨1, _⟩ => have h0 : (y 1).val < 128 := (y 1).isLt; exact ⟨Nat.zero_le _, by show (y 1).val < 0 + 128; omega⟩
      | ⟨0, _⟩ => have h1 : (y 0).val < 4096 := (y 0).isLt; exact ⟨by show 512 * a ≤ (y 0).val; omega, by show (y 0).val < 512 * a + 512; omega⟩
    unfold putRows VecWindow.put
    rw [dif_pos hin]
    refine congrArg w (funext fun d => Fin.ext ?_)
    match d with
    | ⟨1, _⟩ => show (y 1).val - 0 = (y 1).val; omega
    | ⟨0, _⟩ => show (y 0).val - 512 * a = (y 0).val % 512; omega
  · rw [if_neg h]
    unfold putRows VecWindow.put
    refine dif_neg fun hin => h ?_
    have h1 := hin 0
    have h2 : 512 * a ≤ (y 0).val ∧ (y 0).val < 512 * a + 512 := h1
    omega

end Cert.KernelIdeal.Bwd
-- ==== Proof.Arith.lean ====
/- The forgetting attention's backward pass over the reals: the scores, the softmax at any shift, and the gradient of the scores. -/
module

public import Idealize.ShloMosaic.PureOps.Ideal.Laws

@[expose] public section

noncomputable section

namespace Cert.Attn

open Idealize.ShloMosaic

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The printed scale of the scores is a number. -/
theorem scale_real : ∃ r : ℝ, Ideal.ofBits .f32 0x3DB504F3#32 = (r : EReal) := by
  refine ⟨(Ideal.ofBits .f32 0x3DB504F3#32).toReal, (EReal.coe_toReal ?_ ?_).symm⟩ <;>
    · simp [Ideal.ofBits, Ideal.ieee, -EReal.coe_mul]

/-- The scale of the scores. -/
def σ : ℝ := (Ideal.ofBits .f32 0x3DB504F3#32).toReal
theorem scale_eq : Ideal.ofBits .f32 0x3DB504F3#32 = (σ : EReal) := by
  obtain ⟨r, h⟩ := scale_real
  rw [σ, h, EReal.toReal_coe]
theorem one_eq : Ideal.ofBits .f32 0x3F800000#32 = ((1 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem ninf_eq : Ideal.ofBits .f32 0xFF800000#32 = ⊥ := by
  simp [Ideal.ofBits, Ideal.ieee]
theorem inf_eq : Ideal.ofBits .f32 0x7F800000#32 = ⊤ := by
  simp [Ideal.ofBits, Ideal.ieee]

/-- A maximum over numbers and `⊥`s with a number among them is a number. -/
theorem max_real {ι : Type} (s : Finset ι) (f : ι → EReal) (htop : ∀ i ∈ s, f i ≠ ⊤) (i : ι) (hi : i ∈ s) (hb : f i ≠ ⊥) :
    ∃ r : ℝ, s.fold max ⊥ f = (r : EReal) := by
  classical
  have ht : s.fold max ⊥ f ≠ ⊤ := by
    have h : s.fold max ⊥ f < ⊤ := by
      rw [Finset.fold_max_lt]
      exact ⟨bot_lt_top, fun x hx => lt_top_iff_ne_top.mpr (htop x hx)⟩
    exact h.ne
  have hbot : s.fold max ⊥ f ≠ ⊥ := by
    have h : f i ≤ s.fold max ⊥ f := by
      rw [Finset.le_fold_max]
      exact Or.inr ⟨i, hi, le_rfl⟩
    exact fun e => hb (le_bot_iff.mp (e ▸ h))
  exact ⟨_, (EReal.coe_toReal ht hbot).symm⟩

/-- The arguments as numbers: `Q`, `K`, `V` and the output's gradient `D` by row and column, the gates' running sum `C` by head and row. -/
structure Args where
  Q : ℕ → ℕ → ℝ
  K : ℕ → ℕ → ℝ
  V : ℕ → ℕ → ℝ
  D : ℕ → ℕ → ℝ
  C : ℕ → ℕ → ℝ

variable (A : Args) (M : ℕ → ℕ → ℝ)

/-- The score of query `i` and key `j` in head `h`. -/
def sc (h i j : ℕ) : ℝ := (∑ d : Fin 128, A.Q i (128 * h + d) * A.K j (128 * h + d)) * σ + A.C h i - A.C h j
/-- Its exponential, less the row's shift. -/
def ex (h i j : ℕ) : ℝ := if j ≤ i then Real.exp (sc A h i j - M h i) else 0
/-- The row's sum. -/
def ℓ (h i : ℕ) : ℝ := ∑ j : Fin 4096, ex A M h i j
/-- The probability. -/
def pr (h i j : ℕ) : ℝ := ex A M h i j / ℓ A M h i
/-- The probability's gradient. -/
def dp (h i j : ℕ) : ℝ := ∑ d : Fin 128, A.D i (128 * h + d) * A.V j (128 * h + d)
/-- The row's sum of the two's product. -/
def δ (h i : ℕ) : ℝ := ∑ j : Fin 4096, pr A M h i j * dp A h i j
/-- The score's gradient. -/
def ds (h i j : ℕ) : ℝ := pr A M h i j * (dp A h i j - δ A M h i)

variable {A M}

theorem ex_nonneg (h i j : ℕ) : 0 ≤ ex A M h i j := by
  unfold ex; split_ifs
  · exact (Real.exp_pos _).le
  · exact le_rfl

theorem ℓ_pos (h i : ℕ) (hi : i < 4096) : 0 < ℓ A M h i := by
  have e : 0 < ex A M h i i := by unfold ex; rw [if_pos le_rfl]; exact Real.exp_pos _
  exact lt_of_lt_of_le e (Finset.single_le_sum (f := fun j : Fin 4096 => ex A M h i j) (fun j _ => ex_nonneg h i j) (Finset.mem_univ (⟨i, hi⟩ : Fin 4096)))

theorem pr_above {h i j : ℕ} (hj : i < j) : pr A M h i j = 0 := by unfold pr ex; rw [if_neg (by omega), zero_div]
theorem ds_above {h i j : ℕ} (hj : i < j) : ds A M h i j = 0 := by unfold ds; rw [pr_above hj, zero_mul]

/-- The row's sum from the output itself. -/
theorem δ_eq (h i : ℕ) : ∑ d : Fin 128, A.D i (128 * h + d) * (∑ j : Fin 4096, pr A M h i j * A.V j (128 * h + d)) = δ A M h i := by
  unfold δ dp
  simp only [Finset.mul_sum]
  rw [Finset.sum_comm]
  exact Finset.sum_congr rfl fun j _ => Finset.sum_congr rfl fun d _ => by ring

/-- The reference's form of the scores' gradient. -/
theorem ds_eq (h i j : ℕ) (hi : i < 4096) :
    (dp A h i j * (1 / ℓ A M h i) + -(∑ t : Fin 4096, dp A h i t * (1 * (1 / (ℓ A M h i * ℓ A M h i))) * ex A M h i t)) * ex A M h i j = ds A M h i j := by
  have hl := (ℓ_pos (A := A) (M := M) h i hi).ne'
  have e : ∑ t : Fin 4096, dp A h i t * (1 * (1 / (ℓ A M h i * ℓ A M h i))) * ex A M h i t = δ A M h i * (1 / ℓ A M h i) := by
    unfold δ pr
    rw [Finset.sum_mul]
    refine Finset.sum_congr rfl fun t _ => ?_
    field_simp
  rw [e]
  unfold ds pr
  field_simp
  try ring

/-- The probability through base two: the exponent holds the scores less the row's log-sum. -/
theorem pr_two {h i j : ℕ} (hi : i < 4096) (hj : j ≤ i) :
    Real.rpow 2 (((∑ d : Fin 128, A.K j (128 * h + d) * (A.Q i (128 * h + d) * (σ * (1 / Real.log 2)))) - (M h i + Real.log (ℓ A M h i) - A.C h i) * (1 / Real.log 2))
      - A.C h j * (1 / Real.log 2)) = pr A M h i j := by
  have hl := ℓ_pos (A := A) (M := M) h i hi
  have h2 : Real.log 2 ≠ 0 := (Real.log_pos one_lt_two).ne'
  have e : ∑ d : Fin 128, A.K j (128 * h + d) * (A.Q i (128 * h + d) * (σ * (1 / Real.log 2))) = (∑ d : Fin 128, A.Q i (128 * h + d) * A.K j (128 * h + d)) * σ * (1 / Real.log 2) := by
    rw [Finset.sum_mul, Finset.sum_mul]
    exact Finset.sum_congr rfl fun d _ => by ring
  rw [e]
  unfold pr ex
  rw [if_pos hj]
  rw [Real.rpow_eq_pow, Real.rpow_def_of_pos two_pos]
  have e2 : Real.log 2 * (((∑ d : Fin 128, A.Q i (128 * h + d) * A.K j (128 * h + d)) * σ * (1 / Real.log 2) - (M h i + Real.log (ℓ A M h i) - A.C h i) * (1 / Real.log 2)) - A.C h j * (1 / Real.log 2))
      = (sc A h i j - M h i) - Real.log (ℓ A M h i) := by
    unfold sc; field_simp; try ring
  rw [e2, Real.exp_sub, Real.exp_log hl]

end Cert.Attn
-- ==== Proof.Point.lean ====
/- One grid point of the attention's backward call in real arithmetic: from finite blocks, what the accumulators hold. -/
module

public import proofs.«01_k».proof.Proof.Ops
public import proofs.«01_k».proof.Proof.Arith

@[expose] public section

set_option maxRecDepth 16384

noncomputable section

namespace Cert.KernelIdeal.Bwd

open Cert.KernelIdeal Cert.KernelIdeal.Gen
open Idealize.ShloMosaic Idealize.ShloMosaic.TcCoe Idealize.ShloMosaic.ValueIdx

open Cert.Attn (coe_sum)

/-- One head's finite arrays: the scaled queries, the keys, the values, the output's gradient; the base-2 log-sums, forget sums and row sums. -/
structure Head where
  q2 : ℕ → ℕ → ℝ
  kk : ℕ → ℕ → ℝ
  vv : ℕ → ℕ → ℝ
  dd : ℕ → ℕ → ℝ
  lse : ℕ → ℝ
  ck : ℕ → ℝ
  dl : ℕ → ℝ

namespace Head
variable (H : Head)
/-- The score of key `j` under query `i`, less the query's log-sum. -/
def sc (j i : ℕ) : ℝ := (∑ d : Fin 128, H.kk j d * H.q2 i d) - H.lse i
/-- The probability of key `j` under query `i`. -/
def pr (j i : ℕ) : ℝ := if j ≤ i then Real.rpow 2 (H.sc j i - H.ck j) else 0
/-- The gradient of that probability, less the query's row sum. -/
def dpr (j i : ℕ) : ℝ := (∑ d : Fin 128, H.vv j d * H.dd i d) - H.dl i
/-- The gradient of the score. -/
def ds (j i : ℕ) : ℝ := H.pr j i * H.dpr j i
theorem ds_above {j i : ℕ} (h : i < j) : H.ds j i = 0 := by unfold ds pr; rw [if_neg (by omega), zero_mul]
theorem pr_above {j i : ℕ} (h : i < j) : H.pr j i = 0 := by unfold pr; rw [if_neg (by omega)]
end Head

/-- The blocks a point reads, in real numbers. -/
structure Reads (H : Head) (i : grid0.Coords) (x0 : Vec Ideal S4096x128 .bf16) (x1 x2 : Vec Ideal S512x128 .bf16) (x3 : Vec Ideal S4096x128 .bf16)
    (x5 : Vec Ideal S1x1x4096 .f32) (x6 : Vec Ideal S512x128 .f32) (dl : Vec Ideal S1x4096 .f32) : Prop where
  q : ∀ y : S4096x128.Idx, x0 y = ((H.q2 (y 0).val (y 1).val : ℝ) : EReal)
  k : ∀ y : S512x128.Idx, x1 y = ((H.kk (512 * (i 1).val + (y 0).val) (y 1).val : ℝ) : EReal)
  v : ∀ y : S512x128.Idx, x2 y = ((H.vv (512 * (i 1).val + (y 0).val) (y 1).val : ℝ) : EReal)
  o : ∀ y : S4096x128.Idx, x3 y = ((H.dd (y 0).val (y 1).val : ℝ) : EReal)
  e : ∀ y : S1x1x4096.Idx, x5 y = ((H.lse (y 2).val : ℝ) : EReal)
  c : ∀ y : S512x128.Idx, x6 (ix2 (y 0) ⟨(i 0).val, by have : (i 0).val < 16 := (i 0).isLt; omega⟩) = ((H.ck (512 * (i 1).val + (y 0).val) : ℝ) : EReal)
  l : ∀ y : S1x4096.Idx, dl y = ((H.dl (y 1).val : ℝ) : EReal)

/-- What the running sums hold after `n` blocks of queries from block `a` on, over the head's sums `B` and `C` as found. -/
structure Sums (H : Head) (a n : ℕ) (B : ℕ → ℕ → ℝ) (C : ℕ → ℝ) (S : Acc Ideal) : Prop where
  dk : ∀ y, S.dk y = ((∑ t ∈ Finset.range (512 * n), H.ds (512 * a + (y 0).val) (512 * a + t) * H.q2 (512 * a + t) (y 1).val : ℝ) : EReal)
  dv : ∀ y, S.dv y = ((∑ t ∈ Finset.range (512 * n), H.pr (512 * a + (y 0).val) (512 * a + t) * H.dd (512 * a + t) (y 1).val : ℝ) : EReal)
  dc : ∀ y, S.dc y = ((∑ g ∈ Finset.range (4 * n), H.ds (512 * a + (y 0).val) (512 * a + (128 * g + (y 1).val)) : ℝ) : EReal)
  dq : ∀ y, S.dq y = ((B (y 0).val (y 1).val + if (y 0).val < 512 * (a + n) then ∑ r : Fin 512, H.ds (512 * a + r) (y 0).val * H.kk (512 * a + r) (y 1).val else 0 : ℝ) : EReal)
  dcq : ∀ y, S.dcq y = ((C (y 1).val + if (y 1).val < 512 * (a + n) then ∑ r : Fin 512, H.ds (512 * a + r) (y 1).val else 0 : ℝ) : EReal)
  s : a + n < 8 → ∀ y, S.s y = if 512 * a + (y 0).val ≤ 512 * (a + n) + (y 1).val then ((H.sc (512 * a + (y 0).val) (512 * (a + n) + (y 1).val) : ℝ) : EReal) else ⊥
  dp : a + n < 8 → ∀ y, S.dp y = ((H.dpr (512 * a + (y 0).val) (512 * (a + n) + (y 1).val) : ℝ) : EReal)

section Point
variable {H : Head} {i : grid0.Coords} {x0 x3 : Vec Ideal S4096x128 .bf16} {x1 x2 : Vec Ideal S512x128 .bf16}
  {x5 : Vec Ideal S1x1x4096 .f32} {x6 : Vec Ideal S512x128 .f32} {dl : Vec Ideal S1x4096 .f32}

theorem rows_at {x : Vec Ideal S4096x128 .bf16} {f : ℕ → ℕ → ℝ} (h : ∀ y : S4096x128.Idx, x y = ((f (y 0).val (y 1).val : ℝ) : EReal)) (b : ℕ) (hb : b < 8)
    (y : S512x128.Idx) : rows x b y = ((f (512 * b + (y 0).val) (y 1).val : ℝ) : EReal) := by
  have h0 : (y 0).val < 512 := (y 0).isLt
  unfold rows
  rw [h]
  have e : (512 * b + (y 0).val) % 4096 = 512 * b + (y 0).val := Nat.mod_eq_of_lt (by omega)
  show ((f ((512 * b + (y 0).val) % 4096) (y 1).val : ℝ) : EReal) = _
  rw [e]

theorem score_at (R : Reads H i x0 x1 x2 x3 x5 x6 dl) (b : ℕ) (hb : b < 8) (y : S512x512.Idx) :
    (∑ d : Fin 128, x1 (ix2 (y 0) d) * rows x0 b (ix2 (y 1) d)) - lanes3 x5 b (ix3 0 0 (y 1))
      = ((H.sc (512 * (i 1).val + (y 0).val) (512 * b + (y 1).val) : ℝ) : EReal) := by
  have h1 : (y 1).val < 512 := (y 1).isLt
  have e : (512 * b + (y 1).val) % 4096 = 512 * b + (y 1).val := Nat.mod_eq_of_lt (by omega)
  unfold lanes3
  rw [R.e]
  simp only [R.k, rows_at R.q b hb, ← EReal.coe_mul]
  rw [coe_sum, ← EReal.coe_sub]
  show ((_ - H.lse ((512 * b + (y 1).val) % 4096) : ℝ) : EReal) = _
  rw [e]; rfl

theorem dprob_at (R : Reads H i x0 x1 x2 x3 x5 x6 dl) (b : ℕ) (hb : b < 8) (y : S512x512.Idx) :
    (∑ d : Fin 128, x2 (ix2 (y 0) d) * rows x3 b (ix2 (y 1) d)) - lanes dl b (ix2 0 (y 1))
      = ((H.dpr (512 * (i 1).val + (y 0).val) (512 * b + (y 1).val) : ℝ) : EReal) := by
  have h1 : (y 1).val < 512 := (y 1).isLt
  have e : (512 * b + (y 1).val) % 4096 = 512 * b + (y 1).val := Nat.mod_eq_of_lt (by omega)
  unfold lanes
  rw [R.l]
  simp only [R.v, rows_at R.o b hb, ← EReal.coe_mul]
  rw [coe_sum, ← EReal.coe_sub]
  show ((_ - H.dl ((512 * b + (y 1).val) % 4096) : ℝ) : EReal) = _
  rw [e]; rfl

theorem prob_at (R : Reads H i x0 x1 x2 x3 x5 x6 dl) {n : ℕ} {B : ℕ → ℕ → ℝ} {C : ℕ → ℝ} {S : Acc Ideal} (I : Sums H (i 1).val n B C S) (hn : (i 1).val + n < 8) (y : S512x512.Idx) :
    k0_pay17 (k0_pay43 i x6) S.s y = ((H.pr (512 * (i 1).val + (y 0).val) (512 * ((i 1).val + n) + (y 1).val) : ℝ) : EReal) := by
  rw [exps, I.s hn, k0_pay43_at]
  have c := R.c (ix2 (y 0) (⟨(y 1).val % 128, Nat.mod_lt _ (by norm_num)⟩ : Fin 128))
  refine (congrArg (fun z => Ideal.exp2 (_ - z)) c).trans ?_
  unfold Head.pr
  split_ifs with h
  · show Ideal.exp2 (_ - _) = _
    rw [← EReal.coe_sub, Ideal.exp2_coe]
  · show Ideal.exp2 (⊥ - _) = _
    rw [EReal.bot_sub]; rfl

/-- The sums before the first block. -/
theorem sums_start (R : Reads H i x0 x1 x2 x3 x5 x6 dl) {B : ℕ → ℕ → ℝ} {C : ℕ → ℝ} {dq : Vec Ideal S4096x128 .f32} {dcq : Vec Ideal S1x4096 .f32}
    (hB : ∀ y, dq y = ((B (y 0).val (y 1).val : ℝ) : EReal)) (hC : ∀ y, dcq y = ((C (y 1).val : ℝ) : EReal)) :
    Sums H (i 1).val 0 B C (start i x0 x1 x2 x3 x5 dq dcq dl) where
  dk y := (zero_at44 y).trans (by simp)
  dv y := (zero_at45 y).trans (by simp)
  dc y := (zero_at46 y).trans (by simp)
  dq y := by
    refine (hB y).trans ?_
    congr 1
    split_ifs with h
    · rw [Finset.sum_eq_zero, add_zero]
      intro r _
      rw [H.ds_above (by omega), zero_mul]
    · rw [add_zero]
  dcq y := by
    refine (hC y).trans ?_
    congr 1
    split_ifs with h
    · rw [Finset.sum_eq_zero, add_zero]
      intro r _
      exact H.ds_above (by omega)
    · rw [add_zero]
  s hn y := by
    refine (k0_pay47_at _ _ _ y).trans ?_
    rw [k0_pay41_eq, score_at R _ (by omega)]
    simp only [Nat.add_zero]
    by_cases h : (y 0).val ≤ (y 1).val
    · rw [if_pos h, if_pos (by omega)]
    · rw [if_neg h, if_neg (by omega)]
  dp hn y := by
    refine (k0_pay48_at _ _ _ y).trans ?_
    rw [k0_pay42_eq, dprob_at R _ (by omega)]
    rfl

theorem sum_block {M : Type} [AddCommMonoid M] (f : ℕ → M) (w n : ℕ) :
    ∑ t ∈ Finset.range (w * (n + 1)), f t = ∑ t ∈ Finset.range (w * n), f t + ∑ q : Fin w, f (w * n + q) := by
  rw [Nat.mul_succ, Finset.sum_range_add, Finset.sum_range (fun q => f (w * n + q))]

/-- One more block. -/
theorem sums_trip (R : Reads H i x0 x1 x2 x3 x5 x6 dl) {n : ℕ} {B : ℕ → ℕ → ℝ} {C : ℕ → ℝ} {S : Acc Ideal} (I : Sums H (i 1).val n B C S) (hn : (i 1).val + n < 8) :
    Sums H (i 1).val (n + 1) B C (trip x0 x3 x5 dl (k0_pay41 x1) (k0_pay42 x2) (k0_pay43 i x6) ((i 1).val + n) S) where
  dk y := by
    refine (k0_pay23_at _ _ _ _ y).trans ?_
    simp only [prob_at R I hn, I.dk, I.dp hn, rows_at R.q _ hn, ← EReal.coe_mul]
    rw [coe_sum, ← EReal.coe_add, sum_block]
    congr 2
    refine Finset.sum_congr rfl fun q _ => ?_
    rw [show 512 * (i 1).val + (512 * n + q.val) = 512 * ((i 1).val + n) + q.val by ring]
    rfl
  dv y := by
    refine (k0_pay20_at _ _ _ _ y).trans ?_
    simp only [prob_at R I hn, I.dv, rows_at R.o _ hn, ← EReal.coe_mul]
    rw [coe_sum, ← EReal.coe_add, sum_block]
    congr 2
    refine Finset.sum_congr rfl fun q _ => ?_
    rw [show 512 * (i 1).val + (512 * n + q.val) = 512 * ((i 1).val + n) + q.val by ring]
  dc y := by
    refine (k0_pay49_at _ _ y).trans ?_
    rw [groups]
    simp only [prob_at R I hn, I.dc, I.dp hn, ← EReal.coe_mul, ← EReal.coe_add]
    rw [sum_block]
    congr 2
    rw [Fin.sum_univ_four]
    have e : ∀ g : ℕ, 512 * (i 1).val + (128 * (4 * n + g) + (y 1).val) = 512 * ((i 1).val + n) + (128 * g + (y 1).val) := fun g => by ring
    simp only [e]
    rfl
  dq y := by
    refine (putRows_apply _ _ _ y).trans ?_
    have h0 : (y 0).val < 4096 := (y 0).isLt
    by_cases h : (y 0).val / 512 = (i 1).val + n
    · rw [if_pos h, k0_pay24_at, k0_pay41_eq]
      have er : rows S.dq ((i 1).val + n) (ix2 ⟨(y 0).val % 512, Nat.mod_lt _ (by norm_num)⟩ (y 1)) = S.dq y := by
        unfold rows
        refine congrArg S.dq (funext fun a => Fin.ext ?_)
        match a with
        | ⟨0, _⟩ => show (512 * ((i 1).val + n) + (y 0).val % 512) % 4096 = (y 0).val; omega
        | ⟨1, _⟩ => rfl
      rw [er, I.dq, if_neg (by omega), add_zero, if_pos (by omega)]
      simp only [prob_at R I hn, I.dp hn, R.k, ← EReal.coe_mul]
      rw [coe_sum, ← EReal.coe_add]
      congr 2
      refine Finset.sum_congr rfl fun r _ => ?_
      show H.pr (512 * (i 1).val + r.val) (512 * ((i 1).val + n) + (y 0).val % 512) * H.dpr (512 * (i 1).val + r.val) (512 * ((i 1).val + n) + (y 0).val % 512) * _ = _
      rw [show 512 * ((i 1).val + n) + (y 0).val % 512 = (y 0).val by omega]
      rfl
    · rw [if_neg h]
      refine (I.dq y).trans ?_
      congr 2
      by_cases h2 : (y 0).val < 512 * ((i 1).val + n)
      · rw [if_pos h2, if_pos (by omega)]
      · rw [if_neg h2, if_neg (by omega)]
  dcq y := by
    refine (putLanes_apply _ _ _ y).trans ?_
    have h0 : (y 1).val < 4096 := (y 1).isLt
    by_cases h : (y 1).val / 512 = (i 1).val + n
    · rw [if_pos h, k0_pay25_at]
      have er : lanes S.dcq ((i 1).val + n) (ix2 (y 0) ⟨(y 1).val % 512, Nat.mod_lt _ (by norm_num)⟩) = S.dcq y := by
        unfold lanes
        refine congrArg S.dcq (funext fun a => Fin.ext ?_)
        match a with
        | ⟨1, _⟩ => show (512 * ((i 1).val + n) + (y 1).val % 512) % 4096 = (y 1).val; omega
        | ⟨0, _⟩ => rfl
      rw [er, I.dcq, if_neg (by omega), add_zero, if_pos (by omega)]
      simp only [prob_at R I hn, I.dp hn, ← EReal.coe_mul]
      rw [coe_sum, ← EReal.coe_add]
      congr 2
      refine Finset.sum_congr rfl fun r _ => ?_
      show H.pr (512 * (i 1).val + r.val) (512 * ((i 1).val + n) + (y 1).val % 512) * H.dpr (512 * (i 1).val + r.val) (512 * ((i 1).val + n) + (y 1).val % 512) = _
      rw [show 512 * ((i 1).val + n) + (y 1).val % 512 = (y 1).val by omega]
      rfl
    · rw [if_neg h]
      refine (I.dcq y).trans ?_
      congr 2
      by_cases h2 : (y 1).val < 512 * ((i 1).val + n)
      · rw [if_pos h2, if_pos (by omega)]
      · rw [if_neg h2, if_neg (by omega)]
  s h y := by
    have h0 : (y 0).val < 512 := (y 0).isLt
    refine (k0_pay15_at _ _ _ y).trans ?_
    rw [k0_pay41_eq, score_at R _ (by omega), if_pos (by omega)]
    rfl
  dp h y := by
    refine (k0_pay16_at _ _ _ y).trans ?_
    rw [k0_pay42_eq, dprob_at R _ (by omega)]
    rfl

/-- The sums when the point ends. -/
theorem sums_st (R : Reads H i x0 x1 x2 x3 x5 x6 dl) {B : ℕ → ℕ → ℝ} {C : ℕ → ℝ} {S : Acc Ideal} (I : Sums H (i 1).val 0 B C S) :
    ∀ n, (i 1).val + n ≤ 8 → Sums H (i 1).val n B C (st x0 x3 x5 dl (k0_pay41 x1) (k0_pay42 x2) (k0_pay43 i x6) (i 1).val S n)
  | 0, _ => I
  | n + 1, h => sums_trip R (sums_st R I n (by omega)) (by omega)

end Point

end Cert.KernelIdeal.Bwd
-- ==== Proof.RefScores.lean ====
/- The reference's values as numbers: scores, softmax, and the gradient of the scores. -/
module

public import proofs.«01_k».proof.Proof.Gen.ReferenceIdeal.Read
public import proofs.«01_k».proof.Proof.Arith
public import Idealize.ShloMosaic.Lib.WordCmp

@[expose] public section

set_option maxRecDepth 16384

noncomputable section

namespace Cert.Attn

open Cert.ReferenceIdeal Cert.ReferenceIdeal.Gen Cert.ReferenceIdeal.Read
open Idealize.ShloMosaic Idealize.ShloMosaic.TcCoe Idealize.ShloMosaic.ValueIdx

abbrev Mat : Type := (⟨S4096x2048, .f32⟩ : BufTy).Contents (Elt Ideal)
abbrev Gate : Type := (⟨S16x4096, .f32⟩ : BufTy).Contents (Elt Ideal)

/-- The arguments hold the numbers `A`. -/
structure Holds (A : Args) (x0 x1 x2 : Mat) (x3 : Gate) (x4 : Mat) : Prop where
  q : ∀ y : S4096x2048.Idx, x0 y = ((A.Q (y 0).val (y 1).val : ℝ) : EReal)
  k : ∀ y : S4096x2048.Idx, x1 y = ((A.K (y 0).val (y 1).val : ℝ) : EReal)
  v : ∀ y : S4096x2048.Idx, x2 y = ((A.V (y 0).val (y 1).val : ℝ) : EReal)
  c : ∀ y : S16x4096.Idx, x3 y = ((A.C (y 0).val (y 1).val : ℝ) : EReal)
  d : ∀ y : S4096x2048.Idx, x4 y = ((A.D (y 0).val (y 1).val : ℝ) : EReal)

/-- A row, head and lane of an array laid out by heads. -/
theorem by_heads {x : Mat} {f : ℕ → ℕ → ℝ} (hx : ∀ y : S4096x2048.Idx, x y = ((f (y 0).val (y 1).val : ℝ) : EReal)) (y : S16x4096x128.Idx) :
    val_main_v1 (F := Ideal) x y = ((f (y 1).val (128 * (y 0).val + (y 2).val) : ℝ) : EReal) := by
  have h0 : (y 0).val < 16 := (y 0).isLt
  have h1 : (y 1).val < 4096 := (y 1).isLt
  have h2 : (y 2).val < 128 := (y 2).isLt
  rw [val_main_v1_apply, val_main_v0_apply, hx]
  show ((f ((((y 1).val * 16 + (y 0).val) * 128 + (y 2).val) / 2048) ((((y 1).val * 16 + (y 0).val) * 128 + (y 2).val) % 2048) : ℝ) : EReal) = _
  rw [show (((y 1).val * 16 + (y 0).val) * 128 + (y 2).val) / 2048 = (y 1).val by omega,
    show (((y 1).val * 16 + (y 0).val) * 128 + (y 2).val) % 2048 = 128 * (y 0).val + (y 2).val by omega]

variable {A : Args} {M : ℕ → ℕ → ℝ} {x0 x1 x2 x4 : Mat} {x3 : Gate}

theorem q_at (H : Holds A x0 x1 x2 x3 x4) (y : S16x4096x128.Idx) : val_main_v1 (F := Ideal) x0 y = ((A.Q (y 1).val (128 * (y 0).val + (y 2).val) : ℝ) : EReal) := by_heads H.q y
theorem k_at (H : Holds A x0 x1 x2 x3 x4) (y : S16x4096x128.Idx) : val_main_v3 (F := Ideal) x1 y = ((A.K (y 1).val (128 * (y 0).val + (y 2).val) : ℝ) : EReal) := by_heads H.k y
theorem v_at (H : Holds A x0 x1 x2 x3 x4) (y : S16x4096x128.Idx) : val_main_v49 (F := Ideal) x2 y = ((A.V (y 1).val (128 * (y 0).val + (y 2).val) : ℝ) : EReal) := by_heads H.v y
theorem d_at (H : Holds A x0 x1 x2 x3 x4) (y : S16x4096x128.Idx) : val_main_v54 (F := Ideal) x4 y = ((A.D (y 1).val (128 * (y 0).val + (y 2).val) : ℝ) : EReal) := by_heads H.d y

/-- The mask: keys up to the query. -/
theorem mask_at (y : S16x4096x4096.Idx) : val_main_v19_1 (F := Ideal) y = if (y 2).val ≤ (y 1).val then 1#1 else 0#1 := by
  have h1 : (y 1).val < 4096 := (y 1).isLt
  have h2 : (y 2).val < 4096 := (y 2).isLt
  rw [val_main_v19_1_apply, val_main_v18_apply, val_main_v16_apply, val_main_v14_apply, val_main_v13_apply, val_main_v17_apply, val_main_v15_apply, val_main_v13_apply]
  show IntOp.cmpi .sle (BitVec.ofNat 32 (y 2).val) (BitVec.ofNat 32 (y 1).val) = _
  rw [WordCmp.cmpi_sle_eq, WordCmp.toInt_ofNat_of_lt (by omega), WordCmp.toInt_ofNat_of_lt (by omega)]
  by_cases h : (y 2).val ≤ (y 1).val
  · rw [if_pos h, decide_eq_true (by exact_mod_cast h)]; rfl
  · rw [if_neg h, decide_eq_false (by exact_mod_cast h)]; rfl

theorem score_at (H : Holds A x0 x1 x2 x3 x4) (y : S16x4096x4096.Idx) : val_main_v12 (F := Ideal) x0 x1 x3 y = ((sc A (y 0).val (y 1).val (y 2).val : ℝ) : EReal) := by
  rw [val_main_v12_apply, val_main_v9_apply, val_main_v6_apply, val_main_v5_apply, val_main_cst_apply, val_main_v4_apply, val_main_v8_apply, val_main_v7_apply, H.c,
    val_main_v11_apply, val_main_v10_apply, H.c]
  simp only [q_at H, k_at H, ← EReal.coe_mul]
  rw [coe_sum, Ideal.ofBits_def, scale_eq, Ideal.mulf_def, Ideal.addf_def, Ideal.subf_def, ← EReal.coe_mul, ← EReal.coe_add, ← EReal.coe_sub]
  rfl

theorem masked_at (H : Holds A x0 x1 x2 x3 x4) (y : S16x4096x4096.Idx) :
    val_main_v19_0 (F := Ideal) x0 x1 x3 y = if (y 2).val ≤ (y 1).val then ((sc A (y 0).val (y 1).val (y 2).val : ℝ) : EReal) else ⊥ := by
  rw [val_main_v19_0_apply, mask_at, score_at H, val_main_call0_v2_apply, val_main_call0_v0_apply]
  by_cases h : (y 2).val ≤ (y 1).val
  · rw [if_pos h, if_pos h]; rfl
  · rw [if_neg h, if_neg h]; exact ninf_eq

/-- The row maxima are numbers. -/
theorem max_at (H : Holds A x0 x1 x2 x3 x4) : ∃ M : ℕ → ℕ → ℝ, ∀ y : S16x4096.Idx, val_main_v20 (F := Ideal) x0 x1 x3 y = ((M (y 0).val (y 1).val : ℝ) : EReal) := by
  have e : ∀ y : S16x4096.Idx, ∃ r : ℝ, val_main_v20 (F := Ideal) x0 x1 x3 y = (r : EReal) := fun y => by
    have hr : S16x4096x4096.Reduces [2] S16x4096 := by decide
    unfold val_main_v20
    rw [Host.reduce_eq_fold_single _ _ _ _ hr]
    rw [show val_main_cst_1 (F := Ideal) (Shape.Idx.first h_S_) = ⊥ from ninf_eq]
    refine max_real _ _ (fun k _ => ?_) (⟨(y 1).val, (y 1).isLt⟩ : Fin 4096) (Finset.mem_univ _) ?_
    · show val_main_v19_0 (F := Ideal) x0 x1 x3 _ ≠ ⊤
      rw [masked_at H]
      split_ifs
      · exact EReal.coe_ne_top _
      · exact bot_ne_top
    · show val_main_v19_0 (F := Ideal) x0 x1 x3 _ ≠ ⊥
      rw [masked_at H]
      refine (if_pos (le_of_eq ?_)).trans_ne ?_
      · rfl
      exact EReal.coe_ne_bot _
  choose f hf using e
  refine ⟨fun a b => if h : a < 16 ∧ b < 4096 then f (ix2 ⟨a, h.1⟩ ⟨b, h.2⟩) else 0, fun y => ?_⟩
  rw [hf]
  show _ = ((if h : (y 0).val < 16 ∧ (y 1).val < 4096 then f (ix2 ⟨(y 0).val, h.1⟩ ⟨(y 1).val, h.2⟩) else 0 : ℝ) : EReal)
  rw [dif_pos ⟨(y 0).isLt, (y 1).isLt⟩]
  congr 2
  exact funext fun a => by match a with | ⟨0, _⟩ => rfl | ⟨1, _⟩ => rfl

/-- A number or `⊥`, less a number, exponentiated. -/
theorem exp_masked (p : Prop) [Decidable p] (a b : ℝ) : Ideal.exp ((if p then (a : EReal) else ⊥) - (b : EReal)) = ((if p then Real.exp (a - b) else 0 : ℝ) : EReal) := by
  split_ifs
  · rw [← EReal.coe_sub, Ideal.exp_coe]
  · rw [EReal.bot_sub]; rfl

theorem ex_at (H : Holds A x0 x1 x2 x3 x4) (hM : ∀ y : S16x4096.Idx, val_main_v20 (F := Ideal) x0 x1 x3 y = ((M (y 0).val (y 1).val : ℝ) : EReal)) (y : S16x4096x4096.Idx) :
    val_main_v40 (F := Ideal) x0 x1 x3 y = ((ex A M (y 0).val (y 1).val (y 2).val : ℝ) : EReal) := by
  rw [val_main_v40_apply, val_main_v39_apply, masked_at H, val_main_v38_apply, val_main_v37_apply, val_main_v27_apply, val_main_v26_apply, val_main_cst_3_apply, hM,
    Ideal.ofBits_def, ninf_eq]
  rw [show FloatOps.maximumf (F := Ideal) (φ := .f32) (⊥ : EReal) ((M (y 0).val (y 1).val : ℝ) : EReal) = ((M (y 0).val (y 1).val : ℝ) : EReal) from max_eq_right bot_le]
  exact exp_masked _ _ _

theorem sum_at (H : Holds A x0 x1 x2 x3 x4) (hM : ∀ y : S16x4096.Idx, val_main_v20 (F := Ideal) x0 x1 x3 y = ((M (y 0).val (y 1).val : ℝ) : EReal)) (y : S16x4096x1.Idx) :
    val_main_v42 (F := Ideal) x0 x1 x3 y = ((ℓ A M (y 0).val (y 1).val : ℝ) : EReal) := by
  rw [val_main_v42_apply, val_main_v41_apply, val_main_cst_9_apply, Ideal.ofBits_def, Ideal.ofBits_zero_f32, zero_add]
  simp only [ex_at H hM]
  rw [coe_sum]; rfl

theorem pr_at (H : Holds A x0 x1 x2 x3 x4) (hM : ∀ y : S16x4096.Idx, val_main_v20 (F := Ideal) x0 x1 x3 y = ((M (y 0).val (y 1).val : ℝ) : EReal)) (y : S16x4096x4096.Idx) :
    val_main_v44 (F := Ideal) x0 x1 x3 y = ((pr A M (y 0).val (y 1).val (y 2).val : ℝ) : EReal) := by
  rw [val_main_v44_apply, ex_at H hM, val_main_v43_apply, sum_at H hM, Ideal.hostDivf_def, Ideal.div_coe (ℓ_pos _ _ (y 1).isLt).ne', ← EReal.coe_mul]
  unfold pr
  rw [mul_one_div]

theorem dp_at (H : Holds A x0 x1 x2 x3 x4) (y : S16x4096x4096.Idx) : val_main_v57 (F := Ideal) x2 x4 y = ((dp A (y 0).val (y 1).val (y 2).val : ℝ) : EReal) := by
  rw [val_main_v57_apply]
  simp only [d_at H, v_at H, ← EReal.coe_mul]
  rw [coe_sum]; rfl

theorem ds_at (H : Holds A x0 x1 x2 x3 x4) (hM : ∀ y : S16x4096.Idx, val_main_v20 (F := Ideal) x0 x1 x3 y = ((M (y 0).val (y 1).val : ℝ) : EReal)) (y : S16x4096x4096.Idx) :
    val_main_v72 (F := Ideal) x0 x1 x2 x3 x4 y = ((ds A M (y 0).val (y 1).val (y 2).val : ℝ) : EReal) := by
  have hi : (y 1).val < 4096 := (y 1).isLt
  have hl := (ℓ_pos (A := A) (M := M) (y 0).val (y 1).val hi).ne'
  rw [val_main_v72_apply, mask_at]
  by_cases h : (y 2).val ≤ (y 1).val
  · rw [if_pos h]
    refine Eq.trans (b := val_main_v71 (F := Ideal) x0 x1 x2 x3 x4 y) rfl ?_
    rw [val_main_v71_apply, val_main_v70_apply, ex_at H hM, val_main_v67_apply, dp_at H, val_main_v66_apply, sum_at H hM, val_main_v69_apply, val_main_v68_apply, val_main_cst_12_apply,
      Ideal.ofBits_def, Ideal.ofBits_zero_f32, zero_add]
    simp only [val_main_v65_apply, val_main_v64_apply, val_main_v63_apply, val_main_v62_apply, val_main_v61_apply, ex_at H hM, dp_at H, val_main_v60_apply, val_main_v47_apply, val_main_v46_apply,
      val_main_v45_apply, sum_at H hM, val_main_cst_10_apply, val_main_cst_11_apply, Ideal.ofBits_def, Ideal.ofBits_zero_f32, one_eq, zero_add, Ideal.mulf_def, Ideal.addf_def, Ideal.hostDivf_def, Ideal.hostNegf_def]
    rw [Fin.sum_univ_one]
    have h0 : (y 0).val < 16 := (y 0).isLt
    have e1 : (((y 0).val * 4096 + (y 1).val) * 1 + ((0 : Fin 1) : ℕ)) / 4096 = (y 0).val := by show (((y 0).val * 4096 + (y 1).val) * 1 + 0) / 4096 = _; omega
    have e2 : (((y 0).val * 4096 + (y 1).val) * 1 + ((0 : Fin 1) : ℕ)) % 4096 = (y 1).val := by show (((y 0).val * 4096 + (y 1).val) * 1 + 0) % 4096 = _; omega
    rw [e1, e2]
    simp only [← EReal.coe_mul, Ideal.div_coe hl, Ideal.div_coe (mul_ne_zero hl hl), Ideal.negf_def]
    rw [coe_sum, ← EReal.coe_neg, ← EReal.coe_add, ← EReal.coe_mul]
    exact congrArg _ (ds_eq (A := A) (M := M) (y 0).val (y 1).val (y 2).val hi)
  · rw [if_neg h, ds_above (by omega)]
    refine Eq.trans (b := val_main_call1_v0 (F := Ideal) y) rfl ?_
    rw [val_main_call1_v0_apply, val_main_call1_cst_apply]
    exact Ideal.ofBits_zero_f32

end Cert.Attn
-- ==== Proof.RefResults.lean ====
/- The reference's five results as numbers. -/
module

public import proofs.«01_k».proof.Proof.RefScores

@[expose] public section

set_option maxRecDepth 16384

noncomputable section

namespace Cert.Attn

open Cert.ReferenceIdeal Cert.ReferenceIdeal.Gen Cert.ReferenceIdeal.Read
open Idealize.ShloMosaic Idealize.ShloMosaic.TcCoe Idealize.ShloMosaic.ValueIdx

variable {A : Args} {M : ℕ → ℕ → ℝ} {x0 x1 x2 x4 x5 : Mat} {x3 : Gate}

/-- Two arrays side by side. -/
theorem pair_at {α : Type} (a b : S4096x2048.Idx → α) (h : Shape.Concatenates [S4096x2048, S4096x2048] S4096x4096 1) (y : S4096x4096.Idx) :
    concatenate S4096x4096 1 [⟨S4096x2048, a⟩, ⟨S4096x2048, b⟩] h y
      = if hy : (y 1).val < 2048 then a (ix2 (y 0) ⟨(y 1).val, hy⟩) else b (ix2 (y 0) ⟨(y 1).val - 2048, by have : (y 1).val < 4096 := (y 1).isLt; omega⟩) := by
  by_cases hy : (y 1).val < 2048
  · rw [dif_pos hy]
    exact concatenate_pair_apply_left (1 : Fin S4096x4096.rank) a b h y rfl _ fun b => match b with | ⟨0, _⟩ => rfl | ⟨1, _⟩ => rfl
  · rw [dif_neg hy]
    refine concatenate_pair_apply_right (1 : Fin S4096x4096.rank) a b h y rfl rfl _ (fun b hb => ?_) ?_
    · match b with
      | ⟨0, _⟩ => rfl
      | ⟨1, _⟩ => exact absurd rfl hb
    · show (y 1).val - 2048 + 2048 = (y 1).val
      omega

theorem dqz_at (y : S4096x4096.Idx) : val_main_v91 (F := Ideal) x0 x1 x2 x3 x4 x5 y
    = if hy : (y 1).val < 2048 then val_main_v87 (F := Ideal) x0 x1 x2 x3 x4 (ix2 (y 0) ⟨(y 1).val, hy⟩) else x5 (ix2 (y 0) ⟨(y 1).val - 2048, by have : (y 1).val < 4096 := (y 1).isLt; omega⟩) := by
  rw [val_main_v91_apply, Ideal.truncf_def]
  exact pair_at _ _ _ y

theorem dk_at (H : Holds A x0 x1 x2 x3 x4) (hM : ∀ y : S16x4096.Idx, val_main_v20 (F := Ideal) x0 x1 x3 y = ((M (y 0).val (y 1).val : ℝ) : EReal)) (y : S4096x2048.Idx) :
    val_main_v88 (F := Ideal) x0 x1 x2 x3 x4 y = ((∑ t : Fin 4096, ds A M ((y 1).val / 128) t (y 0).val * σ * A.Q t (y 1).val : ℝ) : EReal) := by
  have h1 : (y 1).val < 2048 := (y 1).isLt
  rw [val_main_v88_apply, val_main_v85_apply, val_main_v84_apply, val_main_v82_apply]
  simp only [val_main_v81_apply, val_main_v80_apply, val_main_cst_17_apply, ds_at H hM, q_at H, Ideal.ofBits_def, scale_eq, Ideal.mulf_def, ← EReal.coe_mul]
  rw [coe_sum]
  rw [Ideal.truncf_def]
  rw [show ((y 0).val * 2048 + (y 1).val) / 128 % 16 = (y 1).val / 128 by omega, show ((y 0).val * 2048 + (y 1).val) / 2048 = (y 0).val by omega,
    show 128 * ((y 1).val / 128) + ((y 0).val * 2048 + (y 1).val) % 128 = (y 1).val by omega]

theorem dv_at (H : Holds A x0 x1 x2 x3 x4) (hM : ∀ y : S16x4096.Idx, val_main_v20 (F := Ideal) x0 x1 x3 y = ((M (y 0).val (y 1).val : ℝ) : EReal)) (y : S4096x2048.Idx) :
    val_main_v89 (F := Ideal) x0 x1 x3 x4 y = ((∑ t : Fin 4096, A.D t (y 1).val * pr A M ((y 1).val / 128) t (y 0).val : ℝ) : EReal) := by
  have h1 : (y 1).val < 2048 := (y 1).isLt
  rw [val_main_v89_apply, val_main_v59_apply, val_main_v58_apply, val_main_v56_apply, val_main_v55_apply]
  simp only [pr_at H hM, d_at H, ← EReal.coe_mul]
  rw [coe_sum]
  rw [Ideal.truncf_def]
  rw [show ((y 0).val * 2048 + (y 1).val) / 128 % 16 = (y 1).val / 128 by omega, show ((y 0).val * 2048 + (y 1).val) / 2048 = (y 0).val by omega,
    show 128 * ((y 1).val / 128) + ((y 0).val * 2048 + (y 1).val) % 128 = (y 1).val by omega]

theorem dq_at (H : Holds A x0 x1 x2 x3 x4) (hM : ∀ y : S16x4096.Idx, val_main_v20 (F := Ideal) x0 x1 x3 y = ((M (y 0).val (y 1).val : ℝ) : EReal)) (y : S4096x2048.Idx) :
    val_main_v87 (F := Ideal) x0 x1 x2 x3 x4 y = ((∑ t : Fin 4096, ds A M ((y 1).val / 128) (y 0).val t * σ * A.K t (y 1).val : ℝ) : EReal) := by
  have h1 : (y 1).val < 2048 := (y 1).isLt
  rw [val_main_v87_apply, val_main_v86_apply, val_main_v83_apply]
  simp only [val_main_v81_apply, val_main_v80_apply, val_main_cst_17_apply, ds_at H hM, k_at H, Ideal.ofBits_def, scale_eq, Ideal.mulf_def, ← EReal.coe_mul]
  rw [coe_sum]
  rw [show ((y 0).val * 2048 + (y 1).val) / 128 % 16 = (y 1).val / 128 by omega, show ((y 0).val * 2048 + (y 1).val) / 2048 = (y 0).val by omega,
    show 128 * ((y 1).val / 128) + ((y 0).val * 2048 + (y 1).val) % 128 = (y 1).val by omega]

theorem dcq_at (H : Holds A x0 x1 x2 x3 x4) (hM : ∀ y : S16x4096.Idx, val_main_v20 (F := Ideal) x0 x1 x3 y = ((M (y 0).val (y 1).val : ℝ) : EReal)) (y : S16x1x4096.Idx) :
    val_main_v92 (F := Ideal) x0 x1 x2 x3 x4 y = ((∑ t : Fin 4096, ds A M (y 0).val (y 2).val t : ℝ) : EReal) := by
  have h2 : (y 2).val < 4096 := (y 2).isLt
  rw [val_main_v92_apply, val_main_v79_apply]
  simp only [val_main_v78_apply, val_main_v77_apply, val_main_cst_15_apply, val_main_cst_16_apply, ds_at H hM, Ideal.ofBits_def, Ideal.ofBits_zero_f32, zero_add]
  rw [Fin.sum_univ_one, coe_sum]
  rw [show (((y 0).val * 4096 + (y 2).val) * 1 + ((0 : Fin 1) : ℕ)) / 4096 = (y 0).val by show (((y 0).val * 4096 + (y 2).val) * 1 + 0) / 4096 = _; omega,
    show (((y 0).val * 4096 + (y 2).val) * 1 + ((0 : Fin 1) : ℕ)) % 4096 = (y 2).val by show (((y 0).val * 4096 + (y 2).val) * 1 + 0) % 4096 = _; omega]

theorem dck_at (H : Holds A x0 x1 x2 x3 x4) (hM : ∀ y : S16x4096.Idx, val_main_v20 (F := Ideal) x0 x1 x3 y = ((M (y 0).val (y 1).val : ℝ) : EReal)) (y : S16x1x4096.Idx) :
    val_main_v94 (F := Ideal) x0 x1 x2 x3 x4 y = ((∑ t : Fin 4096, ds A M (y 0).val t (y 2).val : ℝ) : EReal) := by
  have h2 : (y 2).val < 4096 := (y 2).isLt
  rw [val_main_v94_apply, val_main_v93_apply, val_main_v76_apply]
  simp only [val_main_v75_apply, val_main_v74_apply, val_main_v73_apply, val_main_cst_13_apply, val_main_cst_14_apply, ds_at H hM, Ideal.ofBits_def, Ideal.ofBits_zero_f32, zero_add, Ideal.hostNegf_def, Ideal.negf_def]
  rw [Fin.sum_univ_one]
  simp only [← EReal.coe_neg]
  rw [coe_sum]
  rw [show (((y 0).val * 1 + ((0 : Fin 1) : ℕ)) * 4096 + (y 2).val) / 4096 = (y 0).val by show (((y 0).val * 1 + 0) * 4096 + (y 2).val) / 4096 = _; omega,
    show (((y 0).val * 1 + ((0 : Fin 1) : ℕ)) * 4096 + (y 2).val) % 4096 = (y 2).val by show (((y 0).val * 1 + 0) * 4096 + (y 2).val) % 4096 = _; omega]
  rw [← EReal.coe_neg, Finset.sum_neg_distrib, neg_neg]

end Cert.Attn
-- ==== Proof.Host.lean ====
/- What the call's arguments hold when it is entered, as numbers. -/
module

public import proofs.«01_k».proof.Proof.Point
public import proofs.«01_k».proof.Proof.RefResults
public import Idealize.ShloMosaic.Lib.StableHlo.RunRead
public import Idealize.ShloMosaic.Lib.KernelVsHost

@[expose] public section

set_option maxRecDepth 16384

noncomputable section

namespace Cert.KernelIdeal.Bwd

open Cert.KernelIdeal Cert.KernelIdeal.Gen
open Idealize.ShloMosaic Idealize.ShloMosaic.TcCoe Idealize.ShloMosaic.ValueIdx Idealize.ShloMosaic.StableHlo
open Cert.ReferenceIdeal.Read
open Cert.Attn (Args Holds σ ℓ pr)

variable (m : (ℓ : Loc nD τ sig) → Buf (Elt Ideal) ℓ) (c : Dev nD)

abbrev arg0 : Cert.Attn.Mat := m ((c : Thread nD τ).loc main_arg0)
abbrev arg1 : Cert.Attn.Mat := m ((c : Thread nD τ).loc main_arg1)
abbrev arg2 : Cert.Attn.Mat := m ((c : Thread nD τ).loc main_arg2)
abbrev arg3 : Cert.Attn.Gate := m ((c : Thread nD τ).loc main_arg3)
abbrev arg4 : Cert.Attn.Mat := m ((c : Thread nD τ).loc main_arg4)
abbrev arg5 : Cert.Attn.Mat := m ((c : Thread nD τ).loc main_arg5)

theorem V_scores : V m c main_v19 = val_main_v19_0 (F := Ideal) (arg0 m c) (arg1 m c) (arg3 m c) := by
  after_reads_simp
  rfl

theorem V_max : V m c main_v20 = val_main_v20 (F := Ideal) (arg0 m c) (arg1 m c) (arg3 m c) := by
  after_reads_simp
  rfl

/-- The reference's row maximum is not below `⊥`. -/
theorem shift_eq (x0 x1 : Cert.Attn.Mat) (x3 : Cert.Attn.Gate) : val_main_v27 (F := Ideal) x0 x1 x3 = val_main_v20 (F := Ideal) x0 x1 x3 := by
  funext y
  rw [val_main_v27_apply, val_main_v26_apply, val_main_cst_3_apply, Ideal.ofBits_def, Cert.Attn.ninf_eq]
  exact max_eq_right bot_le

section
variable (x0 x1 x2 : FVec Ideal S4096x2048 .f32) (x3 : FVec Ideal S16x4096 .f32)

/-- The base-two logarithm of `e`. -/
def l2e : FVec Ideal S_ .f32 := Host.divf (constant S_ .f32 0x3F800000#32) (Host.log (constant S_ .f32 0x40000000#32))
/-- The forward call's output. -/
def hOut : FVec Ideal S4096x2048 .bf16 := truncf .bf16 (show FVec Ideal S4096x2048 .f32 from val_main_v52 (F := Ideal) x0 x1 x2 x3) bitsLt_bf16_f32
/-- The rows' log-sums. -/
def hSum : FVec Ideal S16x4096x1 .f32 :=
  addf (broadcastInDim S16x4096x1 ![0, 1] bcast_S16x4096_S16x4096x1_0_1 (show FVec Ideal S16x4096 .f32 from val_main_v20 (F := Ideal) x0 x1 x3)) (Host.log (show FVec Ideal S16x4096x1 .f32 from val_main_v42 (F := Ideal) x0 x1 x3))
def hLse : FVec Ideal S16x1x4096 .f32 :=
  broadcastInDim S16x1x4096 ![0, 2] bcast_S16x4096_S16x1x4096_0_2
    (mulf (subf (shapeCast S16x4096 (hSum x0 x1 x3) shapeCasts_S16x4096x1_S16x4096) x3) (broadcastInDim S16x4096 ![] bcast_S_S16x4096 l2e))
def hQ2 : FVec Ideal S4096x2048 .bf16 :=
  truncf .bf16 (mulf x0 (broadcastInDim S4096x2048 ![] bcast_S_S4096x2048 (mulf (constant S_ .f32 0x3DB504F3#32) l2e))) bitsLt_bf16_f32
def hPair : FVec Ideal S4096x4096 .bf16 :=
  truncf .bf16 (concatenate S4096x4096 1 [⟨S4096x2048, x0⟩, ⟨S4096x2048, x1⟩] concatenates_S4096x2048_S4096x2048_S4096x4096_d1) bitsLt_bf16_f32
def hZero : FVec Ideal S4096x2048 .f32 := broadcastInDim S4096x2048 ![] bcast_S_S4096x2048 (constant S_ .f32 0x00000000#32)
def hDo : FVec Ideal S4096x2048 .bf16 := truncf .bf16 x0 bitsLt_bf16_f32
def hCum : FVec Ideal S4096x128 .f32 :=
  pad S4096x128 ![0, 0] ![0, 112] ![0, 0] (transpose S4096x16 [1, 0] (mulf x3 (broadcastInDim S16x4096 ![] bcast_S_S16x4096 l2e)) transposes_S16x4096_S4096x16_1_0)
    (sitofp .f32 (constantI S_ 32 0#32)) pads_S4096x16_S4096x128_000_01120 h_S_
end

theorem V_out : V m c main_v34 = hOut (arg0 m c) (arg1 m c) (arg2 m c) (arg3 m c) := by
  after_reads_simp
  simp only [hOut, val_main_v52, val_main_v51, val_main_v50, val_main_v44, val_main_v43, val_main_v42, val_main_v41, val_main_v40, val_main_v39, val_main_v38, val_main_v37, shift_eq]
  rfl
theorem V_lse : V m c main_v57 = hLse (arg0 m c) (arg1 m c) (arg3 m c) := by
  after_reads_simp
  simp only [hLse, hSum, val_main_v42, val_main_v41, val_main_v40, val_main_v39, val_main_v38, val_main_v37, shift_eq]
  rfl
theorem V_q2 : V m c main_v46 = hQ2 (arg0 m c) := by
  after_reads_simp
  rfl
theorem V_kv : V m c main_v48 = hPair (arg1 m c) (arg2 m c) := by
  after_reads_simp
  rfl
theorem V_do : V m c main_v56 = hDo (arg4 m c) := by
  after_reads_simp
  rfl
theorem V_dqz : V m c main_v58_2 = hPair hZero (arg5 m c) := by
  after_reads_simp
  rfl
theorem V_cum : V m c main_v52 = hCum (arg3 m c) := by
  after_reads_simp
  rfl

end Cert.KernelIdeal.Bwd
-- ==== Proof.HostAt.lean ====
/- The entries of the call's arguments, as numbers. -/
module

public import proofs.«01_k».proof.Proof.Host
public import Idealize.ShloMosaic.Lib.KernelVsHost

@[expose] public section

set_option maxRecDepth 16384

noncomputable section

namespace Cert.KernelIdeal.Bwd

open Cert.KernelIdeal Cert.KernelIdeal.Gen
open Idealize.ShloMosaic Idealize.ShloMosaic.TcCoe Idealize.ShloMosaic.ValueIdx Idealize.ShloMosaic.StableHlo
open Cert.ReferenceIdeal.Read
open Cert.Attn (Args Holds σ ℓ pr)

section
variable {A : Args} {M : ℕ → ℕ → ℝ} {x0 x1 x2 x4 : Cert.Attn.Mat} {x3 : Cert.Attn.Gate}

theorem l2e_at (y : S_.Idx) : l2e y = ((1 / Real.log 2 : ℝ) : EReal) := by
  show Ideal.div (Ideal.ofBits .f32 0x3F800000#32) (Ideal.log (Ideal.ofBits .f32 0x40000000#32)) = _
  rw [Cert.Attn.one_eq, Cert.Attn.two_eq, Ideal.log_coe, if_neg (by norm_num), Ideal.div_coe (Real.log_pos one_lt_two).ne', ← EReal.coe_mul, one_mul]

theorem hOut_at (H : Holds A x0 x1 x2 x3 x4) (hM : ∀ y : S16x4096.Idx, val_main_v20 (F := Ideal) x0 x1 x3 y = ((M (y 0).val (y 1).val : ℝ) : EReal)) (y : S4096x2048.Idx) :
    hOut x0 x1 x2 x3 y = ((∑ j : Fin 4096, pr A M ((y 1).val / 128) (y 0).val j * A.V j (y 1).val : ℝ) : EReal) := by
  have h0 : (y 0).val < 4096 := (y 0).isLt
  have h1 : (y 1).val < 2048 := (y 1).isLt
  refine Eq.trans (b := val_main_v52 (F := Ideal) x0 x1 x2 x3 y) rfl ?_
  rw [val_main_v52_apply, val_main_v51_apply, val_main_v50_apply]
  simp only [Cert.Attn.pr_at H hM, Cert.Attn.v_at H, ← EReal.coe_mul]
  rw [Cert.Attn.coe_sum]
  refine congrArg _ (Finset.sum_congr rfl fun j _ => ?_)
  show pr A M (((y 0).val * 2048 + (y 1).val) / 128 % 16) (((y 0).val * 2048 + (y 1).val) / 2048) j
    * A.V j (128 * (((y 0).val * 2048 + (y 1).val) / 128 % 16) + ((y 0).val * 2048 + (y 1).val) % 128) = _
  rw [show ((y 0).val * 2048 + (y 1).val) / 128 % 16 = (y 1).val / 128 by omega, show ((y 0).val * 2048 + (y 1).val) / 2048 = (y 0).val by omega,
    show 128 * ((y 1).val / 128) + ((y 0).val * 2048 + (y 1).val) % 128 = (y 1).val by omega]

/-- The one entry of a scalar, spread. -/
theorem spread_at {t : Shape} (h : S_.BroadcastsInDim t ![]) (x : FVec Ideal S_ .f32) (r : EReal) (hx : ∀ y, x y = r) (y : t.Idx) : broadcastInDim t ![] h x y = r := hx _

theorem col_at (a : FVec Ideal S16x4096 .f32) (y : S16x4096x1.Idx) : broadcastInDim S16x4096x1 ![0, 1] bcast_S16x4096_S16x4096x1_0_1 a y = a (ix2 ⟨(y 0).val, (y 0).isLt⟩ ⟨(y 1).val, (y 1).isLt⟩) :=
  broadcastInDim_apply _ bcast_S16x4096_S16x4096x1_0_1 a y _ (fun a => match a with
    | ⟨0, _⟩ => by show (y 0).val = if (16 : Nat) = 1 then 0 else (y 0).val; rw [if_neg (by decide)]
    | ⟨1, _⟩ => by show (y 1).val = if (4096 : Nat) = 1 then 0 else (y 1).val; rw [if_neg (by decide)])

theorem add_log_at (a : FVec Ideal S16x4096 .f32) (b : FVec Ideal S16x4096x1 .f32) (y : S16x4096x1.Idx) :
    addf (broadcastInDim S16x4096x1 ![0, 1] bcast_S16x4096_S16x4096x1_0_1 a) (Host.log b) y = a (ix2 ⟨(y 0).val, (y 0).isLt⟩ ⟨(y 1).val, (y 1).isLt⟩) + Ideal.log (b y) := by
  exact congrArg (· + Ideal.log (b y)) (col_at a y)

theorem hSum_at (H : Holds A x0 x1 x2 x3 x4) (hM : ∀ y : S16x4096.Idx, val_main_v20 (F := Ideal) x0 x1 x3 y = ((M (y 0).val (y 1).val : ℝ) : EReal)) (y : S16x4096x1.Idx) :
    hSum x0 x1 x3 y = ((M (y 0).val (y 1).val + Real.log (ℓ A M (y 0).val (y 1).val) : ℝ) : EReal) := by
  have h1 : (y 1).val < 4096 := (y 1).isLt
  unfold hSum
  rw [add_log_at]
  refine Eq.trans (b := val_main_v20 (F := Ideal) x0 x1 x3 (ix2 ⟨(y 0).val, (y 0).isLt⟩ ⟨(y 1).val, (y 1).isLt⟩) + Ideal.log (val_main_v42 (F := Ideal) x0 x1 x3 y)) rfl ?_
  rw [hM, Cert.Attn.sum_at H hM, Ideal.log_coe, if_neg (not_le.mpr (Cert.Attn.ℓ_pos _ _ h1)), ← EReal.coe_add]

theorem flat_at (a : FVec Ideal S16x4096x1 .f32) (b : FVec Ideal S16x4096 .f32) (l : FVec Ideal S16x4096 .f32) (y : S16x1x4096.Idx) :
    broadcastInDim S16x1x4096 ![0, 2] bcast_S16x4096_S16x1x4096_0_2 (mulf (subf (shapeCast S16x4096 a shapeCasts_S16x4096x1_S16x4096) b) l) y
      = (a (ix3 ⟨(y 0).val, (y 0).isLt⟩ ⟨(y 2).val, (y 2).isLt⟩ ⟨0, Nat.one_pos⟩) - b (ix2 ⟨(y 0).val, (y 0).isLt⟩ ⟨(y 2).val, (y 2).isLt⟩)) * l (ix2 ⟨(y 0).val, (y 0).isLt⟩ ⟨(y 2).val, (y 2).isLt⟩) := by
  rw [← shapeCast_apply a shapeCasts_S16x4096x1_S16x4096 (ix2 ⟨(y 0).val, (y 0).isLt⟩ ⟨(y 2).val, (y 2).isLt⟩) (ix3 ⟨(y 0).val, (y 0).isLt⟩ ⟨(y 2).val, (y 2).isLt⟩ ⟨0, Nat.one_pos⟩)
    (by rewrite [Shape.rowMajor_val_three, Shape.rowMajor_val_two]; show ((y 0).val * 4096 + (y 2).val) * 1 + 0 = (y 0).val * 4096 + (y 2).val; omega)]
  exact broadcastInDim_apply _ bcast_S16x4096_S16x1x4096_0_2 _ y (ix2 ⟨(y 0).val, (y 0).isLt⟩ ⟨(y 2).val, (y 2).isLt⟩) (fun a => match a with
    | ⟨0, _⟩ => by show (y 0).val = if (16 : Nat) = 1 then 0 else (y 0).val; rw [if_neg (by decide)]
    | ⟨1, _⟩ => by show (y 2).val = if (4096 : Nat) = 1 then 0 else (y 2).val; rw [if_neg (by decide)])

theorem hLse_at (H : Holds A x0 x1 x2 x3 x4) (hM : ∀ y : S16x4096.Idx, val_main_v20 (F := Ideal) x0 x1 x3 y = ((M (y 0).val (y 1).val : ℝ) : EReal)) (y : S16x1x4096.Idx) :
    hLse x0 x1 x3 y = (((M (y 0).val (y 2).val + Real.log (ℓ A M (y 0).val (y 2).val) - A.C (y 0).val (y 2).val) * (1 / Real.log 2) : ℝ) : EReal) := by
  unfold hLse
  rw [flat_at, hSum_at H hM, H.c, spread_at _ _ _ l2e_at, ← EReal.coe_sub, ← EReal.coe_mul]

theorem hQ2_at (H : Holds A x0 x1 x2 x3 x4) (y : S4096x2048.Idx) : hQ2 x0 y = ((A.Q (y 0).val (y 1).val * (σ * (1 / Real.log 2)) : ℝ) : EReal) := by
  refine Eq.trans (b := x0 y * (Ideal.ofBits .f32 0x3DB504F3#32 * l2e _)) rfl ?_
  rw [H.q, Cert.Attn.scale_eq, l2e_at, ← EReal.coe_mul, ← EReal.coe_mul]

theorem hPair_at (x y' : FVec Ideal S4096x2048 .f32) (y : S4096x4096.Idx) : hPair x y' y
    = if hy : (y 1).val < 2048 then x (ix2 (y 0) ⟨(y 1).val, hy⟩) else y' (ix2 (y 0) ⟨(y 1).val - 2048, by have : (y 1).val < 4096 := (y 1).isLt; omega⟩) :=
  Cert.Attn.pair_at x y' concatenates_S4096x2048_S4096x2048_S4096x4096_d1 y

theorem lanes_at (a l : FVec Ideal S16x4096 .f32) (z : FVec Ideal S_ .f32) (y : S4096x128.Idx) (h : (y 1).val < 16) :
    pad S4096x128 ![0, 0] ![0, 112] ![0, 0] (transpose S4096x16 [1, 0] (mulf a l) transposes_S16x4096_S4096x16_1_0) z pads_S4096x16_S4096x128_000_01120 h_S_ y
      = a (ix2 ⟨(y 1).val, h⟩ ⟨(y 0).val, (y 0).isLt⟩) * l (ix2 ⟨(y 1).val, h⟩ ⟨(y 0).val, (y 0).isLt⟩) :=
  (pad_apply_of_inside ![0, 0] ![0, 112] ![0, 0] (transpose S4096x16 [1, 0] (mulf a l) transposes_S16x4096_S4096x16_1_0) z pads_S4096x16_S4096x128_000_01120 h_S_ y (ix2 ⟨(y 0).val, (y 0).isLt⟩ ⟨(y 1).val, h⟩) (fun a => match a with
    | ⟨0, _⟩ => by show (y 0).val = 0 + (y 0).val * 1; omega
    | ⟨1, _⟩ => by show (y 1).val = 0 + (y 1).val * 1; omega)).trans
  (transpose_apply [1, 0] (mulf a l) transposes_S16x4096_S4096x16_1_0 _ (ix2 ⟨(y 1).val, h⟩ ⟨(y 0).val, (y 0).isLt⟩) (fun b => match b with
    | ⟨0, _⟩ => rfl
    | ⟨1, _⟩ => rfl))

theorem hCum_at (H : Holds A x0 x1 x2 x3 x4) (y : S4096x128.Idx) (h : (y 1).val < 16) : hCum x3 y = ((A.C (y 1).val (y 0).val * (1 / Real.log 2) : ℝ) : EReal) := by
  unfold hCum
  rw [lanes_at _ _ _ _ h, H.c, spread_at _ _ _ l2e_at, ← EReal.coe_mul]

end

end Cert.KernelIdeal.Bwd
-- ==== Proof.Trip.lean ====
/- The loop over the blocks of queries of the attention's backward body: one trip and its invariant. -/
module

public import proofs.«01_k».proof.Proof.State

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

theorem rd_rows {e : EltTy} {κ : Kind} {sp : Space} (v : View sig κ sp S4096x128 e) (f : v.ty.Contents (Elt F)) {off : Fin 2 → ℕ} (a : ℕ) (ha : a < 8)
    (h : off = ![512 * a, 0]) (inb : ∀ d, off d + S512x128.size d ≤ S4096x128.size d) :
    v.readAt (Elt F) (Rect.unit (s := S4096x128) off S512x128.size inb).toLoadRect f = rows (v.read (Elt F) f) a :=
  (View.readAt_unit v f inb h (h ▸ inb)).trans (window_rows _ a ha _)

theorem rd_lanes {κ : Kind} {sp : Space} (v : View sig κ sp S1x4096 .f32) (f : v.ty.Contents (Elt F)) {off : Fin 2 → ℕ} (a : ℕ) (ha : a < 8)
    (h : off = ![0, 512 * a]) (inb : ∀ d, off d + S1x512.size d ≤ S1x4096.size d) :
    v.readAt (Elt F) (Rect.unit (s := S1x4096) off S1x512.size inb).toLoadRect f = lanes (v.read (Elt F) f) a :=
  (View.readAt_unit v f inb h (h ▸ inb)).trans (window_lanes _ a ha _)

theorem rd_lanes3 {κ : Kind} {sp : Space} (v : View sig κ sp S1x1x4096 .f32) (f : v.ty.Contents (Elt F)) {off : Fin 3 → ℕ} (a : ℕ) (ha : a < 8)
    (h : off = ![0, 0, 512 * a]) (inb : ∀ d, off d + S1x1x512.size d ≤ S1x1x4096.size d) :
    v.readAt (Elt F) (Rect.unit (s := S1x1x4096) off S1x1x512.size inb).toLoadRect f = lanes3 (v.read (Elt F) f) a :=
  (View.readAt_unit v f inb h (h ▸ inb)).trans (window_lanes3 _ a ha _)

/-- What the buffers of the loop hold before trip `k`. -/
abbrev inv1 (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x1x4096 .f32) (harg7 : arg7.IsWhole) (arg8 : Memref sig .tc .vmem S512x128 .f32) (harg8 : arg8.IsWhole) (arg9 : Memref sig .tc .hbm S4096x4096 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S4096x128 .bf16) (harg12 : arg12.IsWhole) (arg13 : Memref sig .tc .vmem S1x1x4096 .f32) (harg13 : arg13.IsWhole) (arg14 : Memref sig .tc .vmem S1x1x512 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4096x128 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S512x512 .f32) (harg21 : arg21.IsWhole) (arg22 : Memref sig .tc .vmem S512x512 .f32) (harg22 : arg22.IsWhole) (v4 v6 : FVec F S512x128 .bf16) (v17 : FVec F S512x128 .f32) (X2 : BufTy.Contents (Elt F) arg2.view.ty) (X5 : BufTy.Contents (Elt F) arg5.view.ty) (X7 : BufTy.Contents (Elt F) arg7.view.ty) (X20 : BufTy.Contents (Elt F) arg20.view.ty) (D15 : Vec F S512x128 .f32) (D16 : Vec F S512x128 .f32) (D17 : Vec F S512x128 .f32) (D18 : Vec F S4096x128 .f32) (D19 : Vec F S1x4096 .f32) (D21 : Vec F S512x512 .f32) (D22 : Vec F S512x512 .f32) (k : ℕ) : sProp 𝕄G :=
  iprop((arg2.view.loc (c : Thread nD τ) ↦[arg2.view.set]{fullShare} X2) ∗ (arg5.view.loc (c : Thread nD τ) ↦[arg5.view.set]{fullShare} X5) ∗ (arg7.view.loc (c : Thread nD τ) ↦[arg7.view.set]{fullShare} X7) ∗ (arg20.view.loc (c : Thread nD τ) ↦[arg20.view.set]{fullShare} X20)
    ∗ (∃ f, (arg15.view.loc (c : Thread nD τ) ↦[arg15.view.set]{fullShare} f) ∗ ⌜arg15.view.read (Elt F) f = (st (arg2.view.read (Elt F) X2) (arg5.view.read (Elt F) X5) (arg7.view.read (Elt F) X7) (arg20.view.read (Elt F) X20) v4 v6 v17 (i 1).val ⟨D15, D16, D17, D18, D19, D21, D22⟩ k).dk⌝)
    ∗ (∃ f, (arg16.view.loc (c : Thread nD τ) ↦[arg16.view.set]{fullShare} f) ∗ ⌜arg16.view.read (Elt F) f = (st (arg2.view.read (Elt F) X2) (arg5.view.read (Elt F) X5) (arg7.view.read (Elt F) X7) (arg20.view.read (Elt F) X20) v4 v6 v17 (i 1).val ⟨D15, D16, D17, D18, D19, D21, D22⟩ k).dv⌝)
    ∗ (∃ f, (arg17.view.loc (c : Thread nD τ) ↦[arg17.view.set]{fullShare} f) ∗ ⌜arg17.view.read (Elt F) f = (st (arg2.view.read (Elt F) X2) (arg5.view.read (Elt F) X5) (arg7.view.read (Elt F) X7) (arg20.view.read (Elt F) X20) v4 v6 v17 (i 1).val ⟨D15, D16, D17, D18, D19, D21, D22⟩ k).dc⌝)
    ∗ (∃ f, (arg18.view.loc (c : Thread nD τ) ↦[arg18.view.set]{fullShare} f) ∗ ⌜arg18.view.read (Elt F) f = (st (arg2.view.read (Elt F) X2) (arg5.view.read (Elt F) X5) (arg7.view.read (Elt F) X7) (arg20.view.read (Elt F) X20) v4 v6 v17 (i 1).val ⟨D15, D16, D17, D18, D19, D21, D22⟩ k).dq⌝)
    ∗ (∃ f, (arg19.view.loc (c : Thread nD τ) ↦[arg19.view.set]{fullShare} f) ∗ ⌜arg19.view.read (Elt F) f = (st (arg2.view.read (Elt F) X2) (arg5.view.read (Elt F) X5) (arg7.view.read (Elt F) X7) (arg20.view.read (Elt F) X20) v4 v6 v17 (i 1).val ⟨D15, D16, D17, D18, D19, D21, D22⟩ k).dcq⌝)
    ∗ (∃ f, (arg21.view.loc (c : Thread nD τ) ↦[arg21.view.set]{fullShare} f) ∗ ⌜arg21.view.read (Elt F) f = (st (arg2.view.read (Elt F) X2) (arg5.view.read (Elt F) X5) (arg7.view.read (Elt F) X7) (arg20.view.read (Elt F) X20) v4 v6 v17 (i 1).val ⟨D15, D16, D17, D18, D19, D21, D22⟩ k).s⌝)
    ∗ (∃ f, (arg22.view.loc (c : Thread nD τ) ↦[arg22.view.set]{fullShare} f) ∗ ⌜arg22.view.read (Elt F) f = (st (arg2.view.read (Elt F) X2) (arg5.view.read (Elt F) X5) (arg7.view.read (Elt F) X7) (arg20.view.read (Elt F) X20) v4 v6 v17 (i 1).val ⟨D15, D16, D17, D18, D19, D21, D22⟩ k).dp⌝))

set_option warn.classDefReducibility false in
@[sl_loop] def loopInv1 (𝒱 : Variants) (c : Dev nD) (bd : Option 𝒱.V) (E : Set ℕ) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x1x4096 .f32) (harg7 : arg7.IsWhole) (arg8 : Memref sig .tc .vmem S512x128 .f32) (harg8 : arg8.IsWhole) (arg9 : Memref sig .tc .hbm S4096x4096 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S4096x128 .bf16) (harg12 : arg12.IsWhole) (arg13 : Memref sig .tc .vmem S1x1x4096 .f32) (harg13 : arg13.IsWhole) (arg14 : Memref sig .tc .vmem S1x1x512 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4096x128 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S512x512 .f32) (harg21 : arg21.IsWhole) (arg22 : Memref sig .tc .vmem S512x512 .f32) (harg22 : arg22.IsWhole) (arg1 : BitVec 32) (v4 v6 : FVec F S512x128 .bf16) (v17 : FVec F S512x128 .f32) (v31 : BitVec 32) (X2 : BufTy.Contents (Elt F) arg2.view.ty) (X5 : BufTy.Contents (Elt F) arg5.view.ty) (X7 : BufTy.Contents (Elt F) arg7.view.ty) (X20 : BufTy.Contents (Elt F) arg20.view.ty) (D15 : Vec F S512x128 .f32) (D16 : Vec F S512x128 .f32) (D17 : Vec F S512x128 .f32) (D18 : Vec F S4096x128 .f32) (D19 : Vec F S1x4096 .f32) (D21 : Vec F S512x512 .f32) (D22 : Vec F S512x512 .f32) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v4 v6 v17 v31 where
  inv := fun k _ => inv1 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v4 v6 v17 X2 X5 X7 X20 D15 D16 D17 D18 D19 D21 D22 k
  step k acc := by
    unfold k0_t1_body
    iintro ⟨H2, H5, H7, H20, ⟨%f15, H15, %h15⟩, ⟨%f16, H16, %h16⟩, ⟨%f17, H17, %h17⟩, ⟨%f18, H18, %h18⟩, ⟨%f19, H19, %h19⟩, ⟨%f21, H21, %h21⟩, ⟨%f22, H22, %h22⟩⟩
    sl_exec
    sl_step
    have hlt := trip_lt i k
    have r1 := rd_rows arg2.view X2 ((i 1).val + k.val + 1) (by omega) (off4_eq i k) (k0_off4_inb i k)
    have r2 := rd_lanes3 arg7.view X7 ((i 1).val + k.val + 1) (by omega) (off5_eq i k) (k0_off5_inb i k)
    have r3 := rd_rows arg5.view X5 ((i 1).val + k.val + 1) (by omega) (off4_eq i k) (k0_off4_inb i k)
    have r4 := rd_lanes arg20.view X20 ((i 1).val + k.val + 1) (by omega) (off6_eq i k) (k0_off6_inb i k)
    have r5 := rd_rows arg5.view X5 ((i 1).val + k.val) (by omega) (off7_eq i k) (k0_off7_inb i k)
    have r6 := rd_rows arg2.view X2 ((i 1).val + k.val) (by omega) (off7_eq i k) (k0_off7_inb i k)
    have r7 := (rd_rows arg18.view f18 ((i 1).val + k.val) (by omega) (off7_eq i k) (k0_off7_inb i k)).trans (congrArg (rows · _) h18)
    have r8 := (rd_lanes arg19.view f19 ((i 1).val + k.val) (by omega) (off8_eq i k) (k0_off8_inb i k)).trans (congrArg (lanes · _) h19)
    have e15 := (View.readAt_full arg15.view f15 inb_S512x128_S512x128_0_0).trans h15
    have e16 := (View.readAt_full arg16.view f16 inb_S512x128_S512x128_0_0).trans h16
    have e17 := (View.readAt_full arg17.view f17 inb_S512x128_S512x128_0_0).trans h17
    have e21 := congrArg (k0_pay17 v17) ((View.readAt_full arg21.view f21 inb_S512x512_S512x512_0_0).trans h21)
    have e21' := congrArg (k0_pay18 v17) ((View.readAt_full arg21.view f21 inb_S512x512_S512x512_0_0).trans h21)
    have e22 := (View.readAt_full arg22.view f22 inb_S512x512_S512x512_0_0).trans h22
    isplitl [H2]; · iexact H2
    isplitl [H5]; · iexact H5
    isplitl [H7]; · iexact H7
    isplitl [H20]; · iexact H20
    isplitl [H15]
    · iexists _; isplitl [H15]; · iexact H15
      ipureintro
      refine (View.read_writes_full arg15.view f15 _ _ _).trans ?_
      exact congr (congr (congr (congrArg k0_pay23 e22) e21) e15) r6
    isplitl [H16]
    · iexists _; isplitl [H16]; · iexact H16
      ipureintro
      refine (View.read_writes_full arg16.view f16 _ _ _).trans ?_
      exact congr (congr (congrArg k0_pay20 e16) e21') (congrArg k0_pay19 r5)
    isplitl [H17]
    · iexists _; isplitl [H17]; · iexact H17
      ipureintro
      refine (View.read_writes_full arg17.view f17 _ _ _).trans ?_
      exact congr (congrArg k0_pay49 (congr (congrArg k0_pay26 e22) e21)) e17
    isplitl [H18]
    · iexists _; isplitl [H18]; · iexact H18
      ipureintro
      refine (View.read_writes_cons_put arg18.view f18 _ _ _ (off7_eq i k)).trans ?_
      exact congr (congrArg (fun x => putRows x _) h18) (congr (congr (congrArg (k0_pay24 v4) e22) e21) r7)
    isplitl [H19]
    · iexists _; isplitl [H19]; · iexact H19
      ipureintro
      refine (View.read_writes_cons_put arg19.view f19 _ _ _ (off8_eq i k)).trans ?_
      exact congr (congrArg (fun x => putLanes x _) h19) (congr (congr (congrArg k0_pay25 e22) e21) r8)
    isplitl [H21]
    · iexists _; isplitl [H21]; · iexact H21
      ipureintro
      refine (View.read_writes_full arg21.view f21 _ _ _).trans ?_
      exact congrArg k0_pay50 (congr (congrArg (k0_pay15 v4) r1) r2)
    iexists _; isplitl [H22]; · iexact H22
    ipureintro
    refine (View.read_writes_full arg22.view f22 _ _ _).trans ?_
    exact congrArg k0_pay51 (congr (congrArg (k0_pay16 v6) r3) r4)

theorem put_step {κ : Kind} {sp : Space} (v : View sig κ sp S1x4096 .f32) (f : v.ty.Contents (Elt F)) {off : Fin 2 → ℕ} (a : ℕ) (h : off = ![0, 512 * a])
    (inb : ∀ d, off d + S1x512.size d ≤ S1x4096.size d) (w : Vec F S1x512 .f32) (L : List (View.Piece (Elt F) S1x4096 .f32)) (y : S1x4096.Idx) :
    v.read (Elt F) (v.writes (Elt F) f (⟨Rect.unit (s := S1x4096) off S1x512.size inb, w⟩ :: L)) y
      = if (y 1).val / 512 = a then w (ix2 (y 0) ⟨(y 1).val % 512, Nat.mod_lt _ (by norm_num)⟩) else v.read (Elt F) (v.writes (Elt F) f L) y :=
  (congrFun (View.read_writes_cons_put v f inb w L h) y).trans (putLanes_apply _ a w y)

/-- The eight blocks of `do · o`'s row sums, stored one after another, are the row sums. -/
theorem rowSums_of {κ : Kind} {sp : Space} (v : View sig κ sp S1x4096 .f32) (f : v.ty.Contents (Elt F)) (x3 x4 : Vec F S4096x128 .bf16)
    (i0 : ∀ d, (![0, 0] : Fin 2 → ℕ) d + S1x512.size d ≤ S1x4096.size d) (i1 : ∀ d, (![0, 512] : Fin 2 → ℕ) d + S1x512.size d ≤ S1x4096.size d) (i2 : ∀ d, (![0, 1024] : Fin 2 → ℕ) d + S1x512.size d ≤ S1x4096.size d) (i3 : ∀ d, (![0, 1536] : Fin 2 → ℕ) d + S1x512.size d ≤ S1x4096.size d) (i4 : ∀ d, (![0, 2048] : Fin 2 → ℕ) d + S1x512.size d ≤ S1x4096.size d) (i5 : ∀ d, (![0, 2560] : Fin 2 → ℕ) d + S1x512.size d ≤ S1x4096.size d) (i6 : ∀ d, (![0, 3072] : Fin 2 → ℕ) d + S1x512.size d ≤ S1x4096.size d) (i7 : ∀ d, (![0, 3584] : Fin 2 → ℕ) d + S1x512.size d ≤ S1x4096.size d)
    {w0 w1 w2 w3 w4 w5 w6 w7 : Vec F S1x512 .f32}
    (h0 : w0 = k0_pay6 (rows x3 0) (rows x4 0)) (h1 : w1 = k0_pay6 (rows x3 1) (rows x4 1)) (h2 : w2 = k0_pay6 (rows x3 2) (rows x4 2)) (h3 : w3 = k0_pay6 (rows x3 3) (rows x4 3)) (h4 : w4 = k0_pay6 (rows x3 4) (rows x4 4)) (h5 : w5 = k0_pay6 (rows x3 5) (rows x4 5)) (h6 : w6 = k0_pay6 (rows x3 6) (rows x4 6)) (h7 : w7 = k0_pay6 (rows x3 7) (rows x4 7)) :
    v.read (Elt F) (v.writes (Elt F) f [⟨Rect.unit (s := S1x4096) ![0, 3584] S1x512.size i7, w7⟩, ⟨Rect.unit (s := S1x4096) ![0, 3072] S1x512.size i6, w6⟩, ⟨Rect.unit (s := S1x4096) ![0, 2560] S1x512.size i5, w5⟩, ⟨Rect.unit (s := S1x4096) ![0, 2048] S1x512.size i4, w4⟩, ⟨Rect.unit (s := S1x4096) ![0, 1536] S1x512.size i3, w3⟩, ⟨Rect.unit (s := S1x4096) ![0, 1024] S1x512.size i2, w2⟩, ⟨Rect.unit (s := S1x4096) ![0, 512] S1x512.size i1, w1⟩, ⟨Rect.unit (s := S1x4096) ![0, 0] S1x512.size i0, w0⟩]) = rowSums x3 x4 := by
  subst h0 h1 h2 h3 h4 h5 h6 h7
  funext y
  have hy : (y 1).val / 512 < 8 := by have h1 : (y 1).val < 4096 := (y 1).isLt; omega
  rw [put_step v f 7 (by norm_num), put_step v f 6 (by norm_num), put_step v f 5 (by norm_num), put_step v f 4 (by norm_num), put_step v f 3 (by norm_num), put_step v f 2 (by norm_num), put_step v f 1 (by norm_num), put_step v f 0 (by norm_num)]
  unfold rowSums
  split_ifs with q7 q6 q5 q4 q3 q2 q1 q0
  · rw [q7]
  · rw [q6]
  · rw [q5]
  · rw [q4]
  · rw [q3]
  · rw [q2]
  · rw [q1]
  · rw [q0]
  · omega

/-- The head's first tile of keys. -/
abbrev isFirst (i : grid0.Coords) : Prop := (Scalar.cmpi .ne (Scalar.extui (Scalar.cmpi .eq (BitVec.ofNat 32 (i 1).val) 0#32)) 0#32) = 1#1
/-- The head's last tile of keys. -/
abbrev isLast (i : grid0.Coords) : Prop := k0_cond2 i = 1#1

end Cert.KernelIdeal.Bwd

end
-- ==== Proof.RunFirst.lean ====
/- One grid point of the attention's backward body, in its three cases. -/
module

public import proofs.«01_k».proof.Proof.Trip

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option maxHeartbeats 1000000 in
/-- The first tile of keys: the head's sums start from zero. -/
theorem runFirst (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x1x4096 .f32) (harg7 : arg7.IsWhole) (arg8 : Memref sig .tc .vmem S512x128 .f32) (harg8 : arg8.IsWhole) (arg9 : Memref sig .tc .hbm S4096x4096 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S4096x128 .bf16) (harg12 : arg12.IsWhole) (arg13 : Memref sig .tc .vmem S1x1x4096 .f32) (harg13 : arg13.IsWhole) (arg14 : Memref sig .tc .vmem S1x1x512 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4096x128 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S512x512 .f32) (harg21 : arg21.IsWhole) (arg22 : Memref sig .tc .vmem S512x512 .f32) (harg22 : arg22.IsWhole) (hc0 : isFirst i) (hc7 : ¬isLast i) (x0 : Vec F S4096x128 .bf16) (x1 : Vec F S512x128 .bf16) (x2 : Vec F S512x128 .bf16) (x3 : Vec F S4096x128 .bf16) (x4 : Vec F S4096x128 .bf16) (x5 : Vec F S1x1x4096 .f32) (x6 : Vec F S512x128 .f32) (xi9 : Vec F S4096x128 .bf16) (xi10 : Vec F S1x1x4096 .f32) (E : Set ℕ) (K : PUnit → sProp 𝕄G) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ owns (c : Thread nD τ) arg12 fullShare xi9 ∗ owns (c : Thread nD τ) arg13 fullShare xi10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg10 fullShare (k0_pay63 (point i x0 x1 x2 x3 x5 x6 k0_pay4 k0_pay5 (rowSums x3 x4)).dk) ∗ owns (c : Thread nD τ) arg11 fullShare (k0_pay64 (point i x0 x1 x2 x3 x5 x6 k0_pay4 k0_pay5 (rowSums x3 x4)).dv) ∗ owns (c : Thread nD τ) arg12 fullShare xi9 ∗ owns (c : Thread nD τ) arg13 fullShare xi10 ∗ owns (c : Thread nD τ) arg14 fullShare (k0_pay1 (k0_pay65 (point i x0 x1 x2 x3 x5 x6 k0_pay4 k0_pay5 (rowSums x3 x4)).dc)) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare (point i x0 x1 x2 x3 x5 x6 k0_pay4 k0_pay5 (rowSums x3 x4)).dq ∗ owns (c : Thread nD τ) arg19 fullShare (point i x0 x1 x2 x3 x5 x6 k0_pay4 k0_pay5 (rowSums x3 x4)).dcq ∗ owns (c : Thread nD τ) arg20 fullShare (rowSums x3 x4) ∗ (∃ d, owns (c : Thread nD τ) arg21 fullShare d) ∗ (∃ d, owns (c : Thread nD τ) arg22 fullShare d)) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  have htr : (k0_t2_loop i).trips = 0 := trips2 i
  simp only [cc0_fox_bwd_eq_skeleton]; unfold cc0_fox_bwd_skel
  simp only [k0_part8_eq_skeleton, k0_part1_eq_skeleton, k0_part2_eq_skeleton, k0_part3_eq_skeleton, k0_part9_eq_skeleton, k0_part10_eq_skeleton, k0_part11_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%d11, %f11, -, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13
  sl_exec (disch := first | sl_exact hc0 | sl_exact hc7)
  sl_step
  have r1 := (rd_rows arg2.view (harg2.unread x0) (i 1).val (j_lt i) (off1_eq i) (k0_off1_inb i)).trans (congrArg (rows · _) (harg2.read_unread x0))
  have r2 := (rd_lanes3 arg7.view (harg7.unread x5) (i 1).val (j_lt i) (off2_eq i) (k0_off2_inb i)).trans (congrArg (lanes3 · _) (harg7.read_unread x5))
  have r3 := (rd_rows arg5.view (harg5.unread x3) (i 1).val (j_lt i) (off1_eq i) (k0_off1_inb i)).trans (congrArg (rows · _) (harg5.read_unread x3))
  have r5 := (rd_rows arg5.view (harg5.unread x3) 7 (by norm_num) (off := ![3584, 0]) rfl inb_S4096x128_S512x128_3584_0).trans (congrArg (rows · _) (harg5.read_unread x3))
  have r6 := (rd_rows arg2.view (harg2.unread x0) 7 (by norm_num) (off := ![3584, 0]) rfl inb_S4096x128_S512x128_3584_0).trans (congrArg (rows · _) (harg2.read_unread x0))
  have e4 := congrArg k0_pay41 ((View.readAt_full arg3.view (harg3.unread x1) inb_S512x128_S512x128_0_0).trans (harg3.read_unread x1))
  have e6 := congrArg k0_pay42 ((View.readAt_full arg4.view (harg4.unread x2) inb_S512x128_S512x128_0_0).trans (harg4.read_unread x2))
  have e17 := congrArg (k0_pay43 i) ((View.readAt_full arg8.view (harg8.unread x6) inb_S512x128_S512x128_0_0).trans (harg8.read_unread x6))
  have el := rowSums_of arg20.view arg20.view.junk x3 x4 inb_S1x4096_S1x512_0_0 inb_S1x4096_S1x512_0_512 inb_S1x4096_S1x512_0_1024 inb_S1x4096_S1x512_0_1536 inb_S1x4096_S1x512_0_2048 inb_S1x4096_S1x512_0_2560 inb_S1x4096_S1x512_0_3072 inb_S1x4096_S1x512_0_3584
    (congr (congrArg k0_pay6 ((rd_rows arg5.view (harg5.unread x3) 0 (by norm_num) (off := ![0, 0]) rfl inb_S4096x128_S512x128_0_0).trans (congrArg (rows · _) (harg5.read_unread x3)))) ((rd_rows arg6.view (harg6.unread x4) 0 (by norm_num) (off := ![0, 0]) rfl inb_S4096x128_S512x128_0_0).trans (congrArg (rows · _) (harg6.read_unread x4))))
    (congr (congrArg k0_pay6 ((rd_rows arg5.view (harg5.unread x3) 1 (by norm_num) (off := ![512, 0]) rfl inb_S4096x128_S512x128_512_0).trans (congrArg (rows · _) (harg5.read_unread x3)))) ((rd_rows arg6.view (harg6.unread x4) 1 (by norm_num) (off := ![512, 0]) rfl inb_S4096x128_S512x128_512_0).trans (congrArg (rows · _) (harg6.read_unread x4))))
    (congr (congrArg k0_pay6 ((rd_rows arg5.view (harg5.unread x3) 2 (by norm_num) (off := ![1024, 0]) rfl inb_S4096x128_S512x128_1024_0).trans (congrArg (rows · _) (harg5.read_unread x3)))) ((rd_rows arg6.view (harg6.unread x4) 2 (by norm_num) (off := ![1024, 0]) rfl inb_S4096x128_S512x128_1024_0).trans (congrArg (rows · _) (harg6.read_unread x4))))
    (congr (congrArg k0_pay6 ((rd_rows arg5.view (harg5.unread x3) 3 (by norm_num) (off := ![1536, 0]) rfl inb_S4096x128_S512x128_1536_0).trans (congrArg (rows · _) (harg5.read_unread x3)))) ((rd_rows arg6.view (harg6.unread x4) 3 (by norm_num) (off := ![1536, 0]) rfl inb_S4096x128_S512x128_1536_0).trans (congrArg (rows · _) (harg6.read_unread x4))))
    (congr (congrArg k0_pay6 ((rd_rows arg5.view (harg5.unread x3) 4 (by norm_num) (off := ![2048, 0]) rfl inb_S4096x128_S512x128_2048_0).trans (congrArg (rows · _) (harg5.read_unread x3)))) ((rd_rows arg6.view (harg6.unread x4) 4 (by norm_num) (off := ![2048, 0]) rfl inb_S4096x128_S512x128_2048_0).trans (congrArg (rows · _) (harg6.read_unread x4))))
    (congr (congrArg k0_pay6 ((rd_rows arg5.view (harg5.unread x3) 5 (by norm_num) (off := ![2560, 0]) rfl inb_S4096x128_S512x128_2560_0).trans (congrArg (rows · _) (harg5.read_unread x3)))) ((rd_rows arg6.view (harg6.unread x4) 5 (by norm_num) (off := ![2560, 0]) rfl inb_S4096x128_S512x128_2560_0).trans (congrArg (rows · _) (harg6.read_unread x4))))
    (congr (congrArg k0_pay6 ((rd_rows arg5.view (harg5.unread x3) 6 (by norm_num) (off := ![3072, 0]) rfl inb_S4096x128_S512x128_3072_0).trans (congrArg (rows · _) (harg5.read_unread x3)))) ((rd_rows arg6.view (harg6.unread x4) 6 (by norm_num) (off := ![3072, 0]) rfl inb_S4096x128_S512x128_3072_0).trans (congrArg (rows · _) (harg6.read_unread x4))))
    (congr (congrArg k0_pay6 ((rd_rows arg5.view (harg5.unread x3) 7 (by norm_num) (off := ![3584, 0]) rfl inb_S4096x128_S512x128_3584_0).trans (congrArg (rows · _) (harg5.read_unread x3)))) ((rd_rows arg6.view (harg6.unread x4) 7 (by norm_num) (off := ![3584, 0]) rfl inb_S4096x128_S512x128_3584_0).trans (congrArg (rows · _) (harg6.read_unread x4))))
  obtain ⟨h15, h16, h17, h18, h19, h21, h22⟩ := left_of i x0 x1 x2 x3 x5 x6 k0_pay4 k0_pay5 (rowSums x3 x4) hL5 hL7 hL9 hL11 hL13 hL15 hL17
    (harg2.read_unread _) (harg5.read_unread _) (harg7.read_unread _) el e4 e6 e17
    (View.read_writes_full arg15.view _ _ _ _) (View.read_writes_full arg16.view _ _ _ _) (View.read_writes_full arg17.view _ _ _ _) (View.read_writes_full arg18.view _ _ _ _) (View.read_writes_full arg19.view _ _ _ _)
    ((View.read_writes_full arg21.view _ _ _ _).trans (congr (congr (congrArg k0_pay47 e4) r1) r2))
    ((View.read_writes_full arg22.view _ _ _ _).trans (congr (congr (congrArg k0_pay48 e6) r3) ((rd_lanes arg20.view _ (i 1).val (j_lt i) (off3_eq i) (k0_off3_inb i)).trans (congrArg (lanes · _) el))))
    (trips1 i)
  have e21 := (View.readAt_full arg21.view fL5 inb_S512x512_S512x512_0_0).trans h21
  have e22 := (View.readAt_full arg22.view fL6 inb_S512x512_S512x512_0_0).trans h22
  have e15 := (View.readAt_full arg15.view fL0 inb_S512x128_S512x128_0_0).trans h15
  have e16 := (View.readAt_full arg16.view fL1 inb_S512x128_S512x128_0_0).trans h16
  have e17' := (View.readAt_full arg17.view fL2 inb_S512x128_S512x128_0_0).trans h17
  have e18 := (rd_rows arg18.view fL3 7 (by norm_num) (off := ![3584, 0]) rfl inb_S4096x128_S512x128_3584_0).trans (congrArg (rows · _) h18)
  have e19 := (rd_lanes arg19.view fL4 7 (by norm_num) (off := ![0, 3584]) rfl inb_S1x4096_S1x512_0_3584).trans (congrArg (lanes · _) h19)
  have e57 := congr (congr (congrArg k0_pay57 e17) e21) e22
  have edk := congr (congr (congr (congr (congrArg k0_pay59 e17) e21) e22) e15) r6
  have edv := congr (congr (congr (congrArg k0_pay56 e17) e21) e16) r5
  have edc := congr (congrArg k0_pay62 e57) e17'
  have edq := (View.read_writes_cons_put arg18.view fL3 inb_S4096x128_S512x128_3584_0 _ [] rfl).trans (congr (congrArg (fun x => putRows x 7) h18)
    (congr (congr (congr (congr (congrArg k0_pay60 e4) e17) e21) e22) e18))
  have edcq := (View.read_writes_cons_put arg19.view fL4 inb_S1x4096_S1x512_0_3584 _ [] rfl).trans (congr (congrArg (fun x => putLanes x 7) h19)
    (congr (congrArg k0_pay61 e57) e19))
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H10]
  · iexists _; isplitr; swap; · iexact H10
    ipureintro
    refine (View.read_writes_full arg10.view _ _ _ _).trans (congrArg k0_pay63 ?_)
    exact (View.readCov_full arg15.view _ _ _ _).trans edk
  isplitl [H11]
  · iexists _; isplitr; swap; · iexact H11
    ipureintro
    refine (View.read_writes_full arg11.view _ _ _ _).trans (congrArg k0_pay64 ?_)
    exact (View.readCov_full arg16.view _ _ _ _).trans edv
  isplitl [H12]
  · iexists _; isplitr; · ipureintro; exact harg12.read_unread _
    iexact H12
  isplitl [H13]
  · iexists _; isplitr; · ipureintro; exact harg13.read_unread _
    iexact H13
  isplitl [H14]
  · iexists _; isplitr; swap; · iexact H14
    ipureintro
    refine (View.read_writes_full arg14.view _ _ _ _).trans (congrArg (fun x => k0_pay1 (k0_pay65 x)) ?_)
    exact (View.readCov_full arg17.view _ _ _ _).trans edc
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _; isplitr; swap; · iexact H18
    ipureintro
    exact edq
  isplitl [H19]
  · iexists _; isplitr; swap; · iexact H19
    ipureintro
    exact edcq
  isplitl [H20]
  · iexists _; isplitr; swap; · iexact H20
    ipureintro
    exact el
  isplitl [H21]
  · iexists _, _; isplitr; swap; · iexact H21
    ipureintro; rfl
  iexists _, _; isplitr; swap; · iexact H22
  ipureintro; rfl

end Cert.KernelIdeal.Bwd

end
-- ==== Proof.RunMid.lean ====
/- One grid point of the attention's backward body, in its three cases. -/
module

public import proofs.«01_k».proof.Proof.Trip

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option maxHeartbeats 1000000 in
/-- A tile of keys between the first and the last. -/
theorem runMid (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x1x4096 .f32) (harg7 : arg7.IsWhole) (arg8 : Memref sig .tc .vmem S512x128 .f32) (harg8 : arg8.IsWhole) (arg9 : Memref sig .tc .hbm S4096x4096 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S4096x128 .bf16) (harg12 : arg12.IsWhole) (arg13 : Memref sig .tc .vmem S1x1x4096 .f32) (harg13 : arg13.IsWhole) (arg14 : Memref sig .tc .vmem S1x1x512 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4096x128 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S512x512 .f32) (harg21 : arg21.IsWhole) (arg22 : Memref sig .tc .vmem S512x512 .f32) (harg22 : arg22.IsWhole) (hc0 : ¬isFirst i) (hc7 : ¬isLast i) (x0 : Vec F S4096x128 .bf16) (x1 : Vec F S512x128 .bf16) (x2 : Vec F S512x128 .bf16) (x3 : Vec F S4096x128 .bf16) (x4 : Vec F S4096x128 .bf16) (x5 : Vec F S1x1x4096 .f32) (x6 : Vec F S512x128 .f32) (xdq : Vec F S4096x128 .f32) (xdcq xdl : Vec F S1x4096 .f32) (xi9 : Vec F S4096x128 .bf16) (xi10 : Vec F S1x1x4096 .f32) (E : Set ℕ) (K : PUnit → sProp 𝕄G) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ owns (c : Thread nD τ) arg12 fullShare xi9 ∗ owns (c : Thread nD τ) arg13 fullShare xi10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xdq ∗ owns (c : Thread nD τ) arg19 fullShare xdcq ∗ owns (c : Thread nD τ) arg20 fullShare xdl ∗ (∃ d, owns (c : Thread nD τ) arg21 fullShare d) ∗ (∃ d, owns (c : Thread nD τ) arg22 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg10 fullShare (k0_pay63 (point i x0 x1 x2 x3 x5 x6 xdq xdcq xdl).dk) ∗ owns (c : Thread nD τ) arg11 fullShare (k0_pay64 (point i x0 x1 x2 x3 x5 x6 xdq xdcq xdl).dv) ∗ owns (c : Thread nD τ) arg12 fullShare xi9 ∗ owns (c : Thread nD τ) arg13 fullShare xi10 ∗ owns (c : Thread nD τ) arg14 fullShare (k0_pay1 (k0_pay65 (point i x0 x1 x2 x3 x5 x6 xdq xdcq xdl).dc)) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare (point i x0 x1 x2 x3 x5 x6 xdq xdcq xdl).dq ∗ owns (c : Thread nD τ) arg19 fullShare (point i x0 x1 x2 x3 x5 x6 xdq xdcq xdl).dcq ∗ owns (c : Thread nD τ) arg20 fullShare xdl ∗ (∃ d, owns (c : Thread nD τ) arg21 fullShare d) ∗ (∃ d, owns (c : Thread nD τ) arg22 fullShare d)) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  have htr : (k0_t2_loop i).trips = 0 := trips2 i
  simp only [cc0_fox_bwd_eq_skeleton]; unfold cc0_fox_bwd_skel
  simp only [k0_part8_eq_skeleton, k0_part9_eq_skeleton, k0_part10_eq_skeleton, k0_part11_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%d11, %f11, -, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%f18, %hf18, H18⟩, ⟨%f19, %hf19, H19⟩, ⟨%f20, %hf20, H20⟩, ⟨%d21, %f21, -, H21⟩, ⟨%d22, %f22, -, H22⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13; obtain rfl := harg18.eq_unread hf18; obtain rfl := harg19.eq_unread hf19; obtain rfl := harg20.eq_unread hf20
  sl_exec (disch := first | sl_exact hc0 | sl_exact hc7)
  sl_step
  have r1 := (rd_rows arg2.view (harg2.unread x0) (i 1).val (j_lt i) (off1_eq i) (k0_off1_inb i)).trans (congrArg (rows · _) (harg2.read_unread x0))
  have r2 := (rd_lanes3 arg7.view (harg7.unread x5) (i 1).val (j_lt i) (off2_eq i) (k0_off2_inb i)).trans (congrArg (lanes3 · _) (harg7.read_unread x5))
  have r3 := (rd_rows arg5.view (harg5.unread x3) (i 1).val (j_lt i) (off1_eq i) (k0_off1_inb i)).trans (congrArg (rows · _) (harg5.read_unread x3))
  have r5 := (rd_rows arg5.view (harg5.unread x3) 7 (by norm_num) (off := ![3584, 0]) rfl inb_S4096x128_S512x128_3584_0).trans (congrArg (rows · _) (harg5.read_unread x3))
  have r6 := (rd_rows arg2.view (harg2.unread x0) 7 (by norm_num) (off := ![3584, 0]) rfl inb_S4096x128_S512x128_3584_0).trans (congrArg (rows · _) (harg2.read_unread x0))
  have e4 := congrArg k0_pay41 ((View.readAt_full arg3.view (harg3.unread x1) inb_S512x128_S512x128_0_0).trans (harg3.read_unread x1))
  have e6 := congrArg k0_pay42 ((View.readAt_full arg4.view (harg4.unread x2) inb_S512x128_S512x128_0_0).trans (harg4.read_unread x2))
  have e17 := congrArg (k0_pay43 i) ((View.readAt_full arg8.view (harg8.unread x6) inb_S512x128_S512x128_0_0).trans (harg8.read_unread x6))
  obtain ⟨h15, h16, h17, h18, h19, h21, h22⟩ := left_of i x0 x1 x2 x3 x5 x6 xdq xdcq xdl hL5 hL7 hL9 hL11 hL13 hL15 hL17
    (harg2.read_unread _) (harg5.read_unread _) (harg7.read_unread _) (harg20.read_unread _) e4 e6 e17
    (View.read_writes_full arg15.view _ _ _ _) (View.read_writes_full arg16.view _ _ _ _) (View.read_writes_full arg17.view _ _ _ _) (harg18.read_unread _) (harg19.read_unread _)
    ((View.read_writes_full arg21.view _ _ _ _).trans (congr (congr (congrArg k0_pay47 e4) r1) r2))
    ((View.read_writes_full arg22.view _ _ _ _).trans (congr (congr (congrArg k0_pay48 e6) r3) ((rd_lanes arg20.view _ (i 1).val (j_lt i) (off3_eq i) (k0_off3_inb i)).trans (congrArg (lanes · _) (harg20.read_unread _)))))
    (trips1 i)
  have e21 := (View.readAt_full arg21.view fL5 inb_S512x512_S512x512_0_0).trans h21
  have e22 := (View.readAt_full arg22.view fL6 inb_S512x512_S512x512_0_0).trans h22
  have e15 := (View.readAt_full arg15.view fL0 inb_S512x128_S512x128_0_0).trans h15
  have e16 := (View.readAt_full arg16.view fL1 inb_S512x128_S512x128_0_0).trans h16
  have e17' := (View.readAt_full arg17.view fL2 inb_S512x128_S512x128_0_0).trans h17
  have e18 := (rd_rows arg18.view fL3 7 (by norm_num) (off := ![3584, 0]) rfl inb_S4096x128_S512x128_3584_0).trans (congrArg (rows · _) h18)
  have e19 := (rd_lanes arg19.view fL4 7 (by norm_num) (off := ![0, 3584]) rfl inb_S1x4096_S1x512_0_3584).trans (congrArg (lanes · _) h19)
  have e57 := congr (congr (congrArg k0_pay57 e17) e21) e22
  have edk := congr (congr (congr (congr (congrArg k0_pay59 e17) e21) e22) e15) r6
  have edv := congr (congr (congr (congrArg k0_pay56 e17) e21) e16) r5
  have edc := congr (congrArg k0_pay62 e57) e17'
  have edq := (View.read_writes_cons_put arg18.view fL3 inb_S4096x128_S512x128_3584_0 _ [] rfl).trans (congr (congrArg (fun x => putRows x 7) h18)
    (congr (congr (congr (congr (congrArg k0_pay60 e4) e17) e21) e22) e18))
  have edcq := (View.read_writes_cons_put arg19.view fL4 inb_S1x4096_S1x512_0_3584 _ [] rfl).trans (congr (congrArg (fun x => putLanes x 7) h19)
    (congr (congrArg k0_pay61 e57) e19))
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H10]
  · iexists _; isplitr; swap; · iexact H10
    ipureintro
    refine (View.read_writes_full arg10.view _ _ _ _).trans (congrArg k0_pay63 ?_)
    exact (View.readCov_full arg15.view _ _ _ _).trans edk
  isplitl [H11]
  · iexists _; isplitr; swap; · iexact H11
    ipureintro
    refine (View.read_writes_full arg11.view _ _ _ _).trans (congrArg k0_pay64 ?_)
    exact (View.readCov_full arg16.view _ _ _ _).trans edv
  isplitl [H12]
  · iexists _; isplitr; · ipureintro; exact harg12.read_unread _
    iexact H12
  isplitl [H13]
  · iexists _; isplitr; · ipureintro; exact harg13.read_unread _
    iexact H13
  isplitl [H14]
  · iexists _; isplitr; swap; · iexact H14
    ipureintro
    refine (View.read_writes_full arg14.view _ _ _ _).trans (congrArg (fun x => k0_pay1 (k0_pay65 x)) ?_)
    exact (View.readCov_full arg17.view _ _ _ _).trans edc
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _; isplitr; swap; · iexact H18
    ipureintro
    exact edq
  isplitl [H19]
  · iexists _; isplitr; swap; · iexact H19
    ipureintro
    exact edcq
  isplitl [H20]
  · iexists _; isplitr; · ipureintro; exact harg20.read_unread _
    iexact H20
  isplitl [H21]
  · iexists _, _; isplitr; swap; · iexact H21
    ipureintro; rfl
  iexists _, _; isplitr; swap; · iexact H22
  ipureintro; rfl

end Cert.KernelIdeal.Bwd

end
-- ==== Proof.RunLast.lean ====
/- One grid point of the attention's backward body, in its three cases. -/
module

public import proofs.«01_k».proof.Proof.Trip

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option maxHeartbeats 1000000 in
/-- The last tile of keys: the head's sums go out. -/
theorem runLast (c : Dev nD) (i : grid0.Coords) (arg2 : Memref sig .tc .vmem S4096x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x1x4096 .f32) (harg7 : arg7.IsWhole) (arg8 : Memref sig .tc .vmem S512x128 .f32) (harg8 : arg8.IsWhole) (arg9 : Memref sig .tc .hbm S4096x4096 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S4096x128 .bf16) (harg12 : arg12.IsWhole) (arg13 : Memref sig .tc .vmem S1x1x4096 .f32) (harg13 : arg13.IsWhole) (arg14 : Memref sig .tc .vmem S1x1x512 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4096x128 .f32) (harg18 : arg18.IsWhole) (arg19 : Memref sig .tc .vmem S1x4096 .f32) (harg19 : arg19.IsWhole) (arg20 : Memref sig .tc .vmem S1x4096 .f32) (harg20 : arg20.IsWhole) (arg21 : Memref sig .tc .vmem S512x512 .f32) (harg21 : arg21.IsWhole) (arg22 : Memref sig .tc .vmem S512x512 .f32) (harg22 : arg22.IsWhole) (hc0 : ¬isFirst i) (hc7 : isLast i) (x0 : Vec F S4096x128 .bf16) (x1 : Vec F S512x128 .bf16) (x2 : Vec F S512x128 .bf16) (x3 : Vec F S4096x128 .bf16) (x4 : Vec F S4096x128 .bf16) (x5 : Vec F S1x1x4096 .f32) (x6 : Vec F S512x128 .f32) (xdq : Vec F S4096x128 .f32) (xdcq xdl : Vec F S1x4096 .f32) (E : Set ℕ) (K : PUnit → sProp 𝕄G) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xdq ∗ owns (c : Thread nD τ) arg19 fullShare xdcq ∗ owns (c : Thread nD τ) arg20 fullShare xdl ∗ (∃ d, owns (c : Thread nD τ) arg21 fullShare d) ∗ (∃ d, owns (c : Thread nD τ) arg22 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg10 fullShare (k0_pay63 (point i x0 x1 x2 x3 x5 x6 xdq xdcq xdl).dk) ∗ owns (c : Thread nD τ) arg11 fullShare (k0_pay64 (point i x0 x1 x2 x3 x5 x6 xdq xdcq xdl).dv) ∗ owns (c : Thread nD τ) arg12 fullShare (k0_pay2 (point i x0 x1 x2 x3 x5 x6 xdq xdcq xdl).dq) ∗ owns (c : Thread nD τ) arg13 fullShare (k0_pay3 (point i x0 x1 x2 x3 x5 x6 xdq xdcq xdl).dcq) ∗ owns (c : Thread nD τ) arg14 fullShare (k0_pay1 (k0_pay65 (point i x0 x1 x2 x3 x5 x6 xdq xdcq xdl).dc)) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare (point i x0 x1 x2 x3 x5 x6 xdq xdcq xdl).dq ∗ owns (c : Thread nD τ) arg19 fullShare (point i x0 x1 x2 x3 x5 x6 xdq xdcq xdl).dcq ∗ owns (c : Thread nD τ) arg20 fullShare xdl ∗ (∃ d, owns (c : Thread nD τ) arg21 fullShare d) ∗ (∃ d, owns (c : Thread nD τ) arg22 fullShare d)) -∗ K ⟨⟩))
      ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  have htr : (k0_t2_loop i).trips = 0 := trips2 i
  simp only [cc0_fox_bwd_eq_skeleton]; unfold cc0_fox_bwd_skel
  simp only [k0_part8_eq_skeleton, k0_part9_eq_skeleton, k0_part10_eq_skeleton, k0_part11_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, ⟨%f19, %hf19, H19⟩, ⟨%f20, %hf20, H20⟩, ⟨%d21, %f21, -, H21⟩, ⟨%d22, %f22, -, H22⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg18.eq_unread hf18; obtain rfl := harg19.eq_unread hf19; obtain rfl := harg20.eq_unread hf20
  sl_exec (disch := first | sl_exact hc0 | sl_exact hc7)
  sl_step
  have r1 := (rd_rows arg2.view (harg2.unread x0) (i 1).val (j_lt i) (off1_eq i) (k0_off1_inb i)).trans (congrArg (rows · _) (harg2.read_unread x0))
  have r2 := (rd_lanes3 arg7.view (harg7.unread x5) (i 1).val (j_lt i) (off2_eq i) (k0_off2_inb i)).trans (congrArg (lanes3 · _) (harg7.read_unread x5))
  have r3 := (rd_rows arg5.view (harg5.unread x3) (i 1).val (j_lt i) (off1_eq i) (k0_off1_inb i)).trans (congrArg (rows · _) (harg5.read_unread x3))
  have r5 := (rd_rows arg5.view (harg5.unread x3) 7 (by norm_num) (off := ![3584, 0]) rfl inb_S4096x128_S512x128_3584_0).trans (congrArg (rows · _) (harg5.read_unread x3))
  have r6 := (rd_rows arg2.view (harg2.unread x0) 7 (by norm_num) (off := ![3584, 0]) rfl inb_S4096x128_S512x128_3584_0).trans (congrArg (rows · _) (harg2.read_unread x0))
  have e4 := congrArg k0_pay41 ((View.readAt_full arg3.view (harg3.unread x1) inb_S512x128_S512x128_0_0).trans (harg3.read_unread x1))
  have e6 := congrArg k0_pay42 ((View.readAt_full arg4.view (harg4.unread x2) inb_S512x128_S512x128_0_0).trans (harg4.read_unread x2))
  have e17 := congrArg (k0_pay43 i) ((View.readAt_full arg8.view (harg8.unread x6) inb_S512x128_S512x128_0_0).trans (harg8.read_unread x6))
  obtain ⟨h15, h16, h17, h18, h19, h21, h22⟩ := left_of i x0 x1 x2 x3 x5 x6 xdq xdcq xdl hL5 hL7 hL9 hL11 hL13 hL15 hL17
    (harg2.read_unread _) (harg5.read_unread _) (harg7.read_unread _) (harg20.read_unread _) e4 e6 e17
    (View.read_writes_full arg15.view _ _ _ _) (View.read_writes_full arg16.view _ _ _ _) (View.read_writes_full arg17.view _ _ _ _) (harg18.read_unread _) (harg19.read_unread _)
    ((View.read_writes_full arg21.view _ _ _ _).trans (congr (congr (congrArg k0_pay47 e4) r1) r2))
    ((View.read_writes_full arg22.view _ _ _ _).trans (congr (congr (congrArg k0_pay48 e6) r3) ((rd_lanes arg20.view _ (i 1).val (j_lt i) (off3_eq i) (k0_off3_inb i)).trans (congrArg (lanes · _) (harg20.read_unread _)))))
    (trips1 i)
  have e21 := (View.readAt_full arg21.view fL5 inb_S512x512_S512x512_0_0).trans h21
  have e22 := (View.readAt_full arg22.view fL6 inb_S512x512_S512x512_0_0).trans h22
  have e15 := (View.readAt_full arg15.view fL0 inb_S512x128_S512x128_0_0).trans h15
  have e16 := (View.readAt_full arg16.view fL1 inb_S512x128_S512x128_0_0).trans h16
  have e17' := (View.readAt_full arg17.view fL2 inb_S512x128_S512x128_0_0).trans h17
  have e18 := (rd_rows arg18.view fL3 7 (by norm_num) (off := ![3584, 0]) rfl inb_S4096x128_S512x128_3584_0).trans (congrArg (rows · _) h18)
  have e19 := (rd_lanes arg19.view fL4 7 (by norm_num) (off := ![0, 3584]) rfl inb_S1x4096_S1x512_0_3584).trans (congrArg (lanes · _) h19)
  have e57 := congr (congr (congrArg k0_pay57 e17) e21) e22
  have edk := congr (congr (congr (congr (congrArg k0_pay59 e17) e21) e22) e15) r6
  have edv := congr (congr (congr (congrArg k0_pay56 e17) e21) e16) r5
  have edc := congr (congrArg k0_pay62 e57) e17'
  have edq := (View.read_writes_cons_put arg18.view fL3 inb_S4096x128_S512x128_3584_0 _ [] rfl).trans (congr (congrArg (fun x => putRows x 7) h18)
    (congr (congr (congr (congr (congrArg k0_pay60 e4) e17) e21) e22) e18))
  have edcq := (View.read_writes_cons_put arg19.view fL4 inb_S1x4096_S1x512_0_3584 _ [] rfl).trans (congr (congrArg (fun x => putLanes x 7) h19)
    (congr (congrArg k0_pay61 e57) e19))
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H10]
  · iexists _; isplitr; swap; · iexact H10
    ipureintro
    refine (View.read_writes_full arg10.view _ _ _ _).trans (congrArg k0_pay63 ?_)
    exact (View.readCov_full arg15.view _ _ _ _).trans edk
  isplitl [H11]
  · iexists _; isplitr; swap; · iexact H11
    ipureintro
    refine (View.read_writes_full arg11.view _ _ _ _).trans (congrArg k0_pay64 ?_)
    exact (View.readCov_full arg16.view _ _ _ _).trans edv
  isplitl [H12]
  · iexists _; isplitr; swap; · iexact H12
    ipureintro
    refine (View.read_writes_full arg12.view _ _ _ _).trans (congrArg k0_pay2 ?_)
    exact (View.readAt_full arg18.view _ _).trans edq
  isplitl [H13]
  · iexists _; isplitr; swap; · iexact H13
    ipureintro
    refine (View.read_writes_full arg13.view _ _ _ _).trans (congrArg k0_pay3 ?_)
    exact (View.readAt_full arg19.view _ _).trans edcq
  isplitl [H14]
  · iexists _; isplitr; swap; · iexact H14
    ipureintro
    refine (View.read_writes_full arg14.view _ _ _ _).trans (congrArg (fun x => k0_pay1 (k0_pay65 x)) ?_)
    exact (View.readCov_full arg17.view _ _ _ _).trans edc
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _; isplitr; swap; · iexact H18
    ipureintro
    exact edq
  isplitl [H19]
  · iexists _; isplitr; swap; · iexact H19
    ipureintro
    exact edcq
  isplitl [H20]
  · iexists _; isplitr; · ipureintro; exact harg20.read_unread _
    iexact H20
  isplitl [H21]
  · iexists _, _; isplitr; swap; · iexact H21
    ipureintro; rfl
  iexists _, _; isplitr; swap; · iexact H22
  ipureintro; rfl

end Cert.KernelIdeal.Bwd

end
-- ==== Proof.Body.lean ====
/- The proof data of the attention's backward call: what its buffers hold before and after each grid point, and the run. -/
module

public import proofs.«01_k».proof.Proof.RunFirst
public import proofs.«01_k».proof.Proof.RunMid
public import proofs.«01_k».proof.Proof.RunLast
public import proofs.«01_k».proof.Proof.Gen.KernelIdeal.Frame
public import Idealize.ShloMosaic.Lib.WordCmp
public import Idealize.ShloMosaic.Lib.Claim

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic Idealize.ShloMosaic.ValueIdx
open Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] (m : (ℓ : Loc nD τ sig) → Buf (Elt F) ℓ) (ρ : Dev nD → PrngReg)

local notation "𝕄G" => MT nD τ sig Unit (Elt F) ℕ (UR sig nD τ) ℕ

/-! ## Which case a point is in -/

theorem coord0 (t : Fin cfg0.N) : (grid0.coords t 0).val = t.val / 8 := by
  have ht : t.val < 128 := Nat.lt_of_lt_of_eq t.isLt N_0
  have e : (grid0.coords t 0).val = t.val / 8 % 16 := Pipeline.Grid.coords_val t 0 (by decide) rfl
  omega

theorem coord1 (t : Fin cfg0.N) : (grid0.coords t 1).val = t.val % 8 := by
  have e : (grid0.coords t 1).val = t.val / 1 % 8 := Pipeline.Grid.coords_val t 1 (by decide) rfl
  omega

theorem first_iff (t : Fin cfg0.N) : isFirst (grid0.coords t) ↔ t.val % 8 = 0 := by
  have ht : t.val < 128 := Nat.lt_of_lt_of_eq t.isLt N_0
  simp only [isFirst, coord1]
  word_cmp

theorem last_iff (t : Fin cfg0.N) : isLast (grid0.coords t) ↔ t.val % 8 = 7 := by
  have ht : t.val < 128 := Nat.lt_of_lt_of_eq t.isLt N_0
  simp only [isLast, k0_cond2, coord1]
  word_cmp

/-- The two results of a whole head are stored at its last tile of keys only. -/
theorem idle9 : ∀ t : Fin cfg0.N, ¬isLast (grid0.coords t) → cfg0.idle 9 (grid0.coords t) = true ∧ (cfg0.win 9).flush t = false := by decide +kernel
theorem idle10 : ∀ t : Fin cfg0.N, ¬isLast (grid0.coords t) → cfg0.idle 10 (grid0.coords t) = true ∧ (cfg0.win 10).flush t = false := by decide +kernel
theorem live9 : ∀ t : Fin cfg0.N, isLast (grid0.coords t) → cfg0.idle 9 (grid0.coords t) = false := by decide +kernel
theorem live10 : ∀ t : Fin cfg0.N, isLast (grid0.coords t) → cfg0.idle 10 (grid0.coords t) = false := by decide +kernel

/-! ## What the scratch carries from one tile of keys to the next -/

/-- The query gradient so far, the row gate's gradient so far, and the row sums of `do · o`. -/
structure Car (F : FTy → Type) where
  dq : Vec F S4096x128 .f32
  dcq : Vec F S1x4096 .f32
  dl : Vec F S1x4096 .f32

/-- What point `t` starts from: a head's first tile clears the two gradients and forms the row sums. -/
def begins (c : Dev nD) (t : Fin cfg0.N) (s : Car F) : Car F :=
  if t.val % 8 = 0 then ⟨k0_pay4, k0_pay5, rowSums (iblk m c 3 t) (iblk m c 4 t)⟩ else s

/-- The accumulators after point `t`. -/
def accum (c : Dev nD) (t : Fin cfg0.N) (s : Car F) : Acc F :=
  point (grid0.coords t) (iblk m c 0 t) (iblk m c 1 t) (iblk m c 2 t) (iblk m c 3 t) (iblk m c 5 t) (iblk m c 6 t) s.dq s.dcq s.dl

/-- The carried scratch before point `n`. -/
def car (c : Dev nD) : ℕ → Car F
  | 0 => ⟨k0_pay4, k0_pay5, k0_pay5⟩
  | n + 1 => if h : n < cfg0.N then
      ⟨(accum m c ⟨n, h⟩ (begins m c ⟨n, h⟩ (car c n))).dq, (accum m c ⟨n, h⟩ (begins m c ⟨n, h⟩ (car c n))).dcq, (begins m c ⟨n, h⟩ (car c n)).dl⟩ else car c n

/-- The accumulators after point `t` of the run. -/
def accAfter (c : Dev nD) (t : Fin cfg0.N) : Acc F := accum m c t (begins m c t (car m c t.val))

theorem car_succ (c : Dev nD) (t : Fin cfg0.N) :
    car m c (t.val + 1) = ⟨(accAfter m c t).dq, (accAfter m c t).dcq, (begins m c t (car m c t.val)).dl⟩ := by
  conv_lhs => unfold car
  exact dif_pos t.isLt

theorem accAfter_first (c : Dev nD) (t : Fin cfg0.N) (h : t.val % 8 = 0) :
    accAfter m c t = point (grid0.coords t) (iblk m c 0 t) (iblk m c 1 t) (iblk m c 2 t) (iblk m c 3 t) (iblk m c 5 t) (iblk m c 6 t) k0_pay4 k0_pay5 (rowSums (iblk m c 3 t) (iblk m c 4 t)) := by
  unfold accAfter begins; rw [if_pos h]; rfl

theorem accAfter_later (c : Dev nD) (t : Fin cfg0.N) (h : ¬t.val % 8 = 0) :
    accAfter m c t = point (grid0.coords t) (iblk m c 0 t) (iblk m c 1 t) (iblk m c 2 t) (iblk m c 3 t) (iblk m c 5 t) (iblk m c 6 t) (car m c t.val).dq (car m c t.val).dcq (car m c t.val).dl := by
  unfold accAfter begins; rw [if_neg h]; rfl

theorem begins_first (c : Dev nD) (t : Fin cfg0.N) (s : Car F) (h : t.val % 8 = 0) : (begins m c t s).dl = rowSums (iblk m c 3 t) (iblk m c 4 t) := by
  unfold begins; rw [if_pos h]

theorem begins_later (c : Dev nD) (t : Fin cfg0.N) (s : Car F) (h : ¬t.val % 8 = 0) : (begins m c t s).dl = s.dl := by
  unfold begins; rw [if_neg h]

/-! ## The buffers by name -/

abbrev buf0 (t : Fin cfg0.N) : Memref sig .tc .vmem S4096x128 .bf16 := win0_0.stage (cfg0.slots t 0)
abbrev buf1 (t : Fin cfg0.N) : Memref sig .tc .vmem S512x128 .bf16 := win0_1.stage (cfg0.slots t 1)
abbrev buf2 (t : Fin cfg0.N) : Memref sig .tc .vmem S512x128 .bf16 := win0_2.stage (cfg0.slots t 2)
abbrev buf3 (t : Fin cfg0.N) : Memref sig .tc .vmem S4096x128 .bf16 := win0_3.stage (cfg0.slots t 3)
abbrev buf4 (t : Fin cfg0.N) : Memref sig .tc .vmem S4096x128 .bf16 := win0_4.stage (cfg0.slots t 4)
abbrev buf5 (t : Fin cfg0.N) : Memref sig .tc .vmem S1x1x4096 .f32 := win0_5.stage (cfg0.slots t 5)
abbrev buf6 (t : Fin cfg0.N) : Memref sig .tc .vmem S512x128 .f32 := win0_6.stage (cfg0.slots t 6)
abbrev buf7 (t : Fin cfg0.N) : Memref sig .tc .vmem S512x128 .bf16 := win0_7.stage (cfg0.slots t 7)
abbrev buf8 (t : Fin cfg0.N) : Memref sig .tc .vmem S512x128 .bf16 := win0_8.stage (cfg0.slots t 8)
abbrev buf9 (t : Fin cfg0.N) : Memref sig .tc .vmem S4096x128 .bf16 := win0_9.stage (cfg0.slots t 9)
abbrev buf10 (t : Fin cfg0.N) : Memref sig .tc .vmem S1x1x4096 .f32 := win0_10.stage (cfg0.slots t 10)
abbrev buf11 (t : Fin cfg0.N) : Memref sig .tc .vmem S1x1x512 .f32 := win0_11.stage (cfg0.slots t 11)
abbrev scr0 : Memref sig .tc .vmem S512x128 .f32 := Memref.whole cc0_scratch0
abbrev scr1 : Memref sig .tc .vmem S512x128 .f32 := Memref.whole cc0_scratch1
abbrev scr2 : Memref sig .tc .vmem S512x128 .f32 := Memref.whole cc0_scratch2
abbrev scr3 : Memref sig .tc .vmem S4096x128 .f32 := Memref.whole cc0_scratch3
abbrev scr4 : Memref sig .tc .vmem S1x4096 .f32 := Memref.whole cc0_scratch4
abbrev scr5 : Memref sig .tc .vmem S1x4096 .f32 := Memref.whole cc0_scratch5
abbrev scr6 : Memref sig .tc .vmem S512x512 .f32 := Memref.whole cc0_scratch6
abbrev scr7 : Memref sig .tc .vmem S512x512 .f32 := Memref.whole cc0_scratch7

theorem rest_eq (c : Dev nD) : (Pipeline.ΦA spec0 c : sProp 𝕄G) = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d) ∗ (∃ d, owns (c : Thread nD τ) scr7 fullShare d)) ∗ (∃ r, prngReg c r)) := by
  unfold Pipeline.ΦA; rw [scopedRest0_eq]; simp only [scr0, scr1, scr2, scr3, scr4, scr5, scr6, scr7, owns_whole]; try rfl

/-- Before point `n`: the carried scratch at what the points before left, everything else of the region at anything. -/
def between (c : Dev nD) (n : ℕ) : sProp 𝕄G :=
  if n = 0 then Pipeline.ΦA spec0 c else iprop(iprop((∃ d, owns (c : Thread nD τ) scr0 fullShare d) ∗ (∃ d, owns (c : Thread nD τ) scr1 fullShare d) ∗ (∃ d, owns (c : Thread nD τ) scr2 fullShare d) ∗ owns (c : Thread nD τ) scr3 fullShare (car m c n).dq ∗ owns (c : Thread nD τ) scr4 fullShare (car m c n).dcq ∗ owns (c : Thread nD τ) scr5 fullShare (car m c n).dl ∗ (∃ d, owns (c : Thread nD τ) scr6 fullShare d) ∗ (∃ d, owns (c : Thread nD τ) scr7 fullShare d)) ∗ (∃ r, prngReg c r))

theorem between_pos (c : Dev nD) (n : ℕ) (h : n ≠ 0) : between m c n = iprop(iprop((∃ d, owns (c : Thread nD τ) scr0 fullShare d) ∗ (∃ d, owns (c : Thread nD τ) scr1 fullShare d) ∗ (∃ d, owns (c : Thread nD τ) scr2 fullShare d) ∗ owns (c : Thread nD τ) scr3 fullShare (car m c n).dq ∗ owns (c : Thread nD τ) scr4 fullShare (car m c n).dcq ∗ owns (c : Thread nD τ) scr5 fullShare (car m c n).dl ∗ (∃ d, owns (c : Thread nD τ) scr6 fullShare d) ∗ (∃ d, owns (c : Thread nD τ) scr7 fullShare d)) ∗ (∃ r, prngReg c r)) := if_neg h

/-- The carried contents may be forgotten. -/
theorem between_rest (c : Dev nD) (n : ℕ) : between m c n ⊢ (Pipeline.ΦA spec0 c : sProp 𝕄G) := by
  by_cases h : n = 0
  · rw [show between m c n = Pipeline.ΦA spec0 c from if_pos h]
    try exact Idealize.SL.BI.Entails.refl _
  · rw [between_pos m c n h, rest_eq]
    iintro ⟨⟨S0, S1, S2, S3, S4, S5, S6, S7⟩, G⟩
    isplitr [G]; swap; · iexact G
    isplitl [S0]; · iexact S0
    isplitl [S1]; · iexact S1
    isplitl [S2]; · iexact S2
    isplitl [S3]; · iexists _; iexact S3
    isplitl [S4]; · iexists _; iexact S4
    isplitl [S5]; · iexists _; iexact S5
    isplitl [S6]; · iexact S6
    iexact S7

/-! ## The proof data -/

/-- Each input's buffer keeps its block; each result's holds the point's accumulators, scaled and cast. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay63 (accAfter m c t).dk
    | ⟨8, _⟩ => k0_pay64 (accAfter m c t).dv
    | ⟨9, _⟩ => k0_pay2 (accAfter m c t).dq
    | ⟨10, _⟩ => k0_pay3 (accAfter m c t).dcq
    | ⟨11, _⟩ => k0_pay1 (k0_pay65 (accAfter m c t).dc)
  Φ t := between m c t.val
  q w := Pipeline.shareOf spec0 w
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = k0_pay63 (accAfter m c t).dk := by dsimp only [dats]
theorem after8 (c : Dev nD) (t : Fin cfg0.N) : (dats m 0 c).after 8 t = k0_pay64 (accAfter m c t).dv := by dsimp only [dats]
theorem after9 (c : Dev nD) (t : Fin cfg0.N) : (dats m 0 c).after 9 t = k0_pay2 (accAfter m c t).dq := by dsimp only [dats]
theorem after10 (c : Dev nD) (t : Fin cfg0.N) : (dats m 0 c).after 10 t = k0_pay3 (accAfter m c t).dcq := by dsimp only [dats]
theorem after11 (c : Dev nD) (t : Fin cfg0.N) : (dats m 0 c).after 11 t = k0_pay1 (k0_pay65 (accAfter m c t).dc) := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d

/-! ## The body at a point -/

theorem leaves0 (c : Dev nD) (t : Fin cfg0.N) : ((dats m 0 c).leavesExact 0 t : sProp 𝕄G) = owns (c : Thread nD τ) (buf0 t) fullShare (iblk m c 0 t) := by
  unfold Dat.leavesExact; rw [show cfg0.idle 0 (grid0.coords t) = false from rfl, after0]
theorem leaves1 (c : Dev nD) (t : Fin cfg0.N) : ((dats m 0 c).leavesExact 1 t : sProp 𝕄G) = owns (c : Thread nD τ) (buf1 t) fullShare (iblk m c 1 t) := by
  unfold Dat.leavesExact; rw [show cfg0.idle 1 (grid0.coords t) = false from rfl, after1]
theorem leaves2 (c : Dev nD) (t : Fin cfg0.N) : ((dats m 0 c).leavesExact 2 t : sProp 𝕄G) = owns (c : Thread nD τ) (buf2 t) fullShare (iblk m c 2 t) := by
  unfold Dat.leavesExact; rw [show cfg0.idle 2 (grid0.coords t) = false from rfl, after2]
theorem leaves3 (c : Dev nD) (t : Fin cfg0.N) : ((dats m 0 c).leavesExact 3 t : sProp 𝕄G) = owns (c : Thread nD τ) (buf3 t) fullShare (iblk m c 3 t) := by
  unfold Dat.leavesExact; rw [show cfg0.idle 3 (grid0.coords t) = false from rfl, after3]
theorem leaves4 (c : Dev nD) (t : Fin cfg0.N) : ((dats m 0 c).leavesExact 4 t : sProp 𝕄G) = owns (c : Thread nD τ) (buf4 t) fullShare (iblk m c 4 t) := by
  unfold Dat.leavesExact; rw [show cfg0.idle 4 (grid0.coords t) = false from rfl, after4]
theorem leaves5 (c : Dev nD) (t : Fin cfg0.N) : ((dats m 0 c).leavesExact 5 t : sProp 𝕄G) = owns (c : Thread nD τ) (buf5 t) fullShare (iblk m c 5 t) := by
  unfold Dat.leavesExact; rw [show cfg0.idle 5 (grid0.coords t) = false from rfl, after5]
theorem leaves6 (c : Dev nD) (t : Fin cfg0.N) : ((dats m 0 c).leavesExact 6 t : sProp 𝕄G) = owns (c : Thread nD τ) (buf6 t) fullShare (iblk m c 6 t) := by
  unfold Dat.leavesExact; rw [show cfg0.idle 6 (grid0.coords t) = false from rfl, after6]
theorem leaves7 (c : Dev nD) (t : Fin cfg0.N) : ((dats m 0 c).leavesExact 7 t : sProp 𝕄G) = owns (c : Thread nD τ) (buf7 t) fullShare (k0_pay63 (accAfter m c t).dk) := by
  unfold Dat.leavesExact; rw [show cfg0.idle 7 (grid0.coords t) = false from rfl, after7]
theorem leaves8 (c : Dev nD) (t : Fin cfg0.N) : ((dats m 0 c).leavesExact 8 t : sProp 𝕄G) = owns (c : Thread nD τ) (buf8 t) fullShare (k0_pay64 (accAfter m c t).dv) := by
  unfold Dat.leavesExact; rw [show cfg0.idle 8 (grid0.coords t) = false from rfl, after8]
theorem leaves11 (c : Dev nD) (t : Fin cfg0.N) : ((dats m 0 c).leavesExact 11 t : sProp 𝕄G) = owns (c : Thread nD τ) (buf11 t) fullShare (k0_pay1 (k0_pay65 (accAfter m c t).dc)) := by
  unfold Dat.leavesExact; rw [show cfg0.idle 11 (grid0.coords t) = false from rfl, after11]
theorem leaves9_last (c : Dev nD) (t : Fin cfg0.N) (h : isLast (grid0.coords t)) : ((dats m 0 c).leavesExact 9 t : sProp 𝕄G) = owns (c : Thread nD τ) (buf9 t) fullShare (k0_pay2 (accAfter m c t).dq) := by
  unfold Dat.leavesExact; rw [live9 t h, after9]
theorem leaves10_last (c : Dev nD) (t : Fin cfg0.N) (h : isLast (grid0.coords t)) : ((dats m 0 c).leavesExact 10 t : sProp 𝕄G) = owns (c : Thread nD τ) (buf10 t) fullShare (k0_pay3 (accAfter m c t).dcq) := by
  unfold Dat.leavesExact; rw [live10 t h, after10]

def handed (c : Dev nD) (t : Fin cfg0.N) : sProp 𝕄G :=
  iprop((dats m 0 c).Φ t.castSucc ∗ (dats m 0 c).owesAt () t.castSucc ∗ (∃ d, owns (c : Thread nD τ) (buf0 t) fullShare ((dats m 0 c).before 0 t d)) ∗ (∃ d, owns (c : Thread nD τ) (buf1 t) fullShare ((dats m 0 c).before 1 t d)) ∗ (∃ d, owns (c : Thread nD τ) (buf2 t) fullShare ((dats m 0 c).before 2 t d)) ∗ (∃ d, owns (c : Thread nD τ) (buf3 t) fullShare ((dats m 0 c).before 3 t d)) ∗ (∃ d, owns (c : Thread nD τ) (buf4 t) fullShare ((dats m 0 c).before 4 t d)) ∗ (∃ d, owns (c : Thread nD τ) (buf5 t) fullShare ((dats m 0 c).before 5 t d)) ∗ (∃ d, owns (c : Thread nD τ) (buf6 t) fullShare ((dats m 0 c).before 6 t d)) ∗ (∃ d, owns (c : Thread nD τ) (buf7 t) fullShare ((dats m 0 c).before 7 t d)) ∗ (∃ d, owns (c : Thread nD τ) (buf8 t) fullShare ((dats m 0 c).before 8 t d)) ∗ (∃ d, owns (c : Thread nD τ) (buf9 t) fullShare ((dats m 0 c).before 9 t d)) ∗ (∃ d, owns (c : Thread nD τ) (buf10 t) fullShare ((dats m 0 c).before 10 t d)) ∗ (∃ d, owns (c : Thread nD τ) (buf11 t) fullShare ((dats m 0 c).before 11 t d)))

def returned (c : Dev nD) (t : Fin cfg0.N) : sProp 𝕄G :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

set_option maxHeartbeats 4000000 in
/-- At a head's first tile of keys the carried scratch may hold anything. -/
theorem bodyFirst (c : Dev nD) (t : Fin cfg0.N) (h0 : t.val % 8 = 0) :
    handed m c t ⊢ wp frame (wpE (defs₀ (F := F)) Variants.none c none) Set.univ (bodyAt0 t) (fun _ => returned m c t) := by
  have h7 : ¬t.val % 8 = 7 := by omega
  have c0 : isFirst (grid0.coords t) := (first_iff t).mpr h0
  have c7 : ¬isLast (grid0.coords t) := fun h => h7 ((last_iff t).mp h)
  have hs : (dats m 0 c).Φ t.succ = between m c (t.val + 1) := by dsimp only [dats]; rw [Fin.val_succ]
  have hcs : (dats m 0 c).Φ t.castSucc = between m c t.val := by dsimp only [dats]; rw [Fin.val_castSucc]
  unfold handed returned bodyAt0
  simp only [before0, before1, before2, before3, before4, before5, before6]
  rw [show (dats m 0 c).owesAt () t.succ = (dats m 0 c).owesAt () t.castSucc from rfl, hs, hcs, between_pos m c (t.val + 1) (Nat.succ_ne_zero _), car_succ]
  rw [leaves0, leaves1, leaves2, leaves3, leaves4, leaves5, leaves6, leaves7, leaves8, leaves11]
  rw [Dat.leavesExact_idle (dats m 0 c) 9 t (idle9 t c7).1 (idle9 t c7).2, Dat.leavesExact_idle (dats m 0 c) 10 t (idle10 t c7).1 (idle10 t c7).2]
  rw [accAfter_first m c t h0, begins_first m c t _ h0]; dsimp only
  refine Idealize.SL.BI.Entails.trans (sep_mono_left (between_rest m c t.val)) ?_
  rw [rest_eq]
  change (iprop(_) : sProp 𝕄G) ⊢ _
  iintro ⟨⟨⟨S0, S1, S2, S3, S4, S5, S6, S7⟩, G⟩, O, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runFirst c (grid0.coords t) _ _ _ _ _ _ _ _ _ _ _ _ _ _ _ _ _ _ _ _ _ _ _ _ _ _ _ _ _ _ _ _ _ _ _ _ _ _ _ _ _ _ c0 c7 (iblk m c 0 t) (iblk m c 1 t) (iblk m c 2 t) (iblk m c 3 t) (iblk m c 4 t) (iblk m c 5 t) (iblk m c 6 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  isplitl [H11]; · iexists _; iexact H11
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, H7, H8, H9, H10, H11, S0, S1, S2, S3, S4, S5, S6, S7⟩
  isplitl [S0 S1 S2 S3 S4 S5 S6 S7 G]
  · isplitr [G]; swap; · iexact G
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [O]; · iexact O
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexact H11

set_option maxHeartbeats 4000000 in
/-- Between the first and the last tile the carried scratch is what the tile before left. -/
theorem bodyMid (c : Dev nD) (t : Fin cfg0.N) (h0 : ¬t.val % 8 = 0) (h7 : ¬t.val % 8 = 7) :
    handed m c t ⊢ wp frame (wpE (defs₀ (F := F)) Variants.none c none) Set.univ (bodyAt0 t) (fun _ => returned m c t) := by
  have c0 : ¬isFirst (grid0.coords t) := fun h => h0 ((first_iff t).mp h)
  have c7 : ¬isLast (grid0.coords t) := fun h => h7 ((last_iff t).mp h)
  have hs : (dats m 0 c).Φ t.succ = between m c (t.val + 1) := by dsimp only [dats]; rw [Fin.val_succ]
  have hcs : (dats m 0 c).Φ t.castSucc = between m c t.val := by dsimp only [dats]; rw [Fin.val_castSucc]
  unfold handed returned bodyAt0
  simp only [before0, before1, before2, before3, before4, before5, before6]
  rw [show (dats m 0 c).owesAt () t.succ = (dats m 0 c).owesAt () t.castSucc from rfl, hs, hcs, between_pos m c (t.val + 1) (Nat.succ_ne_zero _), car_succ]
  rw [leaves0, leaves1, leaves2, leaves3, leaves4, leaves5, leaves6, leaves7, leaves8, leaves11]
  rw [Dat.leavesExact_idle (dats m 0 c) 9 t (idle9 t c7).1 (idle9 t c7).2, Dat.leavesExact_idle (dats m 0 c) 10 t (idle10 t c7).1 (idle10 t c7).2]
  rw [accAfter_later m c t h0, begins_later m c t _ h0, between_pos m c t.val (by rintro h; exact h0 (by rw [h]))]; dsimp only
  iintro ⟨⟨⟨S0, S1, S2, S3, S4, S5, S6, S7⟩, G⟩, O, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runMid c (grid0.coords t) _ _ _ _ _ _ _ _ _ _ _ _ _ _ _ _ _ _ _ _ _ _ _ _ _ _ _ _ _ _ _ _ _ _ _ _ _ _ _ _ _ _ c0 c7 (iblk m c 0 t) (iblk m c 1 t) (iblk m c 2 t) (iblk m c 3 t) (iblk m c 4 t) (iblk m c 5 t) (iblk m c 6 t) (car m c t.val).dq (car m c t.val).dcq (car m c t.val).dl _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  isplitl [H11]; · iexists _; iexact H11
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, H7, H8, H9, H10, H11, S0, S1, S2, S3, S4, S5, S6, S7⟩
  isplitl [S0 S1 S2 S3 S4 S5 S6 S7 G]
  · isplitr [G]; swap; · iexact G
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [O]; · iexact O
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexact H11

set_option maxHeartbeats 4000000 in
/-- At a head's last tile its two results are stored. -/
theorem bodyLast (c : Dev nD) (t : Fin cfg0.N) (h7 : t.val % 8 = 7) :
    handed m c t ⊢ wp frame (wpE (defs₀ (F := F)) Variants.none c none) Set.univ (bodyAt0 t) (fun _ => returned m c t) := by
  have h0 : ¬t.val % 8 = 0 := by omega
  have c0 : ¬isFirst (grid0.coords t) := fun h => h0 ((first_iff t).mp h)
  have c7 : isLast (grid0.coords t) := (last_iff t).mpr h7
  have hs : (dats m 0 c).Φ t.succ = between m c (t.val + 1) := by dsimp only [dats]; rw [Fin.val_succ]
  have hcs : (dats m 0 c).Φ t.castSucc = between m c t.val := by dsimp only [dats]; rw [Fin.val_castSucc]
  unfold handed returned bodyAt0
  simp only [before0, before1, before2, before3, before4, before5, before6]
  rw [show (dats m 0 c).owesAt () t.succ = (dats m 0 c).owesAt () t.castSucc from rfl, hs, hcs, between_pos m c (t.val + 1) (Nat.succ_ne_zero _), car_succ]
  rw [leaves0, leaves1, leaves2, leaves3, leaves4, leaves5, leaves6, leaves7, leaves8, leaves11]
  rw [leaves9_last m c t c7, leaves10_last m c t c7]
  rw [accAfter_later m c t h0, begins_later m c t _ h0, between_pos m c t.val (by rintro h; exact h0 (by rw [h]))]; dsimp only
  iintro ⟨⟨⟨S0, S1, S2, S3, S4, S5, S6, S7⟩, G⟩, O, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runLast c (grid0.coords t) _ _ _ _ _ _ _ _ _ _ _ _ _ _ _ _ _ _ _ _ _ _ _ _ _ _ _ _ _ _ _ _ _ _ _ _ _ _ _ _ _ _ c0 c7 (iblk m c 0 t) (iblk m c 1 t) (iblk m c 2 t) (iblk m c 3 t) (iblk m c 4 t) (iblk m c 5 t) (iblk m c 6 t) (car m c t.val).dq (car m c t.val).dcq (car m c t.val).dl Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, H7, H8, H9, H10, H11, S0, S1, S2, S3, S4, S5, S6, S7⟩
  isplitl [S0 S1 S2 S3 S4 S5 S6 S7 G]
  · isplitr [G]; swap; · iexact G
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [O]; · iexact O
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_at (c : Dev nD) (t : Fin cfg0.N) :
    handed m c t ⊢ wp frame (wpE (defs₀ (F := F)) Variants.none c none) Set.univ (bodyAt0 t) (fun _ => returned m c t) := by
  by_cases h0 : t.val % 8 = 0
  · exact bodyFirst m c t h0
  · by_cases h7 : t.val % 8 = 7
    · exact bodyLast m c t h7
    · exact bodyMid m c t h0 h7

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

theorem enter (c : Dev nD) : (Pipeline.ΦA spec0 c : sProp 𝕄G) ⊢ (dats m 0 c).Φ 0 := by
  rw [(show (dats m 0 c).Φ 0 = between m c 0 from rfl).trans (if_pos rfl)]
  try exact Idealize.SL.BI.Entails.refl _

theorem leave (c : Dev nD) : (dats m 0 c).Φ (Fin.last cfg0.N) ⊢ (Pipeline.ΦA spec0 c : sProp 𝕄G) := by
  rw [show (dats m 0 c).Φ (Fin.last cfg0.N) = between m c cfg0.N from rfl]
  exact between_rest m c _

/-! ## The run and the frame -/

set_option backward.isDefEq.respectTransparency.types false in
/-- Every execution ends, each window's array at what the proof data says, the counters at zero. -/
theorem runs : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

/-- The arguments end as they began, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (runs m ρ))) ((θ_run defs _ _).mono (fun _ h => h.2) (runs m ρ))

end Cert.KernelIdeal.Bwd

end
-- ==== Proof.Carry.lean ====
/- The run's accumulators as numbers: each head's sums from one tile of keys to the next. -/
module

public import proofs.«01_k».proof.Proof.HostAt
public import proofs.«01_k».proof.Proof.Body
public import Idealize.ShloMosaic.Lib.Pipeline.ValueKit.Geometry

@[expose] public section

set_option maxRecDepth 16384

noncomputable section

namespace Cert.KernelIdeal.Bwd

open Cert.KernelIdeal Cert.KernelIdeal.Gen
open Idealize.ShloMosaic Idealize.ShloMosaic.TcCoe Idealize.ShloMosaic.ValueIdx Idealize.ShloMosaic.Pipeline
open Cert.Attn (Args Holds σ ℓ)
open Cert.ReferenceIdeal.Read (val_main_v20)

/-! ## A head of the arguments -/

/-- Head `h` of the arguments, as the call reads it. -/
def head (A : Args) (M : ℕ → ℕ → ℝ) (h : ℕ) : Head where
  q2 i d := A.Q i (128 * h + d) * (σ * (1 / Real.log 2))
  kk j d := A.K j (128 * h + d)
  vv j d := A.V j (128 * h + d)
  dd i d := A.D i (128 * h + d)
  lse i := (M h i + Real.log (ℓ A M h i) - A.C h i) * (1 / Real.log 2)
  ck j := A.C h j * (1 / Real.log 2)
  dl i := Cert.Attn.δ A M h i

section
variable (A : Args) (M : ℕ → ℕ → ℝ) (h : ℕ)

theorem head_pr (j i : ℕ) (hi : i < 4096) : (head A M h).pr j i = Cert.Attn.pr A M h i j := by
  unfold Head.pr
  by_cases hj : j ≤ i
  · rw [if_pos hj]; exact Cert.Attn.pr_two hi hj
  · rw [if_neg hj, Cert.Attn.pr_above (by omega)]

theorem head_dpr (j i : ℕ) : (head A M h).dpr j i = Cert.Attn.dp A h i j - Cert.Attn.δ A M h i := by
  unfold Head.dpr Cert.Attn.dp
  exact congrArg (· - _) (Finset.sum_congr rfl fun d _ => mul_comm _ _)

theorem head_ds (j i : ℕ) (hi : i < 4096) : (head A M h).ds j i = Cert.Attn.ds A M h i j := by
  unfold Head.ds Cert.Attn.ds
  rw [head_pr A M h j i hi, head_dpr]

end

variable (m : (ℓ : Loc nD τ sig) → Buf (Elt Ideal) ℓ) (c : Dev nD)

theorem idx0 : ∀ t : Fin cfg0.N, win0_0.index t = ![0, t.val / 8] := by decide +kernel
theorem idx1 : ∀ t : Fin cfg0.N, win0_1.index t = ![t.val % 8, t.val / 8] := by decide +kernel
theorem idx2 : ∀ t : Fin cfg0.N, win0_2.index t = ![t.val % 8, 16 + t.val / 8] := by decide +kernel
theorem idx3 : ∀ t : Fin cfg0.N, win0_3.index t = ![0, t.val / 8] := by decide +kernel
theorem idx4 : ∀ t : Fin cfg0.N, win0_4.index t = ![0, t.val / 8] := by decide +kernel
theorem idx5 : ∀ t : Fin cfg0.N, win0_5.index t = ![t.val / 8, 0, 0] := by decide +kernel
theorem idx6 : ∀ t : Fin cfg0.N, win0_6.index t = ![t.val % 8, 0] := by decide +kernel

theorem t_lt (t : Fin cfg0.N) : t.val < 128 := Nat.lt_of_lt_of_eq t.isLt N_0

/-- The arguments hold the numbers `A`, and the reference's row maxima are `M`. -/
structure Given (A : Args) (M : ℕ → ℕ → ℝ) : Prop where
  H : Holds A (arg0 m c) (arg1 m c) (arg2 m c) (arg3 m c) (arg4 m c)
  hM : ∀ y : S16x4096.Idx, val_main_v20 (F := Ideal) (arg0 m c) (arg1 m c) (arg3 m c) y = ((M (y 0).val (y 1).val : ℝ) : EReal)

variable {m c} {A : Args} {M : ℕ → ℕ → ℝ}

/-! ## The blocks -/

theorem q_blk (G : Given m c A M) (t : Fin cfg0.N) (y : S4096x128.Idx) : iblk m c 0 t y = (((head A M (t.val / 8)).q2 (y 0).val (y 1).val : ℝ) : EReal) := by
  have e0 : ((win0_0.blk t).view.emb y 0).val = (y 0).val := by blk_simp [idx0]
  have e1 : ((win0_0.blk t).view.emb y 1).val = 128 * (t.val / 8) + (y 1).val := by blk_simp [idx0]; omega
  blk_simp [iblk]
  rw [V_q2]
  refine (hQ2_at G.H _).trans ?_
  rw [e0, e1]; rfl

theorem k_blk (G : Given m c A M) (t : Fin cfg0.N) (y : S512x128.Idx) : iblk m c 1 t y = (((head A M (t.val / 8)).kk (512 * (t.val % 8) + (y 0).val) (y 1).val : ℝ) : EReal) := by
  have ht := t_lt t
  have h1 : (y 1).val < 128 := (y 1).isLt
  have e0 : ((win0_1.blk t).view.emb y 0).val = 512 * (t.val % 8) + (y 0).val := by blk_simp [idx1]; omega
  have e1 : ((win0_1.blk t).view.emb y 1).val = 128 * (t.val / 8) + (y 1).val := by blk_simp [idx1]; omega
  blk_simp [iblk]
  rw [V_kv]
  refine (hPair_at _ _ _).trans ((dif_pos (by rw [e1]; omega)).trans ((G.H.k _).trans ?_))
  show ((A.K ((win0_1.blk t).view.emb y 0).val ((win0_1.blk t).view.emb y 1).val : ℝ) : EReal) = _
  rw [e0, e1]; rfl

theorem v_blk (G : Given m c A M) (t : Fin cfg0.N) (y : S512x128.Idx) : iblk m c 2 t y = (((head A M (t.val / 8)).vv (512 * (t.val % 8) + (y 0).val) (y 1).val : ℝ) : EReal) := by
  have e0 : ((win0_2.blk t).view.emb y 0).val = 512 * (t.val % 8) + (y 0).val := by blk_simp [idx2]; omega
  have e1 : ((win0_2.blk t).view.emb y 1).val = 2048 + (128 * (t.val / 8) + (y 1).val) := by blk_simp [idx2]; omega
  blk_simp [iblk]
  rw [V_kv]
  refine (hPair_at _ _ _).trans ((dif_neg (by rw [e1]; omega)).trans ((G.H.v _).trans ?_))
  show ((A.V ((win0_2.blk t).view.emb y 0).val (((win0_2.blk t).view.emb y 1).val - 2048) : ℝ) : EReal) = _
  rw [e0, e1, Nat.add_sub_cancel_left]; rfl

theorem do_blk (G : Given m c A M) (t : Fin cfg0.N) (y : S4096x128.Idx) : iblk m c 3 t y = (((head A M (t.val / 8)).dd (y 0).val (y 1).val : ℝ) : EReal) := by
  have e0 : ((win0_3.blk t).view.emb y 0).val = (y 0).val := by blk_simp [idx3]
  have e1 : ((win0_3.blk t).view.emb y 1).val = 128 * (t.val / 8) + (y 1).val := by blk_simp [idx3]; omega
  blk_simp [iblk]
  rw [V_do]
  refine (G.H.d _).trans ?_
  show ((A.D ((win0_3.blk t).view.emb y 0).val ((win0_3.blk t).view.emb y 1).val : ℝ) : EReal) = _
  rw [e0, e1]; rfl

theorem o_blk (G : Given m c A M) (t : Fin cfg0.N) (y : S4096x128.Idx) : iblk m c 4 t y
    = ((∑ j : Fin 4096, Cert.Attn.pr A M (t.val / 8) (y 0).val j * A.V j (128 * (t.val / 8) + (y 1).val) : ℝ) : EReal) := by
  have h1 : (y 1).val < 128 := (y 1).isLt
  have e0 : ((win0_4.blk t).view.emb y 0).val = (y 0).val := by blk_simp [idx4]
  have e1 : ((win0_4.blk t).view.emb y 1).val = 128 * (t.val / 8) + (y 1).val := by blk_simp [idx4]; omega
  blk_simp [iblk]
  rw [V_out]
  refine (hOut_at G.H G.hM _).trans ?_
  rw [e0, e1, show (128 * (t.val / 8) + (y 1).val) / 128 = t.val / 8 by omega]

theorem read5 (t : Fin cfg0.N) (X : S16x1x4096.Idx → EReal) (y : S1x1x4096.Idx) : (win0_5.blk t).view.read (Elt Ideal) X y = X ((win0_5.blk t).view.emb y) := rfl
theorem iblk5 (t : Fin cfg0.N) : iblk m c 5 t = (win0_5.blk t).view.read (Elt Ideal) (V m c main_v57) := rfl
theorem iblk5_eq (t : Fin cfg0.N) : iblk m c 5 t = (win0_5.blk t).view.read (Elt Ideal) (hLse (arg0 m c) (arg1 m c) (arg3 m c)) :=
  (iblk5 t).trans (congrArg (fun X => (win0_5.blk t).view.read (Elt Ideal) X) (V_lse m c))
theorem emb5_0 (t : Fin cfg0.N) (y : S1x1x4096.Idx) : ((win0_5.blk t).view.emb y 0).val = t.val / 8 := by blk_simp [idx5]
theorem emb5_2 (t : Fin cfg0.N) (y : S1x1x4096.Idx) : ((win0_5.blk t).view.emb y 2).val = (y 2).val := by blk_simp [idx5]

theorem e_blk (G : Given m c A M) (t : Fin cfg0.N) (y : S1x1x4096.Idx) : iblk m c 5 t y = (((head A M (t.val / 8)).lse (y 2).val : ℝ) : EReal) := by
  refine (congrFun (iblk5_eq t) y).trans ((read5 t _ y).trans ((hLse_at G.H G.hM _).trans ?_))
  rw [emb5_0, emb5_2]; rfl

theorem c_blk (G : Given m c A M) (t : Fin cfg0.N) (y : S512x128.Idx) (hy : (y 1).val = t.val / 8) : iblk m c 6 t y = (((head A M (t.val / 8)).ck (512 * (t.val % 8) + (y 0).val) : ℝ) : EReal) := by
  have ht := t_lt t
  have e0 : ((win0_6.blk t).view.emb y 0).val = 512 * (t.val % 8) + (y 0).val := by blk_simp [idx6]; omega
  have e1 : ((win0_6.blk t).view.emb y 1).val = t.val / 8 := by blk_simp [idx6]; omega
  blk_simp [iblk]
  rw [V_cum]
  refine (hCum_at G.H _ (by rw [e1]; omega)).trans ?_
  rw [e0, e1]; rfl

theorem reads (G : Given m c A M) (t : Fin cfg0.N) (dl : Vec Ideal S1x4096 .f32) (hl : ∀ y : S1x4096.Idx, dl y = (((head A M (t.val / 8)).dl (y 1).val : ℝ) : EReal)) :
    Reads (head A M (t.val / 8)) (grid0.coords t) (iblk m c 0 t) (iblk m c 1 t) (iblk m c 2 t) (iblk m c 3 t) (iblk m c 5 t) (iblk m c 6 t) dl where
  q := q_blk G t
  k y := by rw [coord1]; exact k_blk G t y
  v y := by rw [coord1]; exact v_blk G t y
  o := do_blk G t
  e := e_blk G t
  c y := by rw [coord1]; exact c_blk G t _ (coord0 t)
  l := hl

/-- The row sums of `do · o` are the row sums of the probabilities' gradients. -/
theorem rowSums_at (G : Given m c A M) (t : Fin cfg0.N) (y : S1x4096.Idx) : rowSums (iblk m c 3 t) (iblk m c 4 t) y = (((head A M (t.val / 8)).dl (y 1).val : ℝ) : EReal) := by
  have h1 : (y 1).val < 4096 := (y 1).isLt
  have hb : (y 1).val / 512 < 8 := by omega
  have ho := rows_at (f := fun i d => ∑ j : Fin 4096, Cert.Attn.pr A M (t.val / 8) i j * A.V j (128 * (t.val / 8) + d)) (o_blk G t) _ hb
  unfold rowSums
  rw [k0_pay6_at]
  simp only [rows_at (do_blk G t) _ hb, ho, ← EReal.coe_mul]
  rw [Cert.Attn.coe_sum]
  refine congrArg _ (Eq.trans (Finset.sum_congr rfl fun d _ => ?_) (Cert.Attn.δ_eq (A := A) (M := M) (t.val / 8) (y 1).val))
  show A.D (512 * ((y 1).val / 512) + (y 1).val % 512) _ * (∑ j : Fin 4096, Cert.Attn.pr A M (t.val / 8) (512 * ((y 1).val / 512) + (y 1).val % 512) j * _) = _
  rw [Nat.div_add_mod]

/-! ## The carried sums -/

/-- The head's sums over the first `n` keys. -/
def dqs (H : Head) (n i d : ℕ) : ℝ := ∑ s ∈ Finset.range n, H.ds s i * H.kk s d
def dcs (H : Head) (n i : ℕ) : ℝ := ∑ s ∈ Finset.range n, H.ds s i

/-- What a point starts from. -/
structure Begun (H : Head) (n : ℕ) (s : Car Ideal) : Prop where
  dq : ∀ y, s.dq y = ((dqs H n (y 0).val (y 1).val : ℝ) : EReal)
  dcq : ∀ y, s.dcq y = ((dcs H n (y 1).val : ℝ) : EReal)
  dl : ∀ y : S1x4096.Idx, s.dl y = ((H.dl (y 1).val : ℝ) : EReal)

/-- The point's sums, from what it starts from. -/
theorem accum_sums (G : Given m c A M) (t : Fin cfg0.N) (s : Car Ideal) (b : Begun (head A M (t.val / 8)) (512 * (t.val % 8)) s) :
    ∃ S, Sums (head A M (t.val / 8)) (t.val % 8) (8 - t.val % 8) (dqs (head A M (t.val / 8)) (512 * (t.val % 8))) (dcs (head A M (t.val / 8)) (512 * (t.val % 8))) S
      ∧ (accum m c t s).dk = S.dk ∧ (accum m c t s).dv = S.dv ∧ (accum m c t s).dc = S.dc ∧ (accum m c t s).dq = S.dq ∧ (accum m c t s).dcq = S.dcq := by
  have R := reads G t s.dl b.dl
  have I := sums_start R b.dq b.dcq
  have e := coord1 t
  have L := sums_st R I (7 - (grid0.coords t 1).val) (by omega)
  have T := sums_trip R L (by omega)
  rw [show (grid0.coords t 1).val + (7 - (grid0.coords t 1).val) = 7 by omega, show 7 - (grid0.coords t 1).val + 1 = 8 - t.val % 8 by omega, e] at T
  refine ⟨_, T, ?_⟩
  rw [← e]
  exact ⟨rfl, rfl, rfl, rfl, rfl⟩

theorem dqs_block (H : Head) (a i d : ℕ) : dqs H (512 * (a + 1)) i d = dqs H (512 * a) i d + ∑ r : Fin 512, H.ds (512 * a + r) i * H.kk (512 * a + r) d :=
  sum_block (fun s => H.ds s i * H.kk s d) 512 a
theorem dcs_block (H : Head) (a i : ℕ) : dcs H (512 * (a + 1)) i = dcs H (512 * a) i + ∑ r : Fin 512, H.ds (512 * a + r) i :=
  sum_block (fun s => H.ds s i) 512 a

/-- The two sums a point hands on. -/
theorem accum_next (G : Given m c A M) (t : Fin cfg0.N) (s : Car Ideal) (b : Begun (head A M (t.val / 8)) (512 * (t.val % 8)) s) :
    Begun (head A M (t.val / 8)) (512 * (t.val % 8 + 1)) ⟨(accum m c t s).dq, (accum m c t s).dcq, s.dl⟩ := by
  obtain ⟨S, I, -, -, -, eq, ec⟩ := accum_sums G t s b
  have ht : t.val % 8 < 8 := Nat.mod_lt _ (by norm_num)
  refine ⟨fun y => ?_, fun y => ?_, b.dl⟩
  · have h0 : (y 0).val < 4096 := (y 0).isLt
    show (accum m c t s).dq y = _
    rw [eq, I.dq, if_pos (by omega), dqs_block]
  · have h0 : (y 1).val < 4096 := (y 1).isLt
    show (accum m c t s).dcq y = _
    rw [ec, I.dcq, if_pos (by omega), dcs_block]

theorem begun (G : Given m c A M) : ∀ (n : ℕ) (h : n < cfg0.N), Begun (head A M (n / 8)) (512 * (n % 8)) (begins m c ⟨n, h⟩ (car m c n))
  | n, h => by
    by_cases h0 : n % 8 = 0
    · have eb : begins m c ⟨n, h⟩ (car m c n) = (⟨k0_pay4 (F := Ideal), k0_pay5 (F := Ideal), rowSums (iblk m c 3 ⟨n, h⟩) (iblk m c 4 ⟨n, h⟩)⟩ : Car Ideal) := by unfold begins; exact if_pos h0
      rw [eb, h0]
      exact ⟨fun y => (zero_at4 y).trans (by simp [dqs]), fun y => (zero_at5 y).trans (by simp [dcs]), fun y => rowSums_at G ⟨n, h⟩ y⟩
    · obtain ⟨k, rfl⟩ : ∃ k, n = k + 1 := ⟨n - 1, by omega⟩
      have hk : k < cfg0.N := Nat.lt_of_succ_lt h
      have eb : begins m c ⟨k + 1, h⟩ (car m c (k + 1)) = car m c (k + 1) := if_neg h0
      have P := accum_next G ⟨k, hk⟩ _ (begun G k hk)
      rw [eb, car_succ m c ⟨k, hk⟩]
      rw [show (k + 1) / 8 = k / 8 by omega, show (k + 1) % 8 = k % 8 + 1 by omega]
      exact P

theorem acc_sums (G : Given m c A M) (t : Fin cfg0.N) :
    ∃ S, Sums (head A M (t.val / 8)) (t.val % 8) (8 - t.val % 8) (dqs (head A M (t.val / 8)) (512 * (t.val % 8))) (dcs (head A M (t.val / 8)) (512 * (t.val % 8))) S
      ∧ (accAfter m c t).dk = S.dk ∧ (accAfter m c t).dv = S.dv ∧ (accAfter m c t).dc = S.dc ∧ (accAfter m c t).dq = S.dq ∧ (accAfter m c t).dcq = S.dcq :=
  accum_sums G t _ (begun G t.val t.isLt)

end Cert.KernelIdeal.Bwd
-- ==== Proof.Results.lean ====
/- The five results of the attention's backward call are the reference's. -/
module

public import proofs.«01_k».proof.Proof.Carry

@[expose] public section

set_option maxRecDepth 16384

noncomputable section

namespace Cert.KernelIdeal.Bwd

open Cert.KernelIdeal Cert.KernelIdeal.Gen
open Idealize.ShloMosaic Idealize.ShloMosaic.TcCoe Idealize.ShloMosaic.ValueIdx Idealize.ShloMosaic.Pipeline
open Cert.Attn (Args Holds σ ℓ coe_sum)
open Cert.ReferenceIdeal.Read (val_main_v87 val_main_v88 val_main_v89 val_main_v91 val_main_v92 val_main_v94)

/-! ## Sums over the keys or queries that count -/

/-- A sum that vanishes before the tile starts at the tile. -/
theorem sum_from (f : ℕ → ℝ) (a : ℕ) (ha : a ≤ 8) (hf : ∀ i, i < 512 * a → f i = 0) :
    ∑ t ∈ Finset.range (512 * (8 - a)), f (512 * a + t) = ∑ t : Fin 4096, f t := by
  rw [← Finset.sum_range (fun t => f t), show 4096 = 512 * a + 512 * (8 - a) by omega, Finset.sum_range_add,
    Finset.sum_eq_zero (fun i hi => hf i (Finset.mem_range.mp hi)), zero_add]

/-- Lane by lane, group by group. -/
theorem sum_lanes (f : ℕ → ℝ) : ∀ n : ℕ, ∑ l : Fin 128, ∑ g ∈ Finset.range n, f (128 * g + l) = ∑ t ∈ Finset.range (128 * n), f t
  | 0 => by simp
  | n + 1 => by
    rw [sum_block, ← sum_lanes f n, ← Finset.sum_add_distrib]
    exact Finset.sum_congr rfl fun l _ => Finset.sum_range_succ _ n

theorem idx7 : ∀ t : Fin cfg0.N, win0_7.index t = ![t.val % 8, t.val / 8] := by decide +kernel
theorem idx8 : ∀ t : Fin cfg0.N, win0_8.index t = ![t.val % 8, t.val / 8] := by decide +kernel
theorem idx9 : ∀ t : Fin cfg0.N, win0_9.index t = ![0, t.val / 8] := by decide +kernel
theorem idx10 : ∀ t : Fin cfg0.N, win0_10.index t = ![t.val / 8, 0, 0] := by decide +kernel
theorem idx11 : ∀ t : Fin cfg0.N, win0_11.index t = ![t.val / 8, 0, t.val % 8] := by decide +kernel

variable {m : (ℓ : Loc nD τ sig) → Buf (Elt Ideal) ℓ} {c : Dev nD} {A : Args} {M : ℕ → ℕ → ℝ}

/-! ## What a point writes -/

theorem dk_point (G : Given m c A M) (t : Fin cfg0.N) (y : S512x128.Idx) : k0_pay63 (accAfter m c t).dk y
    = ((∑ i : Fin 4096, Cert.Attn.ds A M (t.val / 8) i (512 * (t.val % 8) + (y 0).val) * σ * A.Q i (128 * (t.val / 8) + (y 1).val) : ℝ) : EReal) := by
  obtain ⟨S, I, e, -, -, -, -⟩ := acc_sums G t
  have ht : t.val % 8 < 8 := Nat.mod_lt _ (by norm_num)
  have h2 : Real.log 2 ≠ 0 := (Real.log_pos one_lt_two).ne'
  rw [k0_pay63_at, e, I.dk, sum_from (fun i => (head A M (t.val / 8)).ds (512 * (t.val % 8) + (y 0).val) i * (head A M (t.val / 8)).q2 i (y 1).val) _ (by omega)
    (fun i hi => by rw [Head.ds_above _ (by omega), zero_mul]), ← EReal.coe_mul, Finset.sum_mul]
  refine congrArg _ (Finset.sum_congr rfl fun i _ => ?_)
  rw [head_ds A M _ _ _ i.isLt]
  show Cert.Attn.ds A M _ _ _ * (A.Q _ _ * (σ * (1 / Real.log 2))) * Real.log 2 = _
  field_simp

theorem dv_point (G : Given m c A M) (t : Fin cfg0.N) (y : S512x128.Idx) : k0_pay64 (accAfter m c t).dv y
    = ((∑ i : Fin 4096, A.D i (128 * (t.val / 8) + (y 1).val) * Cert.Attn.pr A M (t.val / 8) i (512 * (t.val % 8) + (y 0).val) : ℝ) : EReal) := by
  obtain ⟨S, I, -, e, -, -, -⟩ := acc_sums G t
  have ht : t.val % 8 < 8 := Nat.mod_lt _ (by norm_num)
  rw [k0_pay64_at, e, I.dv, sum_from (fun i => (head A M (t.val / 8)).pr (512 * (t.val % 8) + (y 0).val) i * (head A M (t.val / 8)).dd i (y 1).val) _ (by omega)
    (fun i hi => by rw [Head.pr_above _ (by omega), zero_mul])]
  refine congrArg _ (Finset.sum_congr rfl fun i _ => ?_)
  rw [head_pr A M _ _ _ i.isLt]
  exact mul_comm _ _

theorem dck_point (G : Given m c A M) (t : Fin cfg0.N) (y : S1x1x512.Idx) : k0_pay1 (k0_pay65 (accAfter m c t).dc) y
    = ((∑ i : Fin 4096, Cert.Attn.ds A M (t.val / 8) i (512 * (t.val % 8) + (y 2).val) : ℝ) : EReal) := by
  obtain ⟨S, I, -, -, e, -, -⟩ := acc_sums G t
  have ht : t.val % 8 < 8 := Nat.mod_lt _ (by norm_num)
  rw [k0_pay1_at, rowSum, e]
  simp only [I.dc]
  rw [coe_sum]
  refine congrArg _ ((sum_lanes (fun i => (head A M (t.val / 8)).ds (512 * (t.val % 8) + (y 2).val) (512 * (t.val % 8) + i)) (4 * (8 - t.val % 8))).trans ?_)
  rw [show 128 * (4 * (8 - t.val % 8)) = 512 * (8 - t.val % 8) by omega, sum_from (fun i => (head A M (t.val / 8)).ds (512 * (t.val % 8) + (y 2).val) i) _ (by omega)
    (fun i hi => Head.ds_above _ (by omega))]
  exact Finset.sum_congr rfl fun i _ => head_ds A M _ _ _ i.isLt

theorem dq_point (G : Given m c A M) (t : Fin cfg0.N) (h7 : t.val % 8 = 7) (y : S4096x128.Idx) : k0_pay2 (accAfter m c t).dq y
    = ((∑ j : Fin 4096, Cert.Attn.ds A M (t.val / 8) (y 0).val j * σ * A.K j (128 * (t.val / 8) + (y 1).val) : ℝ) : EReal) := by
  have e : (accAfter m c t).dq y = ((dqs (head A M (t.val / 8)) (512 * (t.val % 8 + 1)) (y 0).val (y 1).val : ℝ) : EReal) := (accum_next G t _ (begun G t.val t.isLt)).dq y
  rw [k0_pay2_at, e, Cert.Attn.scale_eq, h7, ← EReal.coe_mul]
  refine congrArg _ ?_
  unfold dqs
  rw [show 512 * (7 + 1) = 4096 from rfl, Finset.sum_range, Finset.sum_mul]
  refine Finset.sum_congr rfl fun j _ => ?_
  rw [head_ds A M _ _ _ (y 0).isLt, mul_right_comm]
  rfl

theorem dcq_point (G : Given m c A M) (t : Fin cfg0.N) (h7 : t.val % 8 = 7) (y : S1x1x4096.Idx) : k0_pay3 (accAfter m c t).dcq y
    = ((∑ j : Fin 4096, Cert.Attn.ds A M (t.val / 8) (y 2).val j : ℝ) : EReal) := by
  have e : (accAfter m c t).dcq (ix2 0 (y 2)) = ((dcs (head A M (t.val / 8)) (512 * (t.val % 8 + 1)) (y 2).val : ℝ) : EReal) := (accum_next G t _ (begun G t.val t.isLt)).dcq (ix2 0 (y 2))
  rw [k0_pay3_at, e, h7]
  refine congrArg _ ?_
  unfold dcs
  rw [show 512 * (7 + 1) = 4096 from rfl, Finset.sum_range]
  exact Finset.sum_congr rfl fun j _ => head_ds A M _ _ _ (y 2).isLt

/-! ## The arrays -/

theorem final7 (G : Given m c A M) : (dats m 0 c).arrAt 7 cfg0.N = val_main_v88 (F := Ideal) (arg0 m c) (arg1 m c) (arg2 m c) (arg3 m c) (arg4 m c) := by
  refine (dats m 0 c).arrAt_eq_of_covers 7 _ (by decide +kernel) fun t hf y => ?_
  blk_simp
  have h1 : (y 1).val < 128 := (y 1).isLt
  have e0 : ((win0_7.blk t).view.emb y 0).val = 512 * (t.val % 8) + (y 0).val := by blk_simp [idx7]; omega
  have e1 : ((win0_7.blk t).view.emb y 1).val = 128 * (t.val / 8) + (y 1).val := by blk_simp [idx7]; omega
  rw [after7, Cert.Attn.dk_at G.H G.hM, e0, e1, show (128 * (t.val / 8) + (y 1).val) / 128 = t.val / 8 by omega]
  exact dk_point G t y

theorem final8 (G : Given m c A M) : (dats m 0 c).arrAt 8 cfg0.N = val_main_v89 (F := Ideal) (arg0 m c) (arg1 m c) (arg3 m c) (arg4 m c) := by
  refine (dats m 0 c).arrAt_eq_of_covers 8 _ (by decide +kernel) fun t hf y => ?_
  blk_simp
  have h1 : (y 1).val < 128 := (y 1).isLt
  have e0 : ((win0_8.blk t).view.emb y 0).val = 512 * (t.val % 8) + (y 0).val := by blk_simp [idx8]; omega
  have e1 : ((win0_8.blk t).view.emb y 1).val = 128 * (t.val / 8) + (y 1).val := by blk_simp [idx8]; omega
  rw [after8, Cert.Attn.dv_at G.H G.hM, e0, e1, show (128 * (t.val / 8) + (y 1).val) / 128 = t.val / 8 by omega]
  exact dv_point G t y

theorem final11 (G : Given m c A M) : (dats m 0 c).arrAt 11 cfg0.N = val_main_v94 (F := Ideal) (arg0 m c) (arg1 m c) (arg2 m c) (arg3 m c) (arg4 m c) := by
  refine (dats m 0 c).arrAt_eq_of_covers 11 _ (by decide +kernel) fun t hf y => ?_
  blk_simp
  have e0 : ((win0_11.blk t).view.emb y 0).val = t.val / 8 := by blk_simp [idx11]
  have e2 : ((win0_11.blk t).view.emb y 2).val = 512 * (t.val % 8) + (y 2).val := by blk_simp [idx11]; omega
  rw [after11, Cert.Attn.dck_at G.H G.hM, e0, e2]
  exact dck_point G t y

theorem final10 (G : Given m c A M) : (dats m 0 c).arrAt 10 cfg0.N = val_main_v92 (F := Ideal) (arg0 m c) (arg1 m c) (arg2 m c) (arg3 m c) (arg4 m c) := by
  refine (dats m 0 c).arrAt_eq_of_covers 10 _ (by decide +kernel) fun t hf y => ?_
  have h7 := (flush0_10 t).mp hf
  blk_simp
  have e0 : ((win0_10.blk t).view.emb y 0).val = t.val / 8 := by blk_simp [idx10]
  have e2 : ((win0_10.blk t).view.emb y 2).val = (y 2).val := by blk_simp [idx10]
  rw [after10, Cert.Attn.dcq_at G.H G.hM, e0, e2]
  exact dcq_point G t h7 y

/-- The columns of the left half are written by the points that end a head, the right half keeps the other gradient. -/
theorem final9 (G : Given m c A M) : (dats m 0 c).arrAt 9 cfg0.N
    = val_main_v91 (F := Ideal) (arg0 m c) (arg1 m c) (arg2 m c) (arg3 m c) (arg4 m c) (arg5 m c) := by
  have hG : ∀ t, (cfg0.win 9).flush t = true → (dats m 0 c).flushed 9 t = ((cfg0.win 9).blk t).view.read (Elt Ideal)
      (val_main_v91 (F := Ideal) (arg0 m c) (arg1 m c) (arg2 m c) (arg3 m c) (arg4 m c) (arg5 m c)) := fun t hf => by
    have h7 := (flush0_9 t).mp hf
    have ht := t_lt t
    funext y
    rw [Dat.flushed_apply]
    blk_simp
    have h1 : (y 1).val < 128 := (y 1).isLt
    have e0 : ((win0_9.blk t).view.emb y 0).val = (y 0).val := by blk_simp [idx9]
    have e1 : ((win0_9.blk t).view.emb y 1).val = 128 * (t.val / 8) + (y 1).val := by blk_simp [idx9]; omega
    rw [after9, Cert.Attn.dqz_at, dif_pos (by rw [e1]; omega), Cert.Attn.dq_at G.H G.hM]
    refine (dq_point G t h7 y).trans ?_
    show _ = ((∑ j : Fin 4096, Cert.Attn.ds A M (((win0_9.blk t).view.emb y 1).val / 128) ((win0_9.blk t).view.emb y 0).val j * σ * A.K j ((win0_9.blk t).view.emb y 1).val : ℝ) : EReal)
    rw [e0, e1, show (128 * (t.val / 8) + (y 1).val) / 128 = t.val / 8 by omega]
  funext i
  refine ((dats m 0 c).arrAt_eq_piecewise 9 _ hG i).trans ?_
  split
  · rfl
  · rename_i hn
    have i1 : (i 1).val < 4096 := (i 1).isLt
    have hi : ¬ (i 1).val < 2048 := fun hlt => hn ⟨⟨8 * ((i 1).val / 128) + 7, by show _ < 128; omega⟩, (flush0_9 _).mpr (by show (8 * ((i 1).val / 128) + 7) % 8 = 7; omega), by
      mem_blk [idx9]
      refine ⟨⟨Nat.zero_le _, (i 0).isLt⟩, ?_⟩
      show (8 * ((i 1).val / 128) + 7) / 8 * 128 ≤ (i 1).val ∧ (i 1).val < (8 * ((i 1).val / 128) + 7) / 8 * 128 + 128
      omega⟩
    rw [A_eq]
    refine (congrFun (V_dqz m c) i).trans ?_
    rw [hPair_at, dif_neg hi, Cert.Attn.dqz_at, dif_neg hi]

end Cert.KernelIdeal.Bwd
-- ==== Proof.Finite.lean ====
/- Arguments that `finite` accepts hold numbers, and on them the backward call ends with the reference's results. -/
module

public import proofs.«01_k».proof.Defs
public import proofs.«01_k».proof.Proof.Results
public import Idealize.ShloMosaic.Lib.ReduceAll

@[expose] public section

set_option maxRecDepth 16384

noncomputable section

namespace Cert.Pre_finite

open Idealize.ShloMosaic Idealize.ShloMosaic.TcCoe Idealize.ShloMosaic.ValueIdx

instance facts : Facts where
  bcast_S_S4096x2048 := by decide
  reducesTo_S4096x2048_S_d0_1 := by decide
  h_S_ := by decide
  bcast_S_S16x4096 := by decide
  reducesTo_S16x4096_S_d0_1 := by decide

instance : Subsingleton S_.Idx := ⟨fun a b => funext fun i => i.elim0⟩

/-- A number is what lies below the top in size. -/
theorem real_of_abs_lt {x : EReal} (h : max x (-x) < ⊤) : ∃ r : ℝ, x = (r : EReal) := by
  induction x with
  | bot => simp at h
  | coe r => exact ⟨r, rfl⟩
  | top => simp at h

/-- Where one argument's test comes out true, every entry is a number. -/
theorem all_real {s : Shape} (x : FVec Ideal s .f32) {axes : List (Fin s.rank)} (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) hr hu j = 1#1) (i : s.Idx) :
    ∃ r : ℝ, x i = (r : EReal) := by
  have h := Host.reduce_andi_all _ _ hr hu j e i
  have h' : BitVec.ofBool (decide (max (x i) (-(x i)) < Ideal.ofBits .f32 0x7F800000#32)) = 1#1 := h
  rw [Cert.Attn.inf_eq] at h'
  refine real_of_abs_lt ?_
  by_contra hn
  simp [hn] at h'

/-- The numbers the accepted arguments hold. -/
theorem holds [Facts] (x0 x1 x2 : FVec Ideal S4096x2048 .f32) (x3 : FVec Ideal S16x4096 .f32) (x4 x5 : FVec Ideal S4096x2048 .f32)
    (e : fn (F := Ideal) x0 x1 x2 x3 x4 x5 = fun _ => 1#1) : ∃ A, Cert.Attn.Holds A x0 x1 x2 x3 x4 := by
  have e1 := congrFun e (fun a => a.elim0)
  simp only [fn, fn_part1] at e1
  obtain ⟨e1, h4⟩ := IntOp.andi_eq_one.1 e1
  obtain ⟨e1, h3⟩ := IntOp.andi_eq_one.1 e1
  obtain ⟨e1, h2⟩ := IntOp.andi_eq_one.1 e1
  obtain ⟨h0, h1⟩ := IntOp.andi_eq_one.1 e1
  choose f0 g0 using all_real x0 _ _ _ _ h0
  choose f1 g1 using all_real x1 _ _ _ _ h1
  choose f2 g2 using all_real x2 _ _ _ _ h2
  choose f3 g3 using all_real x3 _ _ _ _ h3
  choose f4 g4 using all_real x4 _ _ _ _ h4
  let w (f : S4096x2048.Idx → ℝ) (i j : ℕ) : ℝ := if h : i < 4096 ∧ j < 2048 then f (ix2 ⟨i, h.1⟩ ⟨j, h.2⟩) else 0
  let u (f : S16x4096.Idx → ℝ) (i j : ℕ) : ℝ := if h : i < 16 ∧ j < 4096 then f (ix2 ⟨i, h.1⟩ ⟨j, h.2⟩) else 0
  have hw (f : S4096x2048.Idx → ℝ) (y : S4096x2048.Idx) : f y = w f (y 0).val (y 1).val := by
    have h : (y 0).val < 4096 ∧ (y 1).val < 2048 := ⟨(y 0).isLt, (y 1).isLt⟩
    simp only [w, dif_pos h]
    refine congrArg f (funext fun a => ?_); match a with | ⟨0, _⟩ => rfl | ⟨1, _⟩ => rfl
  have hu (f : S16x4096.Idx → ℝ) (y : S16x4096.Idx) : f y = u f (y 0).val (y 1).val := by
    have h : (y 0).val < 16 ∧ (y 1).val < 4096 := ⟨(y 0).isLt, (y 1).isLt⟩
    simp only [u, dif_pos h]
    refine congrArg f (funext fun a => ?_); match a with | ⟨0, _⟩ => rfl | ⟨1, _⟩ => rfl
  exact ⟨⟨w f0, w f1, w f2, w f4, u f3⟩, fun y => (g0 y).trans (congrArg _ (hw f0 y)), fun y => (g1 y).trans (congrArg _ (hw f1 y)),
    fun y => (g2 y).trans (congrArg _ (hw f2 y)), fun y => (g3 y).trans (congrArg _ (hu f3 y)), fun y => (g4 y).trans (congrArg _ (hw f4 y))⟩

end Cert.Pre_finite

namespace Cert.KernelIdeal.Bwd

open Cert.KernelIdeal Cert.KernelIdeal.Gen
open Idealize.ShloMosaic Idealize.ShloMosaic.TcCoe Idealize.ShloMosaic.Pipeline Idealize.SL.Sem
open Cert.ReferenceIdeal.Read (val_main_v88 val_main_v89 val_main_v91 val_main_v92 val_main_v94)

variable (m : (ℓ : Loc nD τ sig) → Buf (Elt Ideal) ℓ) (ρ : Dev nD → PrngReg)

section
variable {m} {r : PUnit × MemSt nD τ sig (Elt Ideal)}
theorem ends7 (h : FramePost cfgs (dats m) 0 (V m) r) (c : Dev nD) : r.2.mem ((c.tc : Thread nD τ).loc main_v58_0) = (dats m 0 c).arrAt 7 cfg0.N := h.out_eq c 7

theorem ends8 (h : FramePost cfgs (dats m) 0 (V m) r) (c : Dev nD) : r.2.mem ((c.tc : Thread nD τ).loc main_v58_1) = (dats m 0 c).arrAt 8 cfg0.N := h.out_eq c 8

theorem ends9 (h : FramePost cfgs (dats m) 0 (V m) r) (c : Dev nD) : r.2.mem ((c.tc : Thread nD τ).loc main_v58_2) = (dats m 0 c).arrAt 9 cfg0.N := h.out_eq c 9

theorem ends10 (h : FramePost cfgs (dats m) 0 (V m) r) (c : Dev nD) : r.2.mem ((c.tc : Thread nD τ).loc main_v58_3) = (dats m 0 c).arrAt 10 cfg0.N := h.out_eq c 10

theorem ends11 (h : FramePost cfgs (dats m) 0 (V m) r) (c : Dev nD) : r.2.mem ((c.tc : Thread nD τ).loc main_v58_4) = (dats m 0 c).arrAt 11 cfg0.N := h.out_eq c 11
end

/-- On arguments that hold numbers the call ends with the reference's results. -/
theorem computes (h : ∀ c : Dev nD, ∃ A, Cert.Attn.Holds A (arg0 m c) (arg1 m c) (arg2 m c) (arg3 m c) (arg4 m c)) :
    θ_run (defs (F := Ideal)) (onTc (τ := τ) (main (F := Ideal))) ⟨m, fun _ => 0, ρ⟩ (fun r => ∀ c : Dev nD,
      r.2.mem ((c.tc : Thread nD τ).loc main_v58_0) = val_main_v88 (F := Ideal) (arg0 m c) (arg1 m c) (arg2 m c) (arg3 m c) (arg4 m c)
      ∧ r.2.mem ((c.tc : Thread nD τ).loc main_v58_1) = val_main_v89 (F := Ideal) (arg0 m c) (arg1 m c) (arg3 m c) (arg4 m c)
      ∧ r.2.mem ((c.tc : Thread nD τ).loc main_v58_2) = val_main_v91 (F := Ideal) (arg0 m c) (arg1 m c) (arg2 m c) (arg3 m c) (arg4 m c) (arg5 m c)
      ∧ r.2.mem ((c.tc : Thread nD τ).loc main_v58_3) = val_main_v92 (F := Ideal) (arg0 m c) (arg1 m c) (arg2 m c) (arg3 m c) (arg4 m c)
      ∧ r.2.mem ((c.tc : Thread nD τ).loc main_v58_4) = val_main_v94 (F := Ideal) (arg0 m c) (arg1 m c) (arg2 m c) (arg3 m c) (arg4 m c)) := by
  refine (θ_run defs _ _).mono (fun r hr c => ?_) (runs m ρ)
  obtain ⟨A, H⟩ := h c
  obtain ⟨M, hM⟩ := Cert.Attn.max_at H
  have G : Given m c A M := ⟨H, hM⟩
  exact ⟨(ends7 hr.1 c).trans (final7 G), (ends8 hr.1 c).trans (final8 G), (ends9 hr.1 c).trans (final9 G),
    (ends10 hr.1 c).trans (final10 G), (ends11 hr.1 c).trans (final11 G)⟩

end Cert.KernelIdeal.Bwd

end
-- ==== Proof.AttendRef.lean ====
/- The attention reference's three results as numbers. -/
module

public import proofs.«01_k».proof.Proof.Gen.AttendReferenceIdeal.Read
public import proofs.«01_k».proof.Proof.HostAt

@[expose] public section

set_option maxRecDepth 16384

noncomputable section

namespace Cert.Attn.Forward

open Cert.AttendReferenceIdeal Cert.AttendReferenceIdeal.Gen Cert.AttendReferenceIdeal.Read
open Idealize.ShloMosaic Idealize.ShloMosaic.TcCoe Idealize.ShloMosaic.ValueIdx
open Cert.Attn

variable {A : Args} {M : ℕ → ℕ → ℝ} {x0 x1 x2 x4 z : Mat} {x3 : Gate}

theorem masked_eq (x0 x1 : Mat) (x3 : Gate) : val_main_v19 (F := Ideal) x0 x1 x3 = Cert.ReferenceIdeal.Read.val_main_v19_0 (F := Ideal) x0 x1 x3 := rfl
theorem max_eq (x0 x1 : Mat) (x3 : Gate) : val_main_v20 (F := Ideal) x0 x1 x3 = Cert.ReferenceIdeal.Read.val_main_v20 (F := Ideal) x0 x1 x3 := by
  unfold val_main_v20 Cert.ReferenceIdeal.Read.val_main_v20
  rw [masked_eq]; rfl
theorem max_eq' (x0 x1 : Mat) (x3 : Gate) : val_main_v36 (F := Ideal) x0 x1 x3 = Cert.ReferenceIdeal.Read.val_main_v20 (F := Ideal) x0 x1 x3 := by
  unfold val_main_v36 Cert.ReferenceIdeal.Read.val_main_v20
  rw [masked_eq]; rfl
theorem ex_eq (x0 x1 : Mat) (x3 : Gate) : val_main_v26 (F := Ideal) x0 x1 x3 = Cert.ReferenceIdeal.Read.val_main_v40 (F := Ideal) x0 x1 x3 := by
  unfold val_main_v26 val_main_v25 val_main_v24 val_main_v23 val_main_v22
  rw [masked_eq, max_eq]; rfl
theorem sum_eq (x0 x1 : Mat) (x3 : Gate) : val_main_v28 (F := Ideal) x0 x1 x3 = Cert.ReferenceIdeal.Read.val_main_v42 (F := Ideal) x0 x1 x3 := by
  unfold val_main_v28 val_main_v27
  rw [ex_eq]; rfl
theorem pr_eq (x0 x1 : Mat) (x3 : Gate) : val_main_v30 (F := Ideal) x0 x1 x3 = Cert.ReferenceIdeal.Read.val_main_v44 (F := Ideal) x0 x1 x3 := by
  unfold val_main_v30 val_main_v29
  rw [ex_eq, sum_eq]; rfl
theorem out_eq (x0 x1 x2 : Mat) (x3 : Gate) : val_main_v35 (F := Ideal) x0 x1 x2 x3 = Cert.ReferenceIdeal.Read.val_main_v52 (F := Ideal) x0 x1 x2 x3 := by
  unfold val_main_v35 val_main_v34 val_main_v33
  rw [pr_eq]; rfl

theorem out_at (H : Holds A x0 x1 x2 x3 x4) (hM : ∀ y : S16x4096.Idx, Cert.ReferenceIdeal.Read.val_main_v20 (F := Ideal) x0 x1 x3 y = ((M (y 0).val (y 1).val : ℝ) : EReal)) (y : S4096x2048.Idx) :
    val_main_v35 (F := Ideal) x0 x1 x2 x3 y = ((∑ j : Fin 4096, pr A M ((y 1).val / 128) (y 0).val j * A.V j (y 1).val : ℝ) : EReal) := by
  rw [out_eq]
  exact Eq.trans rfl (Cert.KernelIdeal.Bwd.hOut_at H hM y)

theorem o_at (H : Holds A x0 x1 x2 x3 x4) (hM : ∀ y : S16x4096.Idx, Cert.ReferenceIdeal.Read.val_main_v20 (F := Ideal) x0 x1 x3 y = ((M (y 0).val (y 1).val : ℝ) : EReal)) (y : S4096x2048.Idx) :
    val_main_v48 (F := Ideal) x0 x1 x2 x3 y = ((∑ j : Fin 4096, pr A M ((y 1).val / 128) (y 0).val j * A.V j (y 1).val : ℝ) : EReal) := out_at H hM y

/-- The gated output, at any gate. -/
theorem g_at (H : Holds A x0 x1 x2 x3 x4) (hM : ∀ y : S16x4096.Idx, Cert.ReferenceIdeal.Read.val_main_v20 (F := Ideal) x0 x1 x3 y = ((M (y 0).val (y 1).val : ℝ) : EReal)) (y : S4096x2048.Idx) :
    val_main_v51 (F := Ideal) x0 x1 x2 x3 z y = ((∑ j : Fin 4096, pr A M ((y 1).val / 128) (y 0).val j * A.V j (y 1).val : ℝ) : EReal) * (z y * Ideal.logistic (z y)) := by
  have hs : val_main_v49 (F := Ideal) z y = z y * Ideal.logistic (z y) := by
    rw [val_main_v49_apply, val_main_call1_v5_apply, val_main_call1_v4_apply, val_main_call1_v3_apply, val_main_call1_v2_apply, val_main_call1_cst_apply, val_main_call1_cst_0_apply, val_main_call1_v1_apply, val_main_call1_v0_apply,
      Ideal.ofBits_def, one_eq]
    rfl
  rw [val_main_v51_apply, val_main_v50_apply, out_at H hM, hs]
  rfl

theorem ex_eq' (x0 x1 : Mat) (x3 : Gate) : val_main_v40 (F := Ideal) x0 x1 x3 = Cert.ReferenceIdeal.Read.val_main_v40 (F := Ideal) x0 x1 x3 := by
  unfold val_main_v40 val_main_v39 val_main_v38 val_main_v37
  rw [masked_eq, max_eq', ← Cert.KernelIdeal.Bwd.shift_eq]; rfl

theorem sum_at' (H : Holds A x0 x1 x2 x3 x4) (hM : ∀ y : S16x4096.Idx, Cert.ReferenceIdeal.Read.val_main_v20 (F := Ideal) x0 x1 x3 y = ((M (y 0).val (y 1).val : ℝ) : EReal)) (y : S16x4096.Idx) :
    val_main_v41 (F := Ideal) x0 x1 x3 y = ((ℓ A M (y 0).val (y 1).val : ℝ) : EReal) := by
  rw [val_main_v41_apply, val_main_cst_5_apply, Ideal.ofBits_def, Ideal.ofBits_zero_f32, zero_add, ex_eq']
  simp only [ex_at H hM]
  rw [coe_sum]; rfl

theorem l_at (H : Holds A x0 x1 x2 x3 x4) (hM : ∀ y : S16x4096.Idx, Cert.ReferenceIdeal.Read.val_main_v20 (F := Ideal) x0 x1 x3 y = ((M (y 0).val (y 1).val : ℝ) : EReal)) (y : S16x1x4096.Idx) :
    val_main_v52 (F := Ideal) x0 x1 x3 y = (((M (y 0).val (y 2).val + Real.log (ℓ A M (y 0).val (y 2).val) - A.C (y 0).val (y 2).val) * (1 / Real.log 2) : ℝ) : EReal) := by
  have hl := ℓ_pos (A := A) (M := M) (y 0).val (y 2).val (y 2).isLt
  rw [val_main_v52_apply, val_main_v47_apply, val_main_v46_apply, val_main_v45_apply, val_main_cst_6_apply, val_main_v44_apply, val_main_v43_apply, val_main_v42_apply,
    sum_at' H hM, max_eq', hM, H.c, Ideal.ofBits_def, two_eq]
  show Ideal.div (((M (y 0).val (y 2).val : ℝ) : EReal) + Ideal.log ((ℓ A M (y 0).val (y 2).val : ℝ) : EReal) - ((A.C (y 0).val (y 2).val : ℝ) : EReal)) (Ideal.log ((2 : ℝ) : EReal)) = _
  rw [Ideal.log_coe, if_neg (not_le.mpr hl), Ideal.log_coe, if_neg (by norm_num), Ideal.div_coe (Real.log_pos one_lt_two).ne',
    ← EReal.coe_add, ← EReal.coe_sub, ← EReal.coe_mul]

end Cert.Attn.Forward

end
-- ==== Proof.AttendTrip.lean ====
/- The loop over the blocks of keys of the attention's forward body, and what one point of its grid leaves. -/
module

public import proofs.«01_k».proof.Proof.Gen.AttendIdeal.Loops
public import proofs.«01_k».proof.Proof.Gen.AttendIdeal.Frame
public import Idealize.ShloMosaic.Lib.VecWindow
public import Idealize.ShloMosaic.Lib.Pipeline.ReadBack
public import Idealize.ShloMosaic.Lib.Pipeline.Value
public import Idealize.ShloMosaic.Lib.ValueIdxCore

@[expose] public section

set_option maxRecDepth 16384

noncomputable section

namespace Cert.AttendIdeal.Fwd

open Cert.AttendIdeal Cert.AttendIdeal.Gen
open Idealize.ShloMosaic Idealize.ShloMosaic.TcCoe Idealize.ShloMosaic.Tactic Idealize.ShloMosaic.ValueIdx

variable {F : FTy → Type} [FloatOps F] [Named F]

/-- Rows `512·a …` of a tall matrix. -/
def rows {e : EltTy} (x : Vec F S4096x128 e) (a : ℕ) : Vec F S512x128 e :=
  fun y => x (ix2 ⟨(512 * a + (y 0).val) % 4096, Nat.mod_lt _ (by norm_num)⟩ (y 1))

/-- Rows `512·a …` of a tall matrix of 256 columns. -/
def rowsW {e : EltTy} (x : Vec F S4096x256 e) (a : ℕ) : Vec F S512x256 e :=
  fun y => x (ix2 ⟨(512 * a + (y 0).val) % 4096, Nat.mod_lt _ (by norm_num)⟩ (y 1))

/-- Lanes `512·a …` of a long row under a unit axis. -/
def lanes3 (x : Vec F S1x1x4096 .f32) (a : ℕ) : Vec F S1x1x512 .f32 :=
  fun y => x (ix3 (y 0) (y 1) ⟨(512 * a + (y 2).val) % 4096, Nat.mod_lt _ (by norm_num)⟩)

/-- The right-hand 128 columns, -/
def right (x : Vec F S512x256 .f32) : Vec F S512x128 .f32 := fun y => x (ix2 (y 0) ⟨128 + (y 1).val, by have h : (y 1).val < 128 := (y 1).isLt; show _ < 256; omega⟩)
/-- and the left-hand ones. -/
def left (x : Vec F S512x256 .f32) : Vec F S512x128 .f32 := fun y => x (ix2 (y 0) ⟨(y 1).val, by have h : (y 1).val < 128 := (y 1).isLt; show _ < 256; omega⟩)

/-- The head's values beside a block of ones. -/
def vaug (x : Vec F S4096x128 .bf16) : Vec F S4096x256 .bf16 :=
  fun y => if h : (y 1).val < 128 then x (ix2 (y 0) ⟨(y 1).val, h⟩) else Scalar.ofBits .bf16 0x3F80#16

theorem rd_rows {e : EltTy} {κ : Kind} {sp : Space} (v : View sig κ sp S4096x128 e) (f : v.ty.Contents (Elt F)) {off : Fin 2 → ℕ} (a : ℕ) (ha : a < 8)
    (h : off = ![512 * a, 0]) (inb : ∀ d, off d + S512x128.size d ≤ S4096x128.size d) :
    v.readAt (Elt F) (Rect.unit (s := S4096x128) off S512x128.size inb).toLoadRect f = rows (v.read (Elt F) f) a := by
  refine (View.readAt_unit v f inb h (h ▸ inb)).trans (funext fun y => congrArg (v.read (Elt F) f) (funext fun d => Fin.ext ?_))
  have h0 : (y 0).val < 512 := (y 0).isLt
  match d with
  | ⟨0, _⟩ => show 512 * a + 1 * (y 0).val = (512 * a + (y 0).val) % 4096; omega
  | ⟨1, _⟩ => show 0 + 1 * (y 1).val = (y 1).val; omega

theorem rd_rowsW {e : EltTy} {κ : Kind} {sp : Space} (v : View sig κ sp S4096x256 e) (f : v.ty.Contents (Elt F)) {off : Fin 2 → ℕ} (a : ℕ) (ha : a < 8)
    (h : off = ![512 * a, 0]) (inb : ∀ d, off d + S512x256.size d ≤ S4096x256.size d) :
    v.readAt (Elt F) (Rect.unit (s := S4096x256) off S512x256.size inb).toLoadRect f = rowsW (v.read (Elt F) f) a := by
  refine (View.readAt_unit v f inb h (h ▸ inb)).trans (funext fun y => congrArg (v.read (Elt F) f) (funext fun d => Fin.ext ?_))
  have h0 : (y 0).val < 512 := (y 0).isLt
  match d with
  | ⟨0, _⟩ => show 512 * a + 1 * (y 0).val = (512 * a + (y 0).val) % 4096; omega
  | ⟨1, _⟩ => show 0 + 1 * (y 1).val = (y 1).val; omega

theorem rd_lanes3 {κ : Kind} {sp : Space} (v : View sig κ sp S1x1x4096 .f32) (f : v.ty.Contents (Elt F)) {off : Fin 3 → ℕ} (a : ℕ) (ha : a < 8)
    (h : off = ![0, 0, 512 * a]) (inb : ∀ d, off d + S1x1x512.size d ≤ S1x1x4096.size d) :
    v.readAt (Elt F) (Rect.unit (s := S1x1x4096) off S1x1x512.size inb).toLoadRect f = lanes3 (v.read (Elt F) f) a := by
  refine (View.readAt_unit v f inb h (h ▸ inb)).trans (funext fun y => congrArg (v.read (Elt F) f) (funext fun d => Fin.ext ?_))
  have h1 : (y 2).val < 512 := (y 2).isLt
  match d with
  | ⟨0, _⟩ => show 0 + 1 * (y 0).val = (y 0).val; omega
  | ⟨1, _⟩ => show 0 + 1 * (y 1).val = (y 1).val; omega
  | ⟨2, _⟩ => show 512 * a + 1 * (y 2).val = (512 * a + (y 2).val) % 4096; omega

theorem ld_right (x : Vec F S512x256 .f32) (inb : ∀ d, (![0, 128] : Fin 2 → ℕ) d + S512x128.size d ≤ S512x256.size d) :
    View.ld x (Rect.unit (s := S512x256) ![0, 128] S512x128.size inb) = right x := by
  refine funext fun y => congrArg x (funext fun d => Fin.ext ?_)
  match d with
  | ⟨0, _⟩ => show 0 + 1 * (y 0).val = (y 0).val; omega
  | ⟨1, _⟩ => show 128 + 1 * (y 1).val = 128 + (y 1).val; omega

theorem ld_left (x : Vec F S512x256 .f32) (inb : ∀ d, (![0, 0] : Fin 2 → ℕ) d + S512x128.size d ≤ S512x256.size d) :
    View.ld x (Rect.unit (s := S512x256) ![0, 0] S512x128.size inb) = left x := by
  refine funext fun y => congrArg x (funext fun d => Fin.ext ?_)
  match d with
  | ⟨0, _⟩ => show 0 + 1 * (y 0).val = (y 0).val; omega
  | ⟨1, _⟩ => show 0 + 1 * (y 1).val = (y 1).val; omega

theorem p17 (x : FVec F S512x256 .f32) : k0_pay17 x = x := shapeCast_self x _
theorem p18 (x : FVec F S512x128 .f32) : k0_pay18 x = x := shapeCast_self x _
theorem p19 (x : FVec F S512x512 .f32) : k0_pay19 x = x := shapeCast_self x _

theorem vaug_read {κ : Kind} {sp : Space} (v : View sig κ sp S4096x256 .bf16) (x2 : Vec F S4096x128 .bf16) (arg4 : Memref sig .tc .vmem S4096x128 .bf16) (harg4 : arg4.IsWhole) (c : Dev nD) :
    v.read (Elt F) (v.writes (Elt F) v.junk (kernelRun0_A.sl.HS2_2 c arg4 harg4 x2)) = vaug x2 := by
  have hx := (View.readAt_full arg4.view (harg4.unread x2) inb_S4096x128_S4096x128_0_0).trans (harg4.read_unread x2)
  unfold kernelRun0_A.sl.HS2_2
  funext y
  have h1 : (y 1).val < 256 := (y 1).isLt
  have h0 : (y 0).val < 4096 := (y 0).isLt
  refine (congrFun (View.read_writes_cons_put v v.junk inb_S4096x256_S4096x128_0_128 _ _ rfl) y).trans ?_
  unfold VecWindow.put vaug
  by_cases h : (y 1).val < 128
  · rw [dif_pos h]
    refine (dif_neg fun hin => ?_).trans ?_
    · have h2 := (hin 1).1
      have h3 : 128 ≤ (y 1).val := h2
      omega
    · refine (congrFun (View.read_writes_cons_put v v.junk inb_S4096x256_S4096x128_0_0 _ _ rfl) y).trans ?_
      unfold VecWindow.put
      refine (dif_pos (fun a => ?_)).trans ?_
      · match a with
        | ⟨0, _⟩ => exact ⟨Nat.zero_le _, by show (y 0).val < 0 + 4096; omega⟩
        | ⟨1, _⟩ => exact ⟨Nat.zero_le _, by show (y 1).val < 0 + 128; omega⟩
      · rw [hx]
        unfold k0_pay11
        dsimp only
        rw [shapeCast_self, shapeCast_self]
        refine congrArg x2 (funext fun d => Fin.ext ?_)
        match d with
        | ⟨0, _⟩ => show (y 0).val - 0 = (y 0).val; omega
        | ⟨1, _⟩ => show (y 1).val - 0 = (y 1).val; omega
  · rw [dif_neg h]
    refine (dif_pos (fun a => ?_)).trans ?_
    · match a with
      | ⟨0, _⟩ => exact ⟨Nat.zero_le _, by show (y 0).val < 0 + 4096; omega⟩
      | ⟨1, _⟩ => exact ⟨by show 128 ≤ (y 1).val; omega, by show (y 1).val < 128 + 128; omega⟩
    · unfold k0_pay12
      exact congrFun (shapeCast_self (broadcast S4096x128 (Scalar.ofBits .bf16 0x3F80#16 : F .bf16) : Vec F S4096x128 .bf16) _) _

theorem cov_full {κ : Kind} {sp : Space} {s : Shape} {e : EltTy} (v : View sig κ sp s e) {off : Fin s.rank → ℕ} (L2 L1 H : List (View.Piece (Elt F) s e)) (h2 : L2 = [])
    (inb : ∀ a, off a + s.size a ≤ s.size a) :
    v.readCov (L2 ++ (L1 ++ H)) (Rect.unit off s.size inb).toLoadRect = v.read (Elt F) (v.writes (Elt F) (v.writes (Elt F) v.junk H) L1) := by
  subst h2
  refine (View.readAt_full v _ inb).trans ?_
  rw [List.nil_append, View.writes_append]

/-! ### The offsets and the numbers of trips in closed form -/

theorem trips1 (i : grid0.Coords) : (k0_t1_loop i).trips = (i 1).val := by revert i; decide +kernel
theorem trips2 (i : grid0.Coords) : (k0_t2_loop i).trips = 0 := by revert i; decide +kernel
theorem trip_lt (i : grid0.Coords) (k : Fin (k0_t1_loop i).trips) : k.val < 7 := by
  have h : k.val < (i 1).val := Nat.lt_of_lt_of_eq k.isLt (trips1 i)
  have h8 : (i 1).val < 8 := (i 1).isLt
  omega
theorem off1_eq (i : grid0.Coords) (k : Fin (k0_t1_loop i).trips) : k0_off1 i k = ![512 * (k.val + 1), 0] := by revert i; decide +kernel
theorem off2_eq (i : grid0.Coords) (k : Fin (k0_t1_loop i).trips) : k0_off2 i k = ![0, 0, 512 * (k.val + 1)] := by revert i; decide +kernel
theorem off3_eq (i : grid0.Coords) (k : Fin (k0_t1_loop i).trips) : k0_off3 i k = ![512 * k.val, 0] := by revert i; decide +kernel
theorem off7_eq (i : grid0.Coords) : k0_off7 i = ![512 * (i 1).val, 0] := by revert i; decide +kernel

/-! ### The state of the loop -/

variable (F) in
/-- A tile of queries' running maxima and sums, and its scores against the block of keys to come. -/
structure FS where
  m : Vec F S512x128 .f32
  acc : Vec F S512x256 .f32
  s : Vec F S512x512 .f32

/-- One trip. -/
def step (q : Vec F S512x128 .bf16) (K : Vec F S4096x128 .bf16) (C : Vec F S1x1x4096 .f32) (VA : Vec F S4096x256 .bf16) (k : ℕ) (x : FS F) : FS F :=
  ⟨k0_pay6 x.s x.m, k0_pay7 x.s x.m (rowsW VA k) x.acc, k0_pay5 (k0_pay13 q) (rows K (k + 1)) (lanes3 C (k + 1))⟩

/-- The state after `n` trips. -/
def st (q : Vec F S512x128 .bf16) (K : Vec F S4096x128 .bf16) (C : Vec F S1x1x4096 .f32) (VA : Vec F S4096x256 .bf16) (x : FS F) : ℕ → FS F
  | 0 => x
  | n + 1 => step q K C VA n (st q K C VA x n)

/-- The state the loop starts from. -/
def start (q : Vec F S512x128 .bf16) (K : Vec F S4096x128 .bf16) (C : Vec F S1x1x4096 .f32) : FS F := ⟨k0_pay14, k0_pay15, k0_pay16 q (rows K 0) (lanes3 C 0)⟩

/-- The state after the masked block. -/
def fin (q : Vec F S512x128 .bf16) (K : Vec F S4096x128 .bf16) (C : Vec F S1x1x4096 .f32) (VA : Vec F S4096x256 .bf16) (j : ℕ) : FS F :=
  let e := st q K C VA (start q K C) j
  ⟨k0_pay26 e.s e.m, k0_pay25 e.s e.m (rowsW VA j) e.acc, e.s⟩

def outO (e : FS F) : Vec F S512x128 .bf16 := k0_pay2 (right e.acc) (left e.acc)
def outG (e : FS F) (z : Vec F S512x128 .bf16) : Vec F S512x128 .bf16 := k0_pay3 (right e.acc) (left e.acc) z
def outL (e : FS F) : Vec F S1x1x512 .f32 := k0_pay4 (right e.acc) e.m

section Loop

variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x1x4096 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S1x1x512 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S4096x256 .bf16) (harg12 : arg12.IsWhole) (arg13 : Memref sig .tc .vmem S512x512 .f32) (harg13 : arg13.IsWhole)
  (v3 : Vec F S512x128 .bf16) (X3 : BufTy.Contents (Elt F) arg3.view.ty) (X5 : BufTy.Contents (Elt F) arg5.view.ty) (X12 : BufTy.Contents (Elt F) arg12.view.ty)

theorem trip_m (k : Fin (k0_t1_loop i).trips) (f10 : BufTy.Contents (Elt F) arg10.view.ty) (f11 : BufTy.Contents (Elt F) arg11.view.ty) (f13 : BufTy.Contents (Elt F) arg13.view.ty) (g : BufTy.Contents (Elt F) arg10.view.ty) (L : List (View.Piece (Elt F) S512x128 .f32)) :
    arg10.view.read (Elt F) (arg10.view.writes (Elt F) g ((tripL_k0_t1 (F := F) Variants.none c none i arg2 harg2 arg3 harg3 arg4 harg4 arg5 harg5 arg6 harg6 arg7 harg7 arg8 harg8 arg9 harg9 arg10 harg10 arg11 harg11 arg12 harg12 arg13 harg13 v3 X3 X5 X12 k f10 f11 f13).1 ++ L)) = k0_pay6 (arg13.view.read (Elt F) f13) (arg10.view.read (Elt F) f10) := by
  have e : (tripL_k0_t1 (F := F) Variants.none c none i arg2 harg2 arg3 harg3 arg4 harg4 arg5 harg5 arg6 harg6 arg7 harg7 arg8 harg8 arg9 harg9 arg10 harg10 arg11 harg11 arg12 harg12 arg13 harg13 v3 X3 X5 X12 k f10 f11 f13).1
      = [⟨Rect.unit (s := S512x128) ![0, 0] S512x128.size inb_S512x128_S512x128_0_0, k0_pay6 (arg13.view.readAt (Elt F) (Rect.unit (s := S512x512) ![0, 0] S512x512.size inb_S512x512_S512x512_0_0).toLoadRect f13) (arg10.view.readAt (Elt F) (Rect.unit (s := S512x128) ![0, 0] S512x128.size inb_S512x128_S512x128_0_0).toLoadRect f10)⟩] := by
    unfold tripL_k0_t1 trip_k0_t1
    exact congrArg (fun w : Vec F S512x128 .f32 => ([⟨Rect.unit (s := S512x128) ![0, 0] S512x128.size inb_S512x128_S512x128_0_0, w⟩] : List (View.Piece (Elt F) S512x128 .f32))) ((p18 _).trans rfl)
  rw [e]
  refine (View.read_writes_full (Val := Elt F) arg10.view g _ _ _).trans ?_
  exact congr (congrArg k0_pay6 (View.readAt_full arg13.view f13 _)) (View.readAt_full arg10.view f10 _)

theorem trip_acc (k : Fin (k0_t1_loop i).trips) (f10 : BufTy.Contents (Elt F) arg10.view.ty) (f11 : BufTy.Contents (Elt F) arg11.view.ty) (f13 : BufTy.Contents (Elt F) arg13.view.ty) (g : BufTy.Contents (Elt F) arg11.view.ty) (L : List (View.Piece (Elt F) S512x256 .f32)) :
    arg11.view.read (Elt F) (arg11.view.writes (Elt F) g ((tripL_k0_t1 (F := F) Variants.none c none i arg2 harg2 arg3 harg3 arg4 harg4 arg5 harg5 arg6 harg6 arg7 harg7 arg8 harg8 arg9 harg9 arg10 harg10 arg11 harg11 arg12 harg12 arg13 harg13 v3 X3 X5 X12 k f10 f11 f13).2.1 ++ L)) = k0_pay7 (arg13.view.read (Elt F) f13) (arg10.view.read (Elt F) f10) (rowsW (arg12.view.read (Elt F) X12) k.val) (arg11.view.read (Elt F) f11) := by
  have e : (tripL_k0_t1 (F := F) Variants.none c none i arg2 harg2 arg3 harg3 arg4 harg4 arg5 harg5 arg6 harg6 arg7 harg7 arg8 harg8 arg9 harg9 arg10 harg10 arg11 harg11 arg12 harg12 arg13 harg13 v3 X3 X5 X12 k f10 f11 f13).2.1
      = [⟨Rect.unit (s := S512x256) ![0, 0] S512x256.size inb_S512x256_S512x256_0_0, k0_pay7 (arg13.view.readAt (Elt F) (Rect.unit (s := S512x512) ![0, 0] S512x512.size inb_S512x512_S512x512_0_0).toLoadRect f13) (arg10.view.readAt (Elt F) (Rect.unit (s := S512x128) ![0, 0] S512x128.size inb_S512x128_S512x128_0_0).toLoadRect f10) (arg12.view.readAt (Elt F) (Rect.unit (s := S4096x256) (k0_off3 i k) S512x256.size (k0_off3_inb i k)).toLoadRect X12) (arg11.view.readAt (Elt F) (Rect.unit (s := S512x256) ![0, 0] S512x256.size inb_S512x256_S512x256_0_0).toLoadRect f11)⟩] := by
    unfold tripL_k0_t1 trip_k0_t1
    exact congrArg (fun w : Vec F S512x256 .f32 => ([⟨Rect.unit (s := S512x256) ![0, 0] S512x256.size inb_S512x256_S512x256_0_0, w⟩] : List (View.Piece (Elt F) S512x256 .f32))) ((p17 _).trans rfl)
  rw [e]
  refine (View.read_writes_full (Val := Elt F) arg11.view g _ _ _).trans ?_
  exact congr (congr (congr (congrArg k0_pay7 (View.readAt_full arg13.view f13 _)) (View.readAt_full arg10.view f10 _)) (rd_rowsW arg12.view X12 k.val (by have := trip_lt i k; omega) (off3_eq i k) _)) (View.readAt_full arg11.view f11 _)

theorem trip_s (k : Fin (k0_t1_loop i).trips) (f10 : BufTy.Contents (Elt F) arg10.view.ty) (f11 : BufTy.Contents (Elt F) arg11.view.ty) (f13 : BufTy.Contents (Elt F) arg13.view.ty) (g : BufTy.Contents (Elt F) arg13.view.ty) (L : List (View.Piece (Elt F) S512x512 .f32)) :
    arg13.view.read (Elt F) (arg13.view.writes (Elt F) g ((tripL_k0_t1 (F := F) Variants.none c none i arg2 harg2 arg3 harg3 arg4 harg4 arg5 harg5 arg6 harg6 arg7 harg7 arg8 harg8 arg9 harg9 arg10 harg10 arg11 harg11 arg12 harg12 arg13 harg13 v3 X3 X5 X12 k f10 f11 f13).2.2 ++ L)) = k0_pay5 (k0_pay13 v3) (rows (arg3.view.read (Elt F) X3) (k.val + 1)) (lanes3 (arg5.view.read (Elt F) X5) (k.val + 1)) := by
  have e : (tripL_k0_t1 (F := F) Variants.none c none i arg2 harg2 arg3 harg3 arg4 harg4 arg5 harg5 arg6 harg6 arg7 harg7 arg8 harg8 arg9 harg9 arg10 harg10 arg11 harg11 arg12 harg12 arg13 harg13 v3 X3 X5 X12 k f10 f11 f13).2.2
      = [⟨Rect.unit (s := S512x512) ![0, 0] S512x512.size inb_S512x512_S512x512_0_0, k0_pay5 (k0_pay13 v3) (arg3.view.readAt (Elt F) (Rect.unit (s := S4096x128) (k0_off1 i k) S512x128.size (k0_off1_inb i k)).toLoadRect X3) (arg5.view.readAt (Elt F) (Rect.unit (s := S1x1x4096) (k0_off2 i k) S1x1x512.size (k0_off2_inb i k)).toLoadRect X5)⟩] := by
    unfold tripL_k0_t1 trip_k0_t1
    exact congrArg (fun w : Vec F S512x512 .f32 => ([⟨Rect.unit (s := S512x512) ![0, 0] S512x512.size inb_S512x512_S512x512_0_0, w⟩] : List (View.Piece (Elt F) S512x512 .f32))) ((p19 _).trans rfl)
  rw [e]
  refine (View.read_writes_full (Val := Elt F) arg13.view g _ _ _).trans ?_
  have hk := trip_lt i k
  exact congr (congrArg (k0_pay5 (k0_pay13 v3)) (rd_rows arg3.view X3 (k.val + 1) (by omega) (off1_eq i k) _)) (rd_lanes3 arg5.view X5 (k.val + 1) (by omega) (off2_eq i k) _)

/-- What the three buffers hold after `n` trips. -/
theorem loop_read (G10 : BufTy.Contents (Elt F) arg10.view.ty) (G11 : BufTy.Contents (Elt F) arg11.view.ty) (G13 : BufTy.Contents (Elt F) arg13.view.ty) (n : ℕ) (hn : n ≤ (k0_t1_loop i).trips) :
    (⟨arg10.view.read (Elt F) (arg10.view.writes (Elt F) G10 (pb_k0_t1 (F := F) Variants.none c none i arg2 harg2 arg3 harg3 arg4 harg4 arg5 harg5 arg6 harg6 arg7 harg7 arg8 harg8 arg9 harg9 arg10 harg10 arg11 harg11 arg12 harg12 arg13 harg13 v3 X3 X5 X12 G10 G11 G13 n).1),
      arg11.view.read (Elt F) (arg11.view.writes (Elt F) G11 (pb_k0_t1 (F := F) Variants.none c none i arg2 harg2 arg3 harg3 arg4 harg4 arg5 harg5 arg6 harg6 arg7 harg7 arg8 harg8 arg9 harg9 arg10 harg10 arg11 harg11 arg12 harg12 arg13 harg13 v3 X3 X5 X12 G10 G11 G13 n).2.1),
      arg13.view.read (Elt F) (arg13.view.writes (Elt F) G13 (pb_k0_t1 (F := F) Variants.none c none i arg2 harg2 arg3 harg3 arg4 harg4 arg5 harg5 arg6 harg6 arg7 harg7 arg8 harg8 arg9 harg9 arg10 harg10 arg11 harg11 arg12 harg12 arg13 harg13 v3 X3 X5 X12 G10 G11 G13 n).2.2)⟩ : FS F)
      = st v3 (arg3.view.read (Elt F) X3) (arg5.view.read (Elt F) X5) (arg12.view.read (Elt F) X12) ⟨arg10.view.read (Elt F) G10, arg11.view.read (Elt F) G11, arg13.view.read (Elt F) G13⟩ n := by
  induction n with
  | zero => rfl
  | succ n ih =>
    have h := ih (by omega)
    have hs := pb_k0_t1_succ (F := F) Variants.none c none i arg2 harg2 arg3 harg3 arg4 harg4 arg5 harg5 arg6 harg6 arg7 harg7 arg8 harg8 arg9 harg9 arg10 harg10 arg11 harg11 arg12 harg12 arg13 harg13 v3 X3 X5 X12 G10 G11 G13 ⟨n, by omega⟩
    rw [show pb_k0_t1 (F := F) Variants.none c none i arg2 harg2 arg3 harg3 arg4 harg4 arg5 harg5 arg6 harg6 arg7 harg7 arg8 harg8 arg9 harg9 arg10 harg10 arg11 harg11 arg12 harg12 arg13 harg13 v3 X3 X5 X12 G10 G11 G13 (n + 1) = _ from hs]
    dsimp only
    rw [trip_m, trip_acc, trip_s]
    exact congrArg (step v3 (arg3.view.read (Elt F) X3) (arg5.view.read (Elt F) X5) (arg12.view.read (Elt F) X12) n) h

theorem pb2_nil (w1 : BitVec 32) (w2 : FVec F S512x128 .bf16) (w3 w4 : BitVec 32) (G10 : BufTy.Contents (Elt F) arg10.view.ty) (G11 : BufTy.Contents (Elt F) arg11.view.ty) (G13 : BufTy.Contents (Elt F) arg13.view.ty) (n : ℕ) (hn : n = 0) :
    pb_k0_t2 (F := F) Variants.none c none i arg2 harg2 arg3 harg3 arg4 harg4 arg5 harg5 arg6 harg6 arg7 harg7 arg8 harg8 arg9 harg9 arg10 harg10 arg11 harg11 arg12 harg12 arg13 harg13 w1 w2 w3 w4 X3 X5 X12 G10 G11 G13 n = ([], [], []) := by subst hn; rfl

end Loop

section CaseA

variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x1x4096 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S1x1x512 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S4096x256 .bf16) (harg12 : arg12.IsWhole) (arg13 : Memref sig .tc .vmem S512x512 .f32) (harg13 : arg13.IsWhole)
  (x0 : Vec F S512x128 .bf16) (x1 : Vec F S4096x128 .bf16) (x2 : Vec F S4096x128 .bf16) (x3 : Vec F S1x1x4096 .f32) (x4 : Vec F S512x128 .bf16)

theorem end_A : (⟨kernelRun0_A.sl.v37 c i arg2 harg2 arg3 harg3 arg4 harg4 arg5 harg5 arg6 harg6 arg7 harg7 arg8 harg8 arg9 harg9 arg10 harg10 arg11 harg11 arg12 harg12 arg13 harg13 x0 x1 x2 x3, kernelRun0_A.sl.v64 c i arg2 harg2 arg3 harg3 arg4 harg4 arg5 harg5 arg6 harg6 arg7 harg7 arg8 harg8 arg9 harg9 arg10 harg10 arg11 harg11 arg12 harg12 arg13 harg13 x0 x1 x2 x3, kernelRun0_A.sl.v31 c i arg2 harg2 arg3 harg3 arg4 harg4 arg5 harg5 arg6 harg6 arg7 harg7 arg8 harg8 arg9 harg9 arg10 harg10 arg11 harg11 arg12 harg12 arg13 harg13 x0 x1 x2 x3⟩ : FS F) = st x0 x1 x3 (vaug x2) (start x0 x1 x3) (i 1).val := by
  have hq := (View.readAt_full arg2.view (harg2.unread x0) inb_S512x128_S512x128_0_0).trans (harg2.read_unread x0)
  have hm := View.read_writes_full (Val := Elt F) arg10.view arg10.view.junk inb_S512x128_S512x128_0_0 (k0_pay14 (F := F)) []
  have ha := View.read_writes_full (Val := Elt F) arg11.view arg11.view.junk inb_S512x256_S512x256_0_0 (k0_pay15 (F := F)) []
  have hs : arg13.view.read (Elt F) (arg13.view.writes (Elt F) arg13.view.junk (kernelRun0_A.sl.HS3_1 c arg2 harg2 arg3 harg3 arg5 harg5 x0 x1 x3)) = k0_pay16 x0 (rows x1 0) (lanes3 x3 0) :=
    (View.read_writes_full (Val := Elt F) arg13.view arg13.view.junk inb_S512x512_S512x512_0_0 _ []).trans
      (congr (congr (congrArg k0_pay16 hq) ((rd_rows arg3.view (harg3.unread x1) 0 (by norm_num) rfl _).trans (congrArg (rows · 0) (harg3.read_unread x1)))) ((rd_lanes3 arg5.view (harg5.unread x3) 0 (by norm_num) rfl _).trans (congrArg (lanes3 · 0) (harg5.read_unread x3))))
  have hl := loop_read c i arg2 harg2 arg3 harg3 arg4 harg4 arg5 harg5 arg6 harg6 arg7 harg7 arg8 harg8 arg9 harg9 arg10 harg10 arg11 harg11 arg12 harg12 arg13 harg13 (arg2.view.readAt (Elt F) (Rect.unit (s := S512x128) ![0, 0] S512x128.size inb_S512x128_S512x128_0_0).toLoadRect (harg2.unread x0)) (harg3.unread x1) (harg5.unread x3) (arg12.view.writes (Elt F) arg12.view.junk (kernelRun0_A.sl.HS2_2 c arg4 harg4 x2))
    (arg10.view.writes (Elt F) arg10.view.junk kernelRun0_A.sl.HS0_1) (arg11.view.writes (Elt F) arg11.view.junk kernelRun0_A.sl.HS1_1) (arg13.view.writes (Elt F) arg13.view.junk (kernelRun0_A.sl.HS3_1 c arg2 harg2 arg3 harg3 arg5 harg5 x0 x1 x3)) (k0_t1_loop i).trips le_rfl
  have hv : arg12.view.read (Elt F) (arg12.view.writes (Elt F) arg12.view.junk (kernelRun0_A.sl.HS2_2 c arg4 harg4 x2)) = (vaug x2) := vaug_read arg12.view x2 arg4 harg4 c
  have hr : (st (arg2.view.readAt (Elt F) (Rect.unit (s := S512x128) ![0, 0] S512x128.size inb_S512x128_S512x128_0_0).toLoadRect (harg2.unread x0)) (arg3.view.read (Elt F) (harg3.unread x1)) (arg5.view.read (Elt F) (harg5.unread x3)) (arg12.view.read (Elt F) (arg12.view.writes (Elt F) arg12.view.junk (kernelRun0_A.sl.HS2_2 c arg4 harg4 x2))) ⟨arg10.view.read (Elt F) (arg10.view.writes (Elt F) arg10.view.junk kernelRun0_A.sl.HS0_1), arg11.view.read (Elt F) (arg11.view.writes (Elt F) arg11.view.junk kernelRun0_A.sl.HS1_1), arg13.view.read (Elt F) (arg13.view.writes (Elt F) arg13.view.junk (kernelRun0_A.sl.HS3_1 c arg2 harg2 arg3 harg3 arg5 harg5 x0 x1 x3))⟩ (k0_t1_loop i).trips : FS F) = st x0 x1 x3 (vaug x2) (start x0 x1 x3) (i 1).val :=
    congr (congr (congr (congr (congr (congrArg st hq) (harg3.read_unread x1)) (harg5.read_unread x3)) hv) (congr (congr (congrArg FS.mk hm) ha) hs)) (trips1 i)
  refine Eq.trans ?_ (hl.trans hr)
  unfold kernelRun0_A.sl.v37 kernelRun0_A.sl.v64 kernelRun0_A.sl.v31
  exact congr (congr (congrArg FS.mk
    (cov_full arg10.view _ _ _ (congrArg (fun x : List (View.Piece (Elt F) S512x128 .f32) × List (View.Piece (Elt F) S512x256 .f32) × List (View.Piece (Elt F) S512x512 .f32) => x.1) (pb2_nil c i arg2 harg2 arg3 harg3 arg4 harg4 arg5 harg5 arg6 harg6 arg7 harg7 arg8 harg8 arg9 harg9 arg10 harg10 arg11 harg11 arg12 harg12 arg13 harg13 _ _ _ _ _ _ _ _ _ _ _ (trips2 i))) _))
    (cov_full arg11.view _ _ _ (congrArg (fun x : List (View.Piece (Elt F) S512x128 .f32) × List (View.Piece (Elt F) S512x256 .f32) × List (View.Piece (Elt F) S512x512 .f32) => x.2.1) (pb2_nil c i arg2 harg2 arg3 harg3 arg4 harg4 arg5 harg5 arg6 harg6 arg7 harg7 arg8 harg8 arg9 harg9 arg10 harg10 arg11 harg11 arg12 harg12 arg13 harg13 _ _ _ _ _ _ _ _ _ _ _ (trips2 i))) _))
    (cov_full arg13.view _ _ _ (congrArg (fun x : List (View.Piece (Elt F) S512x128 .f32) × List (View.Piece (Elt F) S512x256 .f32) × List (View.Piece (Elt F) S512x512 .f32) => x.2.2) (pb2_nil c i arg2 harg2 arg3 harg3 arg4 harg4 arg5 harg5 arg6 harg6 arg7 harg7 arg8 harg8 arg9 harg9 arg10 harg10 arg11 harg11 arg12 harg12 arg13 harg13 _ _ _ _ _ _ _ _ _ _ _ (trips2 i))) _)

theorem accEnd_A : k0_pay25 (kernelRun0_A.sl.v31 c i arg2 harg2 arg3 harg3 arg4 harg4 arg5 harg5 arg6 harg6 arg7 harg7 arg8 harg8 arg9 harg9 arg10 harg10 arg11 harg11 arg12 harg12 arg13 harg13 x0 x1 x2 x3) (kernelRun0_A.sl.v37 c i arg2 harg2 arg3 harg3 arg4 harg4 arg5 harg5 arg6 harg6 arg7 harg7 arg8 harg8 arg9 harg9 arg10 harg10 arg11 harg11 arg12 harg12 arg13 harg13 x0 x1 x2 x3) (arg12.view.readAt (Elt F) (Rect.unit (s := S4096x256) (k0_off7 i) S512x256.size (k0_off7_inb i)).toLoadRect (arg12.view.writes (Elt F) arg12.view.junk (kernelRun0_A.sl.HS2_2 c arg4 harg4 x2))) (kernelRun0_A.sl.v64 c i arg2 harg2 arg3 harg3 arg4 harg4 arg5 harg5 arg6 harg6 arg7 harg7 arg8 harg8 arg9 harg9 arg10 harg10 arg11 harg11 arg12 harg12 arg13 harg13 x0 x1 x2 x3) = (fin x0 x1 x3 (vaug x2) (i 1).val).acc := by
  have e := end_A c i arg2 harg2 arg3 harg3 arg4 harg4 arg5 harg5 arg6 harg6 arg7 harg7 arg8 harg8 arg9 harg9 arg10 harg10 arg11 harg11 arg12 harg12 arg13 harg13 x0 x1 x2 x3
  have hv : arg12.view.read (Elt F) (arg12.view.writes (Elt F) arg12.view.junk (kernelRun0_A.sl.HS2_2 c arg4 harg4 x2)) = (vaug x2) := vaug_read arg12.view x2 arg4 harg4 c
  exact congr (congr (congr (congrArg k0_pay25 (congrArg FS.s e)) (congrArg FS.m e)) ((rd_rowsW arg12.view _ (i 1).val (i 1).isLt (off7_eq i) _).trans (congrArg (rowsW · (i 1).val) hv))) (congrArg FS.acc e)

theorem v73_A : kernelRun0_A.sl.v73 c i arg2 harg2 arg3 harg3 arg4 harg4 arg5 harg5 arg6 harg6 arg7 harg7 arg8 harg8 arg9 harg9 arg10 harg10 arg11 harg11 arg12 harg12 arg13 harg13 x0 x1 x2 x3 = right (fin x0 x1 x3 (vaug x2) (i 1).val).acc := by
  unfold kernelRun0_A.sl.v73 kernelRun0_A.sl.HS1_1_1
  refine (View.readCov_fill arg11.view inb_S512x256_S512x256_0_0 _ _ (Rect.unit (s := S512x256) ![0, 128] S512x128.size inb_S512x256_S512x128_0_128) (by intro a; match a with | ⟨0, _⟩ => rfl | ⟨1, _⟩ => rfl)).trans ?_
  refine (congrArg (fun Z => View.ld Z (Rect.unit (s := S512x256) ![0, 128] S512x128.size inb_S512x256_S512x128_0_128)) (accEnd_A c i arg2 harg2 arg3 harg3 arg4 harg4 arg5 harg5 arg6 harg6 arg7 harg7 arg8 harg8 arg9 harg9 arg10 harg10 arg11 harg11 arg12 harg12 arg13 harg13 x0 x1 x2 x3)).trans ?_
  exact ld_right _ _

theorem v74_A : kernelRun0_A.sl.v74 c i arg2 harg2 arg3 harg3 arg4 harg4 arg5 harg5 arg6 harg6 arg7 harg7 arg8 harg8 arg9 harg9 arg10 harg10 arg11 harg11 arg12 harg12 arg13 harg13 x0 x1 x2 x3 = left (fin x0 x1 x3 (vaug x2) (i 1).val).acc := by
  unfold kernelRun0_A.sl.v74 kernelRun0_A.sl.HS1_1_1
  refine (View.readCov_fill arg11.view inb_S512x256_S512x256_0_0 _ _ (Rect.unit (s := S512x256) ![0, 0] S512x128.size inb_S512x256_S512x128_0_0) (by intro a; match a with | ⟨0, _⟩ => rfl | ⟨1, _⟩ => rfl)).trans ?_
  refine (congrArg (fun Z => View.ld Z (Rect.unit (s := S512x256) ![0, 0] S512x128.size inb_S512x256_S512x128_0_0)) (accEnd_A c i arg2 harg2 arg3 harg3 arg4 harg4 arg5 harg5 arg6 harg6 arg7 harg7 arg8 harg8 arg9 harg9 arg10 harg10 arg11 harg11 arg12 harg12 arg13 harg13 x0 x1 x2 x3)).trans ?_
  exact ld_left _ _

theorem v86_A : kernelRun0_A.sl.v86 c i arg2 harg2 arg3 harg3 arg4 harg4 arg5 harg5 arg6 harg6 arg7 harg7 arg8 harg8 arg9 harg9 arg10 harg10 arg11 harg11 arg12 harg12 arg13 harg13 x0 x1 x2 x3 = (fin x0 x1 x3 (vaug x2) (i 1).val).m := by
  unfold kernelRun0_A.sl.v86 kernelRun0_A.sl.HS0_1_1
  refine (View.readCov_full arg10.view _ inb_S512x128_S512x128_0_0 _ _).trans ?_
  have e := end_A c i arg2 harg2 arg3 harg3 arg4 harg4 arg5 harg5 arg6 harg6 arg7 harg7 arg8 harg8 arg9 harg9 arg10 harg10 arg11 harg11 arg12 harg12 arg13 harg13 x0 x1 x2 x3
  exact congr (congrArg k0_pay26 (congrArg FS.s e)) (congrArg FS.m e)

theorem out5_A (hc : cond0_0 i) : out0_A_5 c i arg2 harg2 arg3 harg3 arg4 harg4 arg5 harg5 arg6 harg6 arg7 harg7 arg8 harg8 arg9 harg9 arg10 harg10 arg11 harg11 arg12 harg12 arg13 harg13 hc x0 x1 x2 x3 x4  = outO (fin x0 x1 x3 (vaug x2) (i 1).val) := by
  refine (View.read_writes_full (Val := Elt F) VO0_5 VO0_5.junk inb_S512x128_S512x128_0_0 (k0_pay2 (kernelRun0_A.sl.v73 c i arg2 harg2 arg3 harg3 arg4 harg4 arg5 harg5 arg6 harg6 arg7 harg7 arg8 harg8 arg9 harg9 arg10 harg10 arg11 harg11 arg12 harg12 arg13 harg13 x0 x1 x2 x3) (kernelRun0_A.sl.v74 c i arg2 harg2 arg3 harg3 arg4 harg4 arg5 harg5 arg6 harg6 arg7 harg7 arg8 harg8 arg9 harg9 arg10 harg10 arg11 harg11 arg12 harg12 arg13 harg13 x0 x1 x2 x3)) []).trans ?_
  rw [v73_A, v74_A]; rfl

theorem out6_A (hc : cond0_0 i) : out0_A_6 c i arg2 harg2 arg3 harg3 arg4 harg4 arg5 harg5 arg6 harg6 arg7 harg7 arg8 harg8 arg9 harg9 arg10 harg10 arg11 harg11 arg12 harg12 arg13 harg13 hc x0 x1 x2 x3 x4  = outG (fin x0 x1 x3 (vaug x2) (i 1).val) x4 := by
  refine (View.read_writes_full (Val := Elt F) VO0_6 VO0_6.junk inb_S512x128_S512x128_0_0 (k0_pay3 (kernelRun0_A.sl.v73 c i arg2 harg2 arg3 harg3 arg4 harg4 arg5 harg5 arg6 harg6 arg7 harg7 arg8 harg8 arg9 harg9 arg10 harg10 arg11 harg11 arg12 harg12 arg13 harg13 x0 x1 x2 x3) (kernelRun0_A.sl.v74 c i arg2 harg2 arg3 harg3 arg4 harg4 arg5 harg5 arg6 harg6 arg7 harg7 arg8 harg8 arg9 harg9 arg10 harg10 arg11 harg11 arg12 harg12 arg13 harg13 x0 x1 x2 x3) (arg6.view.readAt (Elt F) (Rect.unit (s := S512x128) ![0, 0] S512x128.size inb_S512x128_S512x128_0_0).toLoadRect (harg6.unread x4))) []).trans ?_
  rw [v73_A, v74_A, (View.readAt_full arg6.view (harg6.unread x4) inb_S512x128_S512x128_0_0).trans (harg6.read_unread x4)]; rfl

theorem out7_A (hc : cond0_0 i) : out0_A_7 c i arg2 harg2 arg3 harg3 arg4 harg4 arg5 harg5 arg6 harg6 arg7 harg7 arg8 harg8 arg9 harg9 arg10 harg10 arg11 harg11 arg12 harg12 arg13 harg13 hc x0 x1 x2 x3 x4  = outL (fin x0 x1 x3 (vaug x2) (i 1).val) := by
  refine (View.read_writes_full (Val := Elt F) VO0_7 VO0_7.junk inb_S1x1x512_S1x1x512_0_0_0 (k0_pay4 (kernelRun0_A.sl.v73 c i arg2 harg2 arg3 harg3 arg4 harg4 arg5 harg5 arg6 harg6 arg7 harg7 arg8 harg8 arg9 harg9 arg10 harg10 arg11 harg11 arg12 harg12 arg13 harg13 x0 x1 x2 x3) (kernelRun0_A.sl.v86 c i arg2 harg2 arg3 harg3 arg4 harg4 arg5 harg5 arg6 harg6 arg7 harg7 arg8 harg8 arg9 harg9 arg10 harg10 arg11 harg11 arg12 harg12 arg13 harg13 x0 x1 x2 x3)) []).trans ?_
  rw [v73_A, v86_A]; rfl

theorem sout_A (hc : cond0_0 i) : sout0_A_2 c i arg2 harg2 arg3 harg3 arg4 harg4 arg5 harg5 arg6 harg6 arg7 harg7 arg8 harg8 arg9 harg9 arg10 harg10 arg11 harg11 arg12 harg12 arg13 harg13 hc x0 x1 x2 x3 x4 = vaug x2 := vaug_read VS0_2 x2 arg4 harg4 c

end CaseA

section CaseB

variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1x1x4096 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S1x1x512 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S4096x256 .bf16) (harg12 : arg12.IsWhole) (arg13 : Memref sig .tc .vmem S512x512 .f32) (harg13 : arg13.IsWhole)
  (x0 : Vec F S512x128 .bf16) (x1 : Vec F S4096x128 .bf16) (x2 : Vec F S4096x128 .bf16) (x3 : Vec F S1x1x4096 .f32) (x4 : Vec F S512x128 .bf16) (xs2 : Vec F S4096x256 .bf16)

theorem end_B : (⟨kernelRun0_B.sl.v37 c i arg2 harg2 arg3 harg3 arg4 harg4 arg5 harg5 arg6 harg6 arg7 harg7 arg8 harg8 arg9 harg9 arg10 harg10 arg11 harg11 arg12 harg12 arg13 harg13 x0 x1 x3 xs2, kernelRun0_B.sl.v64 c i arg2 harg2 arg3 harg3 arg4 harg4 arg5 harg5 arg6 harg6 arg7 harg7 arg8 harg8 arg9 harg9 arg10 harg10 arg11 harg11 arg12 harg12 arg13 harg13 x0 x1 x3 xs2, kernelRun0_B.sl.v31 c i arg2 harg2 arg3 harg3 arg4 harg4 arg5 harg5 arg6 harg6 arg7 harg7 arg8 harg8 arg9 harg9 arg10 harg10 arg11 harg11 arg12 harg12 arg13 harg13 x0 x1 x3 xs2⟩ : FS F) = st x0 x1 x3 xs2 (start x0 x1 x3) (i 1).val := by
  have hq := (View.readAt_full arg2.view (harg2.unread x0) inb_S512x128_S512x128_0_0).trans (harg2.read_unread x0)
  have hm := View.read_writes_full (Val := Elt F) arg10.view arg10.view.junk inb_S512x128_S512x128_0_0 (k0_pay14 (F := F)) []
  have ha := View.read_writes_full (Val := Elt F) arg11.view arg11.view.junk inb_S512x256_S512x256_0_0 (k0_pay15 (F := F)) []
  have hs : arg13.view.read (Elt F) (arg13.view.writes (Elt F) arg13.view.junk (kernelRun0_B.sl.HS3_1 c arg2 harg2 arg3 harg3 arg5 harg5 x0 x1 x3)) = k0_pay16 x0 (rows x1 0) (lanes3 x3 0) :=
    (View.read_writes_full (Val := Elt F) arg13.view arg13.view.junk inb_S512x512_S512x512_0_0 _ []).trans
      (congr (congr (congrArg k0_pay16 hq) ((rd_rows arg3.view (harg3.unread x1) 0 (by norm_num) rfl _).trans (congrArg (rows · 0) (harg3.read_unread x1)))) ((rd_lanes3 arg5.view (harg5.unread x3) 0 (by norm_num) rfl _).trans (congrArg (lanes3 · 0) (harg5.read_unread x3))))
  have hl := loop_read c i arg2 harg2 arg3 harg3 arg4 harg4 arg5 harg5 arg6 harg6 arg7 harg7 arg8 harg8 arg9 harg9 arg10 harg10 arg11 harg11 arg12 harg12 arg13 harg13 (arg2.view.readAt (Elt F) (Rect.unit (s := S512x128) ![0, 0] S512x128.size inb_S512x128_S512x128_0_0).toLoadRect (harg2.unread x0)) (harg3.unread x1) (harg5.unread x3) (harg12.unread xs2)
    (arg10.view.writes (Elt F) arg10.view.junk kernelRun0_B.sl.HS0_1) (arg11.view.writes (Elt F) arg11.view.junk kernelRun0_B.sl.HS1_1) (arg13.view.writes (Elt F) arg13.view.junk (kernelRun0_B.sl.HS3_1 c arg2 harg2 arg3 harg3 arg5 harg5 x0 x1 x3)) (k0_t1_loop i).trips le_rfl
  have hv : arg12.view.read (Elt F) (harg12.unread xs2) = xs2 := harg12.read_unread xs2
  have hr : (st (arg2.view.readAt (Elt F) (Rect.unit (s := S512x128) ![0, 0] S512x128.size inb_S512x128_S512x128_0_0).toLoadRect (harg2.unread x0)) (arg3.view.read (Elt F) (harg3.unread x1)) (arg5.view.read (Elt F) (harg5.unread x3)) (arg12.view.read (Elt F) (harg12.unread xs2)) ⟨arg10.view.read (Elt F) (arg10.view.writes (Elt F) arg10.view.junk kernelRun0_B.sl.HS0_1), arg11.view.read (Elt F) (arg11.view.writes (Elt F) arg11.view.junk kernelRun0_B.sl.HS1_1), arg13.view.read (Elt F) (arg13.view.writes (Elt F) arg13.view.junk (kernelRun0_B.sl.HS3_1 c arg2 harg2 arg3 harg3 arg5 harg5 x0 x1 x3))⟩ (k0_t1_loop i).trips : FS F) = st x0 x1 x3 xs2 (start x0 x1 x3) (i 1).val :=
    congr (congr (congr (congr (congr (congrArg st hq) (harg3.read_unread x1)) (harg5.read_unread x3)) hv) (congr (congr (congrArg FS.mk hm) ha) hs)) (trips1 i)
  refine Eq.trans ?_ (hl.trans hr)
  unfold kernelRun0_B.sl.v37 kernelRun0_B.sl.v64 kernelRun0_B.sl.v31
  exact congr (congr (congrArg FS.mk
    (cov_full arg10.view _ _ _ (congrArg (fun x : List (View.Piece (Elt F) S512x128 .f32) × List (View.Piece (Elt F) S512x256 .f32) × List (View.Piece (Elt F) S512x512 .f32) => x.1) (pb2_nil c i arg2 harg2 arg3 harg3 arg4 harg4 arg5 harg5 arg6 harg6 arg7 harg7 arg8 harg8 arg9 harg9 arg10 harg10 arg11 harg11 arg12 harg12 arg13 harg13 _ _ _ _ _ _ _ _ _ _ _ (trips2 i))) _))
    (cov_full arg11.view _ _ _ (congrArg (fun x : List (View.Piece (Elt F) S512x128 .f32) × List (View.Piece (Elt F) S512x256 .f32) × List (View.Piece (Elt F) S512x512 .f32) => x.2.1) (pb2_nil c i arg2 harg2 arg3 harg3 arg4 harg4 arg5 harg5 arg6 harg6 arg7 harg7 arg8 harg8 arg9 harg9 arg10 harg10 arg11 harg11 arg12 harg12 arg13 harg13 _ _ _ _ _ _ _ _ _ _ _ (trips2 i))) _))
    (cov_full arg13.view _ _ _ (congrArg (fun x : List (View.Piece (Elt F) S512x128 .f32) × List (View.Piece (Elt F) S512x256 .f32) × List (View.Piece (Elt F) S512x512 .f32) => x.2.2) (pb2_nil c i arg2 harg2 arg3 harg3 arg4 harg4 arg5 harg5 arg6 harg6 arg7 harg7 arg8 harg8 arg9 harg9 arg10 harg10 arg11 harg11 arg12 harg12 arg13 harg13 _ _ _ _ _ _ _ _ _ _ _ (trips2 i))) _)

theorem accEnd_B : k0_pay25 (kernelRun0_B.sl.v31 c i arg2 harg2 arg3 harg3 arg4 harg4 arg5 harg5 arg6 harg6 arg7 harg7 arg8 harg8 arg9 harg9 arg10 harg10 arg11 harg11 arg12 harg12 arg13 harg13 x0 x1 x3 xs2) (kernelRun0_B.sl.v37 c i arg2 harg2 arg3 harg3 arg4 harg4 arg5 harg5 arg6 harg6 arg7 harg7 arg8 harg8 arg9 harg9 arg10 harg10 arg11 harg11 arg12 harg12 arg13 harg13 x0 x1 x3 xs2) (arg12.view.readAt (Elt F) (Rect.unit (s := S4096x256) (k0_off7 i) S512x256.size (k0_off7_inb i)).toLoadRect (harg12.unread xs2)) (kernelRun0_B.sl.v64 c i arg2 harg2 arg3 harg3 arg4 harg4 arg5 harg5 arg6 harg6 arg7 harg7 arg8 harg8 arg9 harg9 arg10 harg10 arg11 harg11 arg12 harg12 arg13 harg13 x0 x1 x3 xs2) = (fin x0 x1 x3 xs2 (i 1).val).acc := by
  have e := end_B c i arg2 harg2 arg3 harg3 arg4 harg4 arg5 harg5 arg6 harg6 arg7 harg7 arg8 harg8 arg9 harg9 arg10 harg10 arg11 harg11 arg12 harg12 arg13 harg13 x0 x1 x3 xs2
  have hv : arg12.view.read (Elt F) (harg12.unread xs2) = xs2 := harg12.read_unread xs2
  exact congr (congr (congr (congrArg k0_pay25 (congrArg FS.s e)) (congrArg FS.m e)) ((rd_rowsW arg12.view _ (i 1).val (i 1).isLt (off7_eq i) _).trans (congrArg (rowsW · (i 1).val) hv))) (congrArg FS.acc e)

theorem v73_B : kernelRun0_B.sl.v73 c i arg2 harg2 arg3 harg3 arg4 harg4 arg5 harg5 arg6 harg6 arg7 harg7 arg8 harg8 arg9 harg9 arg10 harg10 arg11 harg11 arg12 harg12 arg13 harg13 x0 x1 x3 xs2 = right (fin x0 x1 x3 xs2 (i 1).val).acc := by
  unfold kernelRun0_B.sl.v73 kernelRun0_B.sl.HS1_1_1
  refine (View.readCov_fill arg11.view inb_S512x256_S512x256_0_0 _ _ (Rect.unit (s := S512x256) ![0, 128] S512x128.size inb_S512x256_S512x128_0_128) (by intro a; match a with | ⟨0, _⟩ => rfl | ⟨1, _⟩ => rfl)).trans ?_
  refine (congrArg (fun Z => View.ld Z (Rect.unit (s := S512x256) ![0, 128] S512x128.size inb_S512x256_S512x128_0_128)) (accEnd_B c i arg2 harg2 arg3 harg3 arg4 harg4 arg5 harg5 arg6 harg6 arg7 harg7 arg8 harg8 arg9 harg9 arg10 harg10 arg11 harg11 arg12 harg12 arg13 harg13 x0 x1 x3 xs2)).trans ?_
  exact ld_right _ _

theorem v74_B : kernelRun0_B.sl.v74 c i arg2 harg2 arg3 harg3 arg4 harg4 arg5 harg5 arg6 harg6 arg7 harg7 arg8 harg8 arg9 harg9 arg10 harg10 arg11 harg11 arg12 harg12 arg13 harg13 x0 x1 x3 xs2 = left (fin x0 x1 x3 xs2 (i 1).val).acc := by
  unfold kernelRun0_B.sl.v74 kernelRun0_B.sl.HS1_1_1
  refine (View.readCov_fill arg11.view inb_S512x256_S512x256_0_0 _ _ (Rect.unit (s := S512x256) ![0, 0] S512x128.size inb_S512x256_S512x128_0_0) (by intro a; match a with | ⟨0, _⟩ => rfl | ⟨1, _⟩ => rfl)).trans ?_
  refine (congrArg (fun Z => View.ld Z (Rect.unit (s := S512x256) ![0, 0] S512x128.size inb_S512x256_S512x128_0_0)) (accEnd_B c i arg2 harg2 arg3 harg3 arg4 harg4 arg5 harg5 arg6 harg6 arg7 harg7 arg8 harg8 arg9 harg9 arg10 harg10 arg11 harg11 arg12 harg12 arg13 harg13 x0 x1 x3 xs2)).trans ?_
  exact ld_left _ _

theorem v86_B : kernelRun0_B.sl.v86 c i arg2 harg2 arg3 harg3 arg4 harg4 arg5 harg5 arg6 harg6 arg7 harg7 arg8 harg8 arg9 harg9 arg10 harg10 arg11 harg11 arg12 harg12 arg13 harg13 x0 x1 x3 xs2 = (fin x0 x1 x3 xs2 (i 1).val).m := by
  unfold kernelRun0_B.sl.v86 kernelRun0_B.sl.HS0_1_1
  refine (View.readCov_full arg10.view _ inb_S512x128_S512x128_0_0 _ _).trans ?_
  have e := end_B c i arg2 harg2 arg3 harg3 arg4 harg4 arg5 harg5 arg6 harg6 arg7 harg7 arg8 harg8 arg9 harg9 arg10 harg10 arg11 harg11 arg12 harg12 arg13 harg13 x0 x1 x3 xs2
  exact congr (congrArg k0_pay26 (congrArg FS.s e)) (congrArg FS.m e)

theorem out5_B (hc : ¬cond0_0 i) : out0_B_5 c i arg2 harg2 arg3 harg3 arg4 harg4 arg5 harg5 arg6 harg6 arg7 harg7 arg8 harg8 arg9 harg9 arg10 harg10 arg11 harg11 arg12 harg12 arg13 harg13 hc x0 x1 x2 x3 x4 xs2 = outO (fin x0 x1 x3 xs2 (i 1).val) := by
  refine (View.read_writes_full (Val := Elt F) VO0_5 VO0_5.junk inb_S512x128_S512x128_0_0 (k0_pay2 (kernelRun0_B.sl.v73 c i arg2 harg2 arg3 harg3 arg4 harg4 arg5 harg5 arg6 harg6 arg7 harg7 arg8 harg8 arg9 harg9 arg10 harg10 arg11 harg11 arg12 harg12 arg13 harg13 x0 x1 x3 xs2) (kernelRun0_B.sl.v74 c i arg2 harg2 arg3 harg3 arg4 harg4 arg5 harg5 arg6 harg6 arg7 harg7 arg8 harg8 arg9 harg9 arg10 harg10 arg11 harg11 arg12 harg12 arg13 harg13 x0 x1 x3 xs2)) []).trans ?_
  rw [v73_B, v74_B]; rfl

theorem out6_B (hc : ¬cond0_0 i) : out0_B_6 c i arg2 harg2 arg3 harg3 arg4 harg4 arg5 harg5 arg6 harg6 arg7 harg7 arg8 harg8 arg9 harg9 arg10 harg10 arg11 harg11 arg12 harg12 arg13 harg13 hc x0 x1 x2 x3 x4 xs2 = outG (fin x0 x1 x3 xs2 (i 1).val) x4 := by
  refine (View.read_writes_full (Val := Elt F) VO0_6 VO0_6.junk inb_S512x128_S512x128_0_0 (k0_pay3 (kernelRun0_B.sl.v73 c i arg2 harg2 arg3 harg3 arg4 harg4 arg5 harg5 arg6 harg6 arg7 harg7 arg8 harg8 arg9 harg9 arg10 harg10 arg11 harg11 arg12 harg12 arg13 harg13 x0 x1 x3 xs2) (kernelRun0_B.sl.v74 c i arg2 harg2 arg3 harg3 arg4 harg4 arg5 harg5 arg6 harg6 arg7 harg7 arg8 harg8 arg9 harg9 arg10 harg10 arg11 harg11 arg12 harg12 arg13 harg13 x0 x1 x3 xs2) (arg6.view.readAt (Elt F) (Rect.unit (s := S512x128) ![0, 0] S512x128.size inb_S512x128_S512x128_0_0).toLoadRect (harg6.unread x4))) []).trans ?_
  rw [v73_B, v74_B, (View.readAt_full arg6.view (harg6.unread x4) inb_S512x128_S512x128_0_0).trans (harg6.read_unread x4)]; rfl

theorem out7_B (hc : ¬cond0_0 i) : out0_B_7 c i arg2 harg2 arg3 harg3 arg4 harg4 arg5 harg5 arg6 harg6 arg7 harg7 arg8 harg8 arg9 harg9 arg10 harg10 arg11 harg11 arg12 harg12 arg13 harg13 hc x0 x1 x2 x3 x4 xs2 = outL (fin x0 x1 x3 xs2 (i 1).val) := by
  refine (View.read_writes_full (Val := Elt F) VO0_7 VO0_7.junk inb_S1x1x512_S1x1x512_0_0_0 (k0_pay4 (kernelRun0_B.sl.v73 c i arg2 harg2 arg3 harg3 arg4 harg4 arg5 harg5 arg6 harg6 arg7 harg7 arg8 harg8 arg9 harg9 arg10 harg10 arg11 harg11 arg12 harg12 arg13 harg13 x0 x1 x3 xs2) (kernelRun0_B.sl.v86 c i arg2 harg2 arg3 harg3 arg4 harg4 arg5 harg5 arg6 harg6 arg7 harg7 arg8 harg8 arg9 harg9 arg10 harg10 arg11 harg11 arg12 harg12 arg13 harg13 x0 x1 x3 xs2)) []).trans ?_
  rw [v73_B, v86_B]; rfl

end CaseB

end Cert.AttendIdeal.Fwd

end
-- ==== Proof.AttendArith.lean ====
/- The attention's forward pass over the reals: a running softmax in base two, kept at a shift that moves from block to block. -/
module

public import proofs.«01_k».proof.Proof.Arith

@[expose] public section

noncomputable section

namespace Cert.Attn

open Idealize.ShloMosaic

variable (A : Args)

/-- The score in base two, without the row's own gate. -/
def sc2 (h i j : ℕ) : ℝ := (∑ d : Fin 128, A.Q i (128 * h + d) * (σ * (1 / Real.log 2)) * A.K j (128 * h + d)) - A.C h j * (1 / Real.log 2)
/-- What a key adds up: its value in the first 128 lanes, one in the others. -/
def wt (h j x : ℕ) : ℝ := if x < 128 then A.V j (128 * h + x) else 1
/-- The first `n` keys' sum at the row's shift. -/
def part (h : ℕ) (M : ℕ → ℝ) (n i x : ℕ) : ℝ := ∑ j ∈ Finset.range n, Real.rpow 2 (sc2 A h i j - M i) * wt A h j x
/-- The shift in base `e`, the row's gate put back. -/
def shift (M : ℕ → ℝ) : ℕ → ℕ → ℝ := fun h i => M i * Real.log 2 + A.C h i

variable {A}

theorem sc2_eq (h i j : ℕ) : Real.log 2 * sc2 A h i j = sc A h i j - A.C h i := by
  have h2 : Real.log 2 ≠ 0 := (Real.log_pos one_lt_two).ne'
  have e : ∑ d : Fin 128, A.Q i (128 * h + d) * (σ * (1 / Real.log 2)) * A.K j (128 * h + d) = (∑ d : Fin 128, A.Q i (128 * h + d) * A.K j (128 * h + d)) * σ * (1 / Real.log 2) := by
    rw [Finset.sum_mul, Finset.sum_mul]
    exact Finset.sum_congr rfl fun d _ => by ring
  unfold sc2 sc
  rw [e]
  field_simp
  try ring

theorem two_sub (a b c : ℝ) : Real.rpow 2 (b - c) * Real.rpow 2 (a - b) = Real.rpow 2 (a - c) := by
  simp only [Real.rpow_eq_pow]
  rw [← Real.rpow_add two_pos]
  congr 1; ring

theorem part_move (h : ℕ) (M M' : ℕ → ℝ) (n i x : ℕ) : Real.rpow 2 (M i - M' i) * part A h M n i x = part A h M' n i x := by
  unfold part
  rw [Finset.mul_sum]
  refine Finset.sum_congr rfl fun j _ => ?_
  rw [← mul_assoc, two_sub]

theorem part_step (h : ℕ) (M : ℕ → ℝ) (n i x : ℕ) :
    part A h M n i x + ∑ q : Fin 512, Real.rpow 2 (sc2 A h i (n + q) - M i) * wt A h (n + q) x = part A h M (n + 512) i x := by
  unfold part
  rw [Finset.sum_range_add, Fin.sum_univ_eq_sum_range (fun q => Real.rpow 2 (sc2 A h i (n + q) - M i) * wt A h (n + q) x) 512]

theorem ex_two (h : ℕ) (M : ℕ → ℝ) (i j : ℕ) : ex A (shift A M) h i j = if j ≤ i then Real.rpow 2 (sc2 A h i j - M i) else 0 := by
  unfold ex
  split_ifs
  · rw [Real.rpow_eq_pow, Real.rpow_def_of_pos two_pos, mul_sub, sc2_eq]
    unfold shift
    congr 1; ring
  · rfl

/-- The keys before the block and those of the block up to the row make the whole row. -/
theorem part_last (h : ℕ) (M : ℕ → ℝ) (b : ℕ) (hb : b < 8) (r : ℕ) (hr : r < 512) (x : ℕ) :
    part A h M (512 * b) (512 * b + r) x + ∑ q : Fin 512, (if (q : ℕ) ≤ r then Real.rpow 2 (sc2 A h (512 * b + r) (512 * b + q) - M (512 * b + r)) else 0) * wt A h (512 * b + q) x
      = ∑ j : Fin 4096, ex A (shift A M) h (512 * b + r) j * wt A h j x := by
  rw [Fin.sum_univ_eq_sum_range (fun j => ex A (shift A M) h (512 * b + r) j * wt A h j x) 4096,
    Fin.sum_univ_eq_sum_range (fun q => (if q ≤ r then Real.rpow 2 (sc2 A h (512 * b + r) (512 * b + q) - M (512 * b + r)) else 0) * wt A h (512 * b + q) x) 512]
  rw [show 4096 = 512 * b + 512 + (4096 - (512 * b + 512)) by omega, Finset.sum_range_add, Finset.sum_range_add]
  rw [Finset.sum_eq_zero (s := Finset.range (4096 - (512 * b + 512))) (fun j _ => by rw [ex_two, if_neg (by omega), zero_mul]), add_zero]
  congr 1
  · unfold part
    refine Finset.sum_congr rfl fun j hj => ?_
    have := Finset.mem_range.mp hj
    rw [ex_two, if_pos (by omega)]
  · refine Finset.sum_congr rfl fun q _ => ?_
    rw [ex_two]
    congr 1
    by_cases hq : q ≤ r
    · rw [if_pos hq, if_pos (by omega)]
    · rw [if_neg hq, if_neg (by omega)]

/-! ### The softmax does not depend on the shift -/

theorem ex_shift (M M' : ℕ → ℕ → ℝ) (h i j : ℕ) : ex A M h i j = Real.exp (M' h i - M h i) * ex A M' h i j := by
  unfold ex
  split_ifs
  · rw [← Real.exp_add]; congr 1; ring
  · rw [mul_zero]

theorem ℓ_shift (M M' : ℕ → ℕ → ℝ) (h i : ℕ) : ℓ A M h i = Real.exp (M' h i - M h i) * ℓ A M' h i := by
  unfold ℓ
  rw [Finset.mul_sum]
  exact Finset.sum_congr rfl fun j _ => ex_shift M M' h i j

theorem pr_shift (M M' : ℕ → ℕ → ℝ) (h i j : ℕ) : pr A M h i j = pr A M' h i j := by
  unfold pr
  rw [ex_shift M M', ℓ_shift M M', mul_div_mul_left _ _ (Real.exp_pos _).ne']

theorem lse_shift (M M' : ℕ → ℕ → ℝ) (h i : ℕ) (hi : i < 4096) : M h i + Real.log (ℓ A M h i) = M' h i + Real.log (ℓ A M' h i) := by
  rw [ℓ_shift M M', Real.log_mul (Real.exp_pos _).ne' (ℓ_pos h i hi).ne', Real.log_exp]
  ring

/-- The row's log-sum in base two. -/
theorem lse_two (h : ℕ) (M : ℕ → ℝ) (M' : ℕ → ℕ → ℝ) (i : ℕ) (hi : i < 4096) :
    M i + Real.log (ℓ A (shift A M) h i) * (1 / Real.log 2) = (M' h i + Real.log (ℓ A M' h i) - A.C h i) * (1 / Real.log 2) := by
  have h2 : Real.log 2 ≠ 0 := (Real.log_pos one_lt_two).ne'
  rw [← lse_shift (shift A M) M' h i hi]
  unfold shift
  field_simp
  try ring

theorem sum_wt_one (h : ℕ) (M : ℕ → ℕ → ℝ) (i x : ℕ) (hx : 128 ≤ x) : ∑ j : Fin 4096, ex A M h i j * wt A h j x = ℓ A M h i := by
  unfold ℓ wt
  exact Finset.sum_congr rfl fun j _ => by rw [if_neg (by omega), mul_one]

theorem sum_wt_val (h : ℕ) (M M' : ℕ → ℕ → ℝ) (i x : ℕ) (hx : x < 128) :
    (∑ j : Fin 4096, ex A M h i j * wt A h j x) * (1 / ℓ A M h i) = ∑ j : Fin 4096, pr A M' h i j * A.V j (128 * h + x) := by
  rw [Finset.sum_mul]
  refine Finset.sum_congr rfl fun j _ => ?_
  rw [pr_shift M' M]
  unfold wt pr
  rw [if_pos hx]
  ring

end Cert.Attn
-- ==== Proof.AttendOps.lean ====
/- The operations of the attention's forward body at the ideal values, read at an index, and the sums they keep. -/
module

public import proofs.«01_k».proof.Proof.AttendTrip
public import proofs.«01_k».proof.Proof.AttendArith
public import Idealize.ShloMosaic.Lib.ValueIdx
public import Idealize.ShloMosaic.PureOps.Ideal.Laws
public import Idealize.ShloMosaic.PureOps.IdealRules
public import Idealize.ShloMosaic.Lib.WordCmp

@[expose] public section

set_option maxRecDepth 16384

noncomputable section

namespace Cert.AttendIdeal.Fwd

open Cert.AttendIdeal Cert.AttendIdeal.Gen
open Idealize.ShloMosaic Idealize.ShloMosaic.TcCoe Idealize.ShloMosaic.ValueIdx
open Cert.Attn (Args coe_sum sc2 wt part shift max_real part_move part_step part_last)

/-! ### Products, maxima, lane groups -/

theorem mm_qk (A B : FVec Ideal S512x128 .bf16) (y : S512x512.Idx) :
    matmul dot_S512x128_S512x128_S512x512_1_1_0_0_n_n none A B (constant S512x512 .f32 0x00000000#32) y
      = ∑ d : Fin 128, A (ix2 (y 0) d) * B (ix2 (y 1) d) := by
  refine (Ideal.matmul_constant_zero_apply _ none _ _ _).trans ?_
  rw [← Equiv.sum_comp (contrEquiv1 dot_S512x128_S512x128_S512x512_1_1_0_0_n_n 128 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

theorem mm_pv (A : FVec Ideal S512x512 .bf16) (B : FVec Ideal S512x256 .bf16) (y : S512x256.Idx) :
    matmul dot_S512x512_S512x256_S512x256_1_0_0_1_n_n none A B (constant S512x256 .f32 0x00000000#32) y
      = ∑ q : Fin 512, A (ix2 (y 0) q) * B (ix2 q (y 1)) := by
  refine (Ideal.matmul_constant_zero_apply _ none _ _ _).trans ?_
  rw [← Equiv.sum_comp (contrEquiv1 dot_S512x512_S512x256_S512x256_1_0_0_1_n_n 512 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

/-- The running maximum of a row. -/
theorem pay6_at (s : Vec Ideal S512x512 .f32) (m : Vec Ideal S512x128 .f32) (y : S512x128.Idx) :
    k0_pay6 s m y = max (m y) ((Finset.univ : Finset (Fin 512)).fold max ⊥ fun q => s (ix2 (y 0) q)) := by
  unfold k0_pay6
  show max (m y) (broadcastTo S512x128 (shapeCast S512x1 (multiReduction (F := Ideal) .maximumf [1] S512 (s : FVec Ideal S512x512 .f32) 0xFF800000#32 reduces_S512x512_S512 (.inl rfl) rfl : FVec Ideal S512 .f32) shapeCasts_S512_S512x1) broadcasts_S512x1_S512x128 y) = _
  rw [broadcastTo_apply _ broadcasts_S512x1_S512x128 y (ix2 (y 0) 0) (fun a => by match a with | ⟨0, _⟩ => rfl | ⟨1, _⟩ => rfl),
    shapeCast_apply _ shapeCasts_S512_S512x1 (ix2 (y 0) 0) (ix1 (y 0)) (by
      rw [Shape.rowMajor_val_one, Shape.rowMajor_val_two]; show (y 0).val = (y 0).val * 1 + 0; omega)]
  refine congrArg (max (m y)) ((Ideal.multiReduction_maximumf_single _ _ _ _ _ _).trans ?_)
  rw [show (FloatOps.ofBits (F := Ideal) .f32 0xFF800000#32) = ⊥ from Cert.Attn.ninf_eq]
  refine Finset.fold_congr fun q _ => congrArg s (funext fun a => ?_)
  match a with | ⟨0, _⟩ => rfl | ⟨1, _⟩ => rfl

theorem lanes4 {α : Type} (k : ℕ) (hk : k < 4) (x : S512x512.Idx → α) (h : S512x512.Slices ![0, 128 * k] S512x128) (y : S512x128.Idx) :
    extractStridedSlice S512x128 ![0, 128 * k] x h y = x (ix2 (y 0) ⟨128 * k + (y 1).val, by have := idx2_lt1 y; omega⟩) :=
  extractStridedSlice_apply _ _ h y _ (fun a => by
    match a with
    | ⟨0, _⟩ => show (y 0).val = 0 + (y 0).val; omega
    | ⟨1, _⟩ => rfl)

/-- A lane of a tile inside its group. -/
abbrev lane (y0 : Fin 512) (n : ℕ) : S512x128.Idx := ix2 y0 ⟨n % 128, Nat.mod_lt _ (by norm_num)⟩

theorem join4 {α : Type} (f0 f1 f2 f3 : S512x128.Idx → α) (y : S512x512.Idx) :
    concatenate S512x512 1 [⟨S512x128, f0⟩, ⟨S512x128, f1⟩, ⟨S512x128, f2⟩, ⟨S512x128, f3⟩] concatenates_S512x128_S512x128_S512x128_S512x128_S512x512_d1 y
      = (![f0, f1, f2, f3] ⟨(y 1).val / 128, by have := idx2_lt1 y; omega⟩) (lane (y 0) (y 1).val) := by
  have h1 : (y 1).val < 512 := (y 1).isLt
  have hoff : ∀ b : Fin S512x128.rank, b.cast (rfl : S512x128.rank = S512x512.rank) ≠ 1 → ((lane (y 0) (y 1).val : S512x128.Idx) b).val = (y (b.cast rfl)).val := by
    intro b hb
    match b with
    | ⟨0, _⟩ => rfl
    | ⟨1, _⟩ => exact absurd rfl hb
  have four : (y 1).val / 128 = 0 ∨ (y 1).val / 128 = 1 ∨ (y 1).val / 128 = 2 ∨ (y 1).val / 128 = 3 := by omega
  rcases four with e | e | e | e
  · rw [show (⟨(y 1).val / 128, by omega⟩ : Fin 4) = 0 from Fin.ext e]
    exact concatenate_apply_piece (1 : Fin S512x512.rank) [⟨S512x128, f0⟩, ⟨S512x128, f1⟩, ⟨S512x128, f2⟩, ⟨S512x128, f3⟩]
      concatenates_S512x128_S512x128_S512x128_S512x128_S512x512_d1 y 0 (by simp) S512x128 f0 rfl rfl 0 rfl (lane (y 0) (y 1).val) hoff (show 0 + (y 1).val % 128 = (y 1).val by omega)
  · rw [show (⟨(y 1).val / 128, by omega⟩ : Fin 4) = 1 from Fin.ext e]
    exact concatenate_apply_piece (1 : Fin S512x512.rank) [⟨S512x128, f0⟩, ⟨S512x128, f1⟩, ⟨S512x128, f2⟩, ⟨S512x128, f3⟩]
      concatenates_S512x128_S512x128_S512x128_S512x128_S512x512_d1 y 1 (by simp) S512x128 f1 rfl rfl 128 rfl (lane (y 0) (y 1).val) hoff (show 128 + (y 1).val % 128 = (y 1).val by omega)
  · rw [show (⟨(y 1).val / 128, by omega⟩ : Fin 4) = 2 from Fin.ext e]
    exact concatenate_apply_piece (1 : Fin S512x512.rank) [⟨S512x128, f0⟩, ⟨S512x128, f1⟩, ⟨S512x128, f2⟩, ⟨S512x128, f3⟩]
      concatenates_S512x128_S512x128_S512x128_S512x128_S512x512_d1 y 2 (by simp) S512x128 f2 rfl rfl 256 rfl (lane (y 0) (y 1).val) hoff (show 256 + (y 1).val % 128 = (y 1).val by omega)
  · rw [show (⟨(y 1).val / 128, by omega⟩ : Fin 4) = 3 from Fin.ext e]
    exact concatenate_apply_piece (1 : Fin S512x512.rank) [⟨S512x128, f0⟩, ⟨S512x128, f1⟩, ⟨S512x128, f2⟩, ⟨S512x128, f3⟩]
      concatenates_S512x128_S512x128_S512x128_S512x128_S512x512_d1 y 3 (by simp) S512x128 f3 rfl rfl 384 rfl (lane (y 0) (y 1).val) hoff (show 384 + (y 1).val % 128 = (y 1).val by omega)

theorem join2 {α : Type} (f : S512x128.Idx → α) (y : S512x256.Idx) :
    concatenate S512x256 1 [⟨S512x128, f⟩, ⟨S512x128, f⟩] concatenates_S512x128_S512x128_S512x256_d1 y = f (lane (y 0) (y 1).val) := by
  have h1 : (y 1).val < 256 := (y 1).isLt
  have hoff : ∀ b : Fin S512x128.rank, b.cast (rfl : S512x128.rank = S512x256.rank) ≠ 1 → ((lane (y 0) (y 1).val : S512x128.Idx) b).val = (y (b.cast rfl)).val := by
    intro b hb
    match b with
    | ⟨0, _⟩ => rfl
    | ⟨1, _⟩ => exact absurd rfl hb
  have two : (y 1).val / 128 = 0 ∨ (y 1).val / 128 = 1 := by omega
  rcases two with e | e
  · exact concatenate_apply_piece (1 : Fin S512x256.rank) [⟨S512x128, f⟩, ⟨S512x128, f⟩]
      concatenates_S512x128_S512x128_S512x256_d1 y 0 (by simp) S512x128 f rfl rfl 0 rfl (lane (y 0) (y 1).val) hoff (show 0 + (y 1).val % 128 = (y 1).val by omega)
  · exact concatenate_apply_piece (1 : Fin S512x256.rank) [⟨S512x128, f⟩, ⟨S512x128, f⟩]
      concatenates_S512x128_S512x128_S512x256_d1 y 1 (by simp) S512x128 f rfl rfl 128 rfl (lane (y 0) (y 1).val) hoff (show 128 + (y 1).val % 128 = (y 1).val by omega)

/-- The base-2 exponentials of the scores less the row's maximum, four lane groups side by side. -/
theorem exps_at (s : Vec Ideal S512x512 .f32) (m : FVec Ideal S512x128 .f32) (y : S512x512.Idx) :
    concatenate S512x512 1 [⟨S512x128, exp2 (subf (extractStridedSlice S512x128 ![0, 0] s slices_S512x512_o0_0_S512x128) m)⟩, ⟨S512x128, exp2 (subf (extractStridedSlice S512x128 ![0, 128] s slices_S512x512_o0_128_S512x128) m)⟩,
      ⟨S512x128, exp2 (subf (extractStridedSlice S512x128 ![0, 256] s slices_S512x512_o0_256_S512x128) m)⟩, ⟨S512x128, exp2 (subf (extractStridedSlice S512x128 ![0, 384] s slices_S512x512_o0_384_S512x128) m)⟩]
      concatenates_S512x128_S512x128_S512x128_S512x128_S512x512_d1 y = Ideal.exp2 (s y - m (lane (y 0) (y 1).val)) := by
  have h1 : (y 1).val < 512 := (y 1).isLt
  have key : ∀ (k : ℕ) (hk : k < 4) (h : S512x512.Slices ![0, 128 * k] S512x128) (hy : (y 1).val / 128 = k),
      exp2 (subf (extractStridedSlice S512x128 ![0, 128 * k] s h) m) (lane (y 0) (y 1).val) = Ideal.exp2 (s y - m (lane (y 0) (y 1).val)) := by
    intro k hk h hy
    show Ideal.exp2 (extractStridedSlice S512x128 ![0, 128 * k] s h _ - _) = _
    rw [lanes4 k hk]
    congr 2
    refine congrArg s (funext fun a => ?_)
    match a with
    | ⟨0, _⟩ => rfl
    | ⟨1, _⟩ => exact Fin.ext (show 128 * k + (y 1).val % 128 = (y 1).val by omega)
  refine (join4 _ _ _ _ y).trans ?_
  have four : (y 1).val / 128 = 0 ∨ (y 1).val / 128 = 1 ∨ (y 1).val / 128 = 2 ∨ (y 1).val / 128 = 3 := by omega
  rcases four with e | e | e | e
  · rw [show (⟨(y 1).val / 128, by omega⟩ : Fin 4) = 0 from Fin.ext e]
    exact key 0 (by norm_num) slices_S512x512_o0_0_S512x128 e
  · rw [show (⟨(y 1).val / 128, by omega⟩ : Fin 4) = 1 from Fin.ext e]
    exact key 1 (by norm_num) slices_S512x512_o0_128_S512x128 e
  · rw [show (⟨(y 1).val / 128, by omega⟩ : Fin 4) = 2 from Fin.ext e]
    exact key 2 (by norm_num) slices_S512x512_o0_256_S512x128 e
  · rw [show (⟨(y 1).val / 128, by omega⟩ : Fin 4) = 3 from Fin.ext e]
    exact key 3 (by norm_num) slices_S512x512_o0_384_S512x128 e

/-- The running sum of a row. -/
theorem pay7_at (s : Vec Ideal S512x512 .f32) (m : Vec Ideal S512x128 .f32) (va : Vec Ideal S512x256 .bf16) (acc : Vec Ideal S512x256 .f32) (y : S512x256.Idx) :
    k0_pay7 s m va acc y = Ideal.exp2 (m (lane (y 0) (y 1).val) - k0_pay6 s m (lane (y 0) (y 1).val)) * acc y
      + ∑ q : Fin 512, Ideal.exp2 (s (ix2 (y 0) q) - k0_pay6 s m (lane (y 0) q.val)) * va (ix2 q (y 1)) := by
  unfold k0_pay7
  dsimp only
  refine (congrArg₂ (· + ·) (congrArg (· * acc y) (join2 (exp2 (subf m (k0_pay6 s m))) y)) (mm_pv _ va y)).trans ?_
  refine congrArg₂ (· + ·) rfl (Finset.sum_congr rfl fun q _ => congrArg (· * va (ix2 q (y 1))) ?_)
  exact exps_at s (k0_pay6 s m) (ix2 (y 0) q)

theorem pay23_at (s : Vec Ideal S512x512 .f32) (y : S512x512.Idx) : k0_pay23 s y = if (y 1).val ≤ (y 0).val then s y else ⊥ := by
  have h0 : (y 0).val < 512 := (y 0).isLt
  have h1 : (y 1).val < 512 := (y 1).isLt
  unfold k0_pay23
  dsimp only
  rw [select_apply]
  have hc : cmpi .sle (iota .tc S512x512 32 [1] iota_S512x512_d1_w32) (iota .tc S512x512 32 [0] iota_S512x512_d0_w32) y
      = if (y 1).val ≤ (y 0).val then 1#1 else 0#1 := by
    show IntOp.cmpi .sle (iota .tc S512x512 32 [1] iota_S512x512_d1_w32 y) (iota .tc S512x512 32 [0] iota_S512x512_d0_w32 y) = _
    rw [iota_single_apply, iota_single_apply, WordCmp.cmpi_sle_eq, WordCmp.toInt_ofNat_of_lt (by norm_num; omega), WordCmp.toInt_ofNat_of_lt (by norm_num; omega)]
    by_cases h : (y 1).val ≤ (y 0).val
    · rw [if_pos h, decide_eq_true (by exact_mod_cast h)]; rfl
    · rw [if_neg h, decide_eq_false (by exact_mod_cast h)]; rfl
  rw [hc]
  split_ifs with h
  · rw [select_one]
  · rw [select_zero]; exact IdealRules.named_const.ideal_named_scalar _ _ _ _ rfl

theorem pay26_eq (s : Vec Ideal S512x512 .f32) (m : Vec Ideal S512x128 .f32) : k0_pay26 s m = k0_pay6 (k0_pay23 s) m := shapeCast_self (k0_pay6 (k0_pay23 s) m) _
theorem pay25_eq (s : Vec Ideal S512x512 .f32) (m : Vec Ideal S512x128 .f32) (va : Vec Ideal S512x256 .bf16) (acc : Vec Ideal S512x256 .f32) :
    k0_pay25 s m va acc = k0_pay7 (k0_pay23 s) m va acc := shapeCast_self (k0_pay7 (k0_pay23 s) m va acc) _

theorem pay5_at (q k : Vec Ideal S512x128 .bf16) (c : Vec Ideal S1x1x512 .f32) (y : S512x512.Idx) :
    k0_pay5 (k0_pay13 q) k c y = (∑ d : Fin 128, q (ix2 (y 0) d) * k (ix2 (y 1) d)) - c (ix3 0 0 (y 1)) := by
  unfold k0_pay5 k0_pay13
  simp only [shapeCast_self]
  show _ - _ = _
  rw [mm_qk, broadcastTo_apply _ broadcasts_S1x512_S512x512 y (ix2 0 (y 1)) (fun a => by match a with | ⟨0, _⟩ => rfl | ⟨1, _⟩ => rfl),
    shapeCast_apply _ shapeCasts_S1x1x512_S1x512 (ix2 0 (y 1)) (ix3 0 0 (y 1)) (by
    rw [Shape.rowMajor_val_three, Shape.rowMajor_val_two]; rfl)]

theorem pay16_eq (q k : Vec Ideal S512x128 .bf16) (c : Vec Ideal S1x1x512 .f32) : k0_pay16 q k c = k0_pay5 (k0_pay13 q) k c := shapeCast_self (k0_pay5 (k0_pay13 q) k c) _
theorem pay14_at (y : S512x128.Idx) : k0_pay14 (F := Ideal) y = ⊥ := by
  refine (congrFun (shapeCast_self (broadcast S512x128 (Named.named κ "mask" 0xF149F2CA#32 : Ideal .f32) : Vec Ideal S512x128 .f32) _) y).trans ?_
  exact IdealRules.named_const.ideal_named_scalar _ _ _ _ rfl
theorem pay15_at (y : S512x256.Idx) : k0_pay15 (F := Ideal) y = 0 := by
  refine (congrFun (shapeCast_self (broadcast S512x256 (Scalar.ofBits .f32 0x00000000#32 : Ideal .f32) : Vec Ideal S512x256 .f32) _) y).trans ?_
  exact Ideal.ofBits_zero_f32
theorem one_bf16 : Ideal.ofBits .bf16 0x3F80#16 = ((1 : ℝ) : EReal) := by
  simp [Ideal.ofBits, Ideal.ieee, -EReal.coe_mul]; norm_num

/-! ### One block's step -/

theorem exp2_ite (p : Prop) [Decidable p] (a b : ℝ) : Ideal.exp2 ((if p then (a : EReal) else ⊥) - (b : EReal)) = ((if p then Real.rpow 2 (a - b) else 0 : ℝ) : EReal) := by
  split_ifs
  · rw [← EReal.coe_sub, Ideal.exp2_coe]
  · rw [EReal.bot_sub]; rfl

/-- A block of keys from `n` on, counting where `P` says, added to what the first `n` keys left. -/
theorem block (A : Args) (h b n : ℕ) (m : Vec Ideal S512x128 .f32) (acc : Vec Ideal S512x256 .f32) (s : Vec Ideal S512x512 .f32) (va : Vec Ideal S512x256 .bf16) (M : ℕ → ℝ)
    (hm : ∀ y : S512x128.Idx, m y = if n = 0 then ⊥ else ((M (512 * b + (y 0).val) : ℝ) : EReal))
    (ha : ∀ y : S512x256.Idx, acc y = ((part A h M n (512 * b + (y 0).val) (y 1).val : ℝ) : EReal))
    (hv : ∀ y : S512x256.Idx, va y = ((wt A h (n + (y 0).val) (y 1).val : ℝ) : EReal))
    (P : ℕ → ℕ → Prop) [DecidableRel P] (hP : ∀ r, P r 0)
    (hs : ∀ y : S512x512.Idx, s y = if P (y 0).val (y 1).val then ((sc2 A h (512 * b + (y 0).val) (n + (y 1).val) : ℝ) : EReal) else ⊥) :
    ∃ M' : ℕ → ℝ, (∀ y : S512x128.Idx, k0_pay6 s m y = ((M' (512 * b + (y 0).val) : ℝ) : EReal))
      ∧ ∀ y : S512x256.Idx, k0_pay7 s m va acc y = ((part A h M' n (512 * b + (y 0).val) (y 1).val
          + ∑ q : Fin 512, (if P (y 0).val q.val then Real.rpow 2 (sc2 A h (512 * b + (y 0).val) (n + q.val) - M' (512 * b + (y 0).val)) else 0) * wt A h (n + q.val) (y 1).val : ℝ) : EReal) := by
  have hreal : ∀ r : Fin 512, ∃ x : ℝ, ∀ l : Fin 128, k0_pay6 s m (ix2 r l) = (x : EReal) := by
    intro r
    obtain ⟨f, hf⟩ := max_real (Finset.univ : Finset (Fin 512)) (fun q => s (ix2 r q)) (fun q _ => by
        show s (ix2 r q) ≠ ⊤
        rw [hs]; split_ifs
        · exact EReal.coe_ne_top _
        · exact bot_ne_top) (0 : Fin 512) (Finset.mem_univ _) (by
        show s (ix2 r 0) ≠ ⊥
        rw [hs]
        refine (if_pos (hP _)).trans_ne ?_
        exact EReal.coe_ne_bot _)
    by_cases hn : n = 0
    · refine ⟨f, fun l => ?_⟩
      rw [pay6_at, hm, if_pos hn]
      exact (max_eq_right bot_le).trans hf
    · refine ⟨max (M (512 * b + r.val)) f, fun l => ?_⟩
      rw [pay6_at, hm, if_neg hn]
      refine (congrArg (max _) hf).trans ?_
      exact (EReal.coe_strictMono.monotone.map_max).symm
  choose g hg using hreal
  refine ⟨fun i => g ⟨(i - 512 * b) % 512, Nat.mod_lt _ (by norm_num)⟩, ?_⟩
  have hM : ∀ y : S512x128.Idx, k0_pay6 s m y = ((g ⟨(512 * b + (y 0).val - 512 * b) % 512, Nat.mod_lt _ (by norm_num)⟩ : ℝ) : EReal) := by
    intro y
    have h0 : (y 0).val < 512 := (y 0).isLt
    rw [show (⟨(512 * b + (y 0).val - 512 * b) % 512, Nat.mod_lt _ (by norm_num)⟩ : Fin 512) = y 0 from Fin.ext (by show (512 * b + (y 0).val - 512 * b) % 512 = (y 0).val; omega)]
    refine (congrArg (k0_pay6 s m) (funext fun a => ?_)).trans (hg (y 0) (y 1))
    match a with | ⟨0, _⟩ => rfl | ⟨1, _⟩ => rfl
  refine ⟨hM, fun y => ?_⟩
  rw [pay7_at]
  simp only [hM, hv, hs, exp2_ite, ← EReal.coe_mul]
  rw [coe_sum, EReal.coe_add]
  congr 1
  rw [ha, hm]
  by_cases hn : n = 0
  · subst hn
    rw [if_pos rfl, EReal.bot_sub]
    show (0 : EReal) * _ = _
    rw [zero_mul]
    unfold part
    simp
  · rw [if_neg hn, ← EReal.coe_sub, Ideal.exp2_coe, ← EReal.coe_mul]
    refine congrArg _ ?_
    exact part_move h M (fun i => g ⟨(i - 512 * b) % 512, Nat.mod_lt _ (by norm_num)⟩) n (512 * b + (y 0).val) (y 1).val

end Cert.AttendIdeal.Fwd

end
-- ==== Proof.AttendValue.lean ====
/- One grid point of the attention's forward call in real arithmetic: from finite blocks, what its three results hold. -/
module

public import proofs.«01_k».proof.Proof.AttendOps

@[expose] public section

set_option maxRecDepth 16384

noncomputable section

namespace Cert.AttendIdeal.Fwd

open Cert.AttendIdeal Cert.AttendIdeal.Gen
open Idealize.ShloMosaic Idealize.ShloMosaic.TcCoe Idealize.ShloMosaic.ValueIdx
open Cert.Attn (Args coe_sum σ ℓ pr ex sc2 wt part shift part_step part_last ℓ_pos sum_wt_one sum_wt_val lse_two)

/-- The blocks a point reads, in real numbers: block `b` of the queries, the head's keys, values and forget sums. -/
structure Reads (A : Args) (h b : ℕ) (x0 : Vec Ideal S512x128 .bf16) (x1 x2 : Vec Ideal S4096x128 .bf16) (x3 : Vec Ideal S1x1x4096 .f32) : Prop where
  q : ∀ y : S512x128.Idx, x0 y = ((A.Q (512 * b + (y 0).val) (128 * h + (y 1).val) * (σ * (1 / Real.log 2)) : ℝ) : EReal)
  k : ∀ y : S4096x128.Idx, x1 y = ((A.K (y 0).val (128 * h + (y 1).val) : ℝ) : EReal)
  v : ∀ y : S4096x128.Idx, x2 y = ((A.V (y 0).val (128 * h + (y 1).val) : ℝ) : EReal)
  c : ∀ y : S1x1x4096.Idx, x3 y = ((A.C h (y 2).val * (1 / Real.log 2) : ℝ) : EReal)

section
variable {A : Args} {h b : ℕ} {x0 : Vec Ideal S512x128 .bf16} {x1 x2 : Vec Ideal S4096x128 .bf16} {x3 : Vec Ideal S1x1x4096 .f32}

theorem scores_at (R : Reads A h b x0 x1 x2 x3) (a : ℕ) (ha : a < 8) (y : S512x512.Idx) :
    k0_pay5 (k0_pay13 x0) (rows x1 a) (lanes3 x3 a) y = ((sc2 A h (512 * b + (y 0).val) (512 * a + (y 1).val) : ℝ) : EReal) := by
  have h1 : (y 1).val < 512 := (y 1).isLt
  rw [pay5_at]
  unfold rows lanes3
  simp only [R.q, R.k, R.c]
  have e : (512 * a + (y 1).val) % 4096 = 512 * a + (y 1).val := Nat.mod_eq_of_lt (by omega)
  show (∑ d : Fin 128, ((A.Q (512 * b + (y 0).val) (128 * h + d.val) * (σ * (1 / Real.log 2)) : ℝ) : EReal) * ((A.K ((512 * a + (y 1).val) % 4096) (128 * h + d.val) : ℝ) : EReal))
    - ((A.C h ((512 * a + (y 1).val) % 4096) * (1 / Real.log 2) : ℝ) : EReal) = _
  rw [e]
  simp only [← EReal.coe_mul]
  rw [coe_sum, ← EReal.coe_sub]
  rfl

theorem vals_at (R : Reads A h b x0 x1 x2 x3) (a : ℕ) (ha : a < 8) (y : S512x256.Idx) : rowsW (vaug x2) a y = ((wt A h (512 * a + (y 0).val) (y 1).val : ℝ) : EReal) := by
  have h0 : (y 0).val < 512 := (y 0).isLt
  have e : (512 * a + (y 0).val) % 4096 = 512 * a + (y 0).val := Nat.mod_eq_of_lt (by omega)
  unfold rowsW vaug wt
  by_cases hx : (y 1).val < 128
  · rw [if_pos hx]
    refine (dif_pos hx).trans ((R.v _).trans ?_)
    show ((A.V ((512 * a + (y 0).val) % 4096) (128 * h + (y 1).val) : ℝ) : EReal) = _
    rw [e]
  · rw [if_neg hx]
    exact (dif_neg hx).trans one_bf16

/-- What is held after `k` blocks of keys, the next block's scores ready. -/
structure Inv (A : Args) (h b k : ℕ) (e : FS Ideal) : Prop where
  acc : ∃ M : ℕ → ℝ, (∀ y : S512x128.Idx, e.m y = if 512 * k = 0 then ⊥ else ((M (512 * b + (y 0).val) : ℝ) : EReal))
    ∧ ∀ y : S512x256.Idx, e.acc y = ((part A h M (512 * k) (512 * b + (y 0).val) (y 1).val : ℝ) : EReal)
  s : ∀ y : S512x512.Idx, e.s y = ((sc2 A h (512 * b + (y 0).val) (512 * k + (y 1).val) : ℝ) : EReal)

theorem inv_start (R : Reads A h b x0 x1 x2 x3) : Inv A h b 0 (start x0 x1 x3) where
  acc := ⟨fun _ => 0, fun y => (pay14_at y).trans (if_pos rfl).symm, fun y => (pay15_at y).trans (by unfold part; simp)⟩
  s y := (congrFun (pay16_eq x0 (rows x1 0) (lanes3 x3 0)) y).trans (scores_at R 0 (by norm_num) y)

theorem inv_step (R : Reads A h b x0 x1 x2 x3) {k : ℕ} (hk : k < 7) {e : FS Ideal} (I : Inv A h b k e) : Inv A h b (k + 1) (step x0 x1 x3 (vaug x2) k e) where
  acc := by
    obtain ⟨M, hm, ha⟩ := I.acc
    obtain ⟨M', hm', ha'⟩ := block A h b (512 * k) e.m e.acc e.s (rowsW (vaug x2) k) M hm ha (vals_at R k (by omega)) (fun _ _ => True) (fun _ => trivial)
      (fun y => (I.s y).trans (if_pos trivial).symm)
    refine ⟨M', fun y => (hm' y).trans (if_neg (by omega)).symm, fun y => (ha' y).trans (congrArg _ ?_)⟩
    simp only [if_true]
    rw [show 512 * (k + 1) = 512 * k + 512 by omega]
    exact part_step h M' (512 * k) (512 * b + (y 0).val) (y 1).val
  s y := scores_at R (k + 1) (by omega) y

theorem inv_st (R : Reads A h b x0 x1 x2 x3) : ∀ k : ℕ, k ≤ 7 → Inv A h b k (st x0 x1 x3 (vaug x2) (start x0 x1 x3) k)
  | 0, _ => inv_start R
  | k + 1, hk => inv_step R (by omega) (inv_st R k (by omega))

/-- After the block that crosses the diagonal: the row's maximum, and its sums. -/
theorem fin_at (R : Reads A h b x0 x1 x2 x3) (hb : b < 8) : ∃ M : ℕ → ℝ,
    (∀ y : S512x128.Idx, (fin x0 x1 x3 (vaug x2) b).m y = ((M (512 * b + (y 0).val) : ℝ) : EReal))
    ∧ ∀ y : S512x256.Idx, (fin x0 x1 x3 (vaug x2) b).acc y = ((∑ j : Fin 4096, ex A (shift A M) h (512 * b + (y 0).val) j * wt A h j (y 1).val : ℝ) : EReal) := by
  have I := inv_st R b (by omega)
  obtain ⟨M, hm, ha⟩ := I.acc
  obtain ⟨M', hm', ha'⟩ := block A h b (512 * b) _ _ (k0_pay23 (st x0 x1 x3 (vaug x2) (start x0 x1 x3) b).s) (rowsW (vaug x2) b) M hm ha (vals_at R b hb) (fun r q => q ≤ r) (fun _ => Nat.zero_le _)
    (fun y => by rw [pay23_at, I.s])
  refine ⟨M', fun y => (congrFun (pay26_eq _ _) y).trans (hm' y), fun y => (congrFun (pay25_eq _ _ _ _) y).trans ((ha' y).trans (congrArg _ ?_))⟩
  exact part_last h M' b hb (y 0).val (y 0).isLt (y 1).val

/-! ### The three results -/

variable (M' : ℕ → ℕ → ℝ)

theorem div_at (R : Reads A h b x0 x1 x2 x3) (hb : b < 8) (y : S512x128.Idx) :
    Ideal.div (left (fin x0 x1 x3 (vaug x2) b).acc y) (right (fin x0 x1 x3 (vaug x2) b).acc y) = ((∑ j : Fin 4096, pr A M' h (512 * b + (y 0).val) j * A.V j (128 * h + (y 1).val) : ℝ) : EReal) := by
  have h0 : (y 0).val < 512 := (y 0).isLt
  have h1 : (y 1).val < 128 := (y 1).isLt
  obtain ⟨M, -, ha⟩ := fin_at R hb
  unfold left right
  rw [ha, ha]
  show Ideal.div ((∑ j : Fin 4096, ex A (shift A M) h (512 * b + (y 0).val) j * wt A h j (y 1).val : ℝ) : EReal) ((∑ j : Fin 4096, ex A (shift A M) h (512 * b + (y 0).val) j * wt A h j (128 + (y 1).val) : ℝ) : EReal) = _
  rw [sum_wt_one h _ _ (128 + (y 1).val) (by omega), Ideal.div_coe (ℓ_pos (A := A) (M := shift A M) h (512 * b + (y 0).val) (by omega)).ne', ← EReal.coe_mul, sum_wt_val h _ M' _ _ h1]

theorem outO_at (R : Reads A h b x0 x1 x2 x3) (hb : b < 8) (y : S512x128.Idx) :
    outO (fin x0 x1 x3 (vaug x2) b) y = ((∑ j : Fin 4096, pr A M' h (512 * b + (y 0).val) j * A.V j (128 * h + (y 1).val) : ℝ) : EReal) :=
  Eq.trans rfl (div_at M' R hb y)

theorem outG_at (R : Reads A h b x0 x1 x2 x3) (hb : b < 8) (z : Vec Ideal S512x128 .bf16) (y : S512x128.Idx) :
    outG (fin x0 x1 x3 (vaug x2) b) z y = ((∑ j : Fin 4096, pr A M' h (512 * b + (y 0).val) j * A.V j (128 * h + (y 1).val) : ℝ) : EReal) * (z y * Ideal.logistic (z y)) := by
  unfold outG k0_pay3
  rw [shapeCast_self]
  exact Eq.trans rfl (congrArg (· * (z y * Ideal.logistic (z y))) (div_at M' R hb y))

theorem pay4_at (l m : Vec Ideal S512x128 .f32) (y : S1x1x512.Idx) : k0_pay4 l m y = m (ix2 (y 2) 0) + Ideal.log (l (ix2 (y 2) 0)) * ((1 / Real.log 2 : ℝ) : EReal) := by
  have y0 : (y 0).val < 1 := (y 0).isLt
  have y1 : (y 1).val < 1 := (y 1).isLt
  have named : (Named.named κ "log2e" 0x3FB8AA3B#32 : Ideal .f32) = ((1 / Real.log 2 : ℝ) : EReal) := by
    rw [one_div]; exact IdealRules.named_const.ideal_named_scalar _ _ _ _ rfl
  unfold k0_pay4
  dsimp only
  rw [named, shapeCast_apply _ shapeCasts_S1x512_S1x1x512 y (ix2 0 (y 2)) (by
      rw [Shape.rowMajor_val_three, Shape.rowMajor_val_two]; show 0 * 512 + (y 2).val = ((y 0).val * 1 + (y 1).val) * 512 + (y 2).val; omega),
    extractStridedSlice_apply _ _ slices_S128x512_o0_0_S1x512 (ix2 0 (y 2)) (ix2 0 (y 2)) (fun a => by
      match a with
      | ⟨0, _⟩ => rfl
      | ⟨1, _⟩ => show (y 2).val = 0 + (y 2).val; omega),
    transpose_apply [1, 0] _ transposes_S512x128_p1_0_S128x512 (ix2 0 (y 2)) (ix2 (y 2) 0) (fun a => by match a with | ⟨0, _⟩ => rfl | ⟨1, _⟩ => rfl)]
  rfl

theorem outL_at (R : Reads A h b x0 x1 x2 x3) (hb : b < 8) (y : S1x1x512.Idx) :
    outL (fin x0 x1 x3 (vaug x2) b) y = (((M' h (512 * b + (y 2).val) + Real.log (ℓ A M' h (512 * b + (y 2).val)) - A.C h (512 * b + (y 2).val)) * (1 / Real.log 2) : ℝ) : EReal) := by
  have h2 : (y 2).val < 512 := (y 2).isLt
  obtain ⟨M, hm, ha⟩ := fin_at R hb
  have e := lse_two (A := A) h M M' (512 * b + (y 2).val) (by omega)
  have hl := ℓ_pos (A := A) (M := shift A M) h (512 * b + (y 2).val) (by omega)
  unfold outL
  rw [pay4_at]
  unfold right
  rw [hm, ha]
  show ((M (512 * b + (y 2).val) : ℝ) : EReal) + Ideal.log ((∑ j : Fin 4096, ex A (shift A M) h (512 * b + (y 2).val) j * wt A h j (128 + 0) : ℝ) : EReal) * _ = _
  rw [sum_wt_one h _ _ _ (by omega), Ideal.log_coe, if_neg (not_le.mpr hl), ← EReal.coe_mul, ← EReal.coe_add, e]

end

end Cert.AttendIdeal.Fwd

end
-- ==== Proof.AttendFinal.lean ====
/- The three results of the attention's forward call are the reference's. -/
module

public import proofs.«01_k».proof.Defs
public import proofs.«01_k».proof.Proof.AttendRef
public import proofs.«01_k».proof.Proof.AttendValue
public import proofs.«01_k».proof.Proof.Finite
public import Idealize.ShloMosaic.Lib.Pipeline.ValueKit.Geometry
public import Idealize.ShloMosaic.Lib.StableHlo.RunRead

@[expose] public section

set_option maxRecDepth 16384

noncomputable section

namespace Cert.Pre_finite_attend

open Idealize.ShloMosaic Idealize.ShloMosaic.TcCoe Idealize.ShloMosaic.ValueIdx

instance facts : Facts where
  bcast_S_S4096x2048 := by decide
  reducesTo_S4096x2048_S_d0_1 := by decide
  h_S_ := by decide
  bcast_S_S16x4096 := by decide
  reducesTo_S16x4096_S_d0_1 := by decide

/-- The numbers the accepted arguments hold. -/
theorem holds [Facts] (x0 x1 x2 : FVec Ideal S4096x2048 .f32) (x3 : FVec Ideal S16x4096 .f32) (x4 : FVec Ideal S4096x2048 .f32)
    (e : fn (F := Ideal) x0 x1 x2 x3 x4 = fun _ => 1#1) : ∃ A, Cert.Attn.Holds A x0 x1 x2 x3 x0 := by
  have e1 := congrFun e (fun a => a.elim0)
  simp only [fn, fn_part1] at e1
  obtain ⟨e1, h3⟩ := IntOp.andi_eq_one.1 e1
  obtain ⟨e1, h2⟩ := IntOp.andi_eq_one.1 e1
  obtain ⟨h0, h1⟩ := IntOp.andi_eq_one.1 e1
  choose f0 g0 using Cert.Pre_finite.all_real x0 _ _ _ _ h0
  choose f1 g1 using Cert.Pre_finite.all_real x1 _ _ _ _ h1
  choose f2 g2 using Cert.Pre_finite.all_real x2 _ _ _ _ h2
  choose f3 g3 using Cert.Pre_finite.all_real x3 _ _ _ _ h3
  let w (f : S4096x2048.Idx → ℝ) (i j : ℕ) : ℝ := if h : i < 4096 ∧ j < 2048 then f (ix2 ⟨i, h.1⟩ ⟨j, h.2⟩) else 0
  let u (f : S16x4096.Idx → ℝ) (i j : ℕ) : ℝ := if h : i < 16 ∧ j < 4096 then f (ix2 ⟨i, h.1⟩ ⟨j, h.2⟩) else 0
  have hw (f : S4096x2048.Idx → ℝ) (y : S4096x2048.Idx) : f y = w f (y 0).val (y 1).val := by
    have h : (y 0).val < 4096 ∧ (y 1).val < 2048 := ⟨(y 0).isLt, (y 1).isLt⟩
    simp only [w, dif_pos h]
    refine congrArg f (funext fun a => ?_); match a with | ⟨0, _⟩ => rfl | ⟨1, _⟩ => rfl
  have hu (f : S16x4096.Idx → ℝ) (y : S16x4096.Idx) : f y = u f (y 0).val (y 1).val := by
    have h : (y 0).val < 16 ∧ (y 1).val < 4096 := ⟨(y 0).isLt, (y 1).isLt⟩
    simp only [u, dif_pos h]
    refine congrArg f (funext fun a => ?_); match a with | ⟨0, _⟩ => rfl | ⟨1, _⟩ => rfl
  exact ⟨⟨w f0, w f1, w f2, w f0, u f3⟩, fun y => (g0 y).trans (congrArg _ (hw f0 y)), fun y => (g1 y).trans (congrArg _ (hw f1 y)),
    fun y => (g2 y).trans (congrArg _ (hw f2 y)), fun y => (g3 y).trans (congrArg _ (hu f3 y)), fun y => (g0 y).trans (congrArg _ (hw f0 y))⟩

end Cert.Pre_finite_attend

namespace Cert.AttendIdeal.Fwd

open Cert.AttendIdeal Cert.AttendIdeal.Gen
open Idealize.ShloMosaic Idealize.ShloMosaic.TcCoe Idealize.ShloMosaic.ValueIdx Idealize.ShloMosaic.StableHlo Idealize.ShloMosaic.Pipeline Idealize.SL.Sem
open Cert.Attn (Args Holds σ ℓ pr)
open Cert.KernelIdeal.Bwd (hQ2 hPair hDo l2e hQ2_at hPair_at l2e_at spread_at)
open Cert.AttendReferenceIdeal.Read (val_main_v48 val_main_v51 val_main_v52)

variable (m : (ℓ : Loc nD τ sig) → Buf (Elt Ideal) ℓ) (c : Dev nD)

abbrev arg0 : Cert.Attn.Mat := m ((c : Thread nD τ).loc main_arg0)
abbrev arg1 : Cert.Attn.Mat := m ((c : Thread nD τ).loc main_arg1)
abbrev arg2 : Cert.Attn.Mat := m ((c : Thread nD τ).loc main_arg2)
abbrev arg3 : Cert.Attn.Gate := m ((c : Thread nD τ).loc main_arg3)
abbrev arg4 : Cert.Attn.Mat := m ((c : Thread nD τ).loc main_arg4)

/-- The gate in base two, one row a head. -/
def hGate (x3 : FVec Ideal S16x4096 .f32) : FVec Ideal S16x1x4096 .f32 :=
  broadcastInDim S16x1x4096 ![0, 2] bcast_S16x4096_S16x1x4096_0_2 (mulf x3 (broadcastInDim S16x4096 ![] bcast_S_S16x4096 l2e))

theorem hGate_at (x3 : FVec Ideal S16x4096 .f32) (y : S16x1x4096.Idx) :
    hGate x3 y = x3 (ix2 ⟨(y 0).val, (y 0).isLt⟩ ⟨(y 2).val, (y 2).isLt⟩) * ((1 / Real.log 2 : ℝ) : EReal) := by
  refine (broadcastInDim_apply _ bcast_S16x4096_S16x1x4096_0_2 _ y (ix2 ⟨(y 0).val, (y 0).isLt⟩ ⟨(y 2).val, (y 2).isLt⟩) (fun a => match a with
    | ⟨0, _⟩ => by show (y 0).val = if (16 : Nat) = 1 then 0 else (y 0).val; rw [if_neg (by decide)]
    | ⟨1, _⟩ => by show (y 2).val = if (4096 : Nat) = 1 then 0 else (y 2).val; rw [if_neg (by decide)])).trans ?_
  exact congrArg (x3 _ * ·) (spread_at _ _ _ l2e_at _)

theorem V_q2 : V m c main_v5 = hQ2 (arg0 m c) := by
  after_reads_simp
  rfl
theorem V_kv : V m c main_v7 = hPair (arg1 m c) (arg2 m c) := by
  after_reads_simp
  rfl
theorem V_gate : V m c main_v10 = hGate (arg3 m c) := by
  after_reads_simp
  rfl
theorem V_z : V m c main_v11 = hDo (arg4 m c) := by
  after_reads_simp
  rfl

theorem idx0 : ∀ t : Fin cfg0.N, win0_0.index t = ![t.val % 8, t.val / 8] := by decide +kernel
theorem idx1 : ∀ t : Fin cfg0.N, win0_1.index t = ![0, t.val / 8] := by decide +kernel
theorem idx2 : ∀ t : Fin cfg0.N, win0_2.index t = ![0, 16 + t.val / 8] := by decide +kernel
theorem idx3 : ∀ t : Fin cfg0.N, win0_3.index t = ![t.val / 8, 0, 0] := by decide +kernel
theorem idx4 : ∀ t : Fin cfg0.N, win0_4.index t = ![t.val % 8, t.val / 8] := by decide +kernel
theorem idx5 : ∀ t : Fin cfg0.N, win0_5.index t = ![t.val % 8, t.val / 8] := by decide +kernel
theorem idx6 : ∀ t : Fin cfg0.N, win0_6.index t = ![t.val % 8, t.val / 8] := by decide +kernel
theorem idx7 : ∀ t : Fin cfg0.N, win0_7.index t = ![t.val / 8, 0, t.val % 8] := by decide +kernel

theorem t_lt (t : Fin cfg0.N) : t.val < 128 := Nat.lt_of_lt_of_eq t.isLt N_0

theorem coord1 (t : Fin cfg0.N) : (grid0.coords t 1).val = t.val % 8 := by
  have e : (grid0.coords t 1).val = t.val / 1 % 8 := Pipeline.Grid.coords_val t 1 (by decide) rfl
  omega

/-- The arguments hold the numbers `A`, and the row maxima of the scores are `M`. -/
structure Given (A : Args) (M : ℕ → ℕ → ℝ) : Prop where
  H : Holds A (arg0 m c) (arg1 m c) (arg2 m c) (arg3 m c) (arg0 m c)
  hM : ∀ y : S16x4096.Idx, Cert.ReferenceIdeal.Read.val_main_v20 (F := Ideal) (arg0 m c) (arg1 m c) (arg3 m c) y = ((M (y 0).val (y 1).val : ℝ) : EReal)

/-! ## The values a head keeps -/

theorem v_same (t t' : Fin cfg0.N) (h : t.val / 8 = t'.val / 8) (y : S4096x128.Idx) : iblk m c 2 t y = iblk m c 2 t' y := by
  have a0 : ((win0_2.blk t).view.emb y 0).val = ((win0_2.blk t').view.emb y 0).val := by blk_simp [idx2]
  have a1 : ((win0_2.blk t).view.emb y 1).val = ((win0_2.blk t').view.emb y 1).val := by blk_simp [idx2]; omega
  blk_simp [iblk]
  refine congrArg (V m c main_v7) (funext fun a => ?_)
  match a with
  | ⟨0, _⟩ => exact Fin.ext a0
  | ⟨1, _⟩ => exact Fin.ext a1

theorem kept_first (t : Fin cfg0.N) (h0 : t.val % 8 = 0) : (outsAt0 m c t.val t.isLt).2.2.2 = vaug (iblk m c 2 t) := by
  rw [outsAt0_A m c t h0]
  dsimp only
  exact sout_A ..

theorem kept_next (t : Fin cfg0.N) (h0 : ¬t.val % 8 = 0) : (outsAt0 m c t.val t.isLt).2.2.2 = (outsAt0 m c (t.val - 1) (Nat.lt_of_le_of_lt (Nat.sub_le _ _) t.isLt)).2.2.2 := by
  rw [outsAt0_B m c t h0]
  dsimp only
  rfl

theorem kept : ∀ (n : ℕ) (hn : n < cfg0.N), (outsAt0 m c n hn).2.2.2 = vaug (iblk m c 2 ⟨n, hn⟩)
  | 0, hn => kept_first m c ⟨0, hn⟩ (Nat.zero_mod _)
  | n + 1, hn => by
    by_cases h0 : (n + 1) % 8 = 0
    · exact kept_first m c ⟨n + 1, hn⟩ h0
    · exact (kept_next m c ⟨n + 1, hn⟩ h0).trans ((kept n (Nat.lt_of_succ_lt hn)).trans
        (congrArg vaug (funext fun y => v_same m c ⟨n, Nat.lt_of_succ_lt hn⟩ ⟨n + 1, hn⟩ (show n / 8 = (n + 1) / 8 by omega) y)))

theorem kept_prev (t : Fin cfg0.N) (h0 : ¬t.val % 8 = 0) (hn : t.val - 1 < cfg0.N) : (outsAt0 m c (t.val - 1) hn).2.2.2 = vaug (iblk m c 2 t) :=
  (kept m c (t.val - 1) hn).trans (congrArg vaug (funext fun y => v_same m c ⟨t.val - 1, hn⟩ t (show (t.val - 1) / 8 = t.val / 8 by omega) y))

/-! ## What a point writes -/

theorem point5 (t : Fin cfg0.N) : (outsAt0 m c t.val t.isLt).1 = outO (fin (iblk m c 0 t) (iblk m c 1 t) (iblk m c 3 t) (vaug (iblk m c 2 t)) (t.val % 8)) := by
  rw [← coord1]
  by_cases h0 : t.val % 8 = 0
  · rw [outsAt0_A m c t h0]
    dsimp only
    exact out5_A ..
  · rw [outsAt0_B m c t h0]
    dsimp only
    rw [kept_prev m c t h0]
    exact out5_B ..

theorem point6 (t : Fin cfg0.N) : (outsAt0 m c t.val t.isLt).2.1 = outG (fin (iblk m c 0 t) (iblk m c 1 t) (iblk m c 3 t) (vaug (iblk m c 2 t)) (t.val % 8)) (iblk m c 4 t) := by
  rw [← coord1]
  by_cases h0 : t.val % 8 = 0
  · rw [outsAt0_A m c t h0]
    dsimp only
    exact out6_A ..
  · rw [outsAt0_B m c t h0]
    dsimp only
    rw [kept_prev m c t h0]
    exact out6_B ..

theorem point7 (t : Fin cfg0.N) : (outsAt0 m c t.val t.isLt).2.2.1 = outL (fin (iblk m c 0 t) (iblk m c 1 t) (iblk m c 3 t) (vaug (iblk m c 2 t)) (t.val % 8)) := by
  rw [← coord1]
  by_cases h0 : t.val % 8 = 0
  · rw [outsAt0_A m c t h0]
    dsimp only
    exact out7_A ..
  · rw [outsAt0_B m c t h0]
    dsimp only
    rw [kept_prev m c t h0]
    exact out7_B ..

variable {m c} {A : Args} {M : ℕ → ℕ → ℝ}

/-! ## The blocks -/

theorem q_blk (G : Given m c A M) (t : Fin cfg0.N) (y : S512x128.Idx) : iblk m c 0 t y
    = ((A.Q (512 * (t.val % 8) + (y 0).val) (128 * (t.val / 8) + (y 1).val) * (σ * (1 / Real.log 2)) : ℝ) : EReal) := by
  have e0 : ((win0_0.blk t).view.emb y 0).val = 512 * (t.val % 8) + (y 0).val := by blk_simp [idx0]; omega
  have e1 : ((win0_0.blk t).view.emb y 1).val = 128 * (t.val / 8) + (y 1).val := by blk_simp [idx0]; omega
  blk_simp [iblk]
  rw [V_q2]
  refine (hQ2_at G.H _).trans ?_
  rw [e0, e1]

theorem k_blk (G : Given m c A M) (t : Fin cfg0.N) (y : S4096x128.Idx) : iblk m c 1 t y = ((A.K (y 0).val (128 * (t.val / 8) + (y 1).val) : ℝ) : EReal) := by
  have ht := t_lt t
  have h1 : (y 1).val < 128 := (y 1).isLt
  have e0 : ((win0_1.blk t).view.emb y 0).val = (y 0).val := by blk_simp [idx1]
  have e1 : ((win0_1.blk t).view.emb y 1).val = 128 * (t.val / 8) + (y 1).val := by blk_simp [idx1]; omega
  blk_simp [iblk]
  rw [V_kv]
  refine (hPair_at _ _ _).trans ((dif_pos (by rw [e1]; omega)).trans ((G.H.k _).trans ?_))
  show ((A.K ((win0_1.blk t).view.emb y 0).val ((win0_1.blk t).view.emb y 1).val : ℝ) : EReal) = _
  rw [e0, e1]

theorem v_blk (G : Given m c A M) (t : Fin cfg0.N) (y : S4096x128.Idx) : iblk m c 2 t y = ((A.V (y 0).val (128 * (t.val / 8) + (y 1).val) : ℝ) : EReal) := by
  have e0 : ((win0_2.blk t).view.emb y 0).val = (y 0).val := by blk_simp [idx2]
  have e1 : ((win0_2.blk t).view.emb y 1).val = 2048 + (128 * (t.val / 8) + (y 1).val) := by blk_simp [idx2]; omega
  blk_simp [iblk]
  rw [V_kv]
  refine (hPair_at _ _ _).trans ((dif_neg (by rw [e1]; omega)).trans ((G.H.v _).trans ?_))
  show ((A.V ((win0_2.blk t).view.emb y 0).val (((win0_2.blk t).view.emb y 1).val - 2048) : ℝ) : EReal) = _
  rw [e0, e1, Nat.add_sub_cancel_left]

theorem read3 (t : Fin cfg0.N) (X : S16x1x4096.Idx → EReal) (y : S1x1x4096.Idx) : (win0_3.blk t).view.read (Elt Ideal) X y = X ((win0_3.blk t).view.emb y) := rfl
theorem iblk3 (t : Fin cfg0.N) : iblk m c 3 t = (win0_3.blk t).view.read (Elt Ideal) (V m c main_v10) := rfl
theorem iblk3_eq (t : Fin cfg0.N) : iblk m c 3 t = (win0_3.blk t).view.read (Elt Ideal) (hGate (arg3 m c)) :=
  (iblk3 t).trans (congrArg (fun X => (win0_3.blk t).view.read (Elt Ideal) X) (V_gate m c))
theorem emb3_0 (t : Fin cfg0.N) (y : S1x1x4096.Idx) : ((win0_3.blk t).view.emb y 0).val = t.val / 8 := by blk_simp [idx3]
theorem emb3_2 (t : Fin cfg0.N) (y : S1x1x4096.Idx) : ((win0_3.blk t).view.emb y 2).val = (y 2).val := by blk_simp [idx3]

theorem c_blk (G : Given m c A M) (t : Fin cfg0.N) (y : S1x1x4096.Idx) : iblk m c 3 t y = ((A.C (t.val / 8) (y 2).val * (1 / Real.log 2) : ℝ) : EReal) := by
  refine (congrFun (iblk3_eq t) y).trans ((read3 t _ y).trans ((hGate_at _ _).trans ?_))
  rw [G.H.c, ← EReal.coe_mul]
  show ((A.C ((win0_3.blk t).view.emb y 0).val ((win0_3.blk t).view.emb y 2).val * (1 / Real.log 2) : ℝ) : EReal) = _
  rw [emb3_0, emb3_2]

theorem z_blk (t : Fin cfg0.N) (y : S512x128.Idx) : iblk m c 4 t y = arg4 m c ((win0_4.blk t).view.emb y) := by
  blk_simp [iblk]
  rw [V_z]
  rfl

theorem reads (G : Given m c A M) (t : Fin cfg0.N) : Reads A (t.val / 8) (t.val % 8) (iblk m c 0 t) (iblk m c 1 t) (iblk m c 2 t) (iblk m c 3 t) where
  q := q_blk G t
  k := k_blk G t
  v := v_blk G t
  c := c_blk G t

/-! ## The arrays -/

theorem final5 (G : Given m c A M) : (dats m 0 c).arrAt 5 cfg0.N = val_main_v48 (F := Ideal) (arg0 m c) (arg1 m c) (arg2 m c) (arg3 m c) := by
  refine (dats m 0 c).arrAt_eq_of_covers 5 _ (by decide +kernel) fun t hf y => ?_
  blk_simp
  have h1 : (y 1).val < 128 := (y 1).isLt
  have e0 : ((win0_5.blk t).view.emb y 0).val = 512 * (t.val % 8) + (y 0).val := by blk_simp [idx5]; omega
  have e1 : ((win0_5.blk t).view.emb y 1).val = 128 * (t.val / 8) + (y 1).val := by blk_simp [idx5]; omega
  rw [after0_5, point5, Cert.Attn.Forward.o_at G.H G.hM, e0, e1, show (128 * (t.val / 8) + (y 1).val) / 128 = t.val / 8 by omega]
  exact outO_at M (reads G t) (Nat.mod_lt _ (by norm_num)) y

theorem final6 (G : Given m c A M) : (dats m 0 c).arrAt 6 cfg0.N = val_main_v51 (F := Ideal) (arg0 m c) (arg1 m c) (arg2 m c) (arg3 m c) (arg4 m c) := by
  refine (dats m 0 c).arrAt_eq_of_covers 6 _ (by decide +kernel) fun t hf y => ?_
  blk_simp
  have h1 : (y 1).val < 128 := (y 1).isLt
  have e0 : ((win0_6.blk t).view.emb y 0).val = 512 * (t.val % 8) + (y 0).val := by blk_simp [idx6]; omega
  have e1 : ((win0_6.blk t).view.emb y 1).val = 128 * (t.val / 8) + (y 1).val := by blk_simp [idx6]; omega
  have hz : iblk m c 4 t y = arg4 m c ((win0_6.blk t).view.emb y) := z_blk t y
  rw [after0_6, point6, Cert.Attn.Forward.g_at G.H G.hM, e0, e1, show (128 * (t.val / 8) + (y 1).val) / 128 = t.val / 8 by omega, ← hz]
  exact outG_at M (reads G t) (Nat.mod_lt _ (by norm_num)) _ y

theorem final7 (G : Given m c A M) : (dats m 0 c).arrAt 7 cfg0.N = val_main_v52 (F := Ideal) (arg0 m c) (arg1 m c) (arg3 m c) := by
  refine (dats m 0 c).arrAt_eq_of_covers 7 _ (by decide +kernel) fun t hf y => ?_
  blk_simp
  have e0 : ((win0_7.blk t).view.emb y 0).val = t.val / 8 := by blk_simp [idx7]
  have e2 : ((win0_7.blk t).view.emb y 2).val = 512 * (t.val % 8) + (y 2).val := by blk_simp [idx7]; omega
  rw [after0_7, point7, Cert.Attn.Forward.l_at G.H G.hM, e0, e2]
  exact outL_at M (reads G t) (Nat.mod_lt _ (by norm_num)) y

section
variable {r : PUnit × MemSt nD τ sig (Elt Ideal)}
theorem ends5 (h : FramePost cfgs (dats m) 0 (V m) r) (c : Dev nD) : r.2.mem ((c.tc : Thread nD τ).loc main_v12_0) = (dats m 0 c).arrAt 5 cfg0.N := h.out_eq c 5

theorem ends6 (h : FramePost cfgs (dats m) 0 (V m) r) (c : Dev nD) : r.2.mem ((c.tc : Thread nD τ).loc main_v12_1) = (dats m 0 c).arrAt 6 cfg0.N := h.out_eq c 6

theorem ends7 (h : FramePost cfgs (dats m) 0 (V m) r) (c : Dev nD) : r.2.mem ((c.tc : Thread nD τ).loc main_v12_2) = (dats m 0 c).arrAt 7 cfg0.N := h.out_eq c 7
end

/-- On arguments that hold numbers the call ends with the reference's results. -/
theorem computes (ρ : Dev nD → PrngReg) (h : ∀ c : Dev nD, ∃ A, Holds A (arg0 m c) (arg1 m c) (arg2 m c) (arg3 m c) (arg0 m c)) :
    θ_run (defs (F := Ideal)) (onTc (τ := τ) (main (F := Ideal))) ⟨m, fun _ => 0, ρ⟩ (fun r => ∀ c : Dev nD,
      r.2.mem ((c.tc : Thread nD τ).loc main_v12_0) = val_main_v48 (F := Ideal) (arg0 m c) (arg1 m c) (arg2 m c) (arg3 m c)
      ∧ r.2.mem ((c.tc : Thread nD τ).loc main_v12_1) = val_main_v51 (F := Ideal) (arg0 m c) (arg1 m c) (arg2 m c) (arg3 m c) (arg4 m c)
      ∧ r.2.mem ((c.tc : Thread nD τ).loc main_v12_2) = val_main_v52 (F := Ideal) (arg0 m c) (arg1 m c) (arg3 m c)) := by
  refine (θ_run defs _ _).mono (fun r hr c => ?_) (run_main m ρ)
  obtain ⟨A, H⟩ := h c
  obtain ⟨M, hM⟩ := Cert.Attn.max_at H
  have G : Given m c A M := ⟨H, hM⟩
  exact ⟨(ends5 hr c).trans (final5 G), (ends6 hr c).trans (final6 G), (ends7 hr c).trans (final7 G)⟩

end Cert.AttendIdeal.Fwd

end
-- ==== Proof.OutDwValue.lean ====
/- The weight gradient of an output projection is the reference's. -/
module

public import proofs.«01_k».proof.Proof.Gen.OutDwIdeal.Value
public import proofs.«01_k».proof.Proof.Gen.OutDwReferenceIdeal.Read
public import Idealize.ShloMosaic.Lib.Pipeline.ValueKit.Geometry
public import Idealize.ShloMosaic.Lib.Pipeline.ValueKit.Acc
public import Idealize.ShloMosaic.Lib.StableHlo.RunRead

@[expose] public section

set_option maxRecDepth 16384

noncomputable section

namespace Cert.OutDwIdeal.Value

open Cert.OutDwIdeal Cert.OutDwIdeal.Gen
open Idealize.ShloMosaic Idealize.ShloMosaic.TcCoe Idealize.ShloMosaic.ValueIdx Idealize.ShloMosaic.Pipeline Idealize.ShloMosaic.StableHlo
open Cert.OutDwReferenceIdeal.Read

variable (m : (ℓ : Loc nD τ sig) → Buf (Elt Ideal) ℓ) (c : Dev nD)

theorem V_0 : V m c main_v0 = fun y => m ((c : Thread nD τ).loc main_arg0) y := by
  after_reads_simp
  rfl
theorem V_1 : V m c main_v1 = fun y => m ((c : Thread nD τ).loc main_arg1) y := by
  after_reads_simp
  rfl

theorem index0 : ∀ t : Fin cfg0.N, win0_0.index t = ![0, t.val / 2] := by decide +kernel
theorem index1 : ∀ t : Fin cfg0.N, win0_1.index t = ![0, t.val % 2] := by decide +kernel
theorem index2 : ∀ t : Fin cfg0.N, win0_2.index t = ![t.val / 2, t.val % 2] := by decide +kernel

theorem product (A : FVec Ideal S4096x512 .bf16) (B : FVec Ideal S4096x1024 .bf16) (y : S512x1024.Idx) :
    matmul dot_S4096x512_S4096x1024_S512x1024_0_0_1_1_n_n none A B (constant S512x1024 .f32 0x00000000#32) y
      = ∑ k : Fin 4096, A (ix2 k (y 0)) * B (ix2 k (y 1)) := by
  refine (Ideal.matmul_constant_zero_apply _ none _ _ _).trans ?_
  rw [← Equiv.sum_comp (contrEquiv1 dot_S4096x512_S4096x1024_S512x1024_0_0_1_1_n_n 4096 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

/-- A tile's element. -/
theorem tile (A : FVec Ideal S4096x512 .bf16) (B : FVec Ideal S4096x1024 .bf16) (y : S512x1024.Idx) :
    out0_2 (F := Ideal) A B y = ∑ k : Fin 4096, A (ix2 k (y 0)) * B (ix2 k (y 1)) := by
  refine Eq.trans ?_ (product A B y)
  simp (disch := decide) only [out0_2, k0_pay1, View.canon_cons_unit_lit', View.ld_unit_lit', shapeCast_self, Ideal.truncf_def]
  rfl

/-- The reference's product at an index. -/
theorem value (X : (⟨S4096x2048, .f32⟩ : BufTy).Contents (Elt Ideal)) (Y : (⟨S4096x2048, .f32⟩ : BufTy).Contents (Elt Ideal)) (i : S2048x2048.Idx) :
    val_main_v4 (F := Ideal) X Y i = ∑ k : Fin 4096, X (ix2 k (i 0)) * Y (ix2 k (i 1)) := by
  rw [val_main_v4_apply, Ideal.truncf_def, val_main_v3_apply, val_main_v2_apply]
  refine Finset.sum_congr rfl fun k _ => ?_
  rw [mul_comm]
  congr 1
  · refine congrArg X (funext fun a => ?_); match a with | ⟨0, _⟩ => rfl | ⟨1, _⟩ => rfl
  · refine congrArg Y (funext fun a => ?_); match a with | ⟨0, _⟩ => rfl | ⟨1, _⟩ => rfl

/-- The array of tiles is the reference's product. -/
theorem final : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  have e0 : ((win0_2.blk t).view.emb y 0).val = t.val / 2 * 512 + (y 0).val := by blk_simp [index2]
  have e1 : ((win0_2.blk t).view.emb y 1).val = t.val % 2 * 1024 + (y 1).val := by blk_simp [index2]
  rw [after0_2]
  refine (tile _ _ y).trans (Eq.trans ?_ (value _ _ _).symm)
  refine Finset.sum_congr rfl fun k _ => ?_
  congr 1
  · blk_simp [iblk]
    rw [V_0]
    refine congrArg (m ((c : Thread nD τ).loc main_arg0)) (funext fun a => Fin.ext ?_)
    match a with
    | ⟨0, _⟩ => blk_simp [index0]
    | ⟨1, _⟩ => blk_simp [index0]; exact e0.symm
  · blk_simp [iblk]
    rw [V_1]
    refine congrArg (m ((c : Thread nD τ).loc main_arg1)) (funext fun a => Fin.ext ?_)
    match a with
    | ⟨0, _⟩ => blk_simp [index1]
    | ⟨1, _⟩ => blk_simp [index1]; exact e1.symm

end Cert.OutDwIdeal.Value

end
-- ==== Proof.OutDxValue.lean ====
/- The input gradient of an output projection is the reference's. -/
module

public import proofs.«01_k».proof.Proof.Gen.OutDxIdeal.Value
public import proofs.«01_k».proof.Proof.Gen.OutDxReferenceIdeal.Read
public import Idealize.ShloMosaic.Lib.Pipeline.ValueKit.Geometry
public import Idealize.ShloMosaic.Lib.Pipeline.ValueKit.Acc
public import Idealize.ShloMosaic.Lib.StableHlo.RunRead

@[expose] public section

set_option maxRecDepth 16384

noncomputable section

namespace Cert.OutDxIdeal.Value

open Cert.OutDxIdeal Cert.OutDxIdeal.Gen
open Idealize.ShloMosaic Idealize.ShloMosaic.TcCoe Idealize.ShloMosaic.ValueIdx Idealize.ShloMosaic.Pipeline Idealize.ShloMosaic.StableHlo
open Cert.OutDxReferenceIdeal.Read

variable (m : (ℓ : Loc nD τ sig) → Buf (Elt Ideal) ℓ) (c : Dev nD)

theorem V_0 : V m c main_v0 = fun y => m ((c : Thread nD τ).loc main_arg0) y := by
  after_reads_simp
  rfl
theorem V_1 : V m c main_v1 = fun y => m ((c : Thread nD τ).loc main_arg1) y := by
  after_reads_simp
  rfl

theorem index0 : ∀ t : Fin cfg0.N, win0_0.index t = ![t.val / 2, 0] := by decide +kernel
theorem index1 : ∀ t : Fin cfg0.N, win0_1.index t = ![t.val % 2, 0] := by decide +kernel
theorem index2 : ∀ t : Fin cfg0.N, win0_2.index t = ![t.val / 2, t.val % 2] := by decide +kernel

theorem product (A : FVec Ideal S1024x2048 .bf16) (B : FVec Ideal S1024x2048 .bf16) (y : S1024x1024.Idx) :
    matmul dot_S1024x2048_S1024x2048_S1024x1024_1_1_0_0_n_n none A B (constant S1024x1024 .f32 0x00000000#32) y
      = ∑ k : Fin 2048, A (ix2 (y 0) k) * B (ix2 (y 1) k) := by
  refine (Ideal.matmul_constant_zero_apply _ none _ _ _).trans ?_
  rw [← Equiv.sum_comp (contrEquiv1 dot_S1024x2048_S1024x2048_S1024x1024_1_1_0_0_n_n 2048 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

/-- A tile's element. -/
theorem tile (A : FVec Ideal S1024x2048 .bf16) (B : FVec Ideal S1024x2048 .bf16) (y : S1024x1024.Idx) :
    out0_2 (F := Ideal) A B y = ∑ k : Fin 2048, A (ix2 (y 0) k) * B (ix2 (y 1) k) := by
  refine Eq.trans ?_ (product A B y)
  simp (disch := decide) only [out0_2, k0_pay1, View.canon_cons_unit_lit', View.ld_unit_lit', shapeCast_self, Ideal.truncf_def]
  rfl

/-- The reference's product at an index. -/
theorem value (X : (⟨S4096x2048, .f32⟩ : BufTy).Contents (Elt Ideal)) (Y : (⟨S2048x2048, .f32⟩ : BufTy).Contents (Elt Ideal)) (i : S4096x2048.Idx) :
    val_main_v3 (F := Ideal) X Y i = ∑ k : Fin 2048, X (ix2 (i 0) k) * Y (ix2 (i 1) k) := by
  rw [val_main_v3_apply, Ideal.truncf_def, val_main_v2_apply]
  refine Finset.sum_congr rfl fun k _ => ?_
  congr 1
  · refine congrArg X (funext fun a => ?_); match a with | ⟨0, _⟩ => rfl | ⟨1, _⟩ => rfl
  · refine congrArg Y (funext fun a => ?_); match a with | ⟨0, _⟩ => rfl | ⟨1, _⟩ => rfl

/-- The array of tiles is the reference's product. -/
theorem final : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  have e0 : ((win0_2.blk t).view.emb y 0).val = t.val / 2 * 1024 + (y 0).val := by blk_simp [index2]
  have e1 : ((win0_2.blk t).view.emb y 1).val = t.val % 2 * 1024 + (y 1).val := by blk_simp [index2]
  rw [after0_2]
  refine (tile _ _ y).trans (Eq.trans ?_ (value _ _ _).symm)
  refine Finset.sum_congr rfl fun k _ => ?_
  congr 1
  · blk_simp [iblk]
    rw [V_0]
    refine congrArg (m ((c : Thread nD τ).loc main_arg0)) (funext fun a => Fin.ext ?_)
    match a with
    | ⟨0, _⟩ => blk_simp [index0]; exact e0.symm
    | ⟨1, _⟩ => blk_simp [index0]
  · blk_simp [iblk]
    rw [V_1]
    refine congrArg (m ((c : Thread nD τ).loc main_arg1)) (funext fun a => Fin.ext ?_)
    match a with
    | ⟨0, _⟩ => blk_simp [index1]; exact e1.symm
    | ⟨1, _⟩ => blk_simp [index1]

end Cert.OutDxIdeal.Value

end
-- ==== Proof.InDwValue.lean ====
/- The weight gradient of an input projection is the reference's. -/
module

public import proofs.«01_k».proof.Proof.Gen.InDwIdeal.Value
public import proofs.«01_k».proof.Proof.Gen.InDwReferenceIdeal.Read
public import Idealize.ShloMosaic.Lib.Pipeline.ValueKit.Geometry
public import Idealize.ShloMosaic.Lib.Pipeline.ValueKit.Acc
public import Idealize.ShloMosaic.Lib.StableHlo.RunRead

@[expose] public section

set_option maxRecDepth 16384

noncomputable section

namespace Cert.InDwIdeal.Value

open Cert.InDwIdeal Cert.InDwIdeal.Gen
open Idealize.ShloMosaic Idealize.ShloMosaic.TcCoe Idealize.ShloMosaic.ValueIdx Idealize.ShloMosaic.Pipeline Idealize.ShloMosaic.StableHlo
open Cert.InDwReferenceIdeal.Read

variable (m : (ℓ : Loc nD τ sig) → Buf (Elt Ideal) ℓ) (c : Dev nD)

theorem V_0 : V m c main_v0 = fun y => m ((c : Thread nD τ).loc main_arg0) y := by
  after_reads_simp
  rfl
theorem V_1 : V m c main_v1 = fun y => m ((c : Thread nD τ).loc main_arg1) y := by
  after_reads_simp
  rfl

theorem index0 : ∀ t : Fin cfg0.N, win0_0.index t = ![0, t.val / 8] := by decide +kernel
theorem index1 : ∀ t : Fin cfg0.N, win0_1.index t = ![0, t.val % 8] := by decide +kernel
theorem index2 : ∀ t : Fin cfg0.N, win0_2.index t = ![t.val % 8, t.val / 8, 0] := by decide +kernel

theorem product (A : FVec Ideal S4096x512 .bf16) (B : FVec Ideal S4096x512 .bf16) (y : S512x512.Idx) :
    matmul dot_S4096x512_S4096x512_S512x512_0_0_1_1_n_n none A B (constant S512x512 .f32 0x00000000#32) y
      = ∑ k : Fin 4096, A (ix2 k (y 0)) * B (ix2 k (y 1)) := by
  refine (Ideal.matmul_constant_zero_apply _ none _ _ _).trans ?_
  rw [← Equiv.sum_comp (contrEquiv1 dot_S4096x512_S4096x512_S512x512_0_0_1_1_n_n 4096 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

/-- A tile's element. -/
theorem tile (A B : FVec Ideal S4096x512 .bf16) (y : S1x512x512.Idx) :
    out0_2 (F := Ideal) A B y = ∑ k : Fin 4096, A (ix2 k (y 1)) * B (ix2 k (y 2)) := by
  refine Eq.trans ?_ (product A B (ix2 (y 1) (y 2)))
  simp (disch := decide) only [out0_2, k0_pay1, View.canon_cons_unit_lit', View.ld_unit_lit', shapeCast_self, Ideal.truncf_def]
  refine (shapeCast_apply _ shapeCasts_S512x512_S1x512x512 y (ix2 (y 1) (y 2)) ?_).trans rfl
  have h0 : (y 0).val < 1 := (y 0).isLt
  rw [Shape.rowMajor_val_two, Shape.rowMajor_val_three]
  show (y 1).val * 512 + (y 2).val = ((y 0).val * 512 + (y 1).val) * 512 + (y 2).val
  omega

/-- A column of the wide array, by slot and place. -/
def col (i : S8x2048x512.Idx) : Fin 4096 := ⟨(i 0).val * 512 + (i 2).val, by
  have h0 : (i 0).val < 8 := (i 0).isLt
  have h2 : (i 2).val < 512 := (i 2).isLt
  omega⟩

/-- The reference's product at an index. -/
theorem value (X : (⟨S4096x2048, .f32⟩ : BufTy).Contents (Elt Ideal)) (Y : (⟨S4096x4096, .f32⟩ : BufTy).Contents (Elt Ideal)) (i : S8x2048x512.Idx) :
    val_main_v6 (F := Ideal) X Y i = ∑ k : Fin 4096, X (ix2 k (i 1)) * Y (ix2 k (col i)) := by
  have h0 : (i 0).val < 8 := (i 0).isLt
  have h1 : (i 1).val < 2048 := (i 1).isLt
  have h2 : (i 2).val < 512 := (i 2).isLt
  rw [val_main_v6_apply, Ideal.truncf_def, val_main_v5_apply, val_main_v4_apply, val_main_v3_apply, val_main_v2_apply]
  refine Finset.sum_congr rfl fun k _ => ?_
  rw [mul_comm]
  congr 1
  · refine congrArg X (funext fun a => Fin.ext ?_)
    match a with
    | ⟨0, _⟩ => rfl
    | ⟨1, _⟩ => show (((i 1).val * 8 + (i 0).val) * 512 + (i 2).val) / 4096 = (i 1).val; omega
  · refine congrArg Y (funext fun a => Fin.ext ?_)
    match a with
    | ⟨0, _⟩ => rfl
    | ⟨1, _⟩ => show (((i 1).val * 8 + (i 0).val) * 512 + (i 2).val) % 4096 = (i 0).val * 512 + (i 2).val; omega

/-- The array of tiles is the reference's product. -/
theorem final : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  have e0 : ((win0_2.blk t).view.emb y 0).val = t.val % 8 + (y 0).val := by blk_simp [index2]
  have e1 : ((win0_2.blk t).view.emb y 1).val = t.val / 8 * 512 + (y 1).val := by blk_simp [index2]
  have e2 : ((win0_2.blk t).view.emb y 2).val = (y 2).val := by blk_simp [index2]
  have h0 : (y 0).val < 1 := (y 0).isLt
  rw [after0_2]
  refine (tile _ _ y).trans (Eq.trans ?_ (value _ _ _).symm)
  refine Finset.sum_congr rfl fun k _ => ?_
  congr 1
  · blk_simp [iblk]
    rw [V_0]
    refine congrArg (m ((c : Thread nD τ).loc main_arg0)) (funext fun a => Fin.ext ?_)
    match a with
    | ⟨0, _⟩ => blk_simp [index0]
    | ⟨1, _⟩ => blk_simp [index0]; exact e1.symm
  · blk_simp [iblk]
    rw [V_1]
    refine congrArg (m ((c : Thread nD τ).loc main_arg1)) (funext fun a => Fin.ext ?_)
    match a with
    | ⟨0, _⟩ => blk_simp [index1]
    | ⟨1, _⟩ => blk_simp [index1]; show t.val % 8 * 512 + (y 2).val = ((win0_2.blk t).view.emb y 0).val * 512 + ((win0_2.blk t).view.emb y 2).val; rw [e0, e2]; omega

end Cert.InDwIdeal.Value

end
-- ==== Proof.InDxValue.lean ====
/- The input gradient of an input projection is the reference's. -/
module

public import proofs.«01_k».proof.Proof.Gen.InDxIdeal.Value
public import proofs.«01_k».proof.Proof.Gen.InDxReferenceIdeal.Read
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.StableHlo.RunRead

@[expose] public section

set_option maxRecDepth 16384

noncomputable section

namespace Cert.InDxIdeal.Value

open Cert.InDxIdeal Cert.InDxIdeal.Gen
open Idealize.ShloMosaic Idealize.ShloMosaic.TcCoe Idealize.ShloMosaic.ValueIdx Idealize.ShloMosaic.Pipeline Idealize.ShloMosaic.StableHlo
open Cert.InDxReferenceIdeal.Read

variable (m : (ℓ : Loc nD τ sig) → Buf (Elt Ideal) ℓ) (c : Dev nD)

theorem V_0 : V m c main_v0 = fun y => m ((c : Thread nD τ).loc main_arg0) y := by
  after_reads_simp
  rfl
theorem V_1 : V m c main_v1 = fun y => m ((c : Thread nD τ).loc main_arg1) y := by
  after_reads_simp
  rfl

theorem index0 : ∀ t : Fin cfg0.N, win0_0.index t = ![t.val / 2, 0] := by decide +kernel
theorem index1 : ∀ t : Fin cfg0.N, win0_1.index t = ![0, t.val % 2, 0] := by decide +kernel
theorem index2 : ∀ t : Fin cfg0.N, win0_2.index t = ![t.val / 2, t.val % 2] := by decide +kernel

theorem product (A : FVec Ideal S512x512 .bf16) (B : FVec Ideal S1024x512 .bf16) (y : S512x1024.Idx) :
    matmul dot_S512x512_S1024x512_S512x1024_1_1_0_0_n_n none A B (constant S512x1024 .f32 0x00000000#32) y
      = ∑ k : Fin 512, A (ix2 (y 0) k) * B (ix2 (y 1) k) := by
  refine (Ideal.matmul_constant_zero_apply _ none _ _ _).trans ?_
  rw [← Equiv.sum_comp (contrEquiv1 dot_S512x512_S1024x512_S512x1024_1_1_0_0_n_n 512 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

/-- One slot's product, its factors loaded at column `p` and slot `q`. -/
abbrev slotDot (A : FVec Ideal S512x4096 .bf16) (B : FVec Ideal S8x1024x512 .bf16) (p q : Nat)
    (ha : ∀ a, (![0, p] : Fin S512x4096.rank → Nat) a + S512x512.size a ≤ S512x4096.size a)
    (hb : ∀ a, (![q, 0, 0] : Fin S8x1024x512.rank → Nat) a + S1x1024x512.size a ≤ S8x1024x512.size a) : FVec Ideal S512x1024 .f32 :=
  matmul (φ₁ := .bf16) (φ₂ := .bf16) dot_S512x512_S1024x512_S512x1024_1_1_0_0_n_n none (View.ld (Val := Elt Ideal) (e' := .bf16) A (Rect.unit (s := S512x4096) ![0, p] S512x512.size ha) : FVec Ideal S512x512 .bf16)
    (shapeCast (α := Elt Ideal .bf16) S1024x512 (View.ld (Val := Elt Ideal) (e' := .bf16) B (Rect.unit (s := S8x1024x512) ![q, 0, 0] S1x1024x512.size hb) : FVec Ideal S1x1024x512 .bf16) shapeCasts_S1x1024x512_S1024x512)
    (constant S512x1024 .f32 0x00000000#32)

/-- The column of slot `s` at place `j`. -/
def col (s : Fin 8) (j : Fin 512) : Fin 4096 := ⟨s.val * 512 + j.val, by omega⟩

/-- It is that slot's sum. -/
theorem slotSum (A : FVec Ideal S512x4096 .bf16) (B : FVec Ideal S8x1024x512 .bf16) (p q : Nat) (ha) (hb) (y : S512x1024.Idx)
    (s : Fin 8) (hp : p = s.val * 512) (hq : q = s.val) :
    slotDot A B p q ha hb y = ∑ k : Fin 512, A (ix2 (y 0) (col s k)) * B (ix3 s (y 1) k) := by
  refine (product _ _ y).trans (Finset.sum_congr rfl fun k _ => ?_)
  congr 1
  · refine View.ld_unit_apply_of (S := S512x4096) (Val := Elt Ideal) (e := .bf16) A _ _ _ _ (ix2 (y 0) (col s k)) fun a => ?_
    match a with
    | ⟨0, _⟩ => show (y 0).val = 0 + (y 0).val; omega
    | ⟨1, _⟩ => show s.val * 512 + k.val = p + k.val; omega
  · refine (shapeCast_apply _ shapeCasts_S1x1024x512_S1024x512 (ix2 (y 1) k) (ix3 0 (y 1) k) ?_).trans ?_
    · rw [Shape.rowMajor_val_two, Shape.rowMajor_val_three]
      show (0 * 1024 + (y 1).val) * 512 + k.val = (y 1).val * 512 + k.val
      omega
    · refine View.ld_unit_apply_of (S := S8x1024x512) (Val := Elt Ideal) (e := .bf16) B _ _ _ _ (ix3 s (y 1) k) fun a => ?_
      match a with
      | ⟨0, _⟩ => show s.val = q + 0; omega
      | ⟨1, _⟩ => show (y 1).val = 0 + (y 1).val; omega
      | ⟨2, _⟩ => show k.val = 0 + k.val; omega

/-- A sum over the columns is the sum over the slots of the sums over their places. -/
theorem sum_slots (f : Fin 4096 → EReal) : ∑ k, f k = ∑ s : Fin 8, ∑ j : Fin 512, f (col s j) := by
  rw [← Fintype.sum_prod_type', ← Equiv.sum_comp (finProdFinEquiv (m := 8) (n := 512))]
  refine Finset.sum_congr rfl fun x _ => congrArg f (Fin.ext ?_)
  show x.2.val + 512 * x.1.val = x.1.val * 512 + x.2.val
  omega

/-- A column's slot, and its place in it. -/
def slot (k : Fin 4096) : Fin 8 := ⟨k.val / 512, by omega⟩
def place (k : Fin 4096) : Fin 512 := ⟨k.val % 512, by omega⟩
theorem slot_col (s : Fin 8) (j : Fin 512) : slot (col s j) = s := Fin.ext (by show (s.val * 512 + j.val) / 512 = s.val; omega)
theorem place_col (s : Fin 8) (j : Fin 512) : place (col s j) = j := Fin.ext (by show (s.val * 512 + j.val) % 512 = j.val; omega)

/-- A tile's element. -/
theorem tile (A : FVec Ideal S512x4096 .bf16) (B : FVec Ideal S8x1024x512 .bf16) (y : S512x1024.Idx) :
    out0_2 (F := Ideal) A B y = ∑ k : Fin 4096, A (ix2 (y 0) k) * B (ix3 (slot k) (y 1) (place k)) := by
  rw [sum_slots]
  simp only [slot_col, place_col]
  rw [Fin.sum_univ_eight]
  simp (disch := decide) only [out0_2, k0_pay1, k0_pay2, k0_pay3, k0_pay4, View.canon_cons_unit_lit', shapeCast_self]
  refine Eq.trans rfl (congrArg₂ (· + ·) (congrArg₂ (· + ·) (congrArg₂ (· + ·) (congrArg₂ (· + ·) (congrArg₂ (· + ·) (congrArg₂ (· + ·) (congrArg₂ (· + ·)
    (slotSum A B 0 0 inb_S512x4096_S512x512_0_0 inb_S8x1024x512_S1x1024x512_0_0_0 y 0 rfl rfl)
    (slotSum A B 512 1 inb_S512x4096_S512x512_0_512 inb_S8x1024x512_S1x1024x512_1_0_0 y 1 rfl rfl))
    (slotSum A B 1024 2 inb_S512x4096_S512x512_0_1024 inb_S8x1024x512_S1x1024x512_2_0_0 y 2 rfl rfl))
    (slotSum A B 1536 3 inb_S512x4096_S512x512_0_1536 inb_S8x1024x512_S1x1024x512_3_0_0 y 3 rfl rfl))
    (slotSum A B 2048 4 inb_S512x4096_S512x512_0_2048 inb_S8x1024x512_S1x1024x512_4_0_0 y 4 rfl rfl))
    (slotSum A B 2560 5 inb_S512x4096_S512x512_0_2560 inb_S8x1024x512_S1x1024x512_5_0_0 y 5 rfl rfl))
    (slotSum A B 3072 6 inb_S512x4096_S512x512_0_3072 inb_S8x1024x512_S1x1024x512_6_0_0 y 6 rfl rfl))
    (slotSum A B 3584 7 inb_S512x4096_S512x512_0_3584 inb_S8x1024x512_S1x1024x512_7_0_0 y 7 rfl rfl))

/-- The reference's product at an index. -/
theorem value (X : (⟨S4096x4096, .f32⟩ : BufTy).Contents (Elt Ideal)) (W : (⟨S8x2048x512, .f32⟩ : BufTy).Contents (Elt Ideal)) (i : S4096x2048.Idx) :
    val_main_v5 (F := Ideal) X W i = ∑ k : Fin 4096, X (ix2 (i 0) k) * W (ix3 (slot k) (i 1) (place k)) := by
  have h1 : (i 1).val < 2048 := (i 1).isLt
  rw [val_main_v5_apply, Ideal.truncf_def, val_main_v4_apply]
  refine Finset.sum_congr rfl fun k _ => ?_
  rw [val_main_v1_apply, val_main_v0_apply]
  congr 1
  · refine congrArg X (funext fun a => ?_); match a with | ⟨0, _⟩ => rfl | ⟨1, _⟩ => rfl
  · refine congrArg W (funext fun a => Fin.ext ?_)
    match a with
    | ⟨0, _⟩ => show ((i 1).val * 4096 + k.val) / 512 % 8 = k.val / 512; omega
    | ⟨1, _⟩ => show ((i 1).val * 4096 + k.val) / 4096 = (i 1).val; omega
    | ⟨2, _⟩ => show ((i 1).val * 4096 + k.val) % 512 = k.val % 512; omega

/-- The array of tiles is the reference's product. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  have e0 : ((win0_2.blk t).view.emb y 0).val = t.val / 2 * 512 + (y 0).val := by blk_simp [index2]
  have e1 : ((win0_2.blk t).view.emb y 1).val = t.val % 2 * 1024 + (y 1).val := by blk_simp [index2]
  rw [after0_2]
  refine (tile _ _ y).trans (Eq.trans ?_ (value _ _ _).symm)
  refine Finset.sum_congr rfl fun k _ => ?_
  congr 1
  · blk_simp [iblk]
    rw [V_0]
    refine congrArg (m ((c : Thread nD τ).loc main_arg0)) (funext fun a => Fin.ext ?_)
    match a with
    | ⟨0, _⟩ => blk_simp [index0]; exact e0.symm
    | ⟨1, _⟩ => blk_simp [index0]
  · blk_simp [iblk]
    rw [V_1]
    refine congrArg (m ((c : Thread nD τ).loc main_arg1)) (funext fun a => Fin.ext ?_)
    match a with
    | ⟨0, _⟩ => blk_simp [index1]
    | ⟨1, _⟩ => blk_simp [index1]; exact e1.symm
    | ⟨2, _⟩ => blk_simp [index1]

end Cert.InDxIdeal.Value

end
-- ==== Proof.KvDwValue.lean ====
/- The gradient of the key and value weight is the reference's. -/
module

public import proofs.«01_k».proof.Proof.Gen.KvDwIdeal.Value
public import proofs.«01_k».proof.Proof.Gen.KvDwReferenceIdeal.Read
public import Idealize.ShloMosaic.Lib.Pipeline.ValueKit.Geometry
public import Idealize.ShloMosaic.Lib.Pipeline.ValueKit.Acc
public import Idealize.ShloMosaic.Lib.StableHlo.RunRead

@[expose] public section

set_option maxRecDepth 16384

noncomputable section

namespace Cert.KvDwIdeal.Value

open Cert.KvDwIdeal Cert.KvDwIdeal.Gen
open Idealize.ShloMosaic Idealize.ShloMosaic.TcCoe Idealize.ShloMosaic.ValueIdx Idealize.ShloMosaic.Pipeline Idealize.ShloMosaic.StableHlo
open Cert.KvDwReferenceIdeal.Read

variable (m : (ℓ : Loc nD τ sig) → Buf (Elt Ideal) ℓ) (c : Dev nD)

theorem V_0 : V m c main_v0 = fun y => m ((c : Thread nD τ).loc main_arg0) y := by
  after_reads_simp
  rfl
theorem V_1 : V m c main_v1 = fun y => m ((c : Thread nD τ).loc main_arg1) y := by
  after_reads_simp
  rfl

theorem index0 : ∀ t : Fin cfg0.N, win0_0.index t = ![0, t.val / 2] := by decide +kernel
theorem index1 : ∀ t : Fin cfg0.N, win0_1.index t = ![0, t.val % 2] := by decide +kernel
theorem index2 : ∀ t : Fin cfg0.N, win0_2.index t = ![t.val / 2, t.val % 2] := by decide +kernel

theorem product (A : FVec Ideal S4096x512 .bf16) (B : FVec Ideal S4096x1024 .bf16) (y : S512x1024.Idx) :
    matmul dot_S4096x512_S4096x1024_S512x1024_0_0_1_1_n_n none A B (constant S512x1024 .f32 0x00000000#32) y
      = ∑ k : Fin 4096, A (ix2 k (y 0)) * B (ix2 k (y 1)) := by
  refine (Ideal.matmul_constant_zero_apply _ none _ _ _).trans ?_
  rw [← Equiv.sum_comp (contrEquiv1 dot_S4096x512_S4096x1024_S512x1024_0_0_1_1_n_n 4096 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

/-- A tile's element. -/
theorem tile (A : FVec Ideal S4096x512 .bf16) (B : FVec Ideal S4096x1024 .bf16) (y : S512x1024.Idx) :
    out0_2 (F := Ideal) A B y = ∑ k : Fin 4096, A (ix2 k (y 0)) * B (ix2 k (y 1)) := by
  refine Eq.trans ?_ (product A B y)
  simp (disch := decide) only [out0_2, k0_pay1, View.canon_cons_unit_lit', View.ld_unit_lit', shapeCast_self, Ideal.truncf_def]
  rfl

/-- The reference's product at an index. -/
theorem value (X : (⟨S4096x4096, .f32⟩ : BufTy).Contents (Elt Ideal)) (Y : (⟨S4096x2048, .f32⟩ : BufTy).Contents (Elt Ideal)) (i : S4096x2048.Idx) :
    val_main_v5 (F := Ideal) X Y i = ∑ k : Fin 4096, X (ix2 k (i 0)) * Y (ix2 k (i 1)) := by
  rw [val_main_v5_apply, Ideal.truncf_def, val_main_v4_apply, val_main_v3_apply, val_main_v2_apply]
  refine Finset.sum_congr rfl fun k _ => ?_
  congr 1
  · refine congrArg X (funext fun a => ?_); match a with | ⟨0, _⟩ => rfl | ⟨1, _⟩ => rfl
  · refine congrArg Y (funext fun a => ?_); match a with | ⟨0, _⟩ => rfl | ⟨1, _⟩ => rfl

/-- The array of tiles is the reference's product. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  have e0 : ((win0_2.blk t).view.emb y 0).val = t.val / 2 * 512 + (y 0).val := by blk_simp [index2]
  have e1 : ((win0_2.blk t).view.emb y 1).val = t.val % 2 * 1024 + (y 1).val := by blk_simp [index2]
  rw [after0_2]
  refine (tile _ _ y).trans (Eq.trans ?_ (value _ _ _).symm)
  refine Finset.sum_congr rfl fun k _ => ?_
  congr 1
  · blk_simp [iblk]
    rw [V_0]
    refine congrArg (m ((c : Thread nD τ).loc main_arg0)) (funext fun a => Fin.ext ?_)
    match a with
    | ⟨0, _⟩ => blk_simp [index0]
    | ⟨1, _⟩ => blk_simp [index0]; exact e0.symm
  · blk_simp [iblk]
    rw [V_1]
    refine congrArg (m ((c : Thread nD τ).loc main_arg1)) (funext fun a => Fin.ext ?_)
    match a with
    | ⟨0, _⟩ => blk_simp [index1]
    | ⟨1, _⟩ => blk_simp [index1]; exact e1.symm

end Cert.KvDwIdeal.Value

end
-- ==== Proof.KvDxValue.lean ====
/- The input gradient of the keys and values is the reference's. -/
module

public import proofs.«01_k».proof.Proof.Gen.KvDxIdeal.Value
public import proofs.«01_k».proof.Proof.Gen.KvDxReferenceIdeal.Read
public import Idealize.ShloMosaic.Lib.Pipeline.ValueKit.Geometry
public import Idealize.ShloMosaic.Lib.Pipeline.ValueKit.Acc
public import Idealize.ShloMosaic.Lib.StableHlo.RunRead

@[expose] public section

set_option maxRecDepth 16384

noncomputable section

namespace Cert.KvDxIdeal.Value

open Cert.KvDxIdeal Cert.KvDxIdeal.Gen
open Idealize.ShloMosaic Idealize.ShloMosaic.TcCoe Idealize.ShloMosaic.ValueIdx Idealize.ShloMosaic.Pipeline Idealize.ShloMosaic.StableHlo
open Cert.KvDxReferenceIdeal.Read

variable (m : (ℓ : Loc nD τ sig) → Buf (Elt Ideal) ℓ) (c : Dev nD)

theorem V_0 : V m c main_v0 = fun y => m ((c : Thread nD τ).loc main_arg0) y := by
  after_reads_simp
  rfl
theorem V_1 : V m c main_v1 = fun y => m ((c : Thread nD τ).loc main_arg1) y := by
  after_reads_simp
  rfl
theorem V_2 : V m c main_v2 = fun y => m ((c : Thread nD τ).loc main_arg2) y := by
  after_reads_simp
  rfl

theorem index0 : ∀ t : Fin cfg0.N, win0_0.index t = ![t.val / 2, 0] := by decide +kernel
theorem index1 : ∀ t : Fin cfg0.N, win0_1.index t = ![0, t.val % 2] := by decide +kernel
theorem index2 : ∀ t : Fin cfg0.N, win0_2.index t = ![t.val / 2, t.val % 2] := by decide +kernel
theorem index3 : ∀ t : Fin cfg0.N, win0_3.index t = ![t.val / 2, t.val % 2] := by decide +kernel

theorem product (A : FVec Ideal S512x4096 .bf16) (B : FVec Ideal S4096x1024 .bf16) (y : S512x1024.Idx) :
    matmul dot_S512x4096_S4096x1024_S512x1024_1_0_0_1_n_n none A B (constant S512x1024 .f32 0x00000000#32) y
      = ∑ k : Fin 4096, A (ix2 (y 0) k) * B (ix2 k (y 1)) := by
  refine (Ideal.matmul_constant_zero_apply _ none _ _ _).trans ?_
  rw [← Equiv.sum_comp (contrEquiv1 dot_S512x4096_S4096x1024_S512x1024_1_0_0_1_n_n 4096 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

/-- The sum an element of a tile is. -/
def rowSum (A : FVec Ideal S512x4096 .bf16) (B : FVec Ideal S4096x1024 .bf16) (D : FVec Ideal S512x1024 .bf16) (y : S512x1024.Idx) : Ideal .f32 :=
  (∑ k : Fin 4096, A (ix2 (y 0) k) * B (ix2 k (y 1))) + D y

/-- A tile's element. -/
theorem tile (t : Fin cfg0.N) (y : S512x1024.Idx) :
    outsAt0 (F := Ideal) m c t y = rowSum (iblk m c 0 t) (X0_1 m c t) (iblk m c 2 t) y := by
  unfold rowSum
  rw [← product (iblk m c 0 t) (X0_1 m c t) y]
  unfold outsAt0
  generalize X0_1 m c t = B
  frame_out [k0_pay1, shapeCast_self]
  rfl

/-- The reference at an index. -/
theorem value (X : (⟨S4096x4096, .f32⟩ : BufTy).Contents (Elt Ideal)) (W : (⟨S4112x2048, .f32⟩ : BufTy).Contents (Elt Ideal))
    (D : (⟨S4096x2048, .f32⟩ : BufTy).Contents (Elt Ideal)) (i : S4096x2048.Idx) :
    val_main_v6 (F := Ideal) X W D i = (∑ k : Fin 4096, X (ix2 (i 0) k) * W (ix2 (k.castLE (by decide)) (i 1))) + D i := by
  rw [val_main_v6_apply, Ideal.truncf_def, val_main_v5_apply, val_main_v4_apply]
  refine congrArg (· + D i) (Finset.sum_congr rfl fun k _ => ?_)
  rw [val_main_v1_apply, val_main_v0_apply]
  congr 1
  · refine congrArg X (funext fun a => ?_); match a with | ⟨0, _⟩ => rfl | ⟨1, _⟩ => rfl
  · refine congrArg W (funext fun a => ?_); match a with | ⟨0, _⟩ => rfl | ⟨1, _⟩ => rfl

/-- The weight's block, nowhere cut. -/
theorem whole1 (t : Fin cfg0.N) (j : S4096x1024.Idx) : X0_1 (F := Ideal) m c t j = iblk m c 1 t (fun a => ⟨(j a).val, (((cfg0.win 1).moved_iff _ j).mp (moved0_1 t j)) a⟩) := by
  unfold X0_1 Window.fill
  rw [dif_pos (moved0_1 t j)]

/-- The array of tiles is the reference's gradient. -/
theorem final : (dats m 0 c).arrAt 3 cfg0.N
    = val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have e0 : ((win0_3.blk t).view.emb y 0).val = t.val / 2 * 512 + (y 0).val := by blk_simp [index3]
  have e1 : ((win0_3.blk t).view.emb y 1).val = t.val % 2 * 1024 + (y 1).val := by blk_simp [index3]
  rw [after0_3]
  refine (tile m c t y).trans (Eq.trans ?_ (value _ _ _ _).symm)
  unfold rowSum
  refine congrArg₂ (· + ·) (Finset.sum_congr rfl fun k _ => congrArg₂ (· * ·) ?_ ?_) ?_
  · blk_simp [iblk]
    rw [V_0]
    refine congrArg (m ((c : Thread nD τ).loc main_arg0)) (funext fun a => Fin.ext ?_)
    match a with
    | ⟨0, _⟩ => blk_simp [index0]; exact e0.symm
    | ⟨1, _⟩ => blk_simp [index0]
  · rw [whole1]
    blk_simp [iblk]
    rw [V_1]
    refine congrArg (m ((c : Thread nD τ).loc main_arg1)) (funext fun a => Fin.ext ?_)
    match a with
    | ⟨0, _⟩ => blk_simp [index1]; rfl
    | ⟨1, _⟩ => blk_simp [index1]; exact e1.symm
  · blk_simp [iblk]
    rw [V_2]
    refine congrArg (m ((c : Thread nD τ).loc main_arg2)) (funext fun a => Fin.ext ?_)
    match a with
    | ⟨0, _⟩ => blk_simp [index2, index3]
    | ⟨1, _⟩ => blk_simp [index2, index3]

end Cert.KvDxIdeal.Value

end
-- ==== Proof.GluDxValue.lean ====
/- The gradient through the gated unit and the gelu before it is the reference's. -/
module

public import proofs.«01_k».proof.Proof.Gen.GluDxIdeal.Value
public import proofs.«01_k».proof.Proof.Gen.GluDxReferenceIdeal.Read
public import Idealize.ShloMosaic.Lib.Pipeline.ValueKit.Geometry
public import Idealize.ShloMosaic.Lib.Pipeline.ValueKit.Acc
public import Idealize.ShloMosaic.Lib.StableHlo.RunRead

@[expose] public section

set_option maxRecDepth 16384

noncomputable section

namespace Cert.GluDxIdeal.Value

open Cert.GluDxIdeal Cert.GluDxIdeal.Gen
open Idealize.ShloMosaic Idealize.ShloMosaic.TcCoe Idealize.ShloMosaic.ValueIdx Idealize.ShloMosaic.Pipeline Idealize.ShloMosaic.StableHlo
open Cert.GluDxReferenceIdeal.Read

variable (m : (ℓ : Loc nD τ sig) → Buf (Elt Ideal) ℓ) (c : Dev nD)

theorem V_0 : V m c main_v0 = fun y => m ((c : Thread nD τ).loc main_arg0) y := by
  after_reads_simp
  rfl
theorem V_1 : V m c main_v1 = fun y => m ((c : Thread nD τ).loc main_arg1) y := by
  after_reads_simp
  rfl
theorem V_2 : V m c main_v2 = fun y => m ((c : Thread nD τ).loc main_arg2) y := by
  after_reads_simp
  rfl
theorem V_3 : V m c main_v3 = fun y => m ((c : Thread nD τ).loc main_arg3) y := by
  after_reads_simp
  rfl

theorem index0 : ∀ t : Fin cfg0.N, win0_0.index t = ![t.val / 2, 0] := by decide +kernel
theorem index1 : ∀ t : Fin cfg0.N, win0_1.index t = ![t.val % 2, 0] := by decide +kernel
theorem index2 : ∀ t : Fin cfg0.N, win0_2.index t = ![t.val / 2, t.val % 2] := by decide +kernel
theorem index3 : ∀ t : Fin cfg0.N, win0_3.index t = ![t.val / 2, t.val % 2] := by decide +kernel
theorem index4 : ∀ t : Fin cfg0.N, win0_4.index t = ![t.val / 2, t.val % 2] := by decide +kernel

theorem product (A : FVec Ideal S1024x2048 .bf16) (B : FVec Ideal S1024x2048 .bf16) (y : S1024x1024.Idx) :
    matmul dot_S1024x2048_S1024x2048_S1024x1024_1_1_0_0_n_n none A B (constant S1024x1024 .f32 0x00000000#32) y
      = ∑ k : Fin 2048, A (ix2 (y 0) k) * B (ix2 (y 1) k) := by
  refine (Ideal.matmul_constant_zero_apply _ none _ _ _).trans ?_
  rw [← Equiv.sum_comp (contrEquiv1 dot_S1024x2048_S1024x2048_S1024x1024_1_1_0_0_n_n 2048 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

/-- The tanh inside gelu at `y`, the cube bracketed either way. -/
def inner (y cube : Ideal .f32) : Ideal .f32 :=
  FloatOps.tanh (FloatOps.mulf (FloatOps.ofBits .f32 0x3F4C422A#32)
    (FloatOps.addf y (FloatOps.mulf (FloatOps.ofBits .f32 0x3D372713#32) cube)))

/-- The gradient of gelu at `y` of the incoming gradient `g`, `t` being the tanh. -/
def chain (y t g : Ideal .f32) : Ideal .f32 :=
  let p := FloatOps.mulf g (FloatOps.mulf (FloatOps.ofBits .f32 0x3F000000#32) (FloatOps.addf (FloatOps.ofBits .f32 0x3F800000#32) t))
  let q := FloatOps.mulf (FloatOps.ofBits .f32 0x3F4C422A#32) (FloatOps.mulf
    (FloatOps.mulf (FloatOps.ofBits .f32 0x3F000000#32) (FloatOps.mulf y g))
    (FloatOps.mulf (FloatOps.addf (FloatOps.ofBits .f32 0x3F800000#32) t) (FloatOps.subf (FloatOps.ofBits .f32 0x3F800000#32) t)))
  FloatOps.addf (FloatOps.addf p q) (FloatOps.mulf (FloatOps.mulf (FloatOps.ofBits .f32 0x3D372713#32) q)
    (FloatOps.mulf (FloatOps.ofBits .f32 0x40400000#32) (FloatOps.mulf y y)))

/-- A tile's element. -/
theorem tile (A B : FVec Ideal S1024x2048 .bf16) (C Y : FVec Ideal S1024x1024 .bf16) (y : S1024x1024.Idx) :
    out0_4 (F := Ideal) A B C Y y = chain (Y y) (inner (Y y) (Y y * (Y y * Y y))) ((∑ k : Fin 2048, A (ix2 (y 0) k) * B (ix2 (y 1) k)) + C y) := by
  rw [← product A B y]
  simp (disch := decide) only [out0_4, k0_pay1, k0_pay2, k0_pay3, k0_pay4, k0_pay5, k0_pay6, k0_pay7, View.canon_cons_unit_lit', View.ld_unit_lit', shapeCast_self]
  rfl

/-- The reference at an index. -/
theorem value (X Y0 : (⟨S4096x2048, .f32⟩ : BufTy).Contents (Elt Ideal)) (W : (⟨S2048x2048, .f32⟩ : BufTy).Contents (Elt Ideal))
    (Y : (⟨S4096x2048, .f32⟩ : BufTy).Contents (Elt Ideal)) (i : S4096x2048.Idx) :
    val_main_v36 (F := Ideal) X W Y0 Y i = chain (Y i) (inner (Y i) (Y i * (Y i * Y i))) ((∑ k : Fin 2048, X (ix2 (i 0) k) * W (ix2 (i 1) k)) + Y0 i) := by
  have h : val_main_v22 (F := Ideal) X W i = ∑ k : Fin 2048, X (ix2 (i 0) k) * W (ix2 (i 1) k) := by
    rw [val_main_v22_apply]
    refine Finset.sum_congr rfl fun k _ => ?_
    congr 1
    · refine congrArg X (funext fun a => ?_); match a with | ⟨0, _⟩ => rfl | ⟨1, _⟩ => rfl
    · refine congrArg W (funext fun a => ?_); match a with | ⟨0, _⟩ => rfl | ⟨1, _⟩ => rfl
  rw [← h, add_comm, mul_comm (Y i) (Y i * Y i)]
  generalize hp : val_main_v22 (F := Ideal) X W = P
  simp only [val_main_v0_apply, val_main_v1_apply, val_main_v2_apply, val_main_cst_apply, val_main_v3_apply, val_main_v4_apply, val_main_cst_0_apply, val_main_v5_apply, val_main_v6_apply, val_main_v7_apply, val_main_cst_1_apply, val_main_v8_apply, val_main_v9_apply, val_main_v10_apply, val_main_cst_2_apply, val_main_v11_apply, val_main_v12_apply, val_main_cst_3_apply, val_main_v13_apply, val_main_v14_apply, val_main_v15_apply, val_main_cst_4_apply, val_main_v16_apply, val_main_v17_apply, val_main_cst_5_apply, val_main_v18_apply, val_main_v19_apply, val_main_v23_apply, val_main_v24_apply, val_main_v25_apply, val_main_cst_6_apply, val_main_v26_apply, val_main_v27_apply, val_main_v28_apply, val_main_cst_7_apply, val_main_v29_apply, val_main_v30_apply, val_main_v31_apply, val_main_cst_8_apply, val_main_v32_apply, val_main_v33_apply, val_main_v34_apply, val_main_v35_apply, val_main_v36_apply, hp]
  rfl

/-- The array of tiles is the reference's gradient. -/
theorem final : (dats m 0 c).arrAt 4 cfg0.N
    = val_main_v36 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  have e0 : ((win0_4.blk t).view.emb y 0).val = t.val / 2 * 1024 + (y 0).val := by blk_simp [index4]
  have e1 : ((win0_4.blk t).view.emb y 1).val = t.val % 2 * 1024 + (y 1).val := by blk_simp [index4]
  have h2 : iblk m c 2 t y = m ((c : Thread nD τ).loc main_arg2) ((win0_4.blk t).view.emb y) := by
    blk_simp [iblk]
    rw [V_2]
    refine congrArg (m ((c : Thread nD τ).loc main_arg2)) (funext fun a => Fin.ext ?_)
    match a with
    | ⟨0, _⟩ => blk_simp [index2, index4]
    | ⟨1, _⟩ => blk_simp [index2, index4]
  have h3 : iblk m c 3 t y = m ((c : Thread nD τ).loc main_arg3) ((win0_4.blk t).view.emb y) := by
    blk_simp [iblk]
    rw [V_3]
    refine congrArg (m ((c : Thread nD τ).loc main_arg3)) (funext fun a => Fin.ext ?_)
    match a with
    | ⟨0, _⟩ => blk_simp [index3, index4]
    | ⟨1, _⟩ => blk_simp [index3, index4]
  rw [after0_4]
  refine (tile _ _ _ _ y).trans (Eq.trans ?_ (value _ _ _ _ _).symm)
  rw [h2, h3]
  congr 2
  refine Finset.sum_congr rfl fun k _ => ?_
  congr 1
  · blk_simp [iblk]
    rw [V_0]
    refine congrArg (m ((c : Thread nD τ).loc main_arg0)) (funext fun a => Fin.ext ?_)
    match a with
    | ⟨0, _⟩ => blk_simp [index0]; exact e0.symm
    | ⟨1, _⟩ => blk_simp [index0]
  · blk_simp [iblk]
    rw [V_1]
    refine congrArg (m ((c : Thread nD τ).loc main_arg1)) (funext fun a => Fin.ext ?_)
    match a with
    | ⟨0, _⟩ => blk_simp [index1]; exact e1.symm
    | ⟨1, _⟩ => blk_simp [index1]

end Cert.GluDxIdeal.Value

end
-- ==== Proof.InUValue.lean ====
/- The left half of an input projection is the reference's. -/
module

public import proofs.«01_k».proof.Proof.Gen.InUIdeal.Value
public import proofs.«01_k».proof.Proof.Gen.InUReferenceIdeal.Read
public import Idealize.ShloMosaic.Lib.Pipeline.ValueKit.Geometry
public import Idealize.ShloMosaic.Lib.Pipeline.ValueKit.Acc
public import Idealize.ShloMosaic.Lib.StableHlo.RunRead

@[expose] public section

set_option maxRecDepth 16384

noncomputable section

namespace Cert.InUIdeal.Value

open Cert.InUIdeal Cert.InUIdeal.Gen
open Idealize.ShloMosaic Idealize.ShloMosaic.TcCoe Idealize.ShloMosaic.ValueIdx Idealize.ShloMosaic.Pipeline Idealize.ShloMosaic.StableHlo
open Cert.InUReferenceIdeal.Read

variable (m : (ℓ : Loc nD τ sig) → Buf (Elt Ideal) ℓ) (c : Dev nD)

theorem V_0 : V m c main_v0 = fun y => m ((c : Thread nD τ).loc main_arg0) y := by
  after_reads_simp
  rfl
theorem V_1 : V m c main_v1 = fun y => m ((c : Thread nD τ).loc main_arg1) y := by
  after_reads_simp
  rfl

theorem index0 : ∀ t : Fin cfg0.N, win0_0.index t = ![t.val / 4, 0] := by decide +kernel
theorem index1 : ∀ t : Fin cfg0.N, win0_1.index t = ![t.val % 4, 0, 0] := by decide +kernel
theorem index2 : ∀ t : Fin cfg0.N, win0_2.index t = ![t.val / 4, t.val % 4] := by decide +kernel

theorem product (A : FVec Ideal S1024x2048 .bf16) (B : FVec Ideal S2048x512 .bf16) (y : S1024x512.Idx) :
    matmul dot_S1024x2048_S2048x512_S1024x512_1_0_0_1_n_n none A B (constant S1024x512 .f32 0x00000000#32) y
      = ∑ k : Fin 2048, A (ix2 (y 0) k) * B (ix2 k (y 1)) := by
  refine (Ideal.matmul_constant_zero_apply _ none _ _ _).trans ?_
  rw [← Equiv.sum_comp (contrEquiv1 dot_S1024x2048_S2048x512_S1024x512_1_0_0_1_n_n 2048 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

/-- A tile's element. -/
theorem tile (A : FVec Ideal S1024x2048 .bf16) (B : FVec Ideal S1x2048x512 .bf16) (y : S1024x512.Idx) :
    out0_2 (F := Ideal) A B y = ∑ k : Fin 2048, A (ix2 (y 0) k) * B (ix3 0 k (y 1)) := by
  refine Eq.trans (b := matmul dot_S1024x2048_S2048x512_S1024x512_1_0_0_1_n_n none A (shapeCast S2048x512 B shapeCasts_S1x2048x512_S2048x512) (constant S1024x512 .f32 0x00000000#32) y) ?_ ?_
  · simp (disch := decide) only [out0_2, k0_pay1, View.canon_cons_unit_lit', View.ld_unit_lit', shapeCast_self, Ideal.truncf_def]
    rfl
  refine (product _ _ y).trans ?_
  refine Finset.sum_congr rfl fun k _ => ?_
  congr 1
  refine shapeCast_apply _ shapeCasts_S1x2048x512_S2048x512 (ix2 k (y 1)) (ix3 0 k (y 1)) ?_
  rw [Shape.rowMajor_val_two, Shape.rowMajor_val_three]
  show (0 * 2048 + k.val) * 512 + (y 1).val = k.val * 512 + (y 1).val
  omega

/-- A column's slot, and its place in it. -/
def slot (i : S4096x2048.Idx) : Fin 8 := ⟨(i 1).val / 512 + 0, by have h1 : (i 1).val < 2048 := (i 1).isLt; omega⟩
def place (i : S4096x2048.Idx) : Fin 512 := ⟨(i 1).val % 512, by omega⟩

/-- The reference's product at an index. -/
theorem value (X : (⟨S4096x2048, .f32⟩ : BufTy).Contents (Elt Ideal)) (Y : (⟨S8x2048x512, .f32⟩ : BufTy).Contents (Elt Ideal)) (i : S4096x2048.Idx) :
    val_main_v4 (F := Ideal) X Y i = (∑ k : Fin 2048, X (ix2 (i 0) k) * Y (ix3 (slot i) k (place i))) := by
  have h1 : (i 1).val < 2048 := (i 1).isLt
  rw [val_main_v4_apply, Ideal.truncf_def, val_main_v3_apply, val_main_v2_apply]

  refine Finset.sum_congr rfl fun k _ => ?_
  rw [val_main_v1_apply, val_main_v0_apply]
  congr 1
  · refine congrArg X (funext fun a => ?_); match a with | ⟨0, _⟩ => rfl | ⟨1, _⟩ => rfl
  · refine congrArg Y (funext fun a => Fin.ext ?_)
    match a with
    | ⟨0, _⟩ => show (k.val * 4096 + ((i 1).val)) / 512 % 8 = (i 1).val / 512 + 0; omega
    | ⟨1, _⟩ => show (k.val * 4096 + ((i 1).val)) / 4096 = k.val; omega
    | ⟨2, _⟩ => show (k.val * 4096 + ((i 1).val)) % 512 = (i 1).val % 512; omega

/-- The array of tiles is the reference's product. -/
theorem final : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  have e0 : ((win0_2.blk t).view.emb y 0).val = t.val / 4 * 1024 + (y 0).val := by blk_simp [index2]
  have e1 : ((win0_2.blk t).view.emb y 1).val = t.val % 4 * 512 + (y 1).val := by blk_simp [index2]
  have h1 : (y 1).val < 512 := (y 1).isLt
  rw [after0_2]
  refine (tile _ _ y).trans (Eq.trans ?_ (value _ _ _).symm)
  refine Finset.sum_congr rfl fun k _ => ?_
  congr 1
  · blk_simp [iblk]
    rw [V_0]
    refine congrArg (m ((c : Thread nD τ).loc main_arg0)) (funext fun a => Fin.ext ?_)
    match a with
    | ⟨0, _⟩ => blk_simp [index0]; exact e0.symm
    | ⟨1, _⟩ => blk_simp [index0]
  · blk_simp [iblk]
    rw [V_1]
    refine congrArg (m ((c : Thread nD τ).loc main_arg1)) (funext fun a => Fin.ext ?_)
    match a with
    | ⟨0, _⟩ => blk_simp [index1]; show _ = ((win0_2.blk t).view.emb y 1).val / 512 + 0; rw [e1]; omega
    | ⟨1, _⟩ => blk_simp [index1]
    | ⟨2, _⟩ => blk_simp [index1]; show (y 1).val = ((win0_2.blk t).view.emb y 1).val % 512; rw [e1]; omega

end Cert.InUIdeal.Value

end
-- ==== Proof.InZValue.lean ====
/- The right half of an input projection is the reference's. -/
module

public import proofs.«01_k».proof.Proof.Gen.InZIdeal.Value
public import proofs.«01_k».proof.Proof.Gen.InZReferenceIdeal.Read
public import Idealize.ShloMosaic.Lib.Pipeline.ValueKit.Geometry
public import Idealize.ShloMosaic.Lib.Pipeline.ValueKit.Acc
public import Idealize.ShloMosaic.Lib.StableHlo.RunRead

@[expose] public section

set_option maxRecDepth 16384

noncomputable section

namespace Cert.InZIdeal.Value

open Cert.InZIdeal Cert.InZIdeal.Gen
open Idealize.ShloMosaic Idealize.ShloMosaic.TcCoe Idealize.ShloMosaic.ValueIdx Idealize.ShloMosaic.Pipeline Idealize.ShloMosaic.StableHlo
open Cert.InZReferenceIdeal.Read

variable (m : (ℓ : Loc nD τ sig) → Buf (Elt Ideal) ℓ) (c : Dev nD)

theorem V_0 : V m c main_v0 = fun y => m ((c : Thread nD τ).loc main_arg0) y := by
  after_reads_simp
  rfl
theorem V_1 : V m c main_v1 = fun y => m ((c : Thread nD τ).loc main_arg1) y := by
  after_reads_simp
  rfl

theorem index0 : ∀ t : Fin cfg0.N, win0_0.index t = ![t.val / 4, 0] := by decide +kernel
theorem index1 : ∀ t : Fin cfg0.N, win0_1.index t = ![t.val % 4 + 4, 0, 0] := by decide +kernel
theorem index2 : ∀ t : Fin cfg0.N, win0_2.index t = ![t.val / 4, t.val % 4] := by decide +kernel

theorem product (A : FVec Ideal S1024x2048 .bf16) (B : FVec Ideal S2048x512 .bf16) (y : S1024x512.Idx) :
    matmul dot_S1024x2048_S2048x512_S1024x512_1_0_0_1_n_n none A B (constant S1024x512 .f32 0x00000000#32) y
      = ∑ k : Fin 2048, A (ix2 (y 0) k) * B (ix2 k (y 1)) := by
  refine (Ideal.matmul_constant_zero_apply _ none _ _ _).trans ?_
  rw [← Equiv.sum_comp (contrEquiv1 dot_S1024x2048_S2048x512_S1024x512_1_0_0_1_n_n 2048 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

/-- A tile's element. -/
theorem tile (A : FVec Ideal S1024x2048 .bf16) (B : FVec Ideal S1x2048x512 .bf16) (y : S1024x512.Idx) :
    out0_2 (F := Ideal) A B y = ∑ k : Fin 2048, A (ix2 (y 0) k) * B (ix3 0 k (y 1)) := by
  refine Eq.trans (b := matmul dot_S1024x2048_S2048x512_S1024x512_1_0_0_1_n_n none A (shapeCast S2048x512 B shapeCasts_S1x2048x512_S2048x512) (constant S1024x512 .f32 0x00000000#32) y) ?_ ?_
  · simp (disch := decide) only [out0_2, k0_pay1, View.canon_cons_unit_lit', View.ld_unit_lit', shapeCast_self, Ideal.truncf_def]
    rfl
  refine (product _ _ y).trans ?_
  refine Finset.sum_congr rfl fun k _ => ?_
  congr 1
  refine shapeCast_apply _ shapeCasts_S1x2048x512_S2048x512 (ix2 k (y 1)) (ix3 0 k (y 1)) ?_
  rw [Shape.rowMajor_val_two, Shape.rowMajor_val_three]
  show (0 * 2048 + k.val) * 512 + (y 1).val = k.val * 512 + (y 1).val
  omega

/-- A column's slot, and its place in it. -/
def slot (i : S4096x2048.Idx) : Fin 8 := ⟨(i 1).val / 512 + 4, by have h1 : (i 1).val < 2048 := (i 1).isLt; omega⟩
def place (i : S4096x2048.Idx) : Fin 512 := ⟨(i 1).val % 512, by omega⟩

/-- The reference's product at an index. -/
theorem value (X : (⟨S4096x2048, .f32⟩ : BufTy).Contents (Elt Ideal)) (Y : (⟨S8x2048x512, .f32⟩ : BufTy).Contents (Elt Ideal)) (i : S4096x2048.Idx) :
    val_main_v4 (F := Ideal) X Y i = (∑ k : Fin 2048, X (ix2 (i 0) k) * Y (ix3 (slot i) k (place i))) := by
  have h1 : (i 1).val < 2048 := (i 1).isLt
  rw [val_main_v4_apply, Ideal.truncf_def, val_main_v3_apply, val_main_v2_apply]

  refine Finset.sum_congr rfl fun k _ => ?_
  rw [val_main_v1_apply, val_main_v0_apply]
  congr 1
  · refine congrArg X (funext fun a => ?_); match a with | ⟨0, _⟩ => rfl | ⟨1, _⟩ => rfl
  · refine congrArg Y (funext fun a => Fin.ext ?_)
    match a with
    | ⟨0, _⟩ => show (k.val * 4096 + (2048 + (i 1).val)) / 512 % 8 = (i 1).val / 512 + 4; omega
    | ⟨1, _⟩ => show (k.val * 4096 + (2048 + (i 1).val)) / 4096 = k.val; omega
    | ⟨2, _⟩ => show (k.val * 4096 + (2048 + (i 1).val)) % 512 = (i 1).val % 512; omega

/-- The array of tiles is the reference's product. -/
theorem final : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  have e0 : ((win0_2.blk t).view.emb y 0).val = t.val / 4 * 1024 + (y 0).val := by blk_simp [index2]
  have e1 : ((win0_2.blk t).view.emb y 1).val = t.val % 4 * 512 + (y 1).val := by blk_simp [index2]
  have h1 : (y 1).val < 512 := (y 1).isLt
  rw [after0_2]
  refine (tile _ _ y).trans (Eq.trans ?_ (value _ _ _).symm)
  refine Finset.sum_congr rfl fun k _ => ?_
  congr 1
  · blk_simp [iblk]
    rw [V_0]
    refine congrArg (m ((c : Thread nD τ).loc main_arg0)) (funext fun a => Fin.ext ?_)
    match a with
    | ⟨0, _⟩ => blk_simp [index0]; exact e0.symm
    | ⟨1, _⟩ => blk_simp [index0]
  · blk_simp [iblk]
    rw [V_1]
    refine congrArg (m ((c : Thread nD τ).loc main_arg1)) (funext fun a => Fin.ext ?_)
    match a with
    | ⟨0, _⟩ => blk_simp [index1]; show _ = ((win0_2.blk t).view.emb y 1).val / 512 + 4; rw [e1]; omega
    | ⟨1, _⟩ => blk_simp [index1]
    | ⟨2, _⟩ => blk_simp [index1]; show (y 1).val = ((win0_2.blk t).view.emb y 1).val % 512; rw [e1]; omega

end Cert.InZIdeal.Value

end
-- ==== Proof.InQValue.lean ====
/- The queries are the reference's. -/
module

public import proofs.«01_k».proof.Proof.Gen.InQIdeal.Value
public import proofs.«01_k».proof.Proof.Gen.InQReferenceIdeal.Read
public import Idealize.ShloMosaic.Lib.Pipeline.ValueKit.Geometry
public import Idealize.ShloMosaic.Lib.Pipeline.ValueKit.Acc
public import Idealize.ShloMosaic.Lib.StableHlo.RunRead

@[expose] public section

set_option maxRecDepth 16384

noncomputable section

namespace Cert.InQIdeal.Value

open Cert.InQIdeal Cert.InQIdeal.Gen
open Idealize.ShloMosaic Idealize.ShloMosaic.TcCoe Idealize.ShloMosaic.ValueIdx Idealize.ShloMosaic.Pipeline Idealize.ShloMosaic.StableHlo
open Cert.InQReferenceIdeal.Read

variable (m : (ℓ : Loc nD τ sig) → Buf (Elt Ideal) ℓ) (c : Dev nD)

theorem V_0 : V m c main_v0 = fun y => m ((c : Thread nD τ).loc main_arg0) y := by
  after_reads_simp
  rfl
theorem V_1 : V m c main_v1 = fun y => m ((c : Thread nD τ).loc main_arg1) y := by
  after_reads_simp
  rfl

theorem index0 : ∀ t : Fin cfg0.N, win0_0.index t = ![t.val / 4, 0] := by decide +kernel
theorem index1 : ∀ t : Fin cfg0.N, win0_1.index t = ![t.val % 4, 0, 0] := by decide +kernel
theorem index2 : ∀ t : Fin cfg0.N, win0_2.index t = ![t.val / 4, t.val % 4] := by decide +kernel

theorem product (A : FVec Ideal S1024x2048 .bf16) (B : FVec Ideal S2048x512 .bf16) (y : S1024x512.Idx) :
    matmul dot_S1024x2048_S2048x512_S1024x512_1_0_0_1_n_n none A B (constant S1024x512 .f32 0x00000000#32) y
      = ∑ k : Fin 2048, A (ix2 (y 0) k) * B (ix2 k (y 1)) := by
  refine (Ideal.matmul_constant_zero_apply _ none _ _ _).trans ?_
  rw [← Equiv.sum_comp (contrEquiv1 dot_S1024x2048_S2048x512_S1024x512_1_0_0_1_n_n 2048 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

/-- A tile's element. -/
theorem tile (A : FVec Ideal S1024x2048 .bf16) (B : FVec Ideal S1x2048x512 .bf16) (y : S1024x512.Idx) :
    out0_2 (F := Ideal) A B y = (∑ k : Fin 2048, A (ix2 (y 0) k) * B (ix3 0 k (y 1))) * FloatOps.ofBits (F := Ideal) .f32 0x3E0293EE#32 := by
  refine Eq.trans (b := matmul dot_S1024x2048_S2048x512_S1024x512_1_0_0_1_n_n none A (shapeCast S2048x512 B shapeCasts_S1x2048x512_S2048x512) (constant S1024x512 .f32 0x00000000#32) y * FloatOps.ofBits (F := Ideal) .f32 0x3E0293EE#32) ?_ ?_
  · simp (disch := decide) only [out0_2, k0_pay1, View.canon_cons_unit_lit', View.ld_unit_lit', shapeCast_self, Ideal.truncf_def]
    rfl
  congr 1
  refine (product _ _ y).trans ?_
  refine Finset.sum_congr rfl fun k _ => ?_
  congr 1
  refine shapeCast_apply _ shapeCasts_S1x2048x512_S2048x512 (ix2 k (y 1)) (ix3 0 k (y 1)) ?_
  rw [Shape.rowMajor_val_two, Shape.rowMajor_val_three]
  show (0 * 2048 + k.val) * 512 + (y 1).val = k.val * 512 + (y 1).val
  omega

/-- A column's slot, and its place in it. -/
def slot (i : S4096x2048.Idx) : Fin 8 := ⟨(i 1).val / 512 + 0, by have h1 : (i 1).val < 2048 := (i 1).isLt; omega⟩
def place (i : S4096x2048.Idx) : Fin 512 := ⟨(i 1).val % 512, by omega⟩

/-- The reference's product at an index. -/
theorem value (X : (⟨S4096x2048, .f32⟩ : BufTy).Contents (Elt Ideal)) (Y : (⟨S8x2048x512, .f32⟩ : BufTy).Contents (Elt Ideal)) (i : S4096x2048.Idx) :
    val_main_v6 (F := Ideal) X Y i = (∑ k : Fin 2048, X (ix2 (i 0) k) * Y (ix3 (slot i) k (place i))) * FloatOps.ofBits (F := Ideal) .f32 0x3E0293EE#32 := by
  have h1 : (i 1).val < 2048 := (i 1).isLt
  rw [val_main_v6_apply, Ideal.truncf_def, val_main_v5_apply, val_main_v3_apply, val_main_v2_apply, val_main_v4_apply, val_main_cst_apply, Ideal.mulf_def]
  congr 1
  refine Finset.sum_congr rfl fun k _ => ?_
  rw [val_main_v1_apply, val_main_v0_apply]
  congr 1
  · refine congrArg X (funext fun a => ?_); match a with | ⟨0, _⟩ => rfl | ⟨1, _⟩ => rfl
  · refine congrArg Y (funext fun a => Fin.ext ?_)
    match a with
    | ⟨0, _⟩ => show (k.val * 4096 + ((i 1).val)) / 512 % 8 = (i 1).val / 512 + 0; omega
    | ⟨1, _⟩ => show (k.val * 4096 + ((i 1).val)) / 4096 = k.val; omega
    | ⟨2, _⟩ => show (k.val * 4096 + ((i 1).val)) % 512 = (i 1).val % 512; omega

/-- The array of tiles is the reference's product. -/
theorem final : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  have e0 : ((win0_2.blk t).view.emb y 0).val = t.val / 4 * 1024 + (y 0).val := by blk_simp [index2]
  have e1 : ((win0_2.blk t).view.emb y 1).val = t.val % 4 * 512 + (y 1).val := by blk_simp [index2]
  have h1 : (y 1).val < 512 := (y 1).isLt
  rw [after0_2]
  refine (tile _ _ y).trans (Eq.trans ?_ (value _ _ _).symm)
  congr 1
  refine Finset.sum_congr rfl fun k _ => ?_
  congr 1
  · blk_simp [iblk]
    rw [V_0]
    refine congrArg (m ((c : Thread nD τ).loc main_arg0)) (funext fun a => Fin.ext ?_)
    match a with
    | ⟨0, _⟩ => blk_simp [index0]; exact e0.symm
    | ⟨1, _⟩ => blk_simp [index0]
  · blk_simp [iblk]
    rw [V_1]
    refine congrArg (m ((c : Thread nD τ).loc main_arg1)) (funext fun a => Fin.ext ?_)
    match a with
    | ⟨0, _⟩ => blk_simp [index1]; show _ = ((win0_2.blk t).view.emb y 1).val / 512 + 0; rw [e1]; omega
    | ⟨1, _⟩ => blk_simp [index1]
    | ⟨2, _⟩ => blk_simp [index1]; show (y 1).val = ((win0_2.blk t).view.emb y 1).val % 512; rw [e1]; omega

end Cert.InQIdeal.Value

end
-- ==== Proof.GluValue.lean ====
/- The gated unit's product is the reference's. -/
module

public import proofs.«01_k».proof.Proof.Gen.GluIdeal.Value
public import proofs.«01_k».proof.Proof.Gen.GluReferenceIdeal.Read
public import Idealize.ShloMosaic.Lib.Pipeline.ValueKit.Geometry
public import Idealize.ShloMosaic.Lib.Pipeline.ValueKit.Acc
public import Idealize.ShloMosaic.Lib.StableHlo.RunRead

@[expose] public section

set_option maxRecDepth 16384

noncomputable section

namespace Cert.GluIdeal.Value

open Cert.GluIdeal Cert.GluIdeal.Gen
open Idealize.ShloMosaic Idealize.ShloMosaic.TcCoe Idealize.ShloMosaic.ValueIdx Idealize.ShloMosaic.Pipeline Idealize.ShloMosaic.StableHlo
open Cert.GluReferenceIdeal.Read

variable (m : (ℓ : Loc nD τ sig) → Buf (Elt Ideal) ℓ) (c : Dev nD)

theorem V_0 : V m c main_v0 = fun y => m ((c : Thread nD τ).loc main_arg0) y := by
  after_reads_simp
  rfl
theorem V_1 : V m c main_v1 = fun y => m ((c : Thread nD τ).loc main_arg1) y := by
  after_reads_simp
  rfl

theorem index0 : ∀ t : Fin cfg0.N, win0_0.index t = ![t.val / 2, 0] := by decide +kernel
theorem index1 : ∀ t : Fin cfg0.N, win0_1.index t = ![0, t.val % 2] := by decide +kernel
theorem index2 : ∀ t : Fin cfg0.N, win0_2.index t = ![t.val / 2, t.val % 2] := by decide +kernel

theorem product (A : FVec Ideal S1024x2048 .bf16) (B : FVec Ideal S2048x1024 .bf16) (y : S1024x1024.Idx) :
    matmul dot_S1024x2048_S2048x1024_S1024x1024_1_0_0_1_n_n none A B (constant S1024x1024 .f32 0x00000000#32) y
      = ∑ k : Fin 2048, A (ix2 (y 0) k) * B (ix2 k (y 1)) := by
  refine (Ideal.matmul_constant_zero_apply _ none _ _ _).trans ?_
  rw [← Equiv.sum_comp (contrEquiv1 dot_S1024x2048_S2048x1024_S1024x1024_1_0_0_1_n_n 2048 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

/-- A tile's element. -/
theorem tile (A : FVec Ideal S1024x2048 .bf16) (B : FVec Ideal S2048x1024 .bf16) (y : S1024x1024.Idx) :
    out0_2 (F := Ideal) A B y = ∑ k : Fin 2048, A (ix2 (y 0) k) * B (ix2 k (y 1)) := by
  refine Eq.trans ?_ (product A B y)
  simp (disch := decide) only [out0_2, k0_pay1, View.canon_cons_unit_lit', View.ld_unit_lit', shapeCast_self, Ideal.truncf_def]
  rfl

/-- The reference's product at an index. -/
theorem value (X : (⟨S4096x2048, .f32⟩ : BufTy).Contents (Elt Ideal)) (Y : (⟨S2048x2048, .f32⟩ : BufTy).Contents (Elt Ideal)) (i : S4096x2048.Idx) :
    val_main_v1 (F := Ideal) X Y i = ∑ k : Fin 2048, X (ix2 (i 0) k) * Y (ix2 k (i 1)) := by
  rw [val_main_v1_apply, Ideal.truncf_def, val_main_v0_apply]
  refine Finset.sum_congr rfl fun k _ => ?_
  congr 1
  · refine congrArg X (funext fun a => ?_); match a with | ⟨0, _⟩ => rfl | ⟨1, _⟩ => rfl
  · refine congrArg Y (funext fun a => ?_); match a with | ⟨0, _⟩ => rfl | ⟨1, _⟩ => rfl

/-- The array of tiles is the reference's product. -/
theorem final : (dats m 0 c).arrAt 2 cfg0.N
    = val_main_v1 (F := Ideal) (m ((c : Thread nD τ).loc main_arg0)) (m ((c : Thread nD τ).loc main_arg1)) := by
  refine (dats m 0 c).arrAt_eq_of_covers 2 _ (by decide +kernel) fun t hf y => ?_
  blk_simp
  have e0 : ((win0_2.blk t).view.emb y 0).val = t.val / 2 * 1024 + (y 0).val := by blk_simp [index2]
  have e1 : ((win0_2.blk t).view.emb y 1).val = t.val % 2 * 1024 + (y 1).val := by blk_simp [index2]
  rw [after0_2]
  refine (tile _ _ y).trans (Eq.trans ?_ (value _ _ _).symm)
  refine Finset.sum_congr rfl fun k _ => ?_
  congr 1
  · blk_simp [iblk]
    rw [V_0]
    refine congrArg (m ((c : Thread nD τ).loc main_arg0)) (funext fun a => Fin.ext ?_)
    match a with
    | ⟨0, _⟩ => blk_simp [index0]; exact e0.symm
    | ⟨1, _⟩ => blk_simp [index0]
  · blk_simp [iblk]
    rw [V_1]
    refine congrArg (m ((c : Thread nD τ).loc main_arg1)) (funext fun a => Fin.ext ?_)
    match a with
    | ⟨0, _⟩ => blk_simp [index1]
    | ⟨1, _⟩ => blk_simp [index1]; exact e1.symm

end Cert.GluIdeal.Value

end
-- ==== Proof.OutValue.lean ====
/- An output projection is the reference's. -/
module

public import proofs.«01_k».proof.Proof.Gen.OutIdeal.Value
public import proofs.«01_k».proof.Proof.Gen.OutReferenceIdeal.Read
public import Idealize.ShloMosaic.Lib.Pipeline.ValueKit.Geometry
public import Idealize.ShloMosaic.Lib.Pipeline.ValueKit.Acc
public import Idealize.ShloMosaic.Lib.StableHlo.RunRead

@[expose] public section

set_option maxRecDepth 16384

noncomputable section

namespace Cert.OutIdeal.Value

open Cert.OutIdeal Cert.OutIdeal.Gen
open Idealize.ShloMosaic Idealize.ShloMosaic.TcCoe Idealize.ShloMosaic.ValueIdx Idealize.ShloMosaic.Pipeline Idealize.ShloMosaic.StableHlo
open Cert.OutReferenceIdeal.Read

variable (m : (ℓ : Loc nD τ sig) → Buf (Elt Ideal) ℓ) (c : Dev nD)

theorem V_0 : V m c main_v0 = fun y => m ((c : Thread nD τ).loc main_arg0) y := by
  after_reads_simp
  rfl
theorem V_1 : V m c main_v1 = fun y => m ((c : Thread nD τ).loc main_arg1) y := by
  after_reads_simp
  rfl

theorem index0 : ∀ t : Fin cfg0.N, win0_0.index t = ![t.val / 2, 0] := by decide +kernel
theorem index1 : ∀ t : Fin cfg0.N, win0_1.index t = ![0, t.val % 2] := by decide +kernel
theorem index2 : ∀ t : Fin cfg0.N, win0_2.index t = ![t.val / 2, t.val % 2] := by decide +kernel

theorem product (A : FVec Ideal S1024x2048 .bf16) (B : FVec Ideal S2048x1024 .bf16) (y : S1024x1024.Idx) :
    matmul dot_S1024x2048_S2048x1024_S1024x1024_1_0_0_1_n_n none A B (constant S1024x1024 .f32 0x00000000#32) y
      = ∑ k : Fin 2048, A (ix2 (y 0) k) * B (ix2 k (y 1)) := by
  refine (Ideal.matmul_constant_zero_apply _ none _ _ _).trans ?_
  rw [← Equiv.sum_comp (contrEquiv1 dot_S1024x2048_S2048x1024_S1024x1024_1_0_0_1_n_n 2048 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

/-- A tile's element. -/
theorem tile (A : FVec Ideal S1024x2048 .bf16) (B : FVec Ideal S2048x1024 .bf16) (y : S1024x1024.Idx) :
    out0_2 (F := Ideal) A B y = ∑ k : Fin 2048, A (ix2 (y 0) k) * B (ix2 k (y 1)) := by
  refine Eq.trans ?_ (product A B y)
  simp (disch := decide) only [out0_2, k0_pay1, View.canon_cons_unit_lit', View.ld_unit_lit', shapeCast_self, Ideal.truncf_def]

/-- The reference's product at an index. -/
theorem value (X : (⟨S4096x2048, .f32⟩ : BufTy).Contents (Elt Ideal)) (Y : (⟨S2048x2048, .f32⟩ : BufTy).Contents (Elt Ideal)) (i : S4096x2048.Idx) :
    val_main_v0 (F := Ideal) X Y i = ∑ k : Fin 2048, X (ix2 (i 0) k) * Y (ix2 k (i 1)) := by
  rw [val_main_v0_apply]
  refine Finset.sum_congr rfl fun k _ => ?_
  congr 1
  · refine congrArg X (funext fun a => ?_); match a with | ⟨0, _⟩ => rfl | ⟨1, _⟩ => rfl
  · refine congrArg Y (funext fun a => ?_); match a with | ⟨0, _⟩ => rfl | ⟨1, _⟩ => rfl

/-- The array of tiles is the reference's product. -/
theorem final : (dats m 0 c).arrAt 2 cfg0.N
    = val_main_v0 (F := Ideal) (m ((c : Thread nD τ).loc main_arg0)) (m ((c : Thread nD τ).loc main_arg1)) := by
  refine (dats m 0 c).arrAt_eq_of_covers 2 _ (by decide +kernel) fun t hf y => ?_
  blk_simp
  have e0 : ((win0_2.blk t).view.emb y 0).val = t.val / 2 * 1024 + (y 0).val := by blk_simp [index2]
  have e1 : ((win0_2.blk t).view.emb y 1).val = t.val % 2 * 1024 + (y 1).val := by blk_simp [index2]
  rw [after0_2]
  refine (tile _ _ y).trans (Eq.trans ?_ (value _ _ _).symm)
  refine Finset.sum_congr rfl fun k _ => ?_
  congr 1
  · blk_simp [iblk]
    rw [V_0]
    refine congrArg (m ((c : Thread nD τ).loc main_arg0)) (funext fun a => Fin.ext ?_)
    match a with
    | ⟨0, _⟩ => blk_simp [index0]; exact e0.symm
    | ⟨1, _⟩ => blk_simp [index0]
  · blk_simp [iblk]
    rw [V_1]
    refine congrArg (m ((c : Thread nD τ).loc main_arg1)) (funext fun a => Fin.ext ?_)
    match a with
    | ⟨0, _⟩ => blk_simp [index1]
    | ⟨1, _⟩ => blk_simp [index1]; exact e1.symm

end Cert.OutIdeal.Value

end
-- ==== Proof.KvValue.lean ====
/- The shared keys and values are the reference's. -/
module

public import proofs.«01_k».proof.Proof.Gen.KvIdeal.Value
public import proofs.«01_k».proof.Proof.Gen.KvReferenceIdeal.Read
public import Idealize.ShloMosaic.Lib.Pipeline.ValueKit.Geometry
public import Idealize.ShloMosaic.Lib.Pipeline.ValueKit.Acc
public import Idealize.ShloMosaic.Lib.StableHlo.RunRead

@[expose] public section

set_option maxRecDepth 16384

noncomputable section

namespace Cert.KvIdeal.Value

open Cert.KvIdeal Cert.KvIdeal.Gen
open Idealize.ShloMosaic Idealize.ShloMosaic.TcCoe Idealize.ShloMosaic.ValueIdx Idealize.ShloMosaic.Pipeline Idealize.ShloMosaic.StableHlo
open Cert.KvReferenceIdeal.Read

variable (m : (ℓ : Loc nD τ sig) → Buf (Elt Ideal) ℓ) (c : Dev nD)

theorem V_0 : V m c main_v0 = fun y => m ((c : Thread nD τ).loc main_arg0) y := by
  after_reads_simp
  rfl
theorem V_1 : V m c main_v1 = fun y => m ((c : Thread nD τ).loc main_arg1) y := by
  after_reads_simp
  rfl

theorem index0 : ∀ t : Fin cfg0.N, win0_0.index t = ![t.val / 4, 0] := by decide +kernel
theorem index1 : ∀ t : Fin cfg0.N, win0_1.index t = ![t.val % 4, 0] := by decide +kernel
theorem index2 : ∀ t : Fin cfg0.N, win0_2.index t = ![t.val / 4, t.val % 4] := by decide +kernel

theorem product (A : FVec Ideal S1024x2048 .bf16) (B : FVec Ideal S1024x2048 .bf16) (y : S1024x1024.Idx) :
    matmul dot_S1024x2048_S1024x2048_S1024x1024_1_1_0_0_n_n none A B (constant S1024x1024 .f32 0x00000000#32) y
      = ∑ k : Fin 2048, A (ix2 (y 0) k) * B (ix2 (y 1) k) := by
  refine (Ideal.matmul_constant_zero_apply _ none _ _ _).trans ?_
  rw [← Equiv.sum_comp (contrEquiv1 dot_S1024x2048_S1024x2048_S1024x1024_1_1_0_0_n_n 2048 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

/-- The sum an element of a tile is. -/
def rowSum (A B : FVec Ideal S1024x2048 .bf16) (y : S1024x1024.Idx) : Ideal .f32 :=
  ∑ k : Fin 2048, A (ix2 (y 0) k) * B (ix2 (y 1) k)

/-- A tile's element. -/
theorem tile (t : Fin cfg0.N) (y : S1024x1024.Idx) :
    outsAt0 (F := Ideal) m c t y = rowSum (iblk m c 0 t) (X0_1 m c t) y := by
  refine Eq.trans ?_ (product (iblk m c 0 t) (X0_1 m c t) y)
  unfold outsAt0
  generalize X0_1 m c t = B
  frame_out [k0_pay1, shapeCast_self]
  rfl

/-- The reference's product at an index. -/
theorem value (X : (⟨S4096x2048, .f32⟩ : BufTy).Contents (Elt Ideal)) (Y : (⟨S4112x2048, .f32⟩ : BufTy).Contents (Elt Ideal)) (i : S4096x4096.Idx) :
    val_main_v3 (F := Ideal) X Y i = ∑ k : Fin 2048, X (ix2 (i 0) k) * Y (ix2 ((i 1).castLE (by decide)) k) := by
  rw [val_main_v3_apply, Ideal.truncf_def, val_main_v2_apply, val_main_v1_apply]
  refine Finset.sum_congr rfl fun k _ => ?_
  rw [val_main_v0_apply]
  congr 1
  · refine congrArg X (funext fun a => ?_); match a with | ⟨0, _⟩ => rfl | ⟨1, _⟩ => rfl
  · refine congrArg Y (funext fun a => ?_); match a with | ⟨0, _⟩ => rfl | ⟨1, _⟩ => rfl

/-- The weight's block, nowhere cut. -/
theorem whole1 (t : Fin cfg0.N) (j : S1024x2048.Idx) : X0_1 (F := Ideal) m c t j = iblk m c 1 t (fun a => ⟨(j a).val, (((cfg0.win 1).moved_iff _ j).mp (moved0_1 t j)) a⟩) := by
  unfold X0_1 Window.fill
  rw [dif_pos (moved0_1 t j)]

/-- The array of tiles is the reference's product. -/
theorem final : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  have e0 : ((win0_2.blk t).view.emb y 0).val = t.val / 4 * 1024 + (y 0).val := by blk_simp [index2]
  have e1 : ((win0_2.blk t).view.emb y 1).val = t.val % 4 * 1024 + (y 1).val := by blk_simp [index2]
  rw [after0_2]
  refine (tile m c t y).trans (Eq.trans ?_ (value _ _ _).symm)
  refine Finset.sum_congr rfl fun k _ => ?_
  congr 1
  · blk_simp [iblk]
    rw [V_0]
    refine congrArg (m ((c : Thread nD τ).loc main_arg0)) (funext fun a => Fin.ext ?_)
    match a with
    | ⟨0, _⟩ => blk_simp [index0]; exact e0.symm
    | ⟨1, _⟩ => blk_simp [index0]
  · rw [whole1]
    blk_simp [iblk]
    rw [V_1]
    refine congrArg (m ((c : Thread nD τ).loc main_arg1)) (funext fun a => Fin.ext ?_)
    match a with
    | ⟨0, _⟩ => blk_simp [index1]; exact e1.symm
    | ⟨1, _⟩ => blk_simp [index1]

end Cert.KvIdeal.Value

end
-- ==== Proof.InDxAfterValue.lean ====
/- The input gradient of an input projection is the reference's. -/
module

public import proofs.«01_k».proof.Proof.Gen.InDxAfterIdeal.Value
public import proofs.«01_k».proof.Proof.Gen.InDxAfterReferenceIdeal.Read
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.StableHlo.RunRead

@[expose] public section

set_option maxRecDepth 16384

noncomputable section

namespace Cert.InDxAfterIdeal.Value

open Cert.InDxAfterIdeal Cert.InDxAfterIdeal.Gen
open Idealize.ShloMosaic Idealize.ShloMosaic.TcCoe Idealize.ShloMosaic.ValueIdx Idealize.ShloMosaic.Pipeline Idealize.ShloMosaic.StableHlo
open Cert.InDxAfterReferenceIdeal.Read

variable (m : (ℓ : Loc nD τ sig) → Buf (Elt Ideal) ℓ) (c : Dev nD)

theorem V_0 : V m c main_v0 = fun y => m ((c : Thread nD τ).loc main_arg0) y := by
  after_reads_simp
  rfl
theorem V_1 : V m c main_v1 = fun y => m ((c : Thread nD τ).loc main_arg1) y := by
  after_reads_simp
  rfl

theorem index0 : ∀ t : Fin cfg0.N, win0_0.index t = ![t.val / 2, 0] := by decide +kernel
theorem index1 : ∀ t : Fin cfg0.N, win0_1.index t = ![0, t.val % 2, 0] := by decide +kernel
theorem index3 : ∀ t : Fin cfg0.N, win0_3.index t = ![t.val / 2, t.val % 2] := by decide +kernel

theorem product (A : FVec Ideal S512x512 .bf16) (B : FVec Ideal S1024x512 .bf16) (y : S512x1024.Idx) :
    matmul dot_S512x512_S1024x512_S512x1024_1_1_0_0_n_n none A B (constant S512x1024 .f32 0x00000000#32) y
      = ∑ k : Fin 512, A (ix2 (y 0) k) * B (ix2 (y 1) k) := by
  refine (Ideal.matmul_constant_zero_apply _ none _ _ _).trans ?_
  rw [← Equiv.sum_comp (contrEquiv1 dot_S512x512_S1024x512_S512x1024_1_1_0_0_n_n 512 rfl rfl).symm]
  refine Finset.sum_congr rfl fun d _ => ?_
  congr 1
  · refine congrArg A (funext fun a => ?_); match a with | ⟨0, _⟩ => rfl | ⟨1, _⟩ => rfl
  · refine congrArg B (funext fun a => ?_); match a with | ⟨0, _⟩ => rfl | ⟨1, _⟩ => rfl

/-- One slot's product, its factors loaded at column `p` and slot `q`. -/
abbrev slotDot (A : FVec Ideal S512x4096 .bf16) (B : FVec Ideal S8x1024x512 .bf16) (p q : Nat)
    (ha : ∀ a, (![0, p] : Fin S512x4096.rank → Nat) a + S512x512.size a ≤ S512x4096.size a)
    (hb : ∀ a, (![q, 0, 0] : Fin S8x1024x512.rank → Nat) a + S1x1024x512.size a ≤ S8x1024x512.size a) : FVec Ideal S512x1024 .f32 :=
  matmul (φ₁ := .bf16) (φ₂ := .bf16) dot_S512x512_S1024x512_S512x1024_1_1_0_0_n_n none (View.ld (Val := Elt Ideal) (e' := .bf16) A (Rect.unit (s := S512x4096) ![0, p] S512x512.size ha) : FVec Ideal S512x512 .bf16)
    (shapeCast (α := Elt Ideal .bf16) S1024x512 (View.ld (Val := Elt Ideal) (e' := .bf16) B (Rect.unit (s := S8x1024x512) ![q, 0, 0] S1x1024x512.size hb) : FVec Ideal S1x1024x512 .bf16) shapeCasts_S1x1024x512_S1024x512)
    (constant S512x1024 .f32 0x00000000#32)

/-- The column of slot `s` at place `j`. -/
def col (s : Fin 8) (j : Fin 512) : Fin 4096 := ⟨s.val * 512 + j.val, by omega⟩

/-- It is that slot's sum. -/
theorem slotSum (A : FVec Ideal S512x4096 .bf16) (B : FVec Ideal S8x1024x512 .bf16) (p q : Nat) (ha) (hb) (y : S512x1024.Idx)
    (s : Fin 8) (hp : p = s.val * 512) (hq : q = s.val) :
    slotDot A B p q ha hb y = ∑ k : Fin 512, A (ix2 (y 0) (col s k)) * B (ix3 s (y 1) k) := by
  refine (product _ _ y).trans (Finset.sum_congr rfl fun k _ => ?_)
  congr 1
  · refine View.ld_unit_apply_of (S := S512x4096) (Val := Elt Ideal) (e := .bf16) A _ _ _ _ (ix2 (y 0) (col s k)) fun a => ?_
    match a with
    | ⟨0, _⟩ => show (y 0).val = 0 + (y 0).val; omega
    | ⟨1, _⟩ => show s.val * 512 + k.val = p + k.val; omega
  · refine (shapeCast_apply _ shapeCasts_S1x1024x512_S1024x512 (ix2 (y 1) k) (ix3 0 (y 1) k) ?_).trans ?_
    · rw [Shape.rowMajor_val_two, Shape.rowMajor_val_three]
      show (0 * 1024 + (y 1).val) * 512 + k.val = (y 1).val * 512 + k.val
      omega
    · refine View.ld_unit_apply_of (S := S8x1024x512) (Val := Elt Ideal) (e := .bf16) B _ _ _ _ (ix3 s (y 1) k) fun a => ?_
      match a with
      | ⟨0, _⟩ => show s.val = q + 0; omega
      | ⟨1, _⟩ => show (y 1).val = 0 + (y 1).val; omega
      | ⟨2, _⟩ => show k.val = 0 + k.val; omega

/-- A sum over the columns is the sum over the slots of the sums over their places. -/
theorem sum_slots (f : Fin 4096 → EReal) : ∑ k, f k = ∑ s : Fin 8, ∑ j : Fin 512, f (col s j) := by
  rw [← Fintype.sum_prod_type', ← Equiv.sum_comp (finProdFinEquiv (m := 8) (n := 512))]
  refine Finset.sum_congr rfl fun x _ => congrArg f (Fin.ext ?_)
  show x.2.val + 512 * x.1.val = x.1.val * 512 + x.2.val
  omega

/-- A column's slot, and its place in it. -/
def slot (k : Fin 4096) : Fin 8 := ⟨k.val / 512, by omega⟩
def place (k : Fin 4096) : Fin 512 := ⟨k.val % 512, by omega⟩
theorem slot_col (s : Fin 8) (j : Fin 512) : slot (col s j) = s := Fin.ext (by show (s.val * 512 + j.val) / 512 = s.val; omega)
theorem place_col (s : Fin 8) (j : Fin 512) : place (col s j) = j := Fin.ext (by show (s.val * 512 + j.val) % 512 = j.val; omega)

/-- A tile's element. -/
theorem tile (A : FVec Ideal S512x4096 .bf16) (B : FVec Ideal S8x1024x512 .bf16) (T : FVec Ideal S8x128 .f32) (y : S512x1024.Idx) :
    out0_3 (F := Ideal) A B T y = ∑ k : Fin 4096, A (ix2 (y 0) k) * B (ix3 (slot k) (y 1) (place k)) := by
  rw [sum_slots]
  simp only [slot_col, place_col]
  rw [Fin.sum_univ_eight]
  simp (disch := decide) only [out0_3, k0_pay1, k0_pay2, k0_pay3, k0_pay4, View.canon_cons_unit_lit', shapeCast_self]
  refine Eq.trans rfl (congrArg₂ (· + ·) (congrArg₂ (· + ·) (congrArg₂ (· + ·) (congrArg₂ (· + ·) (congrArg₂ (· + ·) (congrArg₂ (· + ·) (congrArg₂ (· + ·)
    (slotSum A B 0 0 inb_S512x4096_S512x512_0_0 inb_S8x1024x512_S1x1024x512_0_0_0 y 0 rfl rfl)
    (slotSum A B 512 1 inb_S512x4096_S512x512_0_512 inb_S8x1024x512_S1x1024x512_1_0_0 y 1 rfl rfl))
    (slotSum A B 1024 2 inb_S512x4096_S512x512_0_1024 inb_S8x1024x512_S1x1024x512_2_0_0 y 2 rfl rfl))
    (slotSum A B 1536 3 inb_S512x4096_S512x512_0_1536 inb_S8x1024x512_S1x1024x512_3_0_0 y 3 rfl rfl))
    (slotSum A B 2048 4 inb_S512x4096_S512x512_0_2048 inb_S8x1024x512_S1x1024x512_4_0_0 y 4 rfl rfl))
    (slotSum A B 2560 5 inb_S512x4096_S512x512_0_2560 inb_S8x1024x512_S1x1024x512_5_0_0 y 5 rfl rfl))
    (slotSum A B 3072 6 inb_S512x4096_S512x512_0_3072 inb_S8x1024x512_S1x1024x512_6_0_0 y 6 rfl rfl))
    (slotSum A B 3584 7 inb_S512x4096_S512x512_0_3584 inb_S8x1024x512_S1x1024x512_7_0_0 y 7 rfl rfl))

/-- The reference's product at an index. -/
theorem value (X : (⟨S4096x4096, .f32⟩ : BufTy).Contents (Elt Ideal)) (W : (⟨S8x2048x512, .f32⟩ : BufTy).Contents (Elt Ideal)) (i : S4096x2048.Idx) :
    val_main_v5 (F := Ideal) X W i = ∑ k : Fin 4096, X (ix2 (i 0) k) * W (ix3 (slot k) (i 1) (place k)) := by
  have h1 : (i 1).val < 2048 := (i 1).isLt
  rw [val_main_v5_apply, Ideal.truncf_def, val_main_v4_apply]
  refine Finset.sum_congr rfl fun k _ => ?_
  rw [val_main_v1_apply, val_main_v0_apply]
  congr 1
  · refine congrArg X (funext fun a => ?_); match a with | ⟨0, _⟩ => rfl | ⟨1, _⟩ => rfl
  · refine congrArg W (funext fun a => Fin.ext ?_)
    match a with
    | ⟨0, _⟩ => show ((i 1).val * 4096 + k.val) / 512 % 8 = k.val / 512; omega
    | ⟨1, _⟩ => show ((i 1).val * 4096 + k.val) / 4096 = (i 1).val; omega
    | ⟨2, _⟩ => show ((i 1).val * 4096 + k.val) % 512 = k.val % 512; omega

/-- The array of tiles is the reference's product. -/
theorem final : (dats m 0 c).arrAt 3 cfg0.N
    = val_main_v5 (F := Ideal) (m ((c : Thread nD τ).loc main_arg0)) (m ((c : Thread nD τ).loc main_arg1)) := by
  refine (dats m 0 c).arrAt_eq_of_covers 3 _ (by decide +kernel) fun t hf y => ?_
  blk_simp
  have e0 : ((win0_3.blk t).view.emb y 0).val = t.val / 2 * 512 + (y 0).val := by blk_simp [index3]
  have e1 : ((win0_3.blk t).view.emb y 1).val = t.val % 2 * 1024 + (y 1).val := by blk_simp [index3]
  rw [after0_3]
  refine (tile _ _ _ y).trans (Eq.trans ?_ (value _ _ _).symm)
  refine Finset.sum_congr rfl fun k _ => ?_
  congr 1
  · blk_simp [iblk]
    rw [V_0]
    refine congrArg (m ((c : Thread nD τ).loc main_arg0)) (funext fun a => Fin.ext ?_)
    match a with
    | ⟨0, _⟩ => blk_simp [index0]; exact e0.symm
    | ⟨1, _⟩ => blk_simp [index0]
  · blk_simp [iblk]
    rw [V_1]
    refine congrArg (m ((c : Thread nD τ).loc main_arg1)) (funext fun a => Fin.ext ?_)
    match a with
    | ⟨0, _⟩ => blk_simp [index1]
    | ⟨1, _⟩ => blk_simp [index1]; exact e1.symm
    | ⟨2, _⟩ => blk_simp [index1]

end Cert.InDxAfterIdeal.Value

end
-- ==== Proof.Products.lean ====
/- Each product's call and its reference, from the same arguments, end in the same array; each reference leaves its arguments. -/
module

public import proofs.«01_k».proof.Defs
public import proofs.«01_k».proof.Proof.OutDwValue
public import proofs.«01_k».proof.Proof.Gen.OutDwIdeal.Value
public import proofs.«01_k».proof.Proof.Gen.OutDwReferenceIdeal.Run
public import proofs.«01_k».proof.Proof.Gen.OutDwReferenceIdeal.Read
public import proofs.«01_k».proof.Proof.OutDxValue
public import proofs.«01_k».proof.Proof.Gen.OutDxIdeal.Value
public import proofs.«01_k».proof.Proof.Gen.OutDxReferenceIdeal.Run
public import proofs.«01_k».proof.Proof.Gen.OutDxReferenceIdeal.Read
public import proofs.«01_k».proof.Proof.InDwValue
public import proofs.«01_k».proof.Proof.Gen.InDwIdeal.Value
public import proofs.«01_k».proof.Proof.Gen.InDwReferenceIdeal.Run
public import proofs.«01_k».proof.Proof.Gen.InDwReferenceIdeal.Read
public import proofs.«01_k».proof.Proof.InDxValue
public import proofs.«01_k».proof.Proof.Gen.InDxIdeal.Value
public import proofs.«01_k».proof.Proof.Gen.InDxReferenceIdeal.Run
public import proofs.«01_k».proof.Proof.Gen.InDxReferenceIdeal.Read
public import proofs.«01_k».proof.Proof.KvDwValue
public import proofs.«01_k».proof.Proof.Gen.KvDwIdeal.Value
public import proofs.«01_k».proof.Proof.Gen.KvDwReferenceIdeal.Run
public import proofs.«01_k».proof.Proof.Gen.KvDwReferenceIdeal.Read
public import proofs.«01_k».proof.Proof.KvDxValue
public import proofs.«01_k».proof.Proof.Gen.KvDxIdeal.Value
public import proofs.«01_k».proof.Proof.Gen.KvDxReferenceIdeal.Run
public import proofs.«01_k».proof.Proof.Gen.KvDxReferenceIdeal.Read
public import proofs.«01_k».proof.Proof.GluDxValue
public import proofs.«01_k».proof.Proof.Gen.GluDxIdeal.Value
public import proofs.«01_k».proof.Proof.Gen.GluDxReferenceIdeal.Run
public import proofs.«01_k».proof.Proof.Gen.GluDxReferenceIdeal.Read
public import proofs.«01_k».proof.Proof.InUValue
public import proofs.«01_k».proof.Proof.Gen.InUIdeal.Value
public import proofs.«01_k».proof.Proof.Gen.InUReferenceIdeal.Run
public import proofs.«01_k».proof.Proof.Gen.InUReferenceIdeal.Read
public import proofs.«01_k».proof.Proof.InZValue
public import proofs.«01_k».proof.Proof.Gen.InZIdeal.Value
public import proofs.«01_k».proof.Proof.Gen.InZReferenceIdeal.Run
public import proofs.«01_k».proof.Proof.Gen.InZReferenceIdeal.Read
public import proofs.«01_k».proof.Proof.InQValue
public import proofs.«01_k».proof.Proof.Gen.InQIdeal.Value
public import proofs.«01_k».proof.Proof.Gen.InQReferenceIdeal.Run
public import proofs.«01_k».proof.Proof.Gen.InQReferenceIdeal.Read
public import proofs.«01_k».proof.Proof.GluValue
public import proofs.«01_k».proof.Proof.Gen.GluIdeal.Value
public import proofs.«01_k».proof.Proof.Gen.GluReferenceIdeal.Run
public import proofs.«01_k».proof.Proof.Gen.GluReferenceIdeal.Read
public import proofs.«01_k».proof.Proof.OutValue
public import proofs.«01_k».proof.Proof.Gen.OutIdeal.Value
public import proofs.«01_k».proof.Proof.Gen.OutReferenceIdeal.Run
public import proofs.«01_k».proof.Proof.Gen.OutReferenceIdeal.Read
public import proofs.«01_k».proof.Proof.KvValue
public import proofs.«01_k».proof.Proof.Gen.KvIdeal.Value
public import proofs.«01_k».proof.Proof.Gen.KvReferenceIdeal.Run
public import proofs.«01_k».proof.Proof.Gen.KvReferenceIdeal.Read
public import proofs.«01_k».proof.Proof.InDxAfterValue
public import proofs.«01_k».proof.Proof.Gen.InDxAfterIdeal.Value
public import proofs.«01_k».proof.Proof.Gen.InDxAfterReferenceIdeal.Run
public import proofs.«01_k».proof.Proof.Gen.InDxAfterReferenceIdeal.Read

@[expose] public section

noncomputable section

namespace Cert.Products

open Idealize.ShloMosaic Idealize.SL.Sem

theorem outDw_frame (m : (ℓ : Loc Cert.OutDwReferenceIdeal.nD Cert.OutDwReferenceIdeal.τ Cert.OutDwReferenceIdeal.sig) → Buf (Elt Ideal) ℓ) (ρ : Dev Cert.OutDwReferenceIdeal.nD → PrngReg) :
    θ_run (Cert.OutDwReferenceIdeal.defs (F := Ideal)) (onTc (τ := Cert.OutDwReferenceIdeal.τ) (Cert.OutDwReferenceIdeal.main (F := Ideal))) ⟨m, fun _ => 0, ρ⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0) :=
  (θ_run Cert.OutDwReferenceIdeal.defs _ _).mono (fun r h => ⟨fun c => (h c).2, sem_eq_zero_of_no_sems (by decide) r.2⟩) (Cert.OutDwReferenceIdeal.Value.run m ρ)

theorem outDw_value : Cert.algebraic_OutDwIdeal_OutDwReferenceIdeal := by
  intro m g m' g' _ hargs
  refine ⟨fun c => Cert.OutDwReferenceIdeal.Read.val_main_v4 (F := Ideal) (m ((c.tc : Thread Cert.OutDwIdeal.nD Cert.OutDwIdeal.τ).loc Cert.OutDwIdeal.main_arg0)) (m ((c.tc : Thread Cert.OutDwIdeal.nD Cert.OutDwIdeal.τ).loc Cert.OutDwIdeal.main_arg1)),
    (θ_run Cert.OutDwIdeal.defs _ _).mono (fun r h c => ?_) (Cert.OutDwIdeal.Value.run_blocks m g), (θ_run Cert.OutDwReferenceIdeal.defs _ _).mono (fun r h c => ?_) (Cert.OutDwReferenceIdeal.Value.run m' g')⟩
  · obtain ⟨h0, ha⟩ := h c
    exact ⟨h0.trans (Cert.OutDwIdeal.Value.final m c), ha⟩
  · obtain ⟨h0, ha⟩ := h c
    obtain ⟨a0, a1⟩ := hargs c
    refine ⟨h0.trans ((Cert.OutDwReferenceIdeal.Read.val_main_v4_eq _ _).trans ?_), ha⟩
    rw [a0, a1]

theorem outDx_frame (m : (ℓ : Loc Cert.OutDxReferenceIdeal.nD Cert.OutDxReferenceIdeal.τ Cert.OutDxReferenceIdeal.sig) → Buf (Elt Ideal) ℓ) (ρ : Dev Cert.OutDxReferenceIdeal.nD → PrngReg) :
    θ_run (Cert.OutDxReferenceIdeal.defs (F := Ideal)) (onTc (τ := Cert.OutDxReferenceIdeal.τ) (Cert.OutDxReferenceIdeal.main (F := Ideal))) ⟨m, fun _ => 0, ρ⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0) :=
  (θ_run Cert.OutDxReferenceIdeal.defs _ _).mono (fun r h => ⟨fun c => (h c).2, sem_eq_zero_of_no_sems (by decide) r.2⟩) (Cert.OutDxReferenceIdeal.Value.run m ρ)

theorem outDx_value : Cert.algebraic_OutDxIdeal_OutDxReferenceIdeal := by
  intro m g m' g' _ hargs
  refine ⟨fun c => Cert.OutDxReferenceIdeal.Read.val_main_v3 (F := Ideal) (m ((c.tc : Thread Cert.OutDxIdeal.nD Cert.OutDxIdeal.τ).loc Cert.OutDxIdeal.main_arg0)) (m ((c.tc : Thread Cert.OutDxIdeal.nD Cert.OutDxIdeal.τ).loc Cert.OutDxIdeal.main_arg1)),
    (θ_run Cert.OutDxIdeal.defs _ _).mono (fun r h c => ?_) (Cert.OutDxIdeal.Value.run_blocks m g), (θ_run Cert.OutDxReferenceIdeal.defs _ _).mono (fun r h c => ?_) (Cert.OutDxReferenceIdeal.Value.run m' g')⟩
  · obtain ⟨h0, ha⟩ := h c
    exact ⟨h0.trans (Cert.OutDxIdeal.Value.final m c), ha⟩
  · obtain ⟨h0, ha⟩ := h c
    obtain ⟨a0, a1⟩ := hargs c
    refine ⟨h0.trans ((Cert.OutDxReferenceIdeal.Read.val_main_v3_eq _ _).trans ?_), ha⟩
    rw [a0, a1]

theorem inDw_frame (m : (ℓ : Loc Cert.InDwReferenceIdeal.nD Cert.InDwReferenceIdeal.τ Cert.InDwReferenceIdeal.sig) → Buf (Elt Ideal) ℓ) (ρ : Dev Cert.InDwReferenceIdeal.nD → PrngReg) :
    θ_run (Cert.InDwReferenceIdeal.defs (F := Ideal)) (onTc (τ := Cert.InDwReferenceIdeal.τ) (Cert.InDwReferenceIdeal.main (F := Ideal))) ⟨m, fun _ => 0, ρ⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0) :=
  (θ_run Cert.InDwReferenceIdeal.defs _ _).mono (fun r h => ⟨fun c => (h c).2, sem_eq_zero_of_no_sems (by decide) r.2⟩) (Cert.InDwReferenceIdeal.Value.run m ρ)

theorem inDw_value : Cert.algebraic_InDwIdeal_InDwReferenceIdeal := by
  intro m g m' g' _ hargs
  refine ⟨fun c => Cert.InDwReferenceIdeal.Read.val_main_v6 (F := Ideal) (m ((c.tc : Thread Cert.InDwIdeal.nD Cert.InDwIdeal.τ).loc Cert.InDwIdeal.main_arg0)) (m ((c.tc : Thread Cert.InDwIdeal.nD Cert.InDwIdeal.τ).loc Cert.InDwIdeal.main_arg1)),
    (θ_run Cert.InDwIdeal.defs _ _).mono (fun r h c => ?_) (Cert.InDwIdeal.Value.run_blocks m g), (θ_run Cert.InDwReferenceIdeal.defs _ _).mono (fun r h c => ?_) (Cert.InDwReferenceIdeal.Value.run m' g')⟩
  · obtain ⟨h0, ha⟩ := h c
    exact ⟨h0.trans (Cert.InDwIdeal.Value.final m c), ha⟩
  · obtain ⟨h0, ha⟩ := h c
    obtain ⟨a0, a1⟩ := hargs c
    refine ⟨h0.trans ((Cert.InDwReferenceIdeal.Read.val_main_v6_eq _ _).trans ?_), ha⟩
    rw [a0, a1]

theorem inDx_frame (m : (ℓ : Loc Cert.InDxReferenceIdeal.nD Cert.InDxReferenceIdeal.τ Cert.InDxReferenceIdeal.sig) → Buf (Elt Ideal) ℓ) (ρ : Dev Cert.InDxReferenceIdeal.nD → PrngReg) :
    θ_run (Cert.InDxReferenceIdeal.defs (F := Ideal)) (onTc (τ := Cert.InDxReferenceIdeal.τ) (Cert.InDxReferenceIdeal.main (F := Ideal))) ⟨m, fun _ => 0, ρ⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1))
      ∧ r.2.sem = fun _ => 0) :=
  (θ_run Cert.InDxReferenceIdeal.defs _ _).mono (fun r h => ⟨fun c => (h c).2, sem_eq_zero_of_no_sems (by decide) r.2⟩) (Cert.InDxReferenceIdeal.Value.run m ρ)

theorem inDx_value : Cert.algebraic_InDxIdeal_InDxReferenceIdeal := by
  intro m g m' g' _ hargs
  refine ⟨fun c => Cert.InDxReferenceIdeal.Read.val_main_v5 (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)),
    (θ_run Cert.InDxIdeal.defs _ _).mono (fun r h c => ?_) (Cert.InDxIdeal.Value.run_blocks m g), (θ_run Cert.InDxReferenceIdeal.defs _ _).mono (fun r h c => ?_) (Cert.InDxReferenceIdeal.Value.run m' g')⟩
  · obtain ⟨h0, ha⟩ := h c
    exact ⟨h0.trans (Cert.InDxIdeal.Value.final m c), ha⟩
  · obtain ⟨h0, ha⟩ := h c
    obtain ⟨a0, a1⟩ := hargs c
    refine ⟨h0.trans ((Cert.InDxReferenceIdeal.Read.val_main_v5_eq _ _).trans ?_), ha⟩
    rw [a0, a1]

theorem kvDw_frame (m : (ℓ : Loc Cert.KvDwReferenceIdeal.nD Cert.KvDwReferenceIdeal.τ Cert.KvDwReferenceIdeal.sig) → Buf (Elt Ideal) ℓ) (ρ : Dev Cert.KvDwReferenceIdeal.nD → PrngReg) :
    θ_run (Cert.KvDwReferenceIdeal.defs (F := Ideal)) (onTc (τ := Cert.KvDwReferenceIdeal.τ) (Cert.KvDwReferenceIdeal.main (F := Ideal))) ⟨m, fun _ => 0, ρ⟩ (fun r => (∀ c : Dev Cert.KvDwReferenceIdeal.nD,
      r.2.mem ((c.tc : Thread Cert.KvDwReferenceIdeal.nD Cert.KvDwReferenceIdeal.τ).loc Cert.KvDwReferenceIdeal.main_arg0) = m ((c.tc : Thread Cert.KvDwReferenceIdeal.nD Cert.KvDwReferenceIdeal.τ).loc Cert.KvDwReferenceIdeal.main_arg0)
      ∧ r.2.mem ((c.tc : Thread Cert.KvDwReferenceIdeal.nD Cert.KvDwReferenceIdeal.τ).loc Cert.KvDwReferenceIdeal.main_arg1) = m ((c.tc : Thread Cert.KvDwReferenceIdeal.nD Cert.KvDwReferenceIdeal.τ).loc Cert.KvDwReferenceIdeal.main_arg1))
      ∧ r.2.sem = fun _ => 0) :=
  (θ_run Cert.KvDwReferenceIdeal.defs _ _).mono (fun r h => ⟨fun c => (h c).2, sem_eq_zero_of_no_sems (by decide) r.2⟩) (Cert.KvDwReferenceIdeal.Value.run m ρ)

theorem kvDw_value : Cert.algebraic_KvDwIdeal_KvDwReferenceIdeal := by
  intro m g m' g' _ hargs
  refine ⟨fun c => Cert.KvDwReferenceIdeal.Read.val_main_v5 (F := Ideal) (m ((c.tc : Thread Cert.KvDwIdeal.nD Cert.KvDwIdeal.τ).loc Cert.KvDwIdeal.main_arg0)) (m ((c.tc : Thread Cert.KvDwIdeal.nD Cert.KvDwIdeal.τ).loc Cert.KvDwIdeal.main_arg1)),
    (θ_run Cert.KvDwIdeal.defs _ _).mono (fun r h c => ?_) (Cert.KvDwIdeal.Value.run_blocks m g), (θ_run Cert.KvDwReferenceIdeal.defs _ _).mono (fun r h c => ?_) (Cert.KvDwReferenceIdeal.Value.run m' g')⟩
  · obtain ⟨h0, ha⟩ := h c
    exact ⟨h0.trans (Cert.KvDwIdeal.Value.final m c), ha⟩
  · obtain ⟨h0, ha⟩ := h c
    obtain ⟨a0, a1⟩ := hargs c
    refine ⟨h0.trans ((Cert.KvDwReferenceIdeal.Read.val_main_v5_eq _ _).trans ?_), ha⟩
    rw [a0, a1]

theorem kvDx_frame (m : (ℓ : Loc Cert.KvDxReferenceIdeal.nD Cert.KvDxReferenceIdeal.τ Cert.KvDxReferenceIdeal.sig) → Buf (Elt Ideal) ℓ) (ρ : Dev Cert.KvDxReferenceIdeal.nD → PrngReg) :
    θ_run (Cert.KvDxReferenceIdeal.defs (F := Ideal)) (onTc (τ := Cert.KvDxReferenceIdeal.τ) (Cert.KvDxReferenceIdeal.main (F := Ideal))) ⟨m, fun _ => 0, ρ⟩ (fun r => (∀ c : Dev Cert.KvDxReferenceIdeal.nD,
      r.2.mem ((c.tc : Thread Cert.KvDxReferenceIdeal.nD Cert.KvDxReferenceIdeal.τ).loc Cert.KvDxReferenceIdeal.main_arg0) = m ((c.tc : Thread Cert.KvDxReferenceIdeal.nD Cert.KvDxReferenceIdeal.τ).loc Cert.KvDxReferenceIdeal.main_arg0)
      ∧ r.2.mem ((c.tc : Thread Cert.KvDxReferenceIdeal.nD Cert.KvDxReferenceIdeal.τ).loc Cert.KvDxReferenceIdeal.main_arg1) = m ((c.tc : Thread Cert.KvDxReferenceIdeal.nD Cert.KvDxReferenceIdeal.τ).loc Cert.KvDxReferenceIdeal.main_arg1)
      ∧ r.2.mem ((c.tc : Thread Cert.KvDxReferenceIdeal.nD Cert.KvDxReferenceIdeal.τ).loc Cert.KvDxReferenceIdeal.main_arg2) = m ((c.tc : Thread Cert.KvDxReferenceIdeal.nD Cert.KvDxReferenceIdeal.τ).loc Cert.KvDxReferenceIdeal.main_arg2))
      ∧ r.2.sem = fun _ => 0) :=
  (θ_run Cert.KvDxReferenceIdeal.defs _ _).mono (fun r h => ⟨fun c => (h c).2, sem_eq_zero_of_no_sems (by decide) r.2⟩) (Cert.KvDxReferenceIdeal.Value.run m ρ)

theorem kvDx_value : Cert.algebraic_KvDxIdeal_KvDxReferenceIdeal := by
  intro m g m' g' _ hargs
  refine ⟨fun c => Cert.KvDxReferenceIdeal.Read.val_main_v6 (F := Ideal) (m ((c.tc : Thread Cert.KvDxIdeal.nD Cert.KvDxIdeal.τ).loc Cert.KvDxIdeal.main_arg0)) (m ((c.tc : Thread Cert.KvDxIdeal.nD Cert.KvDxIdeal.τ).loc Cert.KvDxIdeal.main_arg1)) (m ((c.tc : Thread Cert.KvDxIdeal.nD Cert.KvDxIdeal.τ).loc Cert.KvDxIdeal.main_arg2)),
    (θ_run Cert.KvDxIdeal.defs _ _).mono (fun r h c => ?_) (Cert.KvDxIdeal.Value.run_blocks m g), (θ_run Cert.KvDxReferenceIdeal.defs _ _).mono (fun r h c => ?_) (Cert.KvDxReferenceIdeal.Value.run m' g')⟩
  · obtain ⟨h0, ha⟩ := h c
    exact ⟨h0.trans (Cert.KvDxIdeal.Value.final m c), ha⟩
  · obtain ⟨h0, ha⟩ := h c
    obtain ⟨a0, a1, a2⟩ := hargs c
    refine ⟨h0.trans ((Cert.KvDxReferenceIdeal.Read.val_main_v6_eq _ _ _).trans ?_), ha⟩
    rw [a0, a1, a2]

theorem gluDx_frame (m : (ℓ : Loc Cert.GluDxReferenceIdeal.nD Cert.GluDxReferenceIdeal.τ Cert.GluDxReferenceIdeal.sig) → Buf (Elt Ideal) ℓ) (ρ : Dev Cert.GluDxReferenceIdeal.nD → PrngReg) :
    θ_run (Cert.GluDxReferenceIdeal.defs (F := Ideal)) (onTc (τ := Cert.GluDxReferenceIdeal.τ) (Cert.GluDxReferenceIdeal.main (F := Ideal))) ⟨m, fun _ => 0, ρ⟩ (fun r => (∀ c : Dev Cert.GluDxReferenceIdeal.nD,
      r.2.mem ((c.tc : Thread Cert.GluDxReferenceIdeal.nD Cert.GluDxReferenceIdeal.τ).loc Cert.GluDxReferenceIdeal.main_arg0) = m ((c.tc : Thread Cert.GluDxReferenceIdeal.nD Cert.GluDxReferenceIdeal.τ).loc Cert.GluDxReferenceIdeal.main_arg0)
      ∧ r.2.mem ((c.tc : Thread Cert.GluDxReferenceIdeal.nD Cert.GluDxReferenceIdeal.τ).loc Cert.GluDxReferenceIdeal.main_arg1) = m ((c.tc : Thread Cert.GluDxReferenceIdeal.nD Cert.GluDxReferenceIdeal.τ).loc Cert.GluDxReferenceIdeal.main_arg1)
      ∧ r.2.mem ((c.tc : Thread Cert.GluDxReferenceIdeal.nD Cert.GluDxReferenceIdeal.τ).loc Cert.GluDxReferenceIdeal.main_arg2) = m ((c.tc : Thread Cert.GluDxReferenceIdeal.nD Cert.GluDxReferenceIdeal.τ).loc Cert.GluDxReferenceIdeal.main_arg2)
      ∧ r.2.mem ((c.tc : Thread Cert.GluDxReferenceIdeal.nD Cert.GluDxReferenceIdeal.τ).loc Cert.GluDxReferenceIdeal.main_arg3) = m ((c.tc : Thread Cert.GluDxReferenceIdeal.nD Cert.GluDxReferenceIdeal.τ).loc Cert.GluDxReferenceIdeal.main_arg3))
      ∧ r.2.sem = fun _ => 0) :=
  (θ_run Cert.GluDxReferenceIdeal.defs _ _).mono (fun r h => ⟨fun c => (h c).2, sem_eq_zero_of_no_sems (by decide) r.2⟩) (Cert.GluDxReferenceIdeal.Value.run m ρ)

theorem gluDx_value : Cert.algebraic_GluDxIdeal_GluDxReferenceIdeal := by
  intro m g m' g' _ hargs
  refine ⟨fun c => Cert.GluDxReferenceIdeal.Read.val_main_v36 (F := Ideal) (m ((c.tc : Thread Cert.GluDxIdeal.nD Cert.GluDxIdeal.τ).loc Cert.GluDxIdeal.main_arg0)) (m ((c.tc : Thread Cert.GluDxIdeal.nD Cert.GluDxIdeal.τ).loc Cert.GluDxIdeal.main_arg1)) (m ((c.tc : Thread Cert.GluDxIdeal.nD Cert.GluDxIdeal.τ).loc Cert.GluDxIdeal.main_arg2)) (m ((c.tc : Thread Cert.GluDxIdeal.nD Cert.GluDxIdeal.τ).loc Cert.GluDxIdeal.main_arg3)),
    (θ_run Cert.GluDxIdeal.defs _ _).mono (fun r h c => ?_) (Cert.GluDxIdeal.Value.run_blocks m g), (θ_run Cert.GluDxReferenceIdeal.defs _ _).mono (fun r h c => ?_) (Cert.GluDxReferenceIdeal.Value.run m' g')⟩
  · obtain ⟨h0, ha⟩ := h c
    exact ⟨h0.trans (Cert.GluDxIdeal.Value.final m c), ha⟩
  · obtain ⟨h0, ha⟩ := h c
    obtain ⟨a0, a1, a2, a3⟩ := hargs c
    refine ⟨h0.trans ((Cert.GluDxReferenceIdeal.Read.val_main_v36_eq _ _ _ _).trans ?_), ha⟩
    rw [a0, a1, a2, a3]

theorem inU_frame (m : (ℓ : Loc Cert.InUReferenceIdeal.nD Cert.InUReferenceIdeal.τ Cert.InUReferenceIdeal.sig) → Buf (Elt Ideal) ℓ) (ρ : Dev Cert.InUReferenceIdeal.nD → PrngReg) :
    θ_run (Cert.InUReferenceIdeal.defs (F := Ideal)) (onTc (τ := Cert.InUReferenceIdeal.τ) (Cert.InUReferenceIdeal.main (F := Ideal))) ⟨m, fun _ => 0, ρ⟩ (fun r => (∀ c : Dev Cert.InUReferenceIdeal.nD,
      r.2.mem ((c.tc : Thread Cert.InUReferenceIdeal.nD Cert.InUReferenceIdeal.τ).loc Cert.InUReferenceIdeal.main_arg0) = m ((c.tc : Thread Cert.InUReferenceIdeal.nD Cert.InUReferenceIdeal.τ).loc Cert.InUReferenceIdeal.main_arg0)
      ∧ r.2.mem ((c.tc : Thread Cert.InUReferenceIdeal.nD Cert.InUReferenceIdeal.τ).loc Cert.InUReferenceIdeal.main_arg1) = m ((c.tc : Thread Cert.InUReferenceIdeal.nD Cert.InUReferenceIdeal.τ).loc Cert.InUReferenceIdeal.main_arg1))
      ∧ r.2.sem = fun _ => 0) :=
  (θ_run Cert.InUReferenceIdeal.defs _ _).mono (fun r h => ⟨fun c => (h c).2, sem_eq_zero_of_no_sems (by decide) r.2⟩) (Cert.InUReferenceIdeal.Value.run m ρ)

theorem inU_value : Cert.algebraic_InUIdeal_InUReferenceIdeal := by
  intro m g m' g' _ hargs
  refine ⟨fun c => Cert.InUReferenceIdeal.Read.val_main_v4 (F := Ideal) (m ((c.tc : Thread Cert.InUIdeal.nD Cert.InUIdeal.τ).loc Cert.InUIdeal.main_arg0)) (m ((c.tc : Thread Cert.InUIdeal.nD Cert.InUIdeal.τ).loc Cert.InUIdeal.main_arg1)),
    (θ_run Cert.InUIdeal.defs _ _).mono (fun r h c => ?_) (Cert.InUIdeal.Value.run_blocks m g), (θ_run Cert.InUReferenceIdeal.defs _ _).mono (fun r h c => ?_) (Cert.InUReferenceIdeal.Value.run m' g')⟩
  · obtain ⟨h0, ha⟩ := h c
    exact ⟨h0.trans (Cert.InUIdeal.Value.final m c), ha⟩
  · obtain ⟨h0, ha⟩ := h c
    obtain ⟨a0, a1⟩ := hargs c
    refine ⟨h0.trans ((Cert.InUReferenceIdeal.Read.val_main_v4_eq _ _).trans ?_), ha⟩
    rw [a0, a1]

theorem inZ_frame (m : (ℓ : Loc Cert.InZReferenceIdeal.nD Cert.InZReferenceIdeal.τ Cert.InZReferenceIdeal.sig) → Buf (Elt Ideal) ℓ) (ρ : Dev Cert.InZReferenceIdeal.nD → PrngReg) :
    θ_run (Cert.InZReferenceIdeal.defs (F := Ideal)) (onTc (τ := Cert.InZReferenceIdeal.τ) (Cert.InZReferenceIdeal.main (F := Ideal))) ⟨m, fun _ => 0, ρ⟩ (fun r => (∀ c : Dev Cert.InZReferenceIdeal.nD,
      r.2.mem ((c.tc : Thread Cert.InZReferenceIdeal.nD Cert.InZReferenceIdeal.τ).loc Cert.InZReferenceIdeal.main_arg0) = m ((c.tc : Thread Cert.InZReferenceIdeal.nD Cert.InZReferenceIdeal.τ).loc Cert.InZReferenceIdeal.main_arg0)
      ∧ r.2.mem ((c.tc : Thread Cert.InZReferenceIdeal.nD Cert.InZReferenceIdeal.τ).loc Cert.InZReferenceIdeal.main_arg1) = m ((c.tc : Thread Cert.InZReferenceIdeal.nD Cert.InZReferenceIdeal.τ).loc Cert.InZReferenceIdeal.main_arg1))
      ∧ r.2.sem = fun _ => 0) :=
  (θ_run Cert.InZReferenceIdeal.defs _ _).mono (fun r h => ⟨fun c => (h c).2, sem_eq_zero_of_no_sems (by decide) r.2⟩) (Cert.InZReferenceIdeal.Value.run m ρ)

theorem inZ_value : Cert.algebraic_InZIdeal_InZReferenceIdeal := by
  intro m g m' g' _ hargs
  refine ⟨fun c => Cert.InZReferenceIdeal.Read.val_main_v4 (F := Ideal) (m ((c.tc : Thread Cert.InZIdeal.nD Cert.InZIdeal.τ).loc Cert.InZIdeal.main_arg0)) (m ((c.tc : Thread Cert.InZIdeal.nD Cert.InZIdeal.τ).loc Cert.InZIdeal.main_arg1)),
    (θ_run Cert.InZIdeal.defs _ _).mono (fun r h c => ?_) (Cert.InZIdeal.Value.run_blocks m g), (θ_run Cert.InZReferenceIdeal.defs _ _).mono (fun r h c => ?_) (Cert.InZReferenceIdeal.Value.run m' g')⟩
  · obtain ⟨h0, ha⟩ := h c
    exact ⟨h0.trans (Cert.InZIdeal.Value.final m c), ha⟩
  · obtain ⟨h0, ha⟩ := h c
    obtain ⟨a0, a1⟩ := hargs c
    refine ⟨h0.trans ((Cert.InZReferenceIdeal.Read.val_main_v4_eq _ _).trans ?_), ha⟩
    rw [a0, a1]

theorem inQ_frame (m : (ℓ : Loc Cert.InQReferenceIdeal.nD Cert.InQReferenceIdeal.τ Cert.InQReferenceIdeal.sig) → Buf (Elt Ideal) ℓ) (ρ : Dev Cert.InQReferenceIdeal.nD → PrngReg) :
    θ_run (Cert.InQReferenceIdeal.defs (F := Ideal)) (onTc (τ := Cert.InQReferenceIdeal.τ) (Cert.InQReferenceIdeal.main (F := Ideal))) ⟨m, fun _ => 0, ρ⟩ (fun r => (∀ c : Dev Cert.InQReferenceIdeal.nD,
      r.2.mem ((c.tc : Thread Cert.InQReferenceIdeal.nD Cert.InQReferenceIdeal.τ).loc Cert.InQReferenceIdeal.main_arg0) = m ((c.tc : Thread Cert.InQReferenceIdeal.nD Cert.InQReferenceIdeal.τ).loc Cert.InQReferenceIdeal.main_arg0)
      ∧ r.2.mem ((c.tc : Thread Cert.InQReferenceIdeal.nD Cert.InQReferenceIdeal.τ).loc Cert.InQReferenceIdeal.main_arg1) = m ((c.tc : Thread Cert.InQReferenceIdeal.nD Cert.InQReferenceIdeal.τ).loc Cert.InQReferenceIdeal.main_arg1))
      ∧ r.2.sem = fun _ => 0) :=
  (θ_run Cert.InQReferenceIdeal.defs _ _).mono (fun r h => ⟨fun c => (h c).2, sem_eq_zero_of_no_sems (by decide) r.2⟩) (Cert.InQReferenceIdeal.Value.run m ρ)

theorem inQ_value : Cert.algebraic_InQIdeal_InQReferenceIdeal := by
  intro m g m' g' _ hargs
  refine ⟨fun c => Cert.InQReferenceIdeal.Read.val_main_v6 (F := Ideal) (m ((c.tc : Thread Cert.InQIdeal.nD Cert.InQIdeal.τ).loc Cert.InQIdeal.main_arg0)) (m ((c.tc : Thread Cert.InQIdeal.nD Cert.InQIdeal.τ).loc Cert.InQIdeal.main_arg1)),
    (θ_run Cert.InQIdeal.defs _ _).mono (fun r h c => ?_) (Cert.InQIdeal.Value.run_blocks m g), (θ_run Cert.InQReferenceIdeal.defs _ _).mono (fun r h c => ?_) (Cert.InQReferenceIdeal.Value.run m' g')⟩
  · obtain ⟨h0, ha⟩ := h c
    exact ⟨h0.trans (Cert.InQIdeal.Value.final m c), ha⟩
  · obtain ⟨h0, ha⟩ := h c
    obtain ⟨a0, a1⟩ := hargs c
    refine ⟨h0.trans ((Cert.InQReferenceIdeal.Read.val_main_v6_eq _ _).trans ?_), ha⟩
    rw [a0, a1]

theorem glu_frame (m : (ℓ : Loc Cert.GluReferenceIdeal.nD Cert.GluReferenceIdeal.τ Cert.GluReferenceIdeal.sig) → Buf (Elt Ideal) ℓ) (ρ : Dev Cert.GluReferenceIdeal.nD → PrngReg) :
    θ_run (Cert.GluReferenceIdeal.defs (F := Ideal)) (onTc (τ := Cert.GluReferenceIdeal.τ) (Cert.GluReferenceIdeal.main (F := Ideal))) ⟨m, fun _ => 0, ρ⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1))
      ∧ r.2.sem = fun _ => 0) :=
  (θ_run Cert.GluReferenceIdeal.defs _ _).mono (fun r h => ⟨fun c => (h c).2, sem_eq_zero_of_no_sems (by decide) r.2⟩) (Cert.GluReferenceIdeal.Value.run m ρ)

theorem glu_value : Cert.algebraic_GluIdeal_GluReferenceIdeal := by
  intro m g m' g' _ hargs
  refine ⟨fun c => Cert.GluReferenceIdeal.Read.val_main_v1 (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)),
    (θ_run Cert.GluIdeal.defs _ _).mono (fun r h c => ?_) (Cert.GluIdeal.Value.run_blocks m g), (θ_run Cert.GluReferenceIdeal.defs _ _).mono (fun r h c => ?_) (Cert.GluReferenceIdeal.Value.run m' g')⟩
  · obtain ⟨h0, ha⟩ := h c
    exact ⟨h0.trans (Cert.GluIdeal.Value.final m c), ha⟩
  · obtain ⟨h0, ha⟩ := h c
    obtain ⟨a0, a1⟩ := hargs c
    refine ⟨h0.trans ((Cert.GluReferenceIdeal.Read.val_main_v1_eq _ _).trans ?_), ha⟩
    rw [a0, a1]

theorem out_frame (m : (ℓ : Loc Cert.OutReferenceIdeal.nD Cert.OutReferenceIdeal.τ Cert.OutReferenceIdeal.sig) → Buf (Elt Ideal) ℓ) (ρ : Dev Cert.OutReferenceIdeal.nD → PrngReg) :
    θ_run (Cert.OutReferenceIdeal.defs (F := Ideal)) (onTc (τ := Cert.OutReferenceIdeal.τ) (Cert.OutReferenceIdeal.main (F := Ideal))) ⟨m, fun _ => 0, ρ⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0) :=
  (θ_run Cert.OutReferenceIdeal.defs _ _).mono (fun r h => ⟨fun c => (h c).2, sem_eq_zero_of_no_sems (by decide) r.2⟩) (Cert.OutReferenceIdeal.Value.run m ρ)

theorem out_value : Cert.algebraic_OutIdeal_OutReferenceIdeal := by
  intro m g m' g' _ hargs
  refine ⟨fun c => Cert.OutReferenceIdeal.Read.val_main_v0 (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)),
    (θ_run Cert.OutIdeal.defs _ _).mono (fun r h c => ?_) (Cert.OutIdeal.Value.run_blocks m g), (θ_run Cert.OutReferenceIdeal.defs _ _).mono (fun r h c => ?_) (Cert.OutReferenceIdeal.Value.run m' g')⟩
  · obtain ⟨h0, ha⟩ := h c
    exact ⟨h0.trans (Cert.OutIdeal.Value.final m c), ha⟩
  · obtain ⟨h0, ha⟩ := h c
    obtain ⟨a0, a1⟩ := hargs c
    refine ⟨h0.trans ((Cert.OutReferenceIdeal.Read.val_main_v0_eq _ _).trans ?_), ha⟩
    rw [a0, a1]

theorem kv_frame (m : (ℓ : Loc Cert.KvReferenceIdeal.nD Cert.KvReferenceIdeal.τ Cert.KvReferenceIdeal.sig) → Buf (Elt Ideal) ℓ) (ρ : Dev Cert.KvReferenceIdeal.nD → PrngReg) :
    θ_run (Cert.KvReferenceIdeal.defs (F := Ideal)) (onTc (τ := Cert.KvReferenceIdeal.τ) (Cert.KvReferenceIdeal.main (F := Ideal))) ⟨m, fun _ => 0, ρ⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1))
      ∧ r.2.sem = fun _ => 0) :=
  (θ_run Cert.KvReferenceIdeal.defs _ _).mono (fun r h => ⟨fun c => (h c).2, sem_eq_zero_of_no_sems (by decide) r.2⟩) (Cert.KvReferenceIdeal.Value.run m ρ)

theorem kv_value : Cert.algebraic_KvIdeal_KvReferenceIdeal := by
  intro m g m' g' _ hargs
  refine ⟨fun c => Cert.KvReferenceIdeal.Read.val_main_v3 (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)),
    (θ_run Cert.KvIdeal.defs _ _).mono (fun r h c => ?_) (Cert.KvIdeal.Value.run_blocks m g), (θ_run Cert.KvReferenceIdeal.defs _ _).mono (fun r h c => ?_) (Cert.KvReferenceIdeal.Value.run m' g')⟩
  · obtain ⟨h0, ha⟩ := h c
    exact ⟨h0.trans (Cert.KvIdeal.Value.final m c), ha⟩
  · obtain ⟨h0, ha⟩ := h c
    obtain ⟨a0, a1⟩ := hargs c
    refine ⟨h0.trans ((Cert.KvReferenceIdeal.Read.val_main_v3_eq _ _).trans ?_), ha⟩
    rw [a0, a1]

theorem inDxAfter_frame (m : (ℓ : Loc Cert.InDxAfterReferenceIdeal.nD Cert.InDxAfterReferenceIdeal.τ Cert.InDxAfterReferenceIdeal.sig) → Buf (Elt Ideal) ℓ) (ρ : Dev Cert.InDxAfterReferenceIdeal.nD → PrngReg) :
    θ_run (Cert.InDxAfterReferenceIdeal.defs (F := Ideal)) (onTc (τ := Cert.InDxAfterReferenceIdeal.τ) (Cert.InDxAfterReferenceIdeal.main (F := Ideal))) ⟨m, fun _ => 0, ρ⟩ (fun r => (∀ c : Dev Cert.InDxAfterReferenceIdeal.nD,
      r.2.mem ((c.tc : Thread Cert.InDxAfterReferenceIdeal.nD Cert.InDxAfterReferenceIdeal.τ).loc Cert.InDxAfterReferenceIdeal.main_arg0) = m ((c.tc : Thread Cert.InDxAfterReferenceIdeal.nD Cert.InDxAfterReferenceIdeal.τ).loc Cert.InDxAfterReferenceIdeal.main_arg0)
      ∧ r.2.mem ((c.tc : Thread Cert.InDxAfterReferenceIdeal.nD Cert.InDxAfterReferenceIdeal.τ).loc Cert.InDxAfterReferenceIdeal.main_arg1) = m ((c.tc : Thread Cert.InDxAfterReferenceIdeal.nD Cert.InDxAfterReferenceIdeal.τ).loc Cert.InDxAfterReferenceIdeal.main_arg1)
      ∧ r.2.mem ((c.tc : Thread Cert.InDxAfterReferenceIdeal.nD Cert.InDxAfterReferenceIdeal.τ).loc Cert.InDxAfterReferenceIdeal.main_arg2) = m ((c.tc : Thread Cert.InDxAfterReferenceIdeal.nD Cert.InDxAfterReferenceIdeal.τ).loc Cert.InDxAfterReferenceIdeal.main_arg2))
      ∧ r.2.sem = fun _ => 0) :=
  (θ_run Cert.InDxAfterReferenceIdeal.defs _ _).mono (fun r h => ⟨fun c => (h c).2, sem_eq_zero_of_no_sems (by decide) r.2⟩) (Cert.InDxAfterReferenceIdeal.Value.run m ρ)

theorem inDxAfter_value : Cert.algebraic_InDxAfterIdeal_InDxAfterReferenceIdeal := by
  intro m g m' g' _ hargs
  refine ⟨fun c => Cert.InDxAfterReferenceIdeal.Read.val_main_v5 (F := Ideal) (m ((c.tc : Thread Cert.InDxAfterIdeal.nD Cert.InDxAfterIdeal.τ).loc Cert.InDxAfterIdeal.main_arg0)) (m ((c.tc : Thread Cert.InDxAfterIdeal.nD Cert.InDxAfterIdeal.τ).loc Cert.InDxAfterIdeal.main_arg1)),
    (θ_run Cert.InDxAfterIdeal.defs _ _).mono (fun r h c => ?_) (Cert.InDxAfterIdeal.Value.run_blocks m g), (θ_run Cert.InDxAfterReferenceIdeal.defs _ _).mono (fun r h c => ?_) (Cert.InDxAfterReferenceIdeal.Value.run m' g')⟩
  · obtain ⟨h0, ha⟩ := h c
    exact ⟨h0.trans (Cert.InDxAfterIdeal.Value.final m c), ha⟩
  · obtain ⟨h0, ha⟩ := h c
    obtain ⟨a0, a1, a2⟩ := hargs c
    refine ⟨h0.trans ((Cert.InDxAfterReferenceIdeal.Read.val_main_v5_eq _ _).trans ?_), ha⟩
    rw [a0, a1]

end Cert.Products

end
-- ==== Proof.lean ====
module

public import proofs.«01_k».proof.Defs
public import proofs.«01_k».proof.Proof.Finite
public import proofs.«01_k».proof.Proof.PrintedBody
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwReferenceIdeal
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxReferenceIdeal
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwReferenceIdeal
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxReferenceIdeal
public import proofs.«01_k».proof.Proof.Gen.KvDw
public import proofs.«01_k».proof.Proof.Gen.KvDw.Frame
public import proofs.«01_k».proof.Proof.Gen.KvDwIdeal
public import proofs.«01_k».proof.Proof.Gen.KvDwIdeal.Frame
public import proofs.«01_k».proof.Proof.Gen.KvDwReferenceIdeal
public import proofs.«01_k».proof.Proof.Gen.KvDx
public import proofs.«01_k».proof.Proof.Gen.KvDx.Frame
public import proofs.«01_k».proof.Proof.Gen.KvDxIdeal
public import proofs.«01_k».proof.Proof.Gen.KvDxIdeal.Frame
public import proofs.«01_k».proof.Proof.Gen.KvDxReferenceIdeal
public import proofs.«01_k».proof.Proof.Gen.GluDx
public import proofs.«01_k».proof.Proof.Gen.GluDx.Frame
public import proofs.«01_k».proof.Proof.Gen.GluDxIdeal
public import proofs.«01_k».proof.Proof.Gen.GluDxIdeal.Frame
public import proofs.«01_k».proof.Proof.Gen.GluDxReferenceIdeal
public import proofs.«01_k».proof.Proof.Gen.InU
public import proofs.«01_k».proof.Proof.Gen.InU.Frame
public import proofs.«01_k».proof.Proof.Gen.InUIdeal
public import proofs.«01_k».proof.Proof.Gen.InUIdeal.Frame
public import proofs.«01_k».proof.Proof.Gen.InUReferenceIdeal
public import proofs.«01_k».proof.Proof.Gen.InZ
public import proofs.«01_k».proof.Proof.Gen.InZ.Frame
public import proofs.«01_k».proof.Proof.Gen.InZIdeal
public import proofs.«01_k».proof.Proof.Gen.InZIdeal.Frame
public import proofs.«01_k».proof.Proof.Gen.InZReferenceIdeal
public import proofs.«01_k».proof.Proof.Gen.InQ
public import proofs.«01_k».proof.Proof.Gen.InQ.Frame
public import proofs.«01_k».proof.Proof.Gen.InQIdeal
public import proofs.«01_k».proof.Proof.Gen.InQIdeal.Frame
public import proofs.«01_k».proof.Proof.Gen.InQReferenceIdeal
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluReferenceIdeal
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutReferenceIdeal
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvReferenceIdeal
public import proofs.«01_k».proof.Proof.Gen.InDxAfter
public import proofs.«01_k».proof.Proof.Gen.InDxAfter.Frame
public import proofs.«01_k».proof.Proof.Gen.InDxAfterIdeal
public import proofs.«01_k».proof.Proof.Gen.InDxAfterIdeal.Frame
public import proofs.«01_k».proof.Proof.Gen.InDxAfterReferenceIdeal
public import proofs.«01_k».proof.Proof.AttendFinal
public import proofs.«01_k».proof.Proof.Gen.Attend
public import proofs.«01_k».proof.Proof.Gen.Attend.Frame
public import proofs.«01_k».proof.Proof.Gen.AttendIdeal
public import proofs.«01_k».proof.Proof.Gen.AttendIdeal.Frame
public import proofs.«01_k».proof.Proof.Gen.AttendReferenceIdeal
public import proofs.«01_k».proof.Proof.Gen.AttendReferenceIdeal.Run
public import proofs.«01_k».proof.Proof.Gen.AttendReferenceIdeal.Read
public import proofs.«01_k».proof.Proof.Products

@[expose] public section

noncomputable section

namespace Cert.Proof

open Idealize.ShloMosaic Idealize.SL.Sem

/-- The reference runs on the host alone: it leaves its arguments, and has no counter to move. -/
theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono
    (fun r h => ⟨fun c => (h c).2.2.2.2.2, sem_eq_zero_of_no_sems (by decide) r.2⟩)
    (Cert.ReferenceIdeal.Value.run m ρ)

/-- Both ways from the same arguments, if `finite` accepts them: the reference's five results, and the arguments as they were. -/
theorem value :
    Cert.algebraic_KernelIdeal_ReferenceIdeal_pre_finite := by
  intro m g m' g' hpre hargs
  refine ⟨fun c => Cert.ReferenceIdeal.Read.val_main_v88 (F := Ideal) (Cert.KernelIdeal.Bwd.arg0 m c) (Cert.KernelIdeal.Bwd.arg1 m c) (Cert.KernelIdeal.Bwd.arg2 m c) (Cert.KernelIdeal.Bwd.arg3 m c) (Cert.KernelIdeal.Bwd.arg4 m c),
    fun c => Cert.ReferenceIdeal.Read.val_main_v89 (F := Ideal) (Cert.KernelIdeal.Bwd.arg0 m c) (Cert.KernelIdeal.Bwd.arg1 m c) (Cert.KernelIdeal.Bwd.arg3 m c) (Cert.KernelIdeal.Bwd.arg4 m c),
    fun c => Cert.ReferenceIdeal.Read.val_main_v91 (F := Ideal) (Cert.KernelIdeal.Bwd.arg0 m c) (Cert.KernelIdeal.Bwd.arg1 m c) (Cert.KernelIdeal.Bwd.arg2 m c) (Cert.KernelIdeal.Bwd.arg3 m c) (Cert.KernelIdeal.Bwd.arg4 m c) (Cert.KernelIdeal.Bwd.arg5 m c),
    fun c => Cert.ReferenceIdeal.Read.val_main_v92 (F := Ideal) (Cert.KernelIdeal.Bwd.arg0 m c) (Cert.KernelIdeal.Bwd.arg1 m c) (Cert.KernelIdeal.Bwd.arg2 m c) (Cert.KernelIdeal.Bwd.arg3 m c) (Cert.KernelIdeal.Bwd.arg4 m c),
    fun c => Cert.ReferenceIdeal.Read.val_main_v94 (F := Ideal) (Cert.KernelIdeal.Bwd.arg0 m c) (Cert.KernelIdeal.Bwd.arg1 m c) (Cert.KernelIdeal.Bwd.arg2 m c) (Cert.KernelIdeal.Bwd.arg3 m c) (Cert.KernelIdeal.Bwd.arg4 m c),
    (θ_run Cert.KernelIdeal.defs _ _).mono (fun r h c => ?_) (θ_run_and
    (Cert.KernelIdeal.Bwd.computes m g fun c => Cert.Pre_finite.holds _ _ _ _ _ _ (hpre c)) (Cert.KernelIdeal.Bwd.frame m g)), (θ_run Cert.ReferenceIdeal.defs _ _).mono (fun r h c => ?_) (Cert.ReferenceIdeal.Value.run m' g')⟩
  · obtain ⟨h0, h1, h2, h3, h4⟩ := h.1 c
    exact ⟨h0, h1, h2, h3, h4, h.2.1 c⟩
  · obtain ⟨h0, h1, h2, h3, h4, ha⟩ := h c
    obtain ⟨a0, a1, a2, a3, a4, a5⟩ := hargs c
    refine ⟨h0.trans ((Cert.ReferenceIdeal.Read.val_main_v88_eq m' c).trans ?_), h1.trans ((Cert.ReferenceIdeal.Read.val_main_v89_eq m' c).trans ?_),
      h2.trans ((Cert.ReferenceIdeal.Read.val_main_v91_eq m' c).trans ?_), h3.trans ((Cert.ReferenceIdeal.Read.val_main_v92_eq m' c).trans ?_),
      h4.trans ((Cert.ReferenceIdeal.Read.val_main_v94_eq m' c).trans ?_), ha⟩ <;> simp only [a0, a1, a2, a3, a4, a5]

/-- The forward call's reference likewise. -/
theorem attend_reference_frame (m : (ℓ : Loc Cert.AttendReferenceIdeal.nD Cert.AttendReferenceIdeal.τ Cert.AttendReferenceIdeal.sig) → Buf (Elt Ideal) ℓ) (ρ : Dev Cert.AttendReferenceIdeal.nD → PrngReg) :
    θ_run (Cert.AttendReferenceIdeal.defs (F := Ideal)) (onTc (τ := Cert.AttendReferenceIdeal.τ) (Cert.AttendReferenceIdeal.main (F := Ideal))) ⟨m, fun _ => 0, ρ⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3)
      ∧ r.2.mem ((c.tc : Thread Cert.AttendReferenceIdeal.nD Cert.AttendReferenceIdeal.τ).loc Cert.AttendReferenceIdeal.main_arg4) = m ((c.tc : Thread Cert.AttendReferenceIdeal.nD Cert.AttendReferenceIdeal.τ).loc Cert.AttendReferenceIdeal.main_arg4))
      ∧ r.2.sem = fun _ => 0) :=
  (θ_run Cert.AttendReferenceIdeal.defs _ _).mono
    (fun r h => ⟨fun c => (h c).2.2.2, sem_eq_zero_of_no_sems (by decide) r.2⟩)
    (Cert.AttendReferenceIdeal.Value.run m ρ)

/-- Both ways from the same arguments, if `finite_attend` accepts them: the forward call's three results, and the arguments as they were. -/
theorem attend_value :
    Cert.algebraic_AttendIdeal_AttendReferenceIdeal_pre_finite_attend := by
  intro m g m' g' hpre hargs
  refine ⟨fun c => Cert.AttendReferenceIdeal.Read.val_main_v48 (F := Ideal) (Cert.AttendIdeal.Fwd.arg0 m c) (Cert.AttendIdeal.Fwd.arg1 m c) (Cert.AttendIdeal.Fwd.arg2 m c) (Cert.AttendIdeal.Fwd.arg3 m c),
    fun c => Cert.AttendReferenceIdeal.Read.val_main_v51 (F := Ideal) (Cert.AttendIdeal.Fwd.arg0 m c) (Cert.AttendIdeal.Fwd.arg1 m c) (Cert.AttendIdeal.Fwd.arg2 m c) (Cert.AttendIdeal.Fwd.arg3 m c) (Cert.AttendIdeal.Fwd.arg4 m c),
    fun c => Cert.AttendReferenceIdeal.Read.val_main_v52 (F := Ideal) (Cert.AttendIdeal.Fwd.arg0 m c) (Cert.AttendIdeal.Fwd.arg1 m c) (Cert.AttendIdeal.Fwd.arg3 m c),
    (θ_run Cert.AttendIdeal.defs _ _).mono (fun r h c => ?_) (θ_run_and
    (Cert.AttendIdeal.Fwd.computes g fun c => Cert.Pre_finite_attend.holds _ _ _ _ _ (hpre c)) (Cert.AttendIdeal.Gen.frame m g)), (θ_run Cert.AttendReferenceIdeal.defs _ _).mono (fun r h c => ?_) (Cert.AttendReferenceIdeal.Value.run m' g')⟩
  · obtain ⟨h0, h1, h2⟩ := h.1 c
    exact ⟨h0, h1, h2, h.2.1 c⟩
  · obtain ⟨h0, h1, h2, ha⟩ := h c
    obtain ⟨a0, a1, a2, a3, a4⟩ := hargs c
    refine ⟨h0.trans ((Cert.AttendReferenceIdeal.Read.val_main_v48_eq m' c).trans ?_), h1.trans ((Cert.AttendReferenceIdeal.Read.val_main_v51_eq m' c).trans ?_),
      h2.trans ((Cert.AttendReferenceIdeal.Read.val_main_v52_eq m' c).trans ?_), ha⟩ <;> simp only [a0, a1, a2, a3, a4]

theorem claim : Cert.Claim := ⟨Cert.Kernel.Gen.facts, Cert.KernelIdeal.Gen.facts, Cert.ReferenceIdeal.Gen.facts,
  Cert.OutDw.Gen.facts, Cert.OutDwIdeal.Gen.facts, Cert.OutDwReferenceIdeal.Gen.facts,
  Cert.OutDx.Gen.facts, Cert.OutDxIdeal.Gen.facts, Cert.OutDxReferenceIdeal.Gen.facts,
  Cert.InDw.Gen.facts, Cert.InDwIdeal.Gen.facts, Cert.InDwReferenceIdeal.Gen.facts,
  Cert.InDx.Gen.facts, Cert.InDxIdeal.Gen.facts, Cert.InDxReferenceIdeal.Gen.facts,
  Cert.KvDw.Gen.facts, Cert.KvDwIdeal.Gen.facts, Cert.KvDwReferenceIdeal.Gen.facts,
  Cert.KvDx.Gen.facts, Cert.KvDxIdeal.Gen.facts, Cert.KvDxReferenceIdeal.Gen.facts,
  Cert.GluDx.Gen.facts, Cert.GluDxIdeal.Gen.facts, Cert.GluDxReferenceIdeal.Gen.facts,
  Cert.InU.Gen.facts, Cert.InUIdeal.Gen.facts, Cert.InUReferenceIdeal.Gen.facts,
  Cert.InZ.Gen.facts, Cert.InZIdeal.Gen.facts, Cert.InZReferenceIdeal.Gen.facts,
  Cert.InQ.Gen.facts, Cert.InQIdeal.Gen.facts, Cert.InQReferenceIdeal.Gen.facts,
  Cert.Glu.Gen.facts, Cert.GluIdeal.Gen.facts, Cert.GluReferenceIdeal.Gen.facts,
  Cert.Out.Gen.facts, Cert.OutIdeal.Gen.facts, Cert.OutReferenceIdeal.Gen.facts,
  Cert.Kv.Gen.facts, Cert.KvIdeal.Gen.facts, Cert.KvReferenceIdeal.Gen.facts,
  Cert.InDxAfter.Gen.facts, Cert.InDxAfterIdeal.Gen.facts, Cert.InDxAfterReferenceIdeal.Gen.facts,
  Cert.Attend.Gen.facts, Cert.AttendIdeal.Gen.facts, Cert.AttendReferenceIdeal.Gen.facts,
  Cert.Pre_finite.facts, Cert.Pre_finite_attend.facts,
  fun m ρ _ => Cert.Kernel.Bwd.frame m ρ, fun m ρ _ => Cert.KernelIdeal.Bwd.frame m ρ, fun m ρ _ => Cert.KernelIdeal.Bwd.frame m ρ,
  fun m ρ _ => reference_frame m ρ, fun m ρ _ => reference_frame m ρ,
  fun m ρ _ => Cert.OutDw.Gen.frame m ρ, fun m ρ _ => Cert.OutDwIdeal.Gen.frame m ρ, fun m ρ _ => Cert.Products.outDw_frame m ρ,
  fun m ρ _ => Cert.OutDx.Gen.frame m ρ, fun m ρ _ => Cert.OutDxIdeal.Gen.frame m ρ, fun m ρ _ => Cert.Products.outDx_frame m ρ,
  fun m ρ _ => Cert.InDw.Gen.frame m ρ, fun m ρ _ => Cert.InDwIdeal.Gen.frame m ρ, fun m ρ _ => Cert.Products.inDw_frame m ρ,
  fun m ρ _ => Cert.InDx.Gen.frame m ρ, fun m ρ _ => Cert.InDxIdeal.Gen.frame m ρ, fun m ρ _ => Cert.Products.inDx_frame m ρ,
  fun m ρ _ => Cert.KvDw.Gen.frame m ρ, fun m ρ _ => Cert.KvDwIdeal.Gen.frame m ρ, fun m ρ _ => Cert.Products.kvDw_frame m ρ,
  fun m ρ _ => Cert.KvDx.Gen.frame m ρ, fun m ρ _ => Cert.KvDxIdeal.Gen.frame m ρ, fun m ρ _ => Cert.Products.kvDx_frame m ρ,
  fun m ρ _ => Cert.GluDx.Gen.frame m ρ, fun m ρ _ => Cert.GluDxIdeal.Gen.frame m ρ, fun m ρ _ => Cert.Products.gluDx_frame m ρ,
  fun m ρ _ => Cert.InU.Gen.frame m ρ, fun m ρ _ => Cert.InUIdeal.Gen.frame m ρ, fun m ρ _ => Cert.Products.inU_frame m ρ,
  fun m ρ _ => Cert.InZ.Gen.frame m ρ, fun m ρ _ => Cert.InZIdeal.Gen.frame m ρ, fun m ρ _ => Cert.Products.inZ_frame m ρ,
  fun m ρ _ => Cert.InQ.Gen.frame m ρ, fun m ρ _ => Cert.InQIdeal.Gen.frame m ρ, fun m ρ _ => Cert.Products.inQ_frame m ρ,
  fun m ρ _ => Cert.Glu.Gen.frame m ρ, fun m ρ _ => Cert.GluIdeal.Gen.frame m ρ, fun m ρ _ => Cert.Products.glu_frame m ρ,
  fun m ρ _ => Cert.Out.Gen.frame m ρ, fun m ρ _ => Cert.OutIdeal.Gen.frame m ρ, fun m ρ _ => Cert.Products.out_frame m ρ,
  fun m ρ _ => Cert.Kv.Gen.frame m ρ, fun m ρ _ => Cert.KvIdeal.Gen.frame m ρ, fun m ρ _ => Cert.Products.kv_frame m ρ,
  fun m ρ _ => Cert.InDxAfter.Gen.frame m ρ, fun m ρ _ => Cert.InDxAfterIdeal.Gen.frame m ρ, fun m ρ _ => Cert.Products.inDxAfter_frame m ρ,
  fun m ρ _ => Cert.Attend.Gen.frame m ρ, fun m ρ _ => Cert.AttendIdeal.Gen.frame m ρ, fun m ρ _ => Cert.AttendIdeal.Gen.frame m ρ,
  fun m ρ _ => attend_reference_frame m ρ, fun m ρ _ => attend_reference_frame m ρ,
  ⟨IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩, value,
  trivial, Cert.Products.outDw_value,
  trivial, Cert.Products.outDx_value,
  trivial, Cert.Products.inDw_value,
  trivial, Cert.Products.inDx_value,
  trivial, Cert.Products.kvDw_value,
  trivial, Cert.Products.kvDx_value,
  trivial, Cert.Products.gluDx_value,
  trivial, Cert.Products.inU_value,
  trivial, Cert.Products.inZ_value,
  trivial, Cert.Products.inQ_value,
  trivial, Cert.Products.glu_value,
  trivial, Cert.Products.out_value,
  trivial, Cert.Products.kv_value,
  trivial, Cert.Products.inDxAfter_value,
  ⟨IdealRules.named_const.statement Cert.AttendIdeal.κ "mask" .f32 0xF149F2CA#32 ⊥ rfl,
    IdealRules.named_const.statement Cert.AttendIdeal.κ "log2e" .f32 0x3FB8AA3B#32 _ rfl⟩, attend_value⟩

end Cert.Proof

end
